-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6)) (m ((c.tc : Thread Cert.Kernel17Ideal.nD Cert.Kernel17Ideal.τ).loc Cert.Kernel17Ideal.main_arg7)) (m ((c.tc : Thread Cert.Kernel17Ideal.nD Cert.Kernel17Ideal.τ).loc Cert.Kernel17Ideal.main_arg8))).1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6)) (m ((c.tc : Thread Cert.Kernel17Ideal.nD Cert.Kernel17Ideal.τ).loc Cert.Kernel17Ideal.main_arg7)) (m ((c.tc : Thread Cert.Kernel17Ideal.nD Cert.Kernel17Ideal.τ).loc Cert.Kernel17Ideal.main_arg8))).2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6)) (m ((c.tc : Thread Cert.Kernel17Ideal.nD Cert.Kernel17Ideal.τ).loc Cert.Kernel17Ideal.main_arg7)) (m ((c.tc : Thread Cert.Kernel17Ideal.nD Cert.Kernel17Ideal.τ).loc Cert.Kernel17Ideal.main_arg8))).2.2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6)) (m ((c.tc : Thread Cert.Kernel17Ideal.nD Cert.Kernel17Ideal.τ).loc Cert.Kernel17Ideal.main_arg7)) (m ((c.tc : Thread Cert.Kernel17Ideal.nD Cert.Kernel17Ideal.τ).loc Cert.Kernel17Ideal.main_arg8))).2.2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6)) (m ((c.tc : Thread Cert.Reference17Ideal.nD Cert.Reference17Ideal.τ).loc Cert.Reference17Ideal.main_arg7)) (m ((c.tc : Thread Cert.Reference17Ideal.nD Cert.Reference17Ideal.τ).loc Cert.Reference17Ideal.main_arg8))).1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6)) (m ((c.tc : Thread Cert.Reference17Ideal.nD Cert.Reference17Ideal.τ).loc Cert.Reference17Ideal.main_arg7)) (m ((c.tc : Thread Cert.Reference17Ideal.nD Cert.Reference17Ideal.τ).loc Cert.Reference17Ideal.main_arg8))).2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6)) (m ((c.tc : Thread Cert.Reference17Ideal.nD Cert.Reference17Ideal.τ).loc Cert.Reference17Ideal.main_arg7)) (m ((c.tc : Thread Cert.Reference17Ideal.nD Cert.Reference17Ideal.τ).loc Cert.Reference17Ideal.main_arg8))).2.2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6)) (m ((c.tc : Thread Cert.Reference17Ideal.nD Cert.Reference17Ideal.τ).loc Cert.Reference17Ideal.main_arg7)) (m ((c.tc : Thread Cert.Reference17Ideal.nD Cert.Reference17Ideal.τ).loc Cert.Reference17Ideal.main_arg8))).2.2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v76)) (v1 : (c : Dev Cert.Kernel8Ideal.nD) → Buf (Elt Ideal) ((c.tc : Thread Cert.Kernel8Ideal.nD Cert.Kernel8Ideal.τ).loc Cert.Kernel8Ideal.main_v75)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v76) = v0 c
          ∧ r.2.mem ((c.tc : Thread Cert.Kernel8Ideal.nD Cert.Kernel8Ideal.τ).loc Cert.Kernel8Ideal.main_v75) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v60) = v0 c
          ∧ r.2.mem ((c.tc : Thread Cert.Reference8Ideal.nD Cert.Reference8Ideal.τ).loc Cert.Reference8Ideal.main_v61) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v29) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v36) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v4)) (v2 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v4) = v1 c
          ∧ r.2.mem ((c.tc : Thread Cert.Kernel12Ideal.nD Cert.Kernel12Ideal.τ).loc Cert.Kernel12Ideal.main_v6) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v45) = v0 c
          ∧ r.2.mem ((c.tc : Thread Cert.Reference12Ideal.nD Cert.Reference12Ideal.τ).loc Cert.Reference12Ideal.main_v16) = v1 c
          ∧ r.2.mem ((c.tc : Thread Cert.Reference12Ideal.nD Cert.Reference12Ideal.τ).loc Cert.Reference12Ideal.main_v31) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v5)) (v1 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_v7) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v31) = v0 c
          ∧ r.2.mem ((c.tc : Thread Cert.Reference13Ideal.nD Cert.Reference13Ideal.τ).loc Cert.Reference13Ideal.main_v44) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v69)) (v1 : (c : Dev Cert.Kernel14Ideal.nD) → Buf (Elt Ideal) ((c.tc : Thread Cert.Kernel14Ideal.nD Cert.Kernel14Ideal.τ).loc Cert.Kernel14Ideal.main_v70)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v69) = v0 c
          ∧ r.2.mem ((c.tc : Thread Cert.Kernel14Ideal.nD Cert.Kernel14Ideal.τ).loc Cert.Kernel14Ideal.main_v70) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v54) = v0 c
          ∧ r.2.mem ((c.tc : Thread Cert.Reference14Ideal.nD Cert.Reference14Ideal.τ).loc Cert.Reference14Ideal.main_v52) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v67) = v0 c
          ∧ r.2.mem ((c.tc : Thread Cert.Reference16Ideal.nD Cert.Reference16Ideal.τ).loc Cert.Reference16Ideal.main_v71) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)) →
    ∃ (v0 : (c : Dev Cert.Kernel17Ideal.nD) → Buf (Elt Ideal) ((c.tc : Thread Cert.Kernel17Ideal.nD Cert.Kernel17Ideal.τ).loc Cert.Kernel17Ideal.main_v12_0)) (v1 : (c : Dev Cert.Kernel17Ideal.nD) → Buf (Elt Ideal) ((c.tc : Thread Cert.Kernel17Ideal.nD Cert.Kernel17Ideal.τ).loc Cert.Kernel17Ideal.main_v12_1)) (v2 : (c : Dev Cert.Kernel17Ideal.nD) → Buf (Elt Ideal) ((c.tc : Thread Cert.Kernel17Ideal.nD Cert.Kernel17Ideal.τ).loc Cert.Kernel17Ideal.main_v12_2)) (v3 : (c : Dev Cert.Kernel17Ideal.nD) → Buf (Elt Ideal) ((c.tc : Thread Cert.Kernel17Ideal.nD Cert.Kernel17Ideal.τ).loc Cert.Kernel17Ideal.main_v12_3)) (v4 : (c : Dev Cert.Kernel17Ideal.nD) → Buf (Elt Ideal) ((c.tc : Thread Cert.Kernel17Ideal.nD Cert.Kernel17Ideal.τ).loc Cert.Kernel17Ideal.main_v12_4)) (v5 : (c : Dev Cert.Kernel17Ideal.nD) → Buf (Elt Ideal) ((c.tc : Thread Cert.Kernel17Ideal.nD Cert.Kernel17Ideal.τ).loc Cert.Kernel17Ideal.main_v12_5)) (v6 : (c : Dev Cert.Kernel17Ideal.nD) → Buf (Elt Ideal) ((c.tc : Thread Cert.Kernel17Ideal.nD Cert.Kernel17Ideal.τ).loc Cert.Kernel17Ideal.main_v12_6)) (v7 : (c : Dev Cert.Kernel17Ideal.nD) → Buf (Elt Ideal) ((c.tc : Thread Cert.Kernel17Ideal.nD Cert.Kernel17Ideal.τ).loc Cert.Kernel17Ideal.main_v12_7)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v12_0) = v0 c
          ∧ r.2.mem ((c.tc : Thread Cert.Kernel17Ideal.nD Cert.Kernel17Ideal.τ).loc Cert.Kernel17Ideal.main_v12_1) = v1 c
          ∧ r.2.mem ((c.tc : Thread Cert.Kernel17Ideal.nD Cert.Kernel17Ideal.τ).loc Cert.Kernel17Ideal.main_v12_2) = v2 c
          ∧ r.2.mem ((c.tc : Thread Cert.Kernel17Ideal.nD Cert.Kernel17Ideal.τ).loc Cert.Kernel17Ideal.main_v12_3) = v3 c
          ∧ r.2.mem ((c.tc : Thread Cert.Kernel17Ideal.nD Cert.Kernel17Ideal.τ).loc Cert.Kernel17Ideal.main_v12_4) = v4 c
          ∧ r.2.mem ((c.tc : Thread Cert.Kernel17Ideal.nD Cert.Kernel17Ideal.τ).loc Cert.Kernel17Ideal.main_v12_5) = v5 c
          ∧ r.2.mem ((c.tc : Thread Cert.Kernel17Ideal.nD Cert.Kernel17Ideal.τ).loc Cert.Kernel17Ideal.main_v12_6) = v6 c
          ∧ r.2.mem ((c.tc : Thread Cert.Kernel17Ideal.nD Cert.Kernel17Ideal.τ).loc Cert.Kernel17Ideal.main_v12_7) = v7 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v3) = v1 c
          ∧ r.2.mem ((c.tc : Thread Cert.Reference17Ideal.nD Cert.Reference17Ideal.τ).loc Cert.Reference17Ideal.main_v81) = v2 c
          ∧ r.2.mem ((c.tc : Thread Cert.Reference17Ideal.nD Cert.Reference17Ideal.τ).loc Cert.Reference17Ideal.main_v82) = v3 c
          ∧ r.2.mem ((c.tc : Thread Cert.Reference17Ideal.nD Cert.Reference17Ideal.τ).loc Cert.Reference17Ideal.main_v84) = v4 c
          ∧ r.2.mem ((c.tc : Thread Cert.Reference17Ideal.nD Cert.Reference17Ideal.τ).loc Cert.Reference17Ideal.main_v86) = v5 c
          ∧ r.2.mem ((c.tc : Thread Cert.Reference17Ideal.nD Cert.Reference17Ideal.τ).loc Cert.Reference17Ideal.main_v87) = v6 c
          ∧ r.2.mem ((c.tc : Thread Cert.Reference17Ideal.nD Cert.Reference17Ideal.τ).loc Cert.Reference17Ideal.main_v39) = v7 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v11)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v11) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v33) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite17 : Cert.Pre_finite17.Facts) (hPre_finite18 : Cert.Pre_finite18.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal_pre_finite18 (hKernel18Ideal := hKernel18Ideal) (hReference18Ideal := hReference18Ideal) (hPre_finite18 := hPre_finite18)
-- ==== Pre_finite17.lean ====
abbrev S6144x4608 : Shape := ⟨2, ![6144, 4608]⟩
abbrev S2x1024 : Shape := ⟨2, ![2, 1024]⟩
abbrev S2x64x1024 : Shape := ⟨3, ![2, 64, 1024]⟩
abbrev S128x1024 : Shape := ⟨2, ![128, 1024]⟩
abbrev S1024 : Shape := ⟨1, ![1024]⟩
abbrev S16x64 : Shape := ⟨2, ![16, 64]⟩
abbrev S6144x2048 : Shape := ⟨2, ![6144, 2048]⟩
abbrev S_ : Shape := ⟨0, ![]⟩

class Facts : Prop where
  slices_S6144x4608_S6144x2048_0_0 : S6144x4608.Slices ![0, 0] S6144x2048
  bcast_S_S6144x2048 : S_.BroadcastsInDim S6144x2048 (![] : Fin 0 → Fin S6144x2048.rank)
  bcast_S_S1024 : S_.BroadcastsInDim S1024 (![] : Fin 0 → Fin S1024.rank)
  bcast_S_S16x64 : S_.BroadcastsInDim S16x64 (![] : Fin 0 → Fin S16x64.rank)

variable [Facts]

def fn {F : FTy → Type} [FloatOps F] (main_arg0 : FVec F S6144x4608 .f32) (main_arg1 : FVec F S2x1024 .f32) (main_arg2 : FVec F S2x64x1024 .f32) (main_arg3 : FVec F S2x1024 .f32) (main_arg4 : FVec F S2x64x1024 .f32) (main_arg5 : FVec F S128x1024 .f32) (main_arg6 : FVec F S1024 .f32) (main_arg7 : FVec F S1024 .f32) (main_arg8 : FVec F S16x64 .f32) : IVec S6144x2048 1 × IVec S1024 1 × IVec S1024 1 × IVec S16x64 1 :=
  let main_v0 : FVec F S6144x2048 .f32 := (extractStridedSlice S6144x2048 ![0, 0] · slices_S6144x4608_S6144x2048_0_0) main_arg0
  let main_v1 : FVec F S6144x2048 .f32 := Host.absf main_v0
  let main_cst : FVec F S_ .f32 := constant S_ .f32 0x7F800000#32
  let main_v2 : FVec F S6144x2048 .f32 := broadcastInDim S6144x2048 ![] bcast_S_S6144x2048 main_cst
  let main_v3 : IVec S6144x2048 1 := cmpf .olt main_v1 main_v2
  let main_v4 : FVec F S1024 .f32 := Host.absf main_arg6
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024 .f32 := Host.absf main_arg7
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S16x64 .f32 := Host.absf main_arg8
  let main_cst_2 : FVec F S_ .f32 := constant S_ .f32 0x7F800000#32
  let main_v11 : FVec F S16x64 .f32 := broadcastInDim S16x64 ![] bcast_S_S16x64 main_cst_2
  let main_v12 : IVec S16x64 1 := cmpf .olt main_v10 main_v11
  (main_v3, main_v6, main_v9, main_v12)
-- ==== Pre_finite18.lean ====
abbrev S2x6144x1024 : Shape := ⟨3, ![2, 6144, 1024]⟩
abbrev S6144x1024 : Shape := ⟨2, ![6144, 1024]⟩
abbrev S1024 : Shape := ⟨1, ![1024]⟩
abbrev S_ : Shape := ⟨0, ![]⟩

class Facts : Prop where
  bcast_S_S2x6144x1024 : S_.BroadcastsInDim S2x6144x1024 (![] : Fin 0 → Fin S2x6144x1024.rank)

variable [Facts]

def fn {F : FTy → Type} [FloatOps F] (main_arg0 : FVec F S2x6144x1024 .f32) (main_arg1 : FVec F S6144x1024 .f32) (main_arg2 : FVec F S6144x1024 .f32) (main_arg3 : FVec F S1024 .f32) (main_arg4 : FVec F S1024 .f32) : IVec S2x6144x1024 1 :=
  let main_v0 : FVec F S2x6144x1024 .f32 := Host.absf main_arg0
  let main_cst : FVec F S_ .f32 := constant S_ .f32 0x7F800000#32
  let main_v1 : FVec F S2x6144x1024 .f32 := broadcastInDim S2x6144x1024 ![] bcast_S_S2x6144x1024 main_cst
  let main_v2 : IVec S2x6144x1024 1 := cmpf .olt main_v0 main_v1
  main_v2
-- ==== Kernel.lean ====
abbrev S6144x2048 : Shape := ⟨2, ![6144, 2048]⟩
abbrev S4x2048x11712 : Shape := ⟨3, ![4, 2048, 11712]⟩
abbrev S4x11712x2048 : Shape := ⟨3, ![4, 11712, 2048]⟩
abbrev S6144x6144 : Shape := ⟨2, ![6144, 6144]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S6144x2048, .bf16⟩
  | .hbm, ⟨1, _⟩ => ⟨S4x2048x11712, .f32⟩
  | .hbm, ⟨2, _⟩ => ⟨S4x11712x2048, .f32⟩
  | .hbm, ⟨3, _⟩ => ⟨S6144x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .bf16⟩
  | .local _ .vmem, ⟨5, _⟩ => ⟨S1024x1024, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 6], ![false, false]⟩

def k0_mult1 (i : grid0.Coords) : BitVec 32 :=
  let c5568_i32 : BitVec 32 := 5568#32
  let arg1 : BitVec 32 := BitVec.ofNat 32 (i 1).val
  let c1024_i32 : BitVec 32 := 1024#32
  let v0 : BitVec 32 := Scalar.muli arg1 c1024_i32
  let v1 : BitVec 32 := Scalar.addi c5568_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c5568_i32 : BitVec 32 := 5568#32
  let v1 : BitVec 32 := Scalar.addi c5568_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S6144x2048 : Shape := ⟨2, ![6144, 2048]⟩
abbrev S4x2048x11712 : Shape := ⟨3, ![4, 2048, 11712]⟩
abbrev S1x2048x11712 : Shape := ⟨3, ![1, 2048, 11712]⟩
abbrev S2048x11712 : Shape := ⟨2, ![2048, 11712]⟩
abbrev S6144x11712 : Shape := ⟨2, ![6144, 11712]⟩
abbrev S6144x6144 : Shape := ⟨2, ![6144, 6144]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S4x2048x11712, .f32⟩
  | .hbm, ⟨2, _⟩ => ⟨S6144x2048, .f32⟩
  | .hbm, ⟨3, _⟩ => ⟨S1x2048x11712, .f32⟩
  | .hbm, ⟨4, _⟩ => ⟨S2048x11712, .f32⟩
  | .hbm, ⟨5, _⟩ => ⟨S6144x11712, .f32⟩
  | .hbm, ⟨6, _⟩ => ⟨S6144x6144, .f32⟩
  | .hbm, ⟨7, _⟩ => ⟨S6144x6144, .f32⟩
  | .hbm, ⟨8, _⟩ => ⟨S6144x6144, .f32⟩
  | .hbm, ⟨9, _⟩ => ⟨S_, .f32⟩
  | .hbm, ⟨10, _⟩ => ⟨S6144x6144, .f32⟩
  | .hbm, ⟨11, _⟩ => ⟨S6144x6144, .f32⟩
  | .hbm, ⟨12, _⟩ => ⟨S_, .f32⟩
  | .hbm, ⟨13, _⟩ => ⟨S6144x6144, .f32⟩
  | .hbm, ⟨14, _⟩ => ⟨S6144x6144, .f32⟩
  | .hbm, ⟨15, _⟩ => ⟨S6144x6144, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel2.lean ====
abbrev S6144x2048 : Shape := ⟨2, ![6144, 2048]⟩
abbrev S4x2048x11712 : Shape := ⟨3, ![4, 2048, 11712]⟩
abbrev S4x11712x2048 : Shape := ⟨3, ![4, 11712, 2048]⟩
abbrev S4096x1024 : Shape := ⟨2, ![4096, 1024]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S6144x2048, .bf16⟩
  | .hbm, ⟨1, _⟩ => ⟨S4x2048x11712, .f32⟩
  | .hbm, ⟨2, _⟩ => ⟨S4x11712x2048, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1024x512, .f32⟩
  | .local _ .vmem, ⟨5, _⟩ => ⟨S1024x512, .f32⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let c4544_i32 : BitVec 32 := 4544#32
  let arg1 : BitVec 32 := BitVec.ofNat 32 (i 1).val
  let c512_i32 : BitVec 32 := 512#32
  let v0 : BitVec 32 := Scalar.muli arg1 c512_i32
  let v1 : BitVec 32 := Scalar.addi c4544_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4544_i32 : BitVec 32 := 4544#32
  let v1 : BitVec 32 := Scalar.addi c4544_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S6144x2048 : Shape := ⟨2, ![6144, 2048]⟩
abbrev S4x2048x11712 : Shape := ⟨3, ![4, 2048, 11712]⟩
abbrev S4096x2048 : Shape := ⟨2, ![4096, 2048]⟩
abbrev S1x2048x11712 : Shape := ⟨3, ![1, 2048, 11712]⟩
abbrev S2048x11712 : Shape := ⟨2, ![2048, 11712]⟩
abbrev S4096x11712 : Shape := ⟨2, ![4096, 11712]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S4x2048x11712, .f32⟩
  | .hbm, ⟨2, _⟩ => ⟨S4096x2048, .bf16⟩
  | .hbm, ⟨3, _⟩ => ⟨S4096x2048, .f32⟩
  | .hbm, ⟨4, _⟩ => ⟨S1x2048x11712, .f32⟩
  | .hbm, ⟨5, _⟩ => ⟨S2048x11712, .f32⟩
  | .hbm, ⟨6, _⟩ => ⟨S4096x11712, .f32⟩
  | .hbm, ⟨7, _⟩ => ⟨S4096x1024, .f32⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S6144x2048 : Shape := ⟨2, ![6144, 2048]⟩
abbrev S4x2048x11712 : Shape := ⟨3, ![4, 2048, 11712]⟩
abbrev S4x11712x2048 : Shape := ⟨3, ![4, 11712, 2048]⟩
abbrev S2048x1024 : Shape := ⟨2, ![2048, 1024]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S6144x2048, .bf16⟩
  | .hbm, ⟨1, _⟩ => ⟨S4x2048x11712, .f32⟩
  | .hbm, ⟨2, _⟩ => ⟨S4x11712x2048, .f32⟩
  | .hbm, ⟨3, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1024x512, .f32⟩
  | .local _ .vmem, ⟨5, _⟩ => ⟨S1024x512, .f32⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_mult1 (i : grid0.Coords) : BitVec 32 :=
  let c4544_i32 : BitVec 32 := 4544#32
  let arg1 : BitVec 32 := BitVec.ofNat 32 (i 1).val
  let c512_i32 : BitVec 32 := 512#32
  let v0 : BitVec 32 := Scalar.muli arg1 c512_i32
  let v1 : BitVec 32 := Scalar.addi c4544_i32 v0
  v1
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4544_i32 : BitVec 32 := 4544#32
  let v1 : BitVec 32 := Scalar.addi c4544_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S6144x2048 : Shape := ⟨2, ![6144, 2048]⟩
abbrev S4x2048x11712 : Shape := ⟨3, ![4, 2048, 11712]⟩
abbrev S2048x2048 : Shape := ⟨2, ![2048, 2048]⟩
abbrev S1x2048x11712 : Shape := ⟨3, ![1, 2048, 11712]⟩
abbrev S2048x11712 : Shape := ⟨2, ![2048, 11712]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S4x2048x11712, .f32⟩
  | .hbm, ⟨2, _⟩ => ⟨S2048x2048, .bf16⟩
  | .hbm, ⟨3, _⟩ => ⟨S2048x2048, .f32⟩
  | .hbm, ⟨4, _⟩ => ⟨S1x2048x11712, .f32⟩
  | .hbm, ⟨5, _⟩ => ⟨S2048x11712, .f32⟩
  | .hbm, ⟨6, _⟩ => ⟨S2048x11712, .f32⟩
  | .hbm, ⟨7, _⟩ => ⟨S2048x1024, .f32⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S6144x2048 : Shape := ⟨2, ![6144, 2048]⟩
abbrev S4x2048x11712 : Shape := ⟨3, ![4, 2048, 11712]⟩
abbrev S3456 : Shape := ⟨1, ![3456]⟩
abbrev S4x11712x2048 : Shape := ⟨3, ![4, 11712, 2048]⟩
abbrev S_ : Shape := ⟨0, ![]⟩
abbrev S1152 : Shape := ⟨1, ![1152]⟩
abbrev S4608 : Shape := ⟨1, ![4608]⟩
abbrev S1x4608 : Shape := ⟨2, ![1, 4608]⟩
abbrev S6144x4608 : Shape := ⟨2, ![6144, 4608]⟩
abbrev S1024x2048 : Shape := ⟨2, ![1024, 2048]⟩
abbrev S1x1152x2048 : Shape := ⟨3, ![1, 1152, 2048]⟩
abbrev S1x1152 : Shape := ⟨2, ![1, 1152]⟩
abbrev S1024x1152 : Shape := ⟨2, ![1024, 1152]⟩
abbrev S1152x2048 : Shape := ⟨2, ![1152, 2048]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S6144x2048, .bf16⟩
  | .hbm, ⟨1, _⟩ => ⟨S4x2048x11712, .f32⟩
  | .hbm, ⟨2, _⟩ => ⟨S3456, .f32⟩
  | .hbm, ⟨3, _⟩ => ⟨S4x11712x2048, .f32⟩
  | .hbm, ⟨4, _⟩ => ⟨S_, .f32⟩
  | .hbm, ⟨5, _⟩ => ⟨S1152, .f32⟩
  | .hbm, ⟨6, _⟩ => ⟨S4608, .f32⟩
  | .hbm, ⟨7, _⟩ => ⟨S1x4608, .f32⟩
  | .hbm, ⟨8, _⟩ => ⟨S6144x4608, .f32⟩
  | .local _ .vmem, ⟨0, _⟩ => ⟨S1024x2048, .bf16⟩
  | .local _ .vmem, ⟨1, _⟩ => ⟨S1024x2048, .bf16⟩
  | .local _ .vmem, ⟨2, _⟩ => ⟨S1x1152x2048, .f32⟩
  | .local _ .vmem, ⟨3, _⟩ => ⟨S1x1152x2048, .f32⟩
  | .local _ .vmem, ⟨4, _⟩ => ⟨S1x1152, .f32⟩
  | .local _ .vmem, ⟨5, _⟩ => ⟨S1x1152, .f32⟩
  | .local _ .vmem, ⟨6, _⟩ => ⟨S1024x1152, .f32⟩
  | .local _ .vmem, ⟨7, _⟩ => ⟨S1024x1152, .f32⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1152x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S6144x2048 : Shape := ⟨2, ![6144, 2048]⟩
abbrev S4x2048x11712 : Shape := ⟨3, ![4, 2048, 11712]⟩
abbrev S3456 : Shape := ⟨1, ![3456]⟩
abbrev S1x2048x11712 : Shape := ⟨3, ![1, 2048, 11712]⟩
abbrev S2048x11712 : Shape := ⟨2, ![2048, 11712]⟩
abbrev S6144x11712 : Shape := ⟨2, ![6144, 11712]⟩
abbrev S6144x3456 : Shape := ⟨2, ![6144, 3456]⟩
abbrev S4096x3456 : Shape := ⟨2, ![4096, 3456]⟩
abbrev S16x256x3456 : Shape := ⟨3, ![16, 256, 3456]⟩
abbrev S16x255x3456 : Shape := ⟨3, ![16, 255, 3456]⟩
abbrev S_ : Shape := ⟨0, ![]⟩
abbrev S1x1x3456 : Shape := ⟨3, ![1, 1, 3456]⟩
abbrev S2048x3456 : Shape := ⟨2, ![2048, 3456]⟩
abbrev S2x1024x3456 : Shape := ⟨3, ![2, 1024, 3456]⟩
abbrev S2x1023x3456 : Shape := ⟨3, ![2, 1023, 3456]⟩
abbrev S6144x1152 : Shape := ⟨2, ![6144, 1152]⟩
abbrev S6144x4608 : Shape := ⟨2, ![6144, 4608]⟩

abbrev nBuf : Space → Nat
  | .hbm => 51
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S4x2048x11712, .f32⟩
  | .hbm, ⟨2, _⟩ => ⟨S3456, .f32⟩
  | .hbm, ⟨3, _⟩ => ⟨S6144x2048, .f32⟩
  | .hbm, ⟨4, _⟩ => ⟨S1x2048x11712, .f32⟩
  | .hbm, ⟨5, _⟩ => ⟨S2048x11712, .f32⟩
  | .hbm, ⟨6, _⟩ => ⟨S6144x11712, .f32⟩
  | .hbm, ⟨7, _⟩ => ⟨S6144x3456, .f32⟩
  | .hbm, ⟨8, _⟩ => ⟨S4096x3456, .f32⟩
  | .hbm, ⟨9, _⟩ => ⟨S16x256x3456, .f32⟩
  | .hbm, ⟨10, _⟩ => ⟨S16x255x3456, .f32⟩
  | .hbm, ⟨11, _⟩ => ⟨S_, .i32⟩
  | .hbm, ⟨12, _⟩ => ⟨S_, .f32⟩
  | .hbm, ⟨13, _⟩ => ⟨S16x256x3456, .f32⟩
  | .hbm, ⟨14, _⟩ => ⟨S16x255x3456, .f32⟩
  | .hbm, ⟨15, _⟩ => ⟨S_, .i32⟩
  | .hbm, ⟨16, _⟩ => ⟨S_, .f32⟩
  | .hbm, ⟨17, _⟩ => ⟨S16x256x3456, .f32⟩
  | .hbm, ⟨18, _⟩ => ⟨S16x256x3456, .f32⟩
  | .hbm, ⟨19, _⟩ => ⟨S_, .f32⟩
  | .hbm, ⟨20, _⟩ => ⟨S16x256x3456, .f32⟩
  | .hbm, ⟨21, _⟩ => ⟨S16x256x3456, .f32⟩
  | .hbm, ⟨22, _⟩ => ⟨S16x256x3456, .f32⟩
  | .hbm, ⟨23, _⟩ => ⟨S1x1x3456, .f32⟩
  | .hbm, ⟨24, _⟩ => ⟨S16x256x3456, .f32⟩
  | .hbm, ⟨25, _⟩ => ⟨S16x256x3456, .f32⟩
  | .hbm, ⟨26, _⟩ => ⟨S16x256x3456, .f32⟩
  | .hbm, ⟨27, _⟩ => ⟨S2048x3456, .f32⟩
  | .hbm, ⟨28, _⟩ => ⟨S2x1024x3456, .f32⟩
  | .hbm, ⟨29, _⟩ => ⟨S2x1023x3456, .f32⟩
  | .hbm, ⟨30, _⟩ => ⟨S_, .i32⟩
  | .hbm, ⟨31, _⟩ => ⟨S_, .f32⟩
  | .hbm, ⟨32, _⟩ => ⟨S2x1024x3456, .f32⟩
  | .hbm, ⟨33, _⟩ => ⟨S2x1023x3456, .f32⟩
  | .hbm, ⟨34, _⟩ => ⟨S_, .i32⟩
  | .hbm, ⟨35, _⟩ => ⟨S_, .f32⟩
  | .hbm, ⟨36, _⟩ => ⟨S2x1024x3456, .f32⟩
  | .hbm, ⟨37, _⟩ => ⟨S2x1024x3456, .f32⟩
  | .hbm, ⟨38, _⟩ => ⟨S_, .f32⟩
  | .hbm, ⟨39, _⟩ => ⟨S2x1024x3456, .f32⟩
  | .hbm, ⟨40, _⟩ => ⟨S2x1024x3456, .f32⟩
  | .hbm, ⟨41, _⟩ => ⟨S2x1024x3456, .f32⟩
  | .hbm, ⟨42, _⟩ => ⟨S1x1x3456, .f32⟩
  | .hbm, ⟨43, _⟩ => ⟨S2x1024x3456, .f32⟩
  | .hbm, ⟨44, _⟩ => ⟨S2x1024x3456, .f32⟩
  | .hbm, ⟨45, _⟩ => ⟨S2x1024x3456, .f32⟩
  | .hbm, ⟨46, _⟩ => ⟨S4096x3456, .f32⟩
  | .hbm, ⟨47, _⟩ => ⟨S2048x3456, .f32⟩
  | .hbm, ⟨48, _⟩ => ⟨S6144x3456, .f32⟩
  | .hbm, ⟨49, _⟩ => ⟨S6144x1152, .f32⟩
  | .hbm, ⟨50, _⟩ => ⟨S6144x4608, .f32⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_1 : Ref sig .tc := ⟨.hbm, 30, rfl⟩
abbrev main_call2_v0 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_call3_v0 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel5.lean ====
abbrev S6144x1024 : Shape := ⟨2, ![6144, 1024]⟩
abbrev S6144x6144 : Shape := ⟨2, ![6144, 6144]⟩
abbrev S1024x2048 : Shape := ⟨2, ![1024, 2048]⟩
abbrev S6144x2048 : Shape := ⟨2, ![6144, 2048]⟩
abbrev S1024x1024 : Shape := ⟨2, ![1024, 1024]⟩
abbrev S1024x512 : Shape := ⟨2, ![1024, 512]⟩

abbrev nBuf : Space → Nat
  | .hbm => 8
  | .vmem => 20
  | .smem => 0
  | _ => 0

abbrev bufTy : (tb : Table) → Fin (tcTables nBuf tb) → BufTy
  | .hbm, ⟨0, _⟩ => ⟨S6144x1024, .bf16⟩
  | .hbm, ⟨1, _⟩ => ⟨S6144x1024, .bf16⟩
  | .hbm, ⟨2, _⟩ => ⟨S6144x1024, .bf16⟩
  | .hbm, ⟨3, _⟩ => ⟨S6144x6144, .bf16⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S6144x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S6144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S6144x1024 : Shape := ⟨2, ![6144, 1024]⟩
abbrev S6144x6144 : Shape := ⟨2, ![6144, 6144]⟩
abbrev S1024x2048 : Shape := ⟨2, ![1024, 2048]⟩
abbrev S6144x2048 : Shape := ⟨2, ![6144, 2048]⟩

abbrev nBuf : Space → Nat
  | .hbm => 23
  | .vmem => 0
  | .smem => 0
  | _ => 0

abbrev bufTy : (tb : Table) → Fin (tcTables nBuf tb) → BufTy
  | .hbm, ⟨0, _⟩ => ⟨S6144x1024, .bf16⟩
  | .hbm, ⟨1, _⟩ => ⟨S6144x1024, .bf16⟩
  | .hbm, ⟨2, _⟩ => ⟨S6144x1024, .bf16⟩
  | .hbm, ⟨3, _⟩ => ⟨S6144x6144, .bf16⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S6144x6144, .f32⟩
  | .hbm, ⟨8, _⟩ => ⟨S6144x2048, .f32⟩
  | .hbm, ⟨9, _⟩ => ⟨S6144x2048, .f32⟩
  | .hbm, ⟨10, _⟩ => ⟨S6144x2048, .f32⟩
  | .hbm, ⟨11, _⟩ => ⟨S6144x1024, .f32⟩
  | .hbm, ⟨12, _⟩ => ⟨S6144x2048, .f32⟩
  | .hbm, ⟨13, _⟩ => ⟨S6144x2048, .f32⟩
  | .hbm, ⟨14, _⟩ => ⟨S6144x1024, .f32⟩
  | .hbm, ⟨15, _⟩ => ⟨S6144x2048, .f32⟩
  | .hbm, ⟨16, _⟩ => ⟨S6144x2048, .f32⟩
  | .hbm, ⟨17, _⟩ => ⟨S6144x2048, .f32⟩
  | .hbm, ⟨18, _⟩ => ⟨S6144x1024, .f32⟩
  | .hbm, ⟨19, _⟩ => ⟨S6144x2048, .f32⟩
  | .hbm, ⟨20, _⟩ => ⟨S6144x2048, .f32⟩
  | .hbm, ⟨21, _⟩ => ⟨S6144x2048, .f32⟩
  | .hbm, ⟨22, _⟩ => ⟨S6144x2048, .bf16⟩
  | _, _ => ⟨S6144x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel6.lean ====
abbrev S6144x2048 : Shape := ⟨2, ![6144, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S6144x2048, .bf16⟩
  | .hbm, ⟨1, _⟩ => ⟨S2048x2048, .f32⟩
  | .hbm, ⟨2, _⟩ => ⟨S6144x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S6144x2048 : Shape := ⟨2, ![6144, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2048x2048, .f32⟩
  | .hbm, ⟨2, _⟩ => ⟨S6144x2048, .f32⟩
  | .hbm, ⟨3, _⟩ => ⟨S6144x2048, .f32⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S6144x2048 : Shape := ⟨2, ![6144, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S6144x2048, .bf16⟩
  | .hbm, ⟨1, _⟩ => ⟨S2048x2048, .f32⟩
  | .hbm, ⟨2, _⟩ => ⟨S6144x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S6144x2048 : Shape := ⟨2, ![6144, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2048x2048, .f32⟩
  | .hbm, ⟨2, _⟩ => ⟨S6144x2048, .f32⟩
  | .hbm, ⟨3, _⟩ => ⟨S6144x2048, .f32⟩
  | .hbm, ⟨4, _⟩ => ⟨S6144x2048, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S6144x512 : Shape := ⟨2, ![6144, 512]⟩
abbrev S512x1536 : Shape := ⟨2, ![512, 1536]⟩
abbrev S64 : Shape := ⟨1, ![64]⟩
abbrev S16 : Shape := ⟨1, ![16]⟩
abbrev S16x64 : Shape := ⟨2, ![16, 64]⟩
abbrev S1024 : Shape := ⟨1, ![1024]⟩
abbrev S1024x1 : Shape := ⟨2, ![1024, 1]⟩
abbrev S1024x2 : Shape := ⟨2, ![1024, 2]⟩
abbrev S_ : Shape := ⟨0, ![]⟩
abbrev S1024x2x1 : Shape := ⟨3, ![1024, 2, 1]⟩
abbrev S1x1x16 : Shape := ⟨3, ![1, 1, 16]⟩
abbrev S1024x2x16 : Shape := ⟨3, ![1024, 2, 16]⟩
abbrev S1024x1x16 : Shape := ⟨3, ![1024, 1, 16]⟩
abbrev S1024x16 : Shape := ⟨2, ![1024, 16]⟩
abbrev S1024x64 : Shape := ⟨2, ![1024, 64]⟩
abbrev S512x8x192 : Shape := ⟨3, ![512, 8, 192]⟩
abbrev S512x8x64 : Shape := ⟨3, ![512, 8, 64]⟩
abbrev S512x8x128 : Shape := ⟨3, ![512, 8, 128]⟩
abbrev S512x1024 : Shape := ⟨2, ![512, 1024]⟩
abbrev S512x512 : Shape := ⟨2, ![512, 512]⟩
abbrev S64x1 : Shape := ⟨2, ![64, 1]⟩
abbrev S512x2048 : Shape := ⟨2, ![512, 2048]⟩
abbrev S6144x2048 : Shape := ⟨2, ![6144, 2048]⟩
abbrev S1024x512 : Shape := ⟨2, ![1024, 512]⟩
abbrev S1024x1024 : Shape := ⟨2, ![1024, 1024]⟩
abbrev S1x1024x1x64 : Shape := ⟨4, ![1, 1024, 1, 64]⟩
abbrev S2x1024x8x64 : Shape := ⟨4, ![2, 1024, 8, 64]⟩
abbrev S2048x512 : Shape := ⟨2, ![2048, 512]⟩
abbrev S4096x512 : Shape := ⟨2, ![4096, 512]⟩
abbrev S6144x1024 : Shape := ⟨2, ![6144, 1024]⟩

abbrev nBuf : Space → Nat
  | .hbm => 84
  | .vmem => 6
  | .smem => 0
  | _ => 0

abbrev bufTy : (tb : Table) → Fin (tcTables nBuf tb) → BufTy
  | .hbm, ⟨0, _⟩ => ⟨S6144x512, .bf16⟩
  | .hbm, ⟨1, _⟩ => ⟨S512x1536, .f32⟩
  | .hbm, ⟨2, _⟩ => ⟨S64, .i32⟩
  | .hbm, ⟨3, _⟩ => ⟨S16, .i32⟩
  | .hbm, ⟨4, _⟩ => ⟨S64, .i32⟩
  | .hbm, ⟨5, _⟩ => ⟨S16x64, .i32⟩
  | .hbm, ⟨6, _⟩ => ⟨S16x64, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1, .i32⟩
  | .hbm, ⟨11, _⟩ => ⟨S1024x2, .i32⟩
  | .hbm, ⟨12, _⟩ => ⟨S1024x2, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S1024x2x1, .f32⟩
  | .hbm, ⟨22, _⟩ => ⟨S1x1x16, .f32⟩
  | .hbm, ⟨23, _⟩ => ⟨S1024x2x16, .f32⟩
  | .hbm, ⟨24, _⟩ => ⟨S1024x2x16, .f32⟩
  | .hbm, ⟨25, _⟩ => ⟨S1024x2x16, .f32⟩
  | .hbm, ⟨26, _⟩ => ⟨S1024x2x16, .f32⟩
  | .hbm, ⟨27, _⟩ => ⟨S1024x2x16, .f32⟩
  | .hbm, ⟨28, _⟩ => ⟨S1024x1x16, .f32⟩
  | .hbm, ⟨29, _⟩ => ⟨S1024x16, .f32⟩
  | .hbm, ⟨30, _⟩ => ⟨S1024x1x16, .f32⟩
  | .hbm, ⟨31, _⟩ => ⟨S1024x16, .f32⟩
  | .hbm, ⟨32, _⟩ => ⟨S1024x1x16, .f32⟩
  | .hbm, ⟨33, _⟩ => ⟨S1024x16, .f32⟩
  | .hbm, ⟨34, _⟩ => ⟨S1024x1x16, .f32⟩
  | .hbm, ⟨35, _⟩ => ⟨S1024x16, .f32⟩
  | .hbm, ⟨36, _⟩ => ⟨S1024x64, .f32⟩
  | .hbm, ⟨37, _⟩ => ⟨S1024x1x16, .f32⟩
  | .hbm, ⟨38, _⟩ => ⟨S1024x16, .f32⟩
  | .hbm, ⟨39, _⟩ => ⟨S1024x16, .f32⟩
  | .hbm, ⟨40, _⟩ => ⟨S1024x1x16, .f32⟩
  | .hbm, ⟨41, _⟩ => ⟨S1024x16, .f32⟩
  | .hbm, ⟨42, _⟩ => ⟨S1024x1x16, .f32⟩
  | .hbm, ⟨43, _⟩ => ⟨S1024x16, .f32⟩
  | .hbm, ⟨44, _⟩ => ⟨S1024x16, .f32⟩
  | .hbm, ⟨45, _⟩ => ⟨S1024x1x16, .f32⟩
  | .hbm, ⟨46, _⟩ => ⟨S1024x16, .f32⟩
  | .hbm, ⟨47, _⟩ => ⟨S1024x64, .f32⟩
  | .hbm, ⟨48, _⟩ => ⟨S512x8x192, .f32⟩
  | .hbm, ⟨49, _⟩ => ⟨S512x8x64, .f32⟩
  | .hbm, ⟨50, _⟩ => ⟨S512x8x128, .f32⟩
  | .hbm, ⟨51, _⟩ => ⟨S512x1024, .f32⟩
  | .hbm, ⟨52, _⟩ => ⟨S512x512, .f32⟩
  | .hbm, ⟨53, _⟩ => ⟨S_, .i32⟩
  | .hbm, ⟨54, _⟩ => ⟨S64, .i32⟩
  | .hbm, ⟨55, _⟩ => ⟨S64, .i1⟩
  | .hbm, ⟨56, _⟩ => ⟨S_, .i32⟩
  | .hbm, ⟨57, _⟩ => ⟨S64, .i32⟩
  | .hbm, ⟨58, _⟩ => ⟨S64, .i32⟩
  | .hbm, ⟨59, _⟩ => ⟨S64, .i32⟩
  | .hbm, ⟨60, _⟩ => ⟨S64x1, .i32⟩
  | .hbm, ⟨61, _⟩ => ⟨S512x8x64, .f32⟩
  | .hbm, ⟨62, _⟩ => ⟨S512x512, .f32⟩
  | .hbm, ⟨63, _⟩ => ⟨S512x2048, .f32⟩
  | .hbm, ⟨64, _⟩ => ⟨S6144x2048, .bf16⟩
  | .hbm, ⟨65, _⟩ => ⟨S6144x512, .bf16⟩
  | .hbm, ⟨66, _⟩ => ⟨S6144x512, .f32⟩
  | .hbm, ⟨67, _⟩ => ⟨S6144x512, .bf16⟩
  | .hbm, ⟨68, _⟩ => ⟨S6144x512, .f32⟩
  | .hbm, ⟨69, _⟩ => ⟨S1x1024x1x64, .f32⟩
  | .hbm, ⟨70, _⟩ => ⟨S2x1024x8x64, .f32⟩
  | .hbm, ⟨71, _⟩ => ⟨S2048x512, .f32⟩
  | .hbm, ⟨72, _⟩ => ⟨S1x1024x1x64, .f32⟩
  | .hbm, ⟨73, _⟩ => ⟨S2x1024x8x64, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S2048x512, .f32⟩
  | .hbm, ⟨78, _⟩ => ⟨S2048x512, .f32⟩
  | .hbm, ⟨79, _⟩ => ⟨S2048x512, .f32⟩
  | .hbm, ⟨80, _⟩ => ⟨S4096x512, .f32⟩
  | .hbm, ⟨81, _⟩ => ⟨S6144x512, .f32⟩
  | .hbm, ⟨82, _⟩ => ⟨S6144x512, .bf16⟩
  | .hbm, ⟨83, _⟩ => ⟨S6144x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | _, _ => ⟨S6144x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_c_1 : Ref sig .tc := ⟨.hbm, 53, rfl⟩
abbrev main_v48 : Ref sig .tc := ⟨.hbm, 54, rfl⟩
abbrev main_v49 : Ref sig .tc := ⟨.hbm, 55, rfl⟩
abbrev main_c_2 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S6144x512 : Shape := ⟨2, ![6144, 512]⟩
abbrev S512x1536 : Shape := ⟨2, ![512, 1536]⟩
abbrev S16 : Shape := ⟨1, ![16]⟩
abbrev S64 : Shape := ⟨1, ![64]⟩
abbrev S16x64 : Shape := ⟨2, ![16, 64]⟩
abbrev S1024 : Shape := ⟨1, ![1024]⟩
abbrev S1024x1 : Shape := ⟨2, ![1024, 1]⟩
abbrev S1024x2 : Shape := ⟨2, ![1024, 2]⟩
abbrev S_ : Shape := ⟨0, ![]⟩
abbrev S1024x2x1 : Shape := ⟨3, ![1024, 2, 1]⟩
abbrev S1x1x16 : Shape := ⟨3, ![1, 1, 16]⟩
abbrev S1024x2x16 : Shape := ⟨3, ![1024, 2, 16]⟩
abbrev S6144x1536 : Shape := ⟨2, ![6144, 1536]⟩
abbrev S6144x8x192 : Shape := ⟨3, ![6144, 8, 192]⟩
abbrev S6144x8x128 : Shape := ⟨3, ![6144, 8, 128]⟩
abbrev S6144x8x64 : Shape := ⟨3, ![6144, 8, 64]⟩
abbrev S2048x8x64 : Shape := ⟨3, ![2048, 8, 64]⟩
abbrev S2x1024x8x64 : Shape := ⟨4, ![2, 1024, 8, 64]⟩
abbrev S1024x1x2x16 : Shape := ⟨4, ![1024, 1, 2, 16]⟩
abbrev S2x1024x8x2x2x16 : Shape := ⟨6, ![2, 1024, 8, 2, 2, 16]⟩
abbrev S2x1024x8x2x1x16 : Shape := ⟨6, ![2, 1024, 8, 2, 1, 16]⟩
abbrev S2x1024x8x2x16 : Shape := ⟨5, ![2, 1024, 8, 2, 16]⟩
abbrev S1x1024x1x2x16 : Shape := ⟨5, ![1, 1024, 1, 2, 16]⟩
abbrev S4096x8x64 : Shape := ⟨3, ![4096, 8, 64]⟩
abbrev S4096x512 : Shape := ⟨2, ![4096, 512]⟩
abbrev S2048x512 : Shape := ⟨2, ![2048, 512]⟩
abbrev S6144x1024 : Shape := ⟨2, ![6144, 1024]⟩

abbrev nBuf : Space → Nat
  | .hbm => 66
  | .vmem => 0
  | .smem => 0
  | _ => 0

abbrev bufTy : (tb : Table) → Fin (tcTables nBuf tb) → BufTy
  | .hbm, ⟨0, _⟩ => ⟨S6144x512, .bf16⟩
  | .hbm, ⟨1, _⟩ => ⟨S512x1536, .f32⟩
  | .hbm, ⟨2, _⟩ => ⟨S16, .i32⟩
  | .hbm, ⟨3, _⟩ => ⟨S64, .i32⟩
  | .hbm, ⟨4, _⟩ => ⟨S16x64, .i32⟩
  | .hbm, ⟨5, _⟩ => ⟨S16x64, .i32⟩
  | .hbm, ⟨6, _⟩ => ⟨S1024, .i32⟩
  | .hbm, ⟨7, _⟩ => ⟨S1024, .i32⟩
  | .hbm, ⟨8, _⟩ => ⟨S1024x1, .i32⟩
  | .hbm, ⟨9, _⟩ => ⟨S1024x1, .i32⟩
  | .hbm, ⟨10, _⟩ => ⟨S1024x2, .i32⟩
  | .hbm, ⟨11, _⟩ => ⟨S1024x2, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S1024x2x1, .f32⟩
  | .hbm, ⟨21, _⟩ => ⟨S1x1x16, .f32⟩
  | .hbm, ⟨22, _⟩ => ⟨S1024x2x16, .f32⟩
  | .hbm, ⟨23, _⟩ => ⟨S1024x2x16, .f32⟩
  | .hbm, ⟨24, _⟩ => ⟨S1024x2x16, .f32⟩
  | .hbm, ⟨25, _⟩ => ⟨S1024x2x16, .f32⟩
  | .hbm, ⟨26, _⟩ => ⟨S1024x2x16, .f32⟩
  | .hbm, ⟨27, _⟩ => ⟨S6144x512, .f32⟩
  | .hbm, ⟨28, _⟩ => ⟨S6144x1536, .f32⟩
  | .hbm, ⟨29, _⟩ => ⟨S6144x8x192, .f32⟩
  | .hbm, ⟨30, _⟩ => ⟨S6144x8x128, .f32⟩
  | .hbm, ⟨31, _⟩ => ⟨S6144x8x64, .f32⟩
  | .hbm, ⟨32, _⟩ => ⟨S2048x8x64, .f32⟩
  | .hbm, ⟨33, _⟩ => ⟨S2x1024x8x64, .f32⟩
  | .hbm, ⟨34, _⟩ => ⟨S1024x1x2x16, .f32⟩
  | .hbm, ⟨35, _⟩ => ⟨S1024x1x2x16, .f32⟩
  | .hbm, ⟨36, _⟩ => ⟨S2x1024x8x2x2x16, .f32⟩
  | .hbm, ⟨37, _⟩ => ⟨S2x1024x8x2x1x16, .f32⟩
  | .hbm, ⟨38, _⟩ => ⟨S2x1024x8x2x16, .f32⟩
  | .hbm, ⟨39, _⟩ => ⟨S2x1024x8x2x1x16, .f32⟩
  | .hbm, ⟨40, _⟩ => ⟨S2x1024x8x2x16, .f32⟩
  | .hbm, ⟨41, _⟩ => ⟨S1x1024x1x2x16, .f32⟩
  | .hbm, ⟨42, _⟩ => ⟨S2x1024x8x2x16, .f32⟩
  | .hbm, ⟨43, _⟩ => ⟨S2x1024x8x2x16, .f32⟩
  | .hbm, ⟨44, _⟩ => ⟨S1x1024x1x2x16, .f32⟩
  | .hbm, ⟨45, _⟩ => ⟨S2x1024x8x2x16, .f32⟩
  | .hbm, ⟨46, _⟩ => ⟨S2x1024x8x2x16, .f32⟩
  | .hbm, ⟨47, _⟩ => ⟨S2x1024x8x2x16, .f32⟩
  | .hbm, ⟨48, _⟩ => ⟨S1x1024x1x2x16, .f32⟩
  | .hbm, ⟨49, _⟩ => ⟨S2x1024x8x2x16, .f32⟩
  | .hbm, ⟨50, _⟩ => ⟨S2x1024x8x2x16, .f32⟩
  | .hbm, ⟨51, _⟩ => ⟨S1x1024x1x2x16, .f32⟩
  | .hbm, ⟨52, _⟩ => ⟨S2x1024x8x2x16, .f32⟩
  | .hbm, ⟨53, _⟩ => ⟨S2x1024x8x2x16, .f32⟩
  | .hbm, ⟨54, _⟩ => ⟨S2x1024x8x2x16, .f32⟩
  | .hbm, ⟨55, _⟩ => ⟨S2x1024x8x2x1x16, .f32⟩
  | .hbm, ⟨56, _⟩ => ⟨S2x1024x8x2x1x16, .f32⟩
  | .hbm, ⟨57, _⟩ => ⟨S2x1024x8x2x2x16, .f32⟩
  | .hbm, ⟨58, _⟩ => ⟨S2x1024x8x64, .f32⟩
  | .hbm, ⟨59, _⟩ => ⟨S4096x8x64, .f32⟩
  | .hbm, ⟨60, _⟩ => ⟨S4096x512, .f32⟩
  | .hbm, ⟨61, _⟩ => ⟨S2048x512, .f32⟩
  | .hbm, ⟨62, _⟩ => ⟨S6144x512, .f32⟩
  | .hbm, ⟨63, _⟩ => ⟨S6144x1024, .f32⟩
  | .hbm, ⟨64, _⟩ => ⟨S6144x1024, .bf16⟩
  | .hbm, ⟨65, _⟩ => ⟨S6144x512, .bf16⟩
  | _, _ => ⟨S6144x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩

abbrev nD : Nat := 1
abbrev τ : Topo := Topo.v7x

variable {F : FTy → Type} [FloatOps F]
-- ==== Kernel9.lean ====
abbrev S2x512x512 : Shape := ⟨3, ![2, 512, 512]⟩
abbrev S6144x512 : Shape := ⟨2, ![6144, 512]⟩
abbrev S512x1024 : Shape := ⟨2, ![512, 1024]⟩
abbrev S2048x512 : Shape := ⟨2, ![2048, 512]⟩
abbrev S2x1024x512 : Shape := ⟨3, ![2, 1024, 512]⟩
abbrev S2x1536x512 : Shape := ⟨3, ![2, 1536, 512]⟩
abbrev S3072x512 : Shape := ⟨2, ![3072, 512]⟩
abbrev S4096x512 : Shape := ⟨2, ![4096, 512]⟩
abbrev S7168x512 : Shape := ⟨2, ![7168, 512]⟩
abbrev S512x2048 : Shape := ⟨2, ![512, 2048]⟩
abbrev S7168x2048 : Shape := ⟨2, ![7168, 2048]⟩
abbrev S512x512 : Shape := ⟨2, ![512, 512]⟩

abbrev nBuf : Space → Nat
  | .hbm => 13
  | .vmem => 6
  | .smem => 0
  | _ => 0

abbrev bufTy : (tb : Table) → Fin (tcTables nBuf tb) → BufTy
  | .hbm, ⟨0, _⟩ => ⟨S2x512x512, .f32⟩
  | .hbm, ⟨1, _⟩ => ⟨S6144x512, .f32⟩
  | .hbm, ⟨2, _⟩ => ⟨S512x1024, .f32⟩
  | .hbm, ⟨3, _⟩ => ⟨S512x1024, .f32⟩
  | .hbm, ⟨4, _⟩ => ⟨S2048x512, .f32⟩
  | .hbm, ⟨5, _⟩ => ⟨S2x1024x512, .f32⟩
  | .hbm, ⟨6, _⟩ => ⟨S2x1536x512, .f32⟩
  | .hbm, ⟨7, _⟩ => ⟨S3072x512, .f32⟩
  | .hbm, ⟨8, _⟩ => ⟨S4096x512, .f32⟩
  | .hbm, ⟨9, _⟩ => ⟨S7168x512, .f32⟩
  | .hbm, ⟨10, _⟩ => ⟨S512x2048, .f32⟩
  | .hbm, ⟨11, _⟩ => ⟨S7168x512, .bf16⟩
  | .hbm, ⟨12, _⟩ => ⟨S7168x2048, .bf16⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![14, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2x512x512 : Shape := ⟨3, ![2, 512, 512]⟩
abbrev S6144x512 : Shape := ⟨2, ![6144, 512]⟩
abbrev S512x1024 : Shape := ⟨2, ![512, 1024]⟩
abbrev S2048x512 : Shape := ⟨2, ![2048, 512]⟩
abbrev S2x1024x512 : Shape := ⟨3, ![2, 1024, 512]⟩
abbrev S2x1536x512 : Shape := ⟨3, ![2, 1536, 512]⟩
abbrev S2x1536x1024 : Shape := ⟨3, ![2, 1536, 1024]⟩
abbrev S3072x1024 : Shape := ⟨2, ![3072, 1024]⟩
abbrev S4096x512 : Shape := ⟨2, ![4096, 512]⟩
abbrev S4096x1024 : Shape := ⟨2, ![4096, 1024]⟩
abbrev S7168x1024 : Shape := ⟨2, ![7168, 1024]⟩
abbrev S7168x2048 : Shape := ⟨2, ![7168, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S6144x512, .f32⟩
  | .hbm, ⟨2, _⟩ => ⟨S512x1024, .f32⟩
  | .hbm, ⟨3, _⟩ => ⟨S512x1024, .f32⟩
  | .hbm, ⟨4, _⟩ => ⟨S2048x512, .f32⟩
  | .hbm, ⟨5, _⟩ => ⟨S2x1024x512, .f32⟩
  | .hbm, ⟨6, _⟩ => ⟨S2x1536x512, .f32⟩
  | .hbm, ⟨7, _⟩ => ⟨S2x1536x1024, .f32⟩
  | .hbm, ⟨8, _⟩ => ⟨S3072x1024, .f32⟩
  | .hbm, ⟨9, _⟩ => ⟨S2x1536x1024, .f32⟩
  | .hbm, ⟨10, _⟩ => ⟨S3072x1024, .f32⟩
  | .hbm, ⟨11, _⟩ => ⟨S4096x512, .f32⟩
  | .hbm, ⟨12, _⟩ => ⟨S4096x1024, .f32⟩
  | .hbm, ⟨13, _⟩ => ⟨S4096x512, .f32⟩
  | .hbm, ⟨14, _⟩ => ⟨S4096x1024, .f32⟩
  | .hbm, ⟨15, _⟩ => ⟨S7168x1024, .f32⟩
  | .hbm, ⟨16, _⟩ => ⟨S7168x1024, .f32⟩
  | .hbm, ⟨17, _⟩ => ⟨S7168x2048, .f32⟩
  | .hbm, ⟨18, _⟩ => ⟨S7168x2048, .bf16⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel10.lean ====
abbrev S2048x1024 : Shape := ⟨2, ![2048, 1024]⟩
abbrev S1024 : Shape := ⟨1, ![1024]⟩
abbrev S1024x1024 : Shape := ⟨2, ![1024, 1024]⟩
abbrev S6144x1024 : Shape := ⟨2, ![6144, 1024]⟩
abbrev S1x1024 : Shape := ⟨2, ![1, 1024]⟩
abbrev S1024x512 : Shape := ⟨2, ![1024, 512]⟩

abbrev nBuf : Space → Nat
  | .hbm => 9
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S6144x1024, .bf16⟩
  | .hbm, ⟨7, _⟩ => ⟨S1x1024, .f32⟩
  | .hbm, ⟨8, _⟩ => ⟨S6144x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![v0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S2048x1024 : Shape := ⟨2, ![2048, 1024]⟩
abbrev S1024 : Shape := ⟨1, ![1024]⟩
abbrev S1024x1024 : Shape := ⟨2, ![1024, 1024]⟩
abbrev S6144x1024 : Shape := ⟨2, ![6144, 1024]⟩
abbrev S1x1024 : Shape := ⟨2, ![1, 1024]⟩
abbrev S_ : Shape := ⟨0, ![]⟩
abbrev S4096x1024 : Shape := ⟨2, ![4096, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S6144x1024, .bf16⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S4096x1024, .bf16⟩
  | .hbm, ⟨41, _⟩ => ⟨S2048x1024, .bf16⟩
  | .hbm, ⟨42, _⟩ => ⟨S6144x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel11.lean ====
abbrev S6144x2048 : Shape := ⟨2, ![6144, 2048]⟩
abbrev S6144x512 : Shape := ⟨2, ![6144, 512]⟩
abbrev S7168x2048 : Shape := ⟨2, ![7168, 2048]⟩
abbrev S7168x64 : Shape := ⟨2, ![7168, 64]⟩
abbrev S6144x1024 : Shape := ⟨2, ![6144, 1024]⟩
abbrev S7168x128 : Shape := ⟨2, ![7168, 128]⟩
abbrev S256x256 : Shape := ⟨2, ![256, 256]⟩
abbrev S256x128 : Shape := ⟨2, ![256, 128]⟩
abbrev S1536x256 : Shape := ⟨2, ![1536, 256]⟩
abbrev S1536x128 : Shape := ⟨2, ![1536, 128]⟩
abbrev S1x128 : Shape := ⟨2, ![1, 128]⟩
abbrev S256x1536 : Shape := ⟨2, ![256, 1536]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S6144x2048, .bf16⟩
  | .hbm, ⟨1, _⟩ => ⟨S6144x512, .bf16⟩
  | .hbm, ⟨2, _⟩ => ⟨S7168x2048, .bf16⟩
  | .hbm, ⟨3, _⟩ => ⟨S7168x64, .f32⟩
  | .hbm, ⟨4, _⟩ => ⟨S6144x1024, .bf16⟩
  | .hbm, ⟨5, _⟩ => ⟨S7168x128, .f32⟩
  | .hbm, ⟨6, _⟩ => ⟨S7168x128, .bf16⟩
  | .hbm, ⟨7, _⟩ => ⟨S6144x1024, .bf16⟩
  | .local _ .vmem, ⟨0, _⟩ => ⟨S256x256, .bf16⟩
  | .local _ .vmem, ⟨1, _⟩ => ⟨S256x256, .bf16⟩
  | .local _ .vmem, ⟨2, _⟩ => ⟨S256x128, .bf16⟩
  | .local _ .vmem, ⟨3, _⟩ => ⟨S256x128, .bf16⟩
  | .local _ .vmem, ⟨4, _⟩ => ⟨S1536x256, .bf16⟩
  | .local _ .vmem, ⟨5, _⟩ => ⟨S1536x256, .bf16⟩
  | .local _ .vmem, ⟨6, _⟩ => ⟨S1536x128, .bf16⟩
  | .local _ .vmem, ⟨7, _⟩ => ⟨S1536x128, .bf16⟩
  | .local _ .vmem, ⟨8, _⟩ => ⟨S1536x256, .bf16⟩
  | .local _ .vmem, ⟨9, _⟩ => ⟨S1536x256, .bf16⟩
  | .local _ .vmem, ⟨10, _⟩ => ⟨S256x256, .bf16⟩
  | .local _ .vmem, ⟨11, _⟩ => ⟨S256x256, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg2
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg2
  let c0_i32 : BitVec 32 := 0#32
  ![v2.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1536x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1536x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1536x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference11Ideal.lean ====
abbrev S6144x2048 : Shape := ⟨2, ![6144, 2048]⟩
abbrev S6144x512 : Shape := ⟨2, ![6144, 512]⟩
abbrev S7168x2048 : Shape := ⟨2, ![7168, 2048]⟩
abbrev S7168x64 : Shape := ⟨2, ![7168, 64]⟩
abbrev S6144x1024 : Shape := ⟨2, ![6144, 1024]⟩
abbrev S2048x1024 : Shape := ⟨2, ![2048, 1024]⟩
abbrev S2x1024x8x128 : Shape := ⟨4, ![2, 1024, 8, 128]⟩
abbrev S2048x512 : Shape := ⟨2, ![2048, 512]⟩
abbrev S2x1024x8x64 : Shape := ⟨4, ![2, 1024, 8, 64]⟩
abbrev S3072x1024 : Shape := ⟨2, ![3072, 1024]⟩
abbrev S2x1536x8x128 : Shape := ⟨4, ![2, 1536, 8, 128]⟩
abbrev S3072x64 : Shape := ⟨2, ![3072, 64]⟩
abbrev S2x1536x64 : Shape := ⟨3, ![2, 1536, 64]⟩
abbrev S2x8x1024x1536 : Shape := ⟨4, ![2, 8, 1024, 1536]⟩
abbrev S2x1536x1024x8 : Shape := ⟨4, ![2, 1536, 1024, 8]⟩
abbrev S_ : Shape := ⟨0, ![]⟩
abbrev S2x8x1024 : Shape := ⟨3, ![2, 8, 1024]⟩
abbrev S2x8x1024x1 : Shape := ⟨4, ![2, 8, 1024, 1]⟩
abbrev S2x8x128x1024 : Shape := ⟨4, ![2, 8, 128, 1024]⟩
abbrev S4096x1024 : Shape := ⟨2, ![4096, 1024]⟩

abbrev nBuf : Space → Nat
  | .hbm => 46
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S6144x512, .bf16⟩
  | .hbm, ⟨2, _⟩ => ⟨S7168x2048, .bf16⟩
  | .hbm, ⟨3, _⟩ => ⟨S7168x64, .f32⟩
  | .hbm, ⟨4, _⟩ => ⟨S6144x1024, .bf16⟩
  | .hbm, ⟨5, _⟩ => ⟨S2048x1024, .bf16⟩
  | .hbm, ⟨6, _⟩ => ⟨S2048x1024, .f32⟩
  | .hbm, ⟨7, _⟩ => ⟨S2x1024x8x128, .f32⟩
  | .hbm, ⟨8, _⟩ => ⟨S2048x512, .bf16⟩
  | .hbm, ⟨9, _⟩ => ⟨S2048x512, .f32⟩
  | .hbm, ⟨10, _⟩ => ⟨S2x1024x8x64, .f32⟩
  | .hbm, ⟨11, _⟩ => ⟨S3072x1024, .bf16⟩
  | .hbm, ⟨12, _⟩ => ⟨S3072x1024, .f32⟩
  | .hbm, ⟨13, _⟩ => ⟨S2x1536x8x128, .f32⟩
  | .hbm, ⟨14, _⟩ => ⟨S3072x1024, .bf16⟩
  | .hbm, ⟨15, _⟩ => ⟨S3072x1024, .f32⟩
  | .hbm, ⟨16, _⟩ => ⟨S2x1536x8x128, .f32⟩
  | .hbm, ⟨17, _⟩ => ⟨S3072x64, .f32⟩
  | .hbm, ⟨18, _⟩ => ⟨S2x1536x64, .f32⟩
  | .hbm, ⟨19, _⟩ => ⟨S2x8x1024x1536, .f32⟩
  | .hbm, ⟨20, _⟩ => ⟨S2x1536x1024x8, .f32⟩
  | .hbm, ⟨21, _⟩ => ⟨S2x8x1024x1536, .f32⟩
  | .hbm, ⟨22, _⟩ => ⟨S2x8x1024x1536, .f32⟩
  | .hbm, ⟨23, _⟩ => ⟨S_, .f32⟩
  | .hbm, ⟨24, _⟩ => ⟨S2x8x1024x1536, .f32⟩
  | .hbm, ⟨25, _⟩ => ⟨S2x8x1024x1536, .f32⟩
  | .hbm, ⟨26, _⟩ => ⟨S_, .f32⟩
  | .hbm, ⟨27, _⟩ => ⟨S2x8x1024, .f32⟩
  | .hbm, ⟨28, _⟩ => ⟨S_, .f32⟩
  | .hbm, ⟨29, _⟩ => ⟨S2x8x1024, .f32⟩
  | .hbm, ⟨30, _⟩ => ⟨S2x8x1024, .f32⟩
  | .hbm, ⟨31, _⟩ => ⟨S2x8x1024x1, .f32⟩
  | .hbm, ⟨32, _⟩ => ⟨S2x8x1024x1536, .f32⟩
  | .hbm, ⟨33, _⟩ => ⟨S2x8x1024x1536, .f32⟩
  | .hbm, ⟨34, _⟩ => ⟨S2x8x1024x1536, .f32⟩
  | .hbm, ⟨35, _⟩ => ⟨S_, .f32⟩
  | .hbm, ⟨36, _⟩ => ⟨S2x8x1024, .f32⟩
  | .hbm, ⟨37, _⟩ => ⟨S2x8x1024x1, .f32⟩
  | .hbm, ⟨38, _⟩ => ⟨S2x8x1024x1536, .f32⟩
  | .hbm, ⟨39, _⟩ => ⟨S2x8x1024x1536, .f32⟩
  | .hbm, ⟨40, _⟩ => ⟨S2x8x128x1024, .f32⟩
  | .hbm, ⟨41, _⟩ => ⟨S2x1024x8x128, .f32⟩
  | .hbm, ⟨42, _⟩ => ⟨S4096x1024, .bf16⟩
  | .hbm, ⟨43, _⟩ => ⟨S2048x1024, .f32⟩
  | .hbm, ⟨44, _⟩ => ⟨S2048x1024, .bf16⟩
  | .hbm, ⟨45, _⟩ => ⟨S6144x1024, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Kernel12.lean ====
abbrev S6144x4608 : Shape := ⟨2, ![6144, 4608]⟩
abbrev S512 : Shape := ⟨1, ![512]⟩
abbrev S1x512 : Shape := ⟨2, ![1, 512]⟩
abbrev S6144x512 : Shape := ⟨2, ![6144, 512]⟩
abbrev S1024x1152 : Shape := ⟨2, ![1024, 1152]⟩
abbrev S1024x512 : Shape := ⟨2, ![1024, 512]⟩
abbrev S1024 : Shape := ⟨1, ![1024]⟩
abbrev S1024x1 : Shape := ⟨2, ![1024, 1]⟩
abbrev S4096x512 : Shape := ⟨2, ![4096, 512]⟩
abbrev S16x256x512 : Shape := ⟨3, ![16, 256, 512]⟩
abbrev S2048x512 : Shape := ⟨2, ![2048, 512]⟩
abbrev S2x1024x512 : Shape := ⟨3, ![2, 1024, 512]⟩

abbrev nBuf : Space → Nat
  | .hbm => 11
  | .vmem => 8
  | .smem => 0
  | _ => 0

abbrev bufTy : (tb : Table) → Fin (tcTables nBuf tb) → BufTy
  | .hbm, ⟨0, _⟩ => ⟨S6144x4608, .f32⟩
  | .hbm, ⟨1, _⟩ => ⟨S512, .f32⟩
  | .hbm, ⟨2, _⟩ => ⟨S512, .f32⟩
  | .hbm, ⟨3, _⟩ => ⟨S1x512, .f32⟩
  | .hbm, ⟨4, _⟩ => ⟨S1x512, .f32⟩
  | .hbm, ⟨5, _⟩ => ⟨S6144x512, .bf16⟩
  | .hbm, ⟨6, _⟩ => ⟨S6144x512, .f32⟩
  | .hbm, ⟨7, _⟩ => ⟨S4096x512, .f32⟩
  | .hbm, ⟨8, _⟩ => ⟨S16x256x512, .f32⟩
  | .hbm, ⟨9, _⟩ => ⟨S2048x512, .f32⟩
  | .hbm, ⟨10, _⟩ => ⟨S2x1024x512, .f32⟩
  | .local _ .vmem, ⟨0, _⟩ => ⟨S1024x1152, .f32⟩
  | .local _ .vmem, ⟨1, _⟩ => ⟨S1024x1152, .f32⟩
  | .local _ .vmem, ⟨2, _⟩ => ⟨S1x512, .f32⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .f32⟩
  | _, _ => ⟨S6144x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S6144x4608 : Shape := ⟨2, ![6144, 4608]⟩
abbrev S512 : Shape := ⟨1, ![512]⟩
abbrev S6144x512 : Shape := ⟨2, ![6144, 512]⟩
abbrev S4096x512 : Shape := ⟨2, ![4096, 512]⟩
abbrev S16x256x512 : Shape := ⟨3, ![16, 256, 512]⟩
abbrev S_ : Shape := ⟨0, ![]⟩
abbrev S16x256 : Shape := ⟨2, ![16, 256]⟩
abbrev S16x256x1 : Shape := ⟨3, ![16, 256, 1]⟩
abbrev S1x1x512 : Shape := ⟨3, ![1, 1, 512]⟩
abbrev S2048x512 : Shape := ⟨2, ![2048, 512]⟩
abbrev S2x1024x512 : Shape := ⟨3, ![2, 1024, 512]⟩
abbrev S2x1024 : Shape := ⟨2, ![2, 1024]⟩
abbrev S2x1024x1 : Shape := ⟨3, ![2, 1024, 1]⟩
abbrev S6144 : Shape := ⟨1, ![6144]⟩
abbrev S6144x1 : Shape := ⟨2, ![6144, 1]⟩
abbrev S1x512 : Shape := ⟨2, ![1, 512]⟩

abbrev nBuf : Space → Nat
  | .hbm => 58
  | .vmem => 0
  | .smem => 0
  | _ => 0

abbrev bufTy : (tb : Table) → Fin (tcTables nBuf tb) → BufTy
  | .hbm, ⟨0, _⟩ => ⟨S6144x4608, .f32⟩
  | .hbm, ⟨1, _⟩ => ⟨S512, .f32⟩
  | .hbm, ⟨2, _⟩ => ⟨S512, .f32⟩
  | .hbm, ⟨3, _⟩ => ⟨S6144x512, .f32⟩
  | .hbm, ⟨4, _⟩ => ⟨S6144x512, .f32⟩
  | .hbm, ⟨5, _⟩ => ⟨S4096x512, .f32⟩
  | .hbm, ⟨6, _⟩ => ⟨S16x256x512, .f32⟩
  | .hbm, ⟨7, _⟩ => ⟨S16x256x512, .f32⟩
  | .hbm, ⟨8, _⟩ => ⟨S_, .f32⟩
  | .hbm, ⟨9, _⟩ => ⟨S16x256, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S16x256x1, .f32⟩
  | .hbm, ⟨18, _⟩ => ⟨S16x256x512, .f32⟩
  | .hbm, ⟨19, _⟩ => ⟨S16x256x512, .f32⟩
  | .hbm, ⟨20, _⟩ => ⟨S1x1x512, .f32⟩
  | .hbm, ⟨21, _⟩ => ⟨S16x256x512, .f32⟩
  | .hbm, ⟨22, _⟩ => ⟨S16x256x512, .f32⟩
  | .hbm, ⟨23, _⟩ => ⟨S2048x512, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024, .f32⟩
  | .hbm, ⟨28, _⟩ => ⟨S2x1024x1, .f32⟩
  | .hbm, ⟨29, _⟩ => ⟨S_, .f32⟩
  | .hbm, ⟨30, _⟩ => ⟨S2x1024x1, .f32⟩
  | .hbm, ⟨31, _⟩ => ⟨S2x1024x1, .f32⟩
  | .hbm, ⟨32, _⟩ => ⟨S_, .f32⟩
  | .hbm, ⟨33, _⟩ => ⟨S2x1024x1, .f32⟩
  | .hbm, ⟨34, _⟩ => ⟨S2x1024x1, .f32⟩
  | .hbm, ⟨35, _⟩ => ⟨S2x1024x1, .f32⟩
  | .hbm, ⟨36, _⟩ => ⟨S2x1024x512, .f32⟩
  | .hbm, ⟨37, _⟩ => ⟨S2x1024x512, .f32⟩
  | .hbm, ⟨38, _⟩ => ⟨S1x1x512, .f32⟩
  | .hbm, ⟨39, _⟩ => ⟨S2x1024x512, .f32⟩
  | .hbm, ⟨40, _⟩ => ⟨S2x1024x512, .f32⟩
  | .hbm, ⟨41, _⟩ => ⟨S6144x512, .f32⟩
  | .hbm, ⟨42, _⟩ => ⟨S_, .f32⟩
  | .hbm, ⟨43, _⟩ => ⟨S6144, .f32⟩
  | .hbm, ⟨44, _⟩ => ⟨S6144x1, .f32⟩
  | .hbm, ⟨45, _⟩ => ⟨S_, .f32⟩
  | .hbm, ⟨46, _⟩ => ⟨S6144x1, .f32⟩
  | .hbm, ⟨47, _⟩ => ⟨S6144x1, .f32⟩
  | .hbm, ⟨48, _⟩ => ⟨S_, .f32⟩
  | .hbm, ⟨49, _⟩ => ⟨S6144x1, .f32⟩
  | .hbm, ⟨50, _⟩ => ⟨S6144x1, .f32⟩
  | .hbm, ⟨51, _⟩ => ⟨S6144x1, .f32⟩
  | .hbm, ⟨52, _⟩ => ⟨S6144x512, .f32⟩
  | .hbm, ⟨53, _⟩ => ⟨S6144x512, .f32⟩
  | .hbm, ⟨54, _⟩ => ⟨S1x512, .f32⟩
  | .hbm, ⟨55, _⟩ => ⟨S6144x512, .f32⟩
  | .hbm, ⟨56, _⟩ => ⟨S6144x512, .f32⟩
  | .hbm, ⟨57, _⟩ => ⟨S6144x512, .bf16⟩
  | _, _ => ⟨S6144x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Kernel13.lean ====
abbrev S6144x2048 : Shape := ⟨2, ![6144, 2048]⟩
abbrev S8x12288 : Shape := ⟨2, ![8, 12288]⟩
abbrev S2048 : Shape := ⟨1, ![2048]⟩
abbrev S8x1x12288 : Shape := ⟨3, ![8, 1, 12288]⟩
abbrev S_ : Shape := ⟨0, ![]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S4096x2048 : Shape := ⟨2, ![4096, 2048]⟩
abbrev S16x256x2048 : Shape := ⟨3, ![16, 256, 2048]⟩
abbrev S2048x2048 : Shape := ⟨2, ![2048, 2048]⟩
abbrev S2x1024x2048 : Shape := ⟨3, ![2, 1024, 2048]⟩

abbrev nBuf : Space → Nat
  | .hbm => 14
  | .vmem => 15
  | .smem => 0
  | _ => 0

abbrev bufTy : (tb : Table) → Fin (tcTables nBuf tb) → BufTy
  | .hbm, ⟨0, _⟩ => ⟨S6144x2048, .f32⟩
  | .hbm, ⟨1, _⟩ => ⟨S6144x2048, .f32⟩
  | .hbm, ⟨2, _⟩ => ⟨S8x12288, .f32⟩
  | .hbm, ⟨3, _⟩ => ⟨S2048, .f32⟩
  | .hbm, ⟨4, _⟩ => ⟨S8x1x12288, .f32⟩
  | .hbm, ⟨5, _⟩ => ⟨S_, .f32⟩
  | .hbm, ⟨6, _⟩ => ⟨S8x1x12288, .f32⟩
  | .hbm, ⟨7, _⟩ => ⟨S1x2048, .f32⟩
  | .hbm, ⟨8, _⟩ => ⟨S6144x2048, .f32⟩
  | .hbm, ⟨9, _⟩ => ⟨S6144x2048, .f32⟩
  | .hbm, ⟨10, _⟩ => ⟨S4096x2048, .f32⟩
  | .hbm, ⟨11, _⟩ => ⟨S16x256x2048, .f32⟩
  | .hbm, ⟨12, _⟩ => ⟨S2048x2048, .f32⟩
  | .hbm, ⟨13, _⟩ => ⟨S2x1024x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c5_i32 : BitVec 32 := 5#32
  let c0_i32_8 : BitVec 32 := 0#32
  ![v20.toNat, c0_i32_7.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_5 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S6144x2048 : Shape := ⟨2, ![6144, 2048]⟩
abbrev S8x12288 : Shape := ⟨2, ![8, 12288]⟩
abbrev S2048 : Shape := ⟨1, ![2048]⟩
abbrev S8x2048 : Shape := ⟨2, ![8, 2048]⟩
abbrev S1x2048 : Shape := ⟨2, ![1, 2048]⟩
abbrev S1x1x2048 : Shape := ⟨3, ![1, 1, 2048]⟩
abbrev S2x2048 : Shape := ⟨2, ![2, 2048]⟩
abbrev S2x1x2048 : Shape := ⟨3, ![2, 1, 2048]⟩
abbrev S4096x2048 : Shape := ⟨2, ![4096, 2048]⟩
abbrev S16x256x2048 : Shape := ⟨3, ![16, 256, 2048]⟩
abbrev S2048x2048 : Shape := ⟨2, ![2048, 2048]⟩
abbrev S2x1024x2048 : Shape := ⟨3, ![2, 1024, 2048]⟩
abbrev S_ : Shape := ⟨0, ![]⟩
abbrev S16x256 : Shape := ⟨2, ![16, 256]⟩
abbrev S16x256x1 : Shape := ⟨3, ![16, 256, 1]⟩
abbrev S2x1024 : Shape := ⟨2, ![2, 1024]⟩
abbrev S2x1024x1 : Shape := ⟨3, ![2, 1024, 1]⟩

abbrev nBuf : Space → Nat
  | .hbm => 55
  | .vmem => 0
  | .smem => 0
  | _ => 0

abbrev bufTy : (tb : Table) → Fin (tcTables nBuf tb) → BufTy
  | .hbm, ⟨0, _⟩ => ⟨S6144x2048, .f32⟩
  | .hbm, ⟨1, _⟩ => ⟨S6144x2048, .f32⟩
  | .hbm, ⟨2, _⟩ => ⟨S8x12288, .f32⟩
  | .hbm, ⟨3, _⟩ => ⟨S2048, .f32⟩
  | .hbm, ⟨4, _⟩ => ⟨S8x2048, .f32⟩
  | .hbm, ⟨5, _⟩ => ⟨S1x2048, .f32⟩
  | .hbm, ⟨6, _⟩ => ⟨S1x1x2048, .f32⟩
  | .hbm, ⟨7, _⟩ => ⟨S2x2048, .f32⟩
  | .hbm, ⟨8, _⟩ => ⟨S2x1x2048, .f32⟩
  | .hbm, ⟨9, _⟩ => ⟨S4096x2048, .f32⟩
  | .hbm, ⟨10, _⟩ => ⟨S16x256x2048, .f32⟩
  | .hbm, ⟨11, _⟩ => ⟨S4096x2048, .f32⟩
  | .hbm, ⟨12, _⟩ => ⟨S16x256x2048, .f32⟩
  | .hbm, ⟨13, _⟩ => ⟨S16x256x2048, .f32⟩
  | .hbm, ⟨14, _⟩ => ⟨S16x256x2048, .f32⟩
  | .hbm, ⟨15, _⟩ => ⟨S16x256x2048, .f32⟩
  | .hbm, ⟨16, _⟩ => ⟨S2048x2048, .f32⟩
  | .hbm, ⟨17, _⟩ => ⟨S2x1024x2048, .f32⟩
  | .hbm, ⟨18, _⟩ => ⟨S2048x2048, .f32⟩
  | .hbm, ⟨19, _⟩ => ⟨S2x1024x2048, .f32⟩
  | .hbm, ⟨20, _⟩ => ⟨S2x1024x2048, .f32⟩
  | .hbm, ⟨21, _⟩ => ⟨S2x1024x2048, .f32⟩
  | .hbm, ⟨22, _⟩ => ⟨S2x1024x2048, .f32⟩
  | .hbm, ⟨23, _⟩ => ⟨S16x256x2048, .f32⟩
  | .hbm, ⟨24, _⟩ => ⟨S_, .f32⟩
  | .hbm, ⟨25, _⟩ => ⟨S16x256, .f32⟩
  | .hbm, ⟨26, _⟩ => ⟨S16x256x1, .f32⟩
  | .hbm, ⟨27, _⟩ => ⟨S_, .f32⟩
  | .hbm, ⟨28, _⟩ => ⟨S16x256x1, .f32⟩
  | .hbm, ⟨29, _⟩ => ⟨S16x256x1, .f32⟩
  | .hbm, ⟨30, _⟩ => ⟨S_, .f32⟩
  | .hbm, ⟨31, _⟩ => ⟨S16x256x1, .f32⟩
  | .hbm, ⟨32, _⟩ => ⟨S16x256x1, .f32⟩
  | .hbm, ⟨33, _⟩ => ⟨S16x256x1, .f32⟩
  | .hbm, ⟨34, _⟩ => ⟨S16x256x2048, .f32⟩
  | .hbm, ⟨35, _⟩ => ⟨S16x256x2048, .f32⟩
  | .hbm, ⟨36, _⟩ => ⟨S1x1x2048, .f32⟩
  | .hbm, ⟨37, _⟩ => ⟨S16x256x2048, .f32⟩
  | .hbm, ⟨38, _⟩ => ⟨S16x256x2048, .f32⟩
  | .hbm, ⟨39, _⟩ => ⟨S2x1024x2048, .f32⟩
  | .hbm, ⟨40, _⟩ => ⟨S_, .f32⟩
  | .hbm, ⟨41, _⟩ => ⟨S2x1024, .f32⟩
  | .hbm, ⟨42, _⟩ => ⟨S2x1024x1, .f32⟩
  | .hbm, ⟨43, _⟩ => ⟨S_, .f32⟩
  | .hbm, ⟨44, _⟩ => ⟨S2x1024x1, .f32⟩
  | .hbm, ⟨45, _⟩ => ⟨S2x1024x1, .f32⟩
  | .hbm, ⟨46, _⟩ => ⟨S_, .f32⟩
  | .hbm, ⟨47, _⟩ => ⟨S2x1024x1, .f32⟩
  | .hbm, ⟨48, _⟩ => ⟨S2x1024x1, .f32⟩
  | .hbm, ⟨49, _⟩ => ⟨S2x1024x1, .f32⟩
  | .hbm, ⟨50, _⟩ => ⟨S2x1024x2048, .f32⟩
  | .hbm, ⟨51, _⟩ => ⟨S2x1024x2048, .f32⟩
  | .hbm, ⟨52, _⟩ => ⟨S1x1x2048, .f32⟩
  | .hbm, ⟨53, _⟩ => ⟨S2x1024x2048, .f32⟩
  | .hbm, ⟨54, _⟩ => ⟨S2x1024x2048, .f32⟩
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Kernel14.lean ====
abbrev S6144x2048 : Shape := ⟨2, ![6144, 2048]⟩
abbrev S4x2048x11712 : Shape := ⟨3, ![4, 2048, 11712]⟩
abbrev S64 : Shape := ⟨1, ![64]⟩
abbrev S4x11712x2048 : Shape := ⟨3, ![4, 11712, 2048]⟩
abbrev S16 : Shape := ⟨1, ![16]⟩
abbrev S16x64 : Shape := ⟨2, ![16, 64]⟩
abbrev S1024 : Shape := ⟨1, ![1024]⟩
abbrev S1024x1 : Shape := ⟨2, ![1024, 1]⟩
abbrev S1024x2 : Shape := ⟨2, ![1024, 2]⟩
abbrev S_ : Shape := ⟨0, ![]⟩
abbrev S1024x2x1 : Shape := ⟨3, ![1024, 2, 1]⟩
abbrev S1x1x16 : Shape := ⟨3, ![1, 1, 16]⟩
abbrev S1024x2x16 : Shape := ⟨3, ![1024, 2, 16]⟩
abbrev S1024x1x16 : Shape := ⟨3, ![1024, 1, 16]⟩
abbrev S1024x16 : Shape := ⟨2, ![1024, 16]⟩
abbrev S1024x64 : Shape := ⟨2, ![1024, 64]⟩
abbrev S1x64x2048 : Shape := ⟨3, ![1, 64, 2048]⟩
abbrev S64x2048 : Shape := ⟨2, ![64, 2048]⟩
abbrev S64x1 : Shape := ⟨2, ![64, 1]⟩
abbrev S128x2048 : Shape := ⟨2, ![128, 2048]⟩
abbrev S2048x128 : Shape := ⟨2, ![2048, 128]⟩
abbrev S6144x128 : Shape := ⟨2, ![6144, 128]⟩
abbrev S1024x2048 : Shape := ⟨2, ![1024, 2048]⟩
abbrev S1024x128 : Shape := ⟨2, ![1024, 128]⟩
abbrev S6144x64 : Shape := ⟨2, ![6144, 64]⟩
abbrev S2048x64 : Shape := ⟨2, ![2048, 64]⟩
abbrev S1x1024x1x64 : Shape := ⟨4, ![1, 1024, 1, 64]⟩
abbrev S2x1024x1x64 : Shape := ⟨4, ![2, 1024, 1, 64]⟩
abbrev S4096x64 : Shape := ⟨2, ![4096, 64]⟩
abbrev S16x256x64 : Shape := ⟨3, ![16, 256, 64]⟩
abbrev S2x1024x64 : Shape := ⟨3, ![2, 1024, 64]⟩

abbrev nBuf : Space → Nat
  | .hbm => 78
  | .vmem => 5
  | .smem => 0
  | _ => 0

abbrev bufTy : (tb : Table) → Fin (tcTables nBuf tb) → BufTy
  | .hbm, ⟨0, _⟩ => ⟨S6144x2048, .bf16⟩
  | .hbm, ⟨1, _⟩ => ⟨S4x2048x11712, .f32⟩
  | .hbm, ⟨2, _⟩ => ⟨S64, .i32⟩
  | .hbm, ⟨3, _⟩ => ⟨S4x11712x2048, .f32⟩
  | .hbm, ⟨4, _⟩ => ⟨S16, .i32⟩
  | .hbm, ⟨5, _⟩ => ⟨S64, .i32⟩
  | .hbm, ⟨6, _⟩ => ⟨S16x64, .i32⟩
  | .hbm, ⟨7, _⟩ => ⟨S16x64, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S1024x1, .i32⟩
  | .hbm, ⟨12, _⟩ => ⟨S1024x2, .i32⟩
  | .hbm, ⟨13, _⟩ => ⟨S1024x2, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S1024x2x1, .f32⟩
  | .hbm, ⟨23, _⟩ => ⟨S1x1x16, .f32⟩
  | .hbm, ⟨24, _⟩ => ⟨S1024x2x16, .f32⟩
  | .hbm, ⟨25, _⟩ => ⟨S1024x2x16, .f32⟩
  | .hbm, ⟨26, _⟩ => ⟨S1024x2x16, .f32⟩
  | .hbm, ⟨27, _⟩ => ⟨S1024x2x16, .f32⟩
  | .hbm, ⟨28, _⟩ => ⟨S1024x2x16, .f32⟩
  | .hbm, ⟨29, _⟩ => ⟨S1024x1x16, .f32⟩
  | .hbm, ⟨30, _⟩ => ⟨S1024x16, .f32⟩
  | .hbm, ⟨31, _⟩ => ⟨S1024x1x16, .f32⟩
  | .hbm, ⟨32, _⟩ => ⟨S1024x16, .f32⟩
  | .hbm, ⟨33, _⟩ => ⟨S1024x1x16, .f32⟩
  | .hbm, ⟨34, _⟩ => ⟨S1024x16, .f32⟩
  | .hbm, ⟨35, _⟩ => ⟨S1024x1x16, .f32⟩
  | .hbm, ⟨36, _⟩ => ⟨S1024x16, .f32⟩
  | .hbm, ⟨37, _⟩ => ⟨S1024x64, .f32⟩
  | .hbm, ⟨38, _⟩ => ⟨S1024x1x16, .f32⟩
  | .hbm, ⟨39, _⟩ => ⟨S1024x16, .f32⟩
  | .hbm, ⟨40, _⟩ => ⟨S1024x16, .f32⟩
  | .hbm, ⟨41, _⟩ => ⟨S1024x1x16, .f32⟩
  | .hbm, ⟨42, _⟩ => ⟨S1024x16, .f32⟩
  | .hbm, ⟨43, _⟩ => ⟨S1024x1x16, .f32⟩
  | .hbm, ⟨44, _⟩ => ⟨S1024x16, .f32⟩
  | .hbm, ⟨45, _⟩ => ⟨S1024x16, .f32⟩
  | .hbm, ⟨46, _⟩ => ⟨S1024x1x16, .f32⟩
  | .hbm, ⟨47, _⟩ => ⟨S1024x16, .f32⟩
  | .hbm, ⟨48, _⟩ => ⟨S1024x64, .f32⟩
  | .hbm, ⟨49, _⟩ => ⟨S1x64x2048, .f32⟩
  | .hbm, ⟨50, _⟩ => ⟨S64x2048, .f32⟩
  | .hbm, ⟨51, _⟩ => ⟨S_, .i32⟩
  | .hbm, ⟨52, _⟩ => ⟨S64, .i32⟩
  | .hbm, ⟨53, _⟩ => ⟨S64, .i1⟩
  | .hbm, ⟨54, _⟩ => ⟨S_, .i32⟩
  | .hbm, ⟨55, _⟩ => ⟨S64, .i32⟩
  | .hbm, ⟨56, _⟩ => ⟨S64, .i32⟩
  | .hbm, ⟨57, _⟩ => ⟨S64, .i32⟩
  | .hbm, ⟨58, _⟩ => ⟨S64x1, .i32⟩
  | .hbm, ⟨59, _⟩ => ⟨S64x2048, .f32⟩
  | .hbm, ⟨60, _⟩ => ⟨S128x2048, .f32⟩
  | .hbm, ⟨61, _⟩ => ⟨S2048x128, .f32⟩
  | .hbm, ⟨62, _⟩ => ⟨S6144x128, .f32⟩
  | .hbm, ⟨63, _⟩ => ⟨S6144x64, .f32⟩
  | .hbm, ⟨64, _⟩ => ⟨S2048x64, .f32⟩
  | .hbm, ⟨65, _⟩ => ⟨S1x1024x1x64, .f32⟩
  | .hbm, ⟨66, _⟩ => ⟨S2x1024x1x64, .f32⟩
  | .hbm, ⟨67, _⟩ => ⟨S2048x64, .f32⟩
  | .hbm, ⟨68, _⟩ => ⟨S2048x64, .f32⟩
  | .hbm, ⟨69, _⟩ => ⟨S2048x64, .f32⟩
  | .hbm, ⟨70, _⟩ => ⟨S1x1024x1x64, .f32⟩
  | .hbm, ⟨71, _⟩ => ⟨S2x1024x1x64, .f32⟩
  | .hbm, ⟨72, _⟩ => ⟨S2048x64, .f32⟩
  | .hbm, ⟨73, _⟩ => ⟨S2048x64, .f32⟩
  | .hbm, ⟨74, _⟩ => ⟨S2048x64, .f32⟩
  | .hbm, ⟨75, _⟩ => ⟨S4096x64, .f32⟩
  | .hbm, ⟨76, _⟩ => ⟨S16x256x64, .f32⟩
  | .hbm, ⟨77, _⟩ => ⟨S2x1024x64, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .f32⟩
  | .local _ .vmem, ⟨3, _⟩ => ⟨S1024x128, .f32⟩
  | .local _ .vmem, ⟨4, _⟩ => ⟨S1024x128, .f32⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_c_1 : Ref sig .tc := ⟨.hbm, 51, rfl⟩
abbrev main_v46 : Ref sig .tc := ⟨.hbm, 52, rfl⟩
abbrev main_v47 : Ref sig .tc := ⟨.hbm, 53, rfl⟩
abbrev main_c_2 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S6144x2048 : Shape := ⟨2, ![6144, 2048]⟩
abbrev S4x2048x11712 : Shape := ⟨3, ![4, 2048, 11712]⟩
abbrev S16 : Shape := ⟨1, ![16]⟩
abbrev S64 : Shape := ⟨1, ![64]⟩
abbrev S16x64 : Shape := ⟨2, ![16, 64]⟩
abbrev S1024 : Shape := ⟨1, ![1024]⟩
abbrev S1024x1 : Shape := ⟨2, ![1024, 1]⟩
abbrev S1024x2 : Shape := ⟨2, ![1024, 2]⟩
abbrev S_ : Shape := ⟨0, ![]⟩
abbrev S1024x2x1 : Shape := ⟨3, ![1024, 2, 1]⟩
abbrev S1x1x16 : Shape := ⟨3, ![1, 1, 16]⟩
abbrev S1024x2x16 : Shape := ⟨3, ![1024, 2, 16]⟩
abbrev S1x2048x11712 : Shape := ⟨3, ![1, 2048, 11712]⟩
abbrev S2048x11712 : Shape := ⟨2, ![2048, 11712]⟩
abbrev S6144x11712 : Shape := ⟨2, ![6144, 11712]⟩
abbrev S6144x64 : Shape := ⟨2, ![6144, 64]⟩
abbrev S2048x64 : Shape := ⟨2, ![2048, 64]⟩
abbrev S2x1024x64 : Shape := ⟨3, ![2, 1024, 64]⟩
abbrev S2x1024x2x2x16 : Shape := ⟨5, ![2, 1024, 2, 2, 16]⟩
abbrev S2x1024x2x1x16 : Shape := ⟨5, ![2, 1024, 2, 1, 16]⟩
abbrev S2x1024x2x16 : Shape := ⟨4, ![2, 1024, 2, 16]⟩
abbrev S1x1024x2x16 : Shape := ⟨4, ![1, 1024, 2, 16]⟩
abbrev S4096x64 : Shape := ⟨2, ![4096, 64]⟩
abbrev S16x256x64 : Shape := ⟨3, ![16, 256, 64]⟩

abbrev nBuf : Space → Nat
  | .hbm => 59
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S4x2048x11712, .f32⟩
  | .hbm, ⟨2, _⟩ => ⟨S16, .i32⟩
  | .hbm, ⟨3, _⟩ => ⟨S64, .i32⟩
  | .hbm, ⟨4, _⟩ => ⟨S16x64, .i32⟩
  | .hbm, ⟨5, _⟩ => ⟨S16x64, .i32⟩
  | .hbm, ⟨6, _⟩ => ⟨S1024, .i32⟩
  | .hbm, ⟨7, _⟩ => ⟨S1024, .i32⟩
  | .hbm, ⟨8, _⟩ => ⟨S1024x1, .i32⟩
  | .hbm, ⟨9, _⟩ => ⟨S1024x1, .i32⟩
  | .hbm, ⟨10, _⟩ => ⟨S1024x2, .i32⟩
  | .hbm, ⟨11, _⟩ => ⟨S1024x2, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S1024x2x1, .f32⟩
  | .hbm, ⟨21, _⟩ => ⟨S1x1x16, .f32⟩
  | .hbm, ⟨22, _⟩ => ⟨S1024x2x16, .f32⟩
  | .hbm, ⟨23, _⟩ => ⟨S1024x2x16, .f32⟩
  | .hbm, ⟨24, _⟩ => ⟨S1024x2x16, .f32⟩
  | .hbm, ⟨25, _⟩ => ⟨S1024x2x16, .f32⟩
  | .hbm, ⟨26, _⟩ => ⟨S1024x2x16, .f32⟩
  | .hbm, ⟨27, _⟩ => ⟨S6144x2048, .f32⟩
  | .hbm, ⟨28, _⟩ => ⟨S1x2048x11712, .f32⟩
  | .hbm, ⟨29, _⟩ => ⟨S2048x11712, .f32⟩
  | .hbm, ⟨30, _⟩ => ⟨S6144x11712, .f32⟩
  | .hbm, ⟨31, _⟩ => ⟨S6144x64, .f32⟩
  | .hbm, ⟨32, _⟩ => ⟨S2048x64, .f32⟩
  | .hbm, ⟨33, _⟩ => ⟨S2x1024x64, .f32⟩
  | .hbm, ⟨34, _⟩ => ⟨S2x1024x2x2x16, .f32⟩
  | .hbm, ⟨35, _⟩ => ⟨S2x1024x2x1x16, .f32⟩
  | .hbm, ⟨36, _⟩ => ⟨S2x1024x2x16, .f32⟩
  | .hbm, ⟨37, _⟩ => ⟨S2x1024x2x1x16, .f32⟩
  | .hbm, ⟨38, _⟩ => ⟨S2x1024x2x16, .f32⟩
  | .hbm, ⟨39, _⟩ => ⟨S1x1024x2x16, .f32⟩
  | .hbm, ⟨40, _⟩ => ⟨S2x1024x2x16, .f32⟩
  | .hbm, ⟨41, _⟩ => ⟨S2x1024x2x16, .f32⟩
  | .hbm, ⟨42, _⟩ => ⟨S1x1024x2x16, .f32⟩
  | .hbm, ⟨43, _⟩ => ⟨S2x1024x2x16, .f32⟩
  | .hbm, ⟨44, _⟩ => ⟨S2x1024x2x16, .f32⟩
  | .hbm, ⟨45, _⟩ => ⟨S2x1024x2x16, .f32⟩
  | .hbm, ⟨46, _⟩ => ⟨S1x1024x2x16, .f32⟩
  | .hbm, ⟨47, _⟩ => ⟨S2x1024x2x16, .f32⟩
  | .hbm, ⟨48, _⟩ => ⟨S2x1024x2x16, .f32⟩
  | .hbm, ⟨49, _⟩ => ⟨S1x1024x2x16, .f32⟩
  | .hbm, ⟨50, _⟩ => ⟨S2x1024x2x16, .f32⟩
  | .hbm, ⟨51, _⟩ => ⟨S2x1024x2x16, .f32⟩
  | .hbm, ⟨52, _⟩ => ⟨S2x1024x2x16, .f32⟩
  | .hbm, ⟨53, _⟩ => ⟨S2x1024x2x1x16, .f32⟩
  | .hbm, ⟨54, _⟩ => ⟨S2x1024x2x1x16, .f32⟩
  | .hbm, ⟨55, _⟩ => ⟨S2x1024x2x2x16, .f32⟩
  | .hbm, ⟨56, _⟩ => ⟨S2x1024x64, .f32⟩
  | .hbm, ⟨57, _⟩ => ⟨S4096x64, .f32⟩
  | .hbm, ⟨58, _⟩ => ⟨S16x256x64, .f32⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩

abbrev nD : Nat := 1
abbrev τ : Topo := Topo.v7x

variable {F : FTy → Type} [FloatOps F]
-- ==== Kernel15.lean ====
abbrev S2048 : Shape := ⟨1, ![2048]⟩
abbrev S2x2048 : Shape := ⟨2, ![2, 2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S4x1x12288 : Shape := ⟨3, ![4, 1, 12288]⟩
abbrev S4x8x12288 : Shape := ⟨3, ![4, 8, 12288]⟩
abbrev S1x2048x1536 : Shape := ⟨3, ![1, 2048, 1536]⟩
abbrev S1x1x1536 : Shape := ⟨3, ![1, 1, 1536]⟩
abbrev S1x8x1536 : Shape := ⟨3, ![1, 8, 1536]⟩
abbrev S2048x1536 : Shape := ⟨2, ![2048, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2048, .f32⟩
  | .hbm, ⟨1, _⟩ => ⟨S2x2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S5x2048, .f32⟩
  | .hbm, ⟨7, _⟩ => ⟨S8x2048, .f32⟩
  | .hbm, ⟨8, _⟩ => ⟨S4x1x12288, .f32⟩
  | .hbm, ⟨9, _⟩ => ⟨S4x8x12288, .f32⟩
  | .local _ .vmem, ⟨0, _⟩ => ⟨S8x2048, .f32⟩
  | .local _ .vmem, ⟨1, _⟩ => ⟨S1x2048x1536, .f32⟩
  | .local _ .vmem, ⟨2, _⟩ => ⟨S1x2048x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S2048 : Shape := ⟨1, ![2048]⟩
abbrev S2x2048 : Shape := ⟨2, ![2, 2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2x2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S5x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S4x12288x8, .f32⟩
  | .hbm, ⟨18, _⟩ => ⟨S4x8x12288, .f32⟩
  | .hbm, ⟨19, _⟩ => ⟨S4x1x12288, .f32⟩
  | .hbm, ⟨20, _⟩ => ⟨S4x8x12288, .f32⟩
  | .hbm, ⟨21, _⟩ => ⟨S4x8x12288, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel16.lean ====
abbrev S6144x2048 : Shape := ⟨2, ![6144, 2048]⟩
abbrev S8x12288 : Shape := ⟨2, ![8, 12288]⟩
abbrev S2048 : Shape := ⟨1, ![2048]⟩
abbrev S8x1x12288 : Shape := ⟨3, ![8, 1, 12288]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 8
  | .vmem => 15
  | .smem => 0
  | _ => 0

abbrev bufTy : (tb : Table) → Fin (tcTables nBuf tb) → BufTy
  | .hbm, ⟨0, _⟩ => ⟨S6144x2048, .f32⟩
  | .hbm, ⟨1, _⟩ => ⟨S6144x2048, .f32⟩
  | .hbm, ⟨2, _⟩ => ⟨S8x12288, .f32⟩
  | .hbm, ⟨3, _⟩ => ⟨S2048, .f32⟩
  | .hbm, ⟨4, _⟩ => ⟨S8x1x12288, .f32⟩
  | .hbm, ⟨5, _⟩ => ⟨S1x2048, .f32⟩
  | .hbm, ⟨6, _⟩ => ⟨S6144x2048, .f32⟩
  | .hbm, ⟨7, _⟩ => ⟨S6144x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c2_i32_8 : BitVec 32 := 2#32
  let c0_i32_9 : BitVec 32 := 0#32
  ![v20.toNat, c0_i32_7.toNat, c2_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c4_i32 : BitVec 32 := 4#32
  let c0_i32_8 : BitVec 32 := 0#32
  ![v20.toNat, c0_i32_7.toNat, c4_i32.toNat]

def cc0_transform_5 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c3_i32 : BitVec 32 := 3#32
  let c0_i32_8 : BitVec 32 := 0#32
  ![v20.toNat, c0_i32_7.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S6144x2048 : Shape := ⟨2, ![6144, 2048]⟩
abbrev S8x12288 : Shape := ⟨2, ![8, 12288]⟩
abbrev S2048 : Shape := ⟨1, ![2048]⟩
abbrev S8x1x12288 : Shape := ⟨3, ![8, 1, 12288]⟩
abbrev S8x1x2048 : Shape := ⟨3, ![8, 1, 2048]⟩
abbrev S4096x2048 : Shape := ⟨2, ![4096, 2048]⟩
abbrev S16x256x2048 : Shape := ⟨3, ![16, 256, 2048]⟩
abbrev S2048x2048 : Shape := ⟨2, ![2048, 2048]⟩
abbrev S2x1024x2048 : Shape := ⟨3, ![2, 1024, 2048]⟩
abbrev S1x1x2048 : Shape := ⟨3, ![1, 1, 2048]⟩
abbrev S2x1x2048 : Shape := ⟨3, ![2, 1, 2048]⟩
abbrev S_ : Shape := ⟨0, ![]⟩
abbrev S16x256 : Shape := ⟨2, ![16, 256]⟩
abbrev S16x256x1 : Shape := ⟨3, ![16, 256, 1]⟩
abbrev S2x1024 : Shape := ⟨2, ![2, 1024]⟩
abbrev S2x1024x1 : Shape := ⟨3, ![2, 1024, 1]⟩

abbrev nBuf : Space → Nat
  | .hbm => 84
  | .vmem => 0
  | .smem => 0
  | _ => 0

abbrev bufTy : (tb : Table) → Fin (tcTables nBuf tb) → BufTy
  | .hbm, ⟨0, _⟩ => ⟨S6144x2048, .f32⟩
  | .hbm, ⟨1, _⟩ => ⟨S6144x2048, .f32⟩
  | .hbm, ⟨2, _⟩ => ⟨S8x12288, .f32⟩
  | .hbm, ⟨3, _⟩ => ⟨S2048, .f32⟩
  | .hbm, ⟨4, _⟩ => ⟨S8x1x12288, .f32⟩
  | .hbm, ⟨5, _⟩ => ⟨S8x1x2048, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S4096x2048, .f32⟩
  | .hbm, ⟨12, _⟩ => ⟨S16x256x2048, .f32⟩
  | .hbm, ⟨13, _⟩ => ⟨S2048x2048, .f32⟩
  | .hbm, ⟨14, _⟩ => ⟨S2x1024x2048, .f32⟩
  | .hbm, ⟨15, _⟩ => ⟨S4096x2048, .f32⟩
  | .hbm, ⟨16, _⟩ => ⟨S16x256x2048, .f32⟩
  | .hbm, ⟨17, _⟩ => ⟨S1x1x2048, .f32⟩
  | .hbm, ⟨18, _⟩ => ⟨S16x256x2048, .f32⟩
  | .hbm, ⟨19, _⟩ => ⟨S16x256x2048, .f32⟩
  | .hbm, ⟨20, _⟩ => ⟨S16x256x2048, .f32⟩
  | .hbm, ⟨21, _⟩ => ⟨S2048x2048, .f32⟩
  | .hbm, ⟨22, _⟩ => ⟨S2x1024x2048, .f32⟩
  | .hbm, ⟨23, _⟩ => ⟨S2x1x2048, .f32⟩
  | .hbm, ⟨24, _⟩ => ⟨S2x1024x2048, .f32⟩
  | .hbm, ⟨25, _⟩ => ⟨S2x1024x2048, .f32⟩
  | .hbm, ⟨26, _⟩ => ⟨S2x1024x2048, .f32⟩
  | .hbm, ⟨27, _⟩ => ⟨S16x256x2048, .f32⟩
  | .hbm, ⟨28, _⟩ => ⟨S_, .f32⟩
  | .hbm, ⟨29, _⟩ => ⟨S16x256, .f32⟩
  | .hbm, ⟨30, _⟩ => ⟨S16x256x1, .f32⟩
  | .hbm, ⟨31, _⟩ => ⟨S_, .f32⟩
  | .hbm, ⟨32, _⟩ => ⟨S16x256x1, .f32⟩
  | .hbm, ⟨33, _⟩ => ⟨S16x256x1, .f32⟩
  | .hbm, ⟨34, _⟩ => ⟨S_, .f32⟩
  | .hbm, ⟨35, _⟩ => ⟨S16x256x1, .f32⟩
  | .hbm, ⟨36, _⟩ => ⟨S16x256x1, .f32⟩
  | .hbm, ⟨37, _⟩ => ⟨S16x256x1, .f32⟩
  | .hbm, ⟨38, _⟩ => ⟨S16x256x2048, .f32⟩
  | .hbm, ⟨39, _⟩ => ⟨S16x256x2048, .f32⟩
  | .hbm, ⟨40, _⟩ => ⟨S1x1x2048, .f32⟩
  | .hbm, ⟨41, _⟩ => ⟨S16x256x2048, .f32⟩
  | .hbm, ⟨42, _⟩ => ⟨S16x256x2048, .f32⟩
  | .hbm, ⟨43, _⟩ => ⟨S1x1x2048, .f32⟩
  | .hbm, ⟨44, _⟩ => ⟨S_, .f32⟩
  | .hbm, ⟨45, _⟩ => ⟨S1x1x2048, .f32⟩
  | .hbm, ⟨46, _⟩ => ⟨S1x1x2048, .f32⟩
  | .hbm, ⟨47, _⟩ => ⟨S16x256x2048, .f32⟩
  | .hbm, ⟨48, _⟩ => ⟨S16x256x2048, .f32⟩
  | .hbm, ⟨49, _⟩ => ⟨S1x1x2048, .f32⟩
  | .hbm, ⟨50, _⟩ => ⟨S16x256x2048, .f32⟩
  | .hbm, ⟨51, _⟩ => ⟨S16x256x2048, .f32⟩
  | .hbm, ⟨52, _⟩ => ⟨S2x1024x2048, .f32⟩
  | .hbm, ⟨53, _⟩ => ⟨S_, .f32⟩
  | .hbm, ⟨54, _⟩ => ⟨S2x1024, .f32⟩
  | .hbm, ⟨55, _⟩ => ⟨S2x1024x1, .f32⟩
  | .hbm, ⟨56, _⟩ => ⟨S_, .f32⟩
  | .hbm, ⟨57, _⟩ => ⟨S2x1024x1, .f32⟩
  | .hbm, ⟨58, _⟩ => ⟨S2x1024x1, .f32⟩
  | .hbm, ⟨59, _⟩ => ⟨S_, .f32⟩
  | .hbm, ⟨60, _⟩ => ⟨S2x1024x1, .f32⟩
  | .hbm, ⟨61, _⟩ => ⟨S2x1024x1, .f32⟩
  | .hbm, ⟨62, _⟩ => ⟨S2x1024x1, .f32⟩
  | .hbm, ⟨63, _⟩ => ⟨S2x1024x2048, .f32⟩
  | .hbm, ⟨64, _⟩ => ⟨S2x1024x2048, .f32⟩
  | .hbm, ⟨65, _⟩ => ⟨S1x1x2048, .f32⟩
  | .hbm, ⟨66, _⟩ => ⟨S2x1024x2048, .f32⟩
  | .hbm, ⟨67, _⟩ => ⟨S2x1024x2048, .f32⟩
  | .hbm, ⟨68, _⟩ => ⟨S2x1x2048, .f32⟩
  | .hbm, ⟨69, _⟩ => ⟨S_, .f32⟩
  | .hbm, ⟨70, _⟩ => ⟨S2x1x2048, .f32⟩
  | .hbm, ⟨71, _⟩ => ⟨S2x1x2048, .f32⟩
  | .hbm, ⟨72, _⟩ => ⟨S2x1024x2048, .f32⟩
  | .hbm, ⟨73, _⟩ => ⟨S2x1024x2048, .f32⟩
  | .hbm, ⟨74, _⟩ => ⟨S2x1x2048, .f32⟩
  | .hbm, ⟨75, _⟩ => ⟨S2x1024x2048, .f32⟩
  | .hbm, ⟨76, _⟩ => ⟨S2x1024x2048, .f32⟩
  | .hbm, ⟨77, _⟩ => ⟨S4096x2048, .f32⟩
  | .hbm, ⟨78, _⟩ => ⟨S2048x2048, .f32⟩
  | .hbm, ⟨79, _⟩ => ⟨S6144x2048, .f32⟩
  | .hbm, ⟨80, _⟩ => ⟨S4096x2048, .f32⟩
  | .hbm, ⟨81, _⟩ => ⟨S2048x2048, .f32⟩
  | .hbm, ⟨82, _⟩ => ⟨S6144x2048, .f32⟩
  | .hbm, ⟨83, _⟩ => ⟨S6144x2048, .bf16⟩
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩

abbrev nD : Nat := 1
abbrev τ : Topo := Topo.v7x

variable {F : FTy → Type} [FloatOps F]
-- ==== Kernel17.lean ====
abbrev S6144x4608 : Shape := ⟨2, ![6144, 4608]⟩
abbrev S2x1024 : Shape := ⟨2, ![2, 1024]⟩
abbrev S2x64x1024 : Shape := ⟨3, ![2, 64, 1024]⟩
abbrev S128x1024 : Shape := ⟨2, ![128, 1024]⟩
abbrev S1024 : Shape := ⟨1, ![1024]⟩
abbrev S16x64 : Shape := ⟨2, ![16, 64]⟩
abbrev S16x16 : Shape := ⟨2, ![16, 16]⟩
abbrev S_ : Shape := ⟨0, ![]⟩
abbrev S64x64 : Shape := ⟨2, ![64, 64]⟩
abbrev S16x1x16x1 : Shape := ⟨4, ![16, 1, 16, 1]⟩
abbrev S1x64x1x64 : Shape := ⟨4, ![1, 64, 1, 64]⟩
abbrev S16x64x16x64 : Shape := ⟨4, ![16, 64, 16, 64]⟩
abbrev S1024x1024 : Shape := ⟨2, ![1024, 1024]⟩
abbrev S1x1024 : Shape := ⟨2, ![1, 1024]⟩
abbrev S6144x1024 : Shape := ⟨2, ![6144, 1024]⟩
abbrev S2x6144x1024 : Shape := ⟨3, ![2, 6144, 1024]⟩
abbrev S256x3456 : Shape := ⟨2, ![256, 3456]⟩
abbrev S256x1024 : Shape := ⟨2, ![256, 1024]⟩
abbrev S2x256x1024 : Shape := ⟨3, ![2, 256, 1024]⟩
abbrev S256x384 : Shape := ⟨2, ![256, 384]⟩
abbrev S256x128 : Shape := ⟨2, ![256, 128]⟩
abbrev S256x64 : Shape := ⟨2, ![256, 64]⟩
abbrev S1x64x1024 : Shape := ⟨3, ![1, 64, 1024]⟩
abbrev S64x1024 : Shape := ⟨2, ![64, 1024]⟩
abbrev S1x256x1024 : Shape := ⟨3, ![1, 256, 1024]⟩

abbrev nBuf : Space → Nat
  | .hbm => 36
  | .vmem => 27
  | .smem => 0
  | _ => 0

abbrev bufTy : (tb : Table) → Fin (tcTables nBuf tb) → BufTy
  | .hbm, ⟨0, _⟩ => ⟨S6144x4608, .f32⟩
  | .hbm, ⟨1, _⟩ => ⟨S2x1024, .f32⟩
  | .hbm, ⟨2, _⟩ => ⟨S2x64x1024, .f32⟩
  | .hbm, ⟨3, _⟩ => ⟨S2x1024, .f32⟩
  | .hbm, ⟨4, _⟩ => ⟨S2x64x1024, .f32⟩
  | .hbm, ⟨5, _⟩ => ⟨S128x1024, .f32⟩
  | .hbm, ⟨6, _⟩ => ⟨S1024, .f32⟩
  | .hbm, ⟨7, _⟩ => ⟨S1024, .f32⟩
  | .hbm, ⟨8, _⟩ => ⟨S16x64, .f32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S16x16, .i1⟩
  | .hbm, ⟨15, _⟩ => ⟨S16x16, .f32⟩
  | .hbm, ⟨16, _⟩ => ⟨S_, .f32⟩
  | .hbm, ⟨17, _⟩ => ⟨S64x64, .f32⟩
  | .hbm, ⟨18, _⟩ => ⟨S16x1x16x1, .f32⟩
  | .hbm, ⟨19, _⟩ => ⟨S1x64x1x64, .f32⟩
  | .hbm, ⟨20, _⟩ => ⟨S16x64x16x64, .f32⟩
  | .hbm, ⟨21, _⟩ => ⟨S16x64x16x64, .f32⟩
  | .hbm, ⟨22, _⟩ => ⟨S16x64x16x64, .f32⟩
  | .hbm, ⟨23, _⟩ => ⟨S1024x1024, .f32⟩
  | .hbm, ⟨24, _⟩ => ⟨S1024x1024, .bf16⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S6144x1024, .f32⟩
  | .hbm, ⟨29, _⟩ => ⟨S6144x1024, .f32⟩
  | .hbm, ⟨30, _⟩ => ⟨S6144x1024, .f32⟩
  | .hbm, ⟨31, _⟩ => ⟨S2x6144x1024, .f32⟩
  | .hbm, ⟨32, _⟩ => ⟨S2x6144x1024, .f32⟩
  | .hbm, ⟨33, _⟩ => ⟨S2x6144x1024, .f32⟩
  | .hbm, ⟨34, _⟩ => ⟨S6144x1024, .f32⟩
  | .hbm, ⟨35, _⟩ => ⟨S6144x1024, .f32⟩
  | .local _ .vmem, ⟨0, _⟩ => ⟨S256x3456, .f32⟩
  | .local _ .vmem, ⟨1, _⟩ => ⟨S256x3456, .f32⟩
  | .local _ .vmem, ⟨2, _⟩ => ⟨S2x1024, .f32⟩
  | .local _ .vmem, ⟨3, _⟩ => ⟨S2x64x1024, .f32⟩
  | .local _ .vmem, ⟨4, _⟩ => ⟨S2x1024, .f32⟩
  | .local _ .vmem, ⟨5, _⟩ => ⟨S2x64x1024, .f32⟩
  | .local _ .vmem, ⟨6, _⟩ => ⟨S128x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S2x256x1024, .f32⟩
  | .local _ .vmem, ⟨18, _⟩ => ⟨S2x256x1024, .f32⟩
  | .local _ .vmem, ⟨19, _⟩ => ⟨S2x256x1024, .f32⟩
  | .local _ .vmem, ⟨20, _⟩ => ⟨S2x256x1024, .f32⟩
  | .local _ .vmem, ⟨21, _⟩ => ⟨S2x256x1024, .f32⟩
  | .local _ .vmem, ⟨22, _⟩ => ⟨S2x256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | _, _ => ⟨S6144x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev main_v12_3 : Ref sig .tc := ⟨.hbm, 31, rfl⟩
abbrev main_v12_4 : Ref sig .tc := ⟨.hbm, 32, rfl⟩
abbrev main_v12_5 : Ref sig .tc := ⟨.hbm, 33, rfl⟩
abbrev main_v12_6 : Ref sig .tc := ⟨.hbm, 34, rfl⟩
abbrev main_v12_7 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3456 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference17Ideal.lean ====
abbrev S6144x4608 : Shape := ⟨2, ![6144, 4608]⟩
abbrev S2x1024 : Shape := ⟨2, ![2, 1024]⟩
abbrev S2x64x1024 : Shape := ⟨3, ![2, 64, 1024]⟩
abbrev S128x1024 : Shape := ⟨2, ![128, 1024]⟩
abbrev S1024 : Shape := ⟨1, ![1024]⟩
abbrev S16x64 : Shape := ⟨2, ![16, 64]⟩
abbrev S6144x3456 : Shape := ⟨2, ![6144, 3456]⟩
abbrev S6144x1024 : Shape := ⟨2, ![6144, 1024]⟩
abbrev S6144x128 : Shape := ⟨2, ![6144, 128]⟩
abbrev S6144x2x64 : Shape := ⟨3, ![6144, 2, 64]⟩
abbrev S2x1024x6144 : Shape := ⟨3, ![2, 1024, 6144]⟩
abbrev S6144x2x1024 : Shape := ⟨3, ![6144, 2, 1024]⟩
abbrev S1x2x1024 : Shape := ⟨3, ![1, 2, 1024]⟩
abbrev S_ : Shape := ⟨0, ![]⟩
abbrev S1x1024 : Shape := ⟨2, ![1, 1024]⟩
abbrev S6144x16x64 : Shape := ⟨3, ![6144, 16, 64]⟩
abbrev S6144x16 : Shape := ⟨2, ![6144, 16]⟩
abbrev S6144x16x1 : Shape := ⟨3, ![6144, 16, 1]⟩
abbrev S6144x1x1024 : Shape := ⟨3, ![6144, 1, 1024]⟩
abbrev S1x1x1024 : Shape := ⟨3, ![1, 1, 1024]⟩
abbrev S6144x2x16x64 : Shape := ⟨4, ![6144, 2, 16, 64]⟩
abbrev S6144x1x16x64 : Shape := ⟨4, ![6144, 1, 16, 64]⟩
abbrev S1x1x16x64 : Shape := ⟨4, ![1, 1, 16, 64]⟩
abbrev S6144x2x16 : Shape := ⟨3, ![6144, 2, 16]⟩
abbrev S6144x2x16x1 : Shape := ⟨4, ![6144, 2, 16, 1]⟩
abbrev S2x6144x1024 : Shape := ⟨3, ![2, 6144, 1024]⟩
abbrev S2x6144x16x64 : Shape := ⟨4, ![2, 6144, 16, 64]⟩

abbrev nBuf : Space → Nat
  | .hbm => 121
  | .vmem => 0
  | .smem => 0
  | _ => 0

abbrev bufTy : (tb : Table) → Fin (tcTables nBuf tb) → BufTy
  | .hbm, ⟨0, _⟩ => ⟨S6144x4608, .f32⟩
  | .hbm, ⟨1, _⟩ => ⟨S2x1024, .f32⟩
  | .hbm, ⟨2, _⟩ => ⟨S2x64x1024, .f32⟩
  | .hbm, ⟨3, _⟩ => ⟨S2x1024, .f32⟩
  | .hbm, ⟨4, _⟩ => ⟨S2x64x1024, .f32⟩
  | .hbm, ⟨5, _⟩ => ⟨S128x1024, .f32⟩
  | .hbm, ⟨6, _⟩ => ⟨S1024, .f32⟩
  | .hbm, ⟨7, _⟩ => ⟨S1024, .f32⟩
  | .hbm, ⟨8, _⟩ => ⟨S16x64, .f32⟩
  | .hbm, ⟨9, _⟩ => ⟨S6144x3456, .f32⟩
  | .hbm, ⟨10, _⟩ => ⟨S6144x1024, .f32⟩
  | .hbm, ⟨11, _⟩ => ⟨S6144x1024, .f32⟩
  | .hbm, ⟨12, _⟩ => ⟨S6144x1024, .f32⟩
  | .hbm, ⟨13, _⟩ => ⟨S6144x128, .f32⟩
  | .hbm, ⟨14, _⟩ => ⟨S6144x128, .f32⟩
  | .hbm, ⟨15, _⟩ => ⟨S6144x128, .f32⟩
  | .hbm, ⟨16, _⟩ => ⟨S6144x2x64, .f32⟩
  | .hbm, ⟨17, _⟩ => ⟨S6144x2x64, .f32⟩
  | .hbm, ⟨18, _⟩ => ⟨S6144x2x64, .f32⟩
  | .hbm, ⟨19, _⟩ => ⟨S2x1024x6144, .f32⟩
  | .hbm, ⟨20, _⟩ => ⟨S6144x2x1024, .f32⟩
  | .hbm, ⟨21, _⟩ => ⟨S1x2x1024, .f32⟩
  | .hbm, ⟨22, _⟩ => ⟨S6144x2x1024, .f32⟩
  | .hbm, ⟨23, _⟩ => ⟨S6144x2x1024, .f32⟩
  | .hbm, ⟨24, _⟩ => ⟨S6144x2x1024, .f32⟩
  | .hbm, ⟨25, _⟩ => ⟨S_, .f32⟩
  | .hbm, ⟨26, _⟩ => ⟨S6144x2x1024, .f32⟩
  | .hbm, ⟨27, _⟩ => ⟨S6144x2x1024, .f32⟩
  | .hbm, ⟨28, _⟩ => ⟨S6144x2x1024, .f32⟩
  | .hbm, ⟨29, _⟩ => ⟨S6144x2x1024, .f32⟩
  | .hbm, ⟨30, _⟩ => ⟨S6144x2x1024, .i1⟩
  | .hbm, ⟨31, _⟩ => ⟨S6144x2x1024, .f32⟩
  | .hbm, ⟨32, _⟩ => ⟨S6144x2x1024, .f32⟩
  | .hbm, ⟨33, _⟩ => ⟨S6144x2x1024, .f32⟩
  | .hbm, ⟨34, _⟩ => ⟨S6144x2x1024, .f32⟩
  | .hbm, ⟨35, _⟩ => ⟨S6144x2x1024, .f32⟩
  | .hbm, ⟨36, _⟩ => ⟨S6144x2x1024, .f32⟩
  | .hbm, ⟨37, _⟩ => ⟨S6144x2x1024, .f32⟩
  | .hbm, ⟨38, _⟩ => ⟨S6144x2x1024, .f32⟩
  | .hbm, ⟨39, _⟩ => ⟨S6144x2x1024, .f32⟩
  | .hbm, ⟨40, _⟩ => ⟨S_, .f32⟩
  | .hbm, ⟨41, _⟩ => ⟨S6144x2x1024, .f32⟩
  | .hbm, ⟨42, _⟩ => ⟨S6144x2x1024, .f32⟩
  | .hbm, ⟨43, _⟩ => ⟨S6144x2x1024, .f32⟩
  | .hbm, ⟨44, _⟩ => ⟨S6144x2x1024, .f32⟩
  | .hbm, ⟨45, _⟩ => ⟨S2x1024x6144, .f32⟩
  | .hbm, ⟨46, _⟩ => ⟨S6144x2x1024, .f32⟩
  | .hbm, ⟨47, _⟩ => ⟨S1x2x1024, .f32⟩
  | .hbm, ⟨48, _⟩ => ⟨S6144x2x1024, .f32⟩
  | .hbm, ⟨49, _⟩ => ⟨S6144x2x1024, .f32⟩
  | .hbm, ⟨50, _⟩ => ⟨S6144x2x1024, .f32⟩
  | .hbm, ⟨51, _⟩ => ⟨S6144x2x1024, .f32⟩
  | .hbm, ⟨52, _⟩ => ⟨S_, .f32⟩
  | .hbm, ⟨53, _⟩ => ⟨S6144x2x1024, .f32⟩
  | .hbm, ⟨54, _⟩ => ⟨S6144x2x1024, .f32⟩
  | .hbm, ⟨55, _⟩ => ⟨S_, .f32⟩
  | .hbm, ⟨56, _⟩ => ⟨S6144x2x1024, .f32⟩
  | .hbm, ⟨57, _⟩ => ⟨S6144x2x1024, .f32⟩
  | .hbm, ⟨58, _⟩ => ⟨S6144x128, .f32⟩
  | .hbm, ⟨59, _⟩ => ⟨S6144x128, .f32⟩
  | .hbm, ⟨60, _⟩ => ⟨S_, .f32⟩
  | .hbm, ⟨61, _⟩ => ⟨S6144x128, .f32⟩
  | .hbm, ⟨62, _⟩ => ⟨S6144x128, .f32⟩
  | .hbm, ⟨63, _⟩ => ⟨S_, .f32⟩
  | .hbm, ⟨64, _⟩ => ⟨S6144x128, .f32⟩
  | .hbm, ⟨65, _⟩ => ⟨S6144x128, .f32⟩
  | .hbm, ⟨66, _⟩ => ⟨S6144x1024, .f32⟩
  | .hbm, ⟨67, _⟩ => ⟨S1x1024, .f32⟩
  | .hbm, ⟨68, _⟩ => ⟨S6144x1024, .f32⟩
  | .hbm, ⟨69, _⟩ => ⟨S6144x1024, .f32⟩
  | .hbm, ⟨70, _⟩ => ⟨S6144x16x64, .f32⟩
  | .hbm, ⟨71, _⟩ => ⟨S6144x16x64, .f32⟩
  | .hbm, ⟨72, _⟩ => ⟨S_, .f32⟩
  | .hbm, ⟨73, _⟩ => ⟨S6144x16, .f32⟩
  | .hbm, ⟨74, _⟩ => ⟨S6144x16x1, .f32⟩
  | .hbm, ⟨75, _⟩ => ⟨S_, .f32⟩
  | .hbm, ⟨76, _⟩ => ⟨S6144x16x1, .f32⟩
  | .hbm, ⟨77, _⟩ => ⟨S6144x16x1, .f32⟩
  | .hbm, ⟨78, _⟩ => ⟨S6144x16x1, .f32⟩
  | .hbm, ⟨79, _⟩ => ⟨S6144x16x64, .f32⟩
  | .hbm, ⟨80, _⟩ => ⟨S6144x16x64, .f32⟩
  | .hbm, ⟨81, _⟩ => ⟨S6144x1x1024, .f32⟩
  | .hbm, ⟨82, _⟩ => ⟨S_, .f32⟩
  | .hbm, ⟨83, _⟩ => ⟨S6144x2x1024, .f32⟩
  | .hbm, ⟨84, _⟩ => ⟨S6144x2x1024, .f32⟩
  | .hbm, ⟨85, _⟩ => ⟨S1x1x1024, .f32⟩
  | .hbm, ⟨86, _⟩ => ⟨S6144x2x1024, .f32⟩
  | .hbm, ⟨87, _⟩ => ⟨S6144x2x1024, .f32⟩
  | .hbm, ⟨88, _⟩ => ⟨S_, .f32⟩
  | .hbm, ⟨89, _⟩ => ⟨S6144x2x1024, .f32⟩
  | .hbm, ⟨90, _⟩ => ⟨S6144x2x1024, .f32⟩
  | .hbm, ⟨91, _⟩ => ⟨S6144x2x1024, .f32⟩
  | .hbm, ⟨92, _⟩ => ⟨S6144x2x1024, .f32⟩
  | .hbm, ⟨93, _⟩ => ⟨S6144x2x16x64, .f32⟩
  | .hbm, ⟨94, _⟩ => ⟨S6144x1x16x64, .f32⟩
  | .hbm, ⟨95, _⟩ => ⟨S6144x2x16x64, .f32⟩
  | .hbm, ⟨96, _⟩ => ⟨S6144x2x16x64, .f32⟩
  | .hbm, ⟨97, _⟩ => ⟨S6144x2x16x64, .f32⟩
  | .hbm, ⟨98, _⟩ => ⟨S6144x16x64, .f32⟩
  | .hbm, ⟨99, _⟩ => ⟨S6144x16x64, .f32⟩
  | .hbm, ⟨100, _⟩ => ⟨S6144x1x16x64, .f32⟩
  | .hbm, ⟨101, _⟩ => ⟨S6144x2x16x64, .f32⟩
  | .hbm, ⟨102, _⟩ => ⟨S6144x2x16x64, .f32⟩
  | .hbm, ⟨103, _⟩ => ⟨S1x1x16x64, .f32⟩
  | .hbm, ⟨104, _⟩ => ⟨S6144x2x16x64, .f32⟩
  | .hbm, ⟨105, _⟩ => ⟨S6144x2x16x64, .f32⟩
  | .hbm, ⟨106, _⟩ => ⟨S_, .f32⟩
  | .hbm, ⟨107, _⟩ => ⟨S6144x2x16, .f32⟩
  | .hbm, ⟨108, _⟩ => ⟨S6144x2x16x1, .f32⟩
  | .hbm, ⟨109, _⟩ => ⟨S_, .f32⟩
  | .hbm, ⟨110, _⟩ => ⟨S6144x16x1, .f32⟩
  | .hbm, ⟨111, _⟩ => ⟨S6144x16x64, .f32⟩
  | .hbm, ⟨112, _⟩ => ⟨S6144x16x64, .f32⟩
  | .hbm, ⟨113, _⟩ => ⟨S6144x16x64, .f32⟩
  | .hbm, ⟨114, _⟩ => ⟨S6144x1024, .f32⟩
  | .hbm, ⟨115, _⟩ => ⟨S2x6144x1024, .f32⟩
  | .hbm, ⟨116, _⟩ => ⟨S2x6144x16x64, .f32⟩
  | .hbm, ⟨117, _⟩ => ⟨S2x6144x1024, .f32⟩
  | .hbm, ⟨118, _⟩ => ⟨S2x6144x16x64, .f32⟩
  | .hbm, ⟨119, _⟩ => ⟨S2x6144x1024, .f32⟩
  | .hbm, ⟨120, _⟩ => ⟨S6144x1024, .f32⟩
  | _, _ => ⟨S6144x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_0 : Ref sig .tc := ⟨.hbm, 52, rfl⟩
abbrev main_v29 : Ref sig .tc := ⟨.hbm, 53, rfl⟩
abbrev main_v30 : Ref sig .tc := ⟨.hbm, 54, rfl⟩
abbrev main_cst_1 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_2 : Ref sig .tc := ⟨.hbm, 60, rfl⟩
abbrev main_v35 : Ref sig .tc := ⟨.hbm, 61, rfl⟩
abbrev main_v36 : Ref sig .tc := ⟨.hbm, 62, rfl⟩
abbrev main_cst_3 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_4 : Ref sig .tc := ⟨.hbm, 72, rfl⟩
abbrev main_v45 : Ref sig .tc := ⟨.hbm, 73, rfl⟩
abbrev main_v46 : Ref sig .tc := ⟨.hbm, 74, rfl⟩
abbrev main_cst_5 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_6 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_7 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_8 : Ref sig .tc := ⟨.hbm, 106, rfl⟩
abbrev main_v75 : Ref sig .tc := ⟨.hbm, 107, rfl⟩
abbrev main_v76 : Ref sig .tc := ⟨.hbm, 108, rfl⟩
abbrev main_cst_9 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]
-- ==== Kernel18.lean ====
abbrev S2x6144x1024 : Shape := ⟨3, ![2, 6144, 1024]⟩
abbrev S6144x1024 : Shape := ⟨2, ![6144, 1024]⟩
abbrev S1024 : Shape := ⟨1, ![1024]⟩
abbrev S16x16 : Shape := ⟨2, ![16, 16]⟩
abbrev S_ : Shape := ⟨0, ![]⟩
abbrev S64x64 : Shape := ⟨2, ![64, 64]⟩
abbrev S16x1x16x1 : Shape := ⟨4, ![16, 1, 16, 1]⟩
abbrev S1x64x1x64 : Shape := ⟨4, ![1, 64, 1, 64]⟩
abbrev S16x64x16x64 : Shape := ⟨4, ![16, 64, 16, 64]⟩
abbrev S1024x1024 : Shape := ⟨2, ![1024, 1024]⟩
abbrev S1x1024 : Shape := ⟨2, ![1, 1024]⟩
abbrev S2x512x1024 : Shape := ⟨3, ![2, 512, 1024]⟩
abbrev S512x1024 : Shape := ⟨2, ![512, 1024]⟩
abbrev S1x512x1024 : Shape := ⟨3, ![1, 512, 1024]⟩

abbrev nBuf : Space → Nat
  | .hbm => 24
  | .vmem => 11
  | .smem => 0
  | _ => 0

abbrev bufTy : (tb : Table) → Fin (tcTables nBuf tb) → BufTy
  | .hbm, ⟨0, _⟩ => ⟨S2x6144x1024, .f32⟩
  | .hbm, ⟨1, _⟩ => ⟨S6144x1024, .f32⟩
  | .hbm, ⟨2, _⟩ => ⟨S6144x1024, .f32⟩
  | .hbm, ⟨3, _⟩ => ⟨S1024, .f32⟩
  | .hbm, ⟨4, _⟩ => ⟨S1024, .f32⟩
  | .hbm, ⟨5, _⟩ => ⟨S16x16, .i32⟩
  | .hbm, ⟨6, _⟩ => ⟨S16x16, .i32⟩
  | .hbm, ⟨7, _⟩ => ⟨S_, .i32⟩
  | .hbm, ⟨8, _⟩ => ⟨S16x16, .i32⟩
  | .hbm, ⟨9, _⟩ => ⟨S16x16, .i32⟩
  | .hbm, ⟨10, _⟩ => ⟨S16x16, .i1⟩
  | .hbm, ⟨11, _⟩ => ⟨S16x16, .f32⟩
  | .hbm, ⟨12, _⟩ => ⟨S_, .f32⟩
  | .hbm, ⟨13, _⟩ => ⟨S64x64, .f32⟩
  | .hbm, ⟨14, _⟩ => ⟨S16x1x16x1, .f32⟩
  | .hbm, ⟨15, _⟩ => ⟨S1x64x1x64, .f32⟩
  | .hbm, ⟨16, _⟩ => ⟨S16x64x16x64, .f32⟩
  | .hbm, ⟨17, _⟩ => ⟨S16x64x16x64, .f32⟩
  | .hbm, ⟨18, _⟩ => ⟨S16x64x16x64, .f32⟩
  | .hbm, ⟨19, _⟩ => ⟨S1024x1024, .f32⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S6144x1024, .bf16⟩
  | .local _ .vmem, ⟨0, _⟩ => ⟨S2x512x1024, .f32⟩
  | .local _ .vmem, ⟨1, _⟩ => ⟨S2x512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | _, _ => ⟨S2x6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S2x6144x1024 : Shape := ⟨3, ![2, 6144, 1024]⟩
abbrev S6144x1024 : Shape := ⟨2, ![6144, 1024]⟩
abbrev S1024 : Shape := ⟨1, ![1024]⟩
abbrev S2x6144x16x64 : Shape := ⟨4, ![2, 6144, 16, 64]⟩
abbrev S1x6144x16x64 : Shape := ⟨4, ![1, 6144, 16, 64]⟩
abbrev S6144x16x64 : Shape := ⟨3, ![6144, 16, 64]⟩
abbrev S_ : Shape := ⟨0, ![]⟩
abbrev S6144x16 : Shape := ⟨2, ![6144, 16]⟩
abbrev S6144x16x1 : Shape := ⟨3, ![6144, 16, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x6144x1024, .f32⟩
  | .hbm, ⟨1, _⟩ => ⟨S6144x1024, .f32⟩
  | .hbm, ⟨2, _⟩ => ⟨S6144x1024, .f32⟩
  | .hbm, ⟨3, _⟩ => ⟨S1024, .f32⟩
  | .hbm, ⟨4, _⟩ => ⟨S1024, .f32⟩
  | .hbm, ⟨5, _⟩ => ⟨S2x6144x16x64, .f32⟩
  | .hbm, ⟨6, _⟩ => ⟨S1x6144x16x64, .f32⟩
  | .hbm, ⟨7, _⟩ => ⟨S6144x16x64, .f32⟩
  | .hbm, ⟨8, _⟩ => ⟨S1x6144x16x64, .f32⟩
  | .hbm, ⟨9, _⟩ => ⟨S6144x16x64, .f32⟩
  | .hbm, ⟨10, _⟩ => ⟨S6144x16x64, .f32⟩
  | .hbm, ⟨11, _⟩ => ⟨S_, .f32⟩
  | .hbm, ⟨12, _⟩ => ⟨S6144x16, .f32⟩
  | .hbm, ⟨13, _⟩ => ⟨S6144x16x1, .f32⟩
  | .hbm, ⟨14, _⟩ => ⟨S_, .f32⟩
  | .hbm, ⟨15, _⟩ => ⟨S6144x16x1, .f32⟩
  | .hbm, ⟨16, _⟩ => ⟨S6144x16x1, .f32⟩
  | .hbm, ⟨17, _⟩ => ⟨S6144x16x64, .f32⟩
  | .hbm, ⟨18, _⟩ => ⟨S6144x16x64, .f32⟩
  | .hbm, ⟨19, _⟩ => ⟨S6144x16x64, .f32⟩
  | .hbm, ⟨20, _⟩ => ⟨S_, .f32⟩
  | .hbm, ⟨21, _⟩ => ⟨S6144x16, .f32⟩
  | .hbm, ⟨22, _⟩ => ⟨S6144x16x1, .f32⟩
  | .hbm, ⟨23, _⟩ => ⟨S_, .f32⟩
  | .hbm, ⟨24, _⟩ => ⟨S6144x16x1, .f32⟩
  | .hbm, ⟨25, _⟩ => ⟨S6144x16x1, .f32⟩
  | .hbm, ⟨26, _⟩ => ⟨S6144x16x64, .f32⟩
  | .hbm, ⟨27, _⟩ => ⟨S6144x16x64, .f32⟩
  | .hbm, ⟨28, _⟩ => ⟨S_, .f32⟩
  | .hbm, ⟨29, _⟩ => ⟨S6144x16x1, .f32⟩
  | .hbm, ⟨30, _⟩ => ⟨S6144x16x1, .f32⟩
  | .hbm, ⟨31, _⟩ => ⟨S6144x16x1, .f32⟩
  | .hbm, ⟨32, _⟩ => ⟨S6144x16x64, .f32⟩
  | .hbm, ⟨33, _⟩ => ⟨S6144x16x64, .f32⟩
  | .hbm, ⟨34, _⟩ => ⟨S6144x1024, .f32⟩
  | .hbm, ⟨35, _⟩ => ⟨S1x1024, .f32⟩
  | .hbm, ⟨36, _⟩ => ⟨S6144x1024, .f32⟩
  | .hbm, ⟨37, _⟩ => ⟨S6144x1024, .f32⟩
  | .hbm, ⟨38, _⟩ => ⟨S1x1024, .f32⟩
  | .hbm, ⟨39, _⟩ => ⟨S6144x1024, .f32⟩
  | .hbm, ⟨40, _⟩ => ⟨S6144x1024, .f32⟩
  | .hbm, ⟨41, _⟩ => ⟨S6144x1024, .f32⟩
  | .hbm, ⟨42, _⟩ => ⟨S6144x1024, .f32⟩
  | .hbm, ⟨43, _⟩ => ⟨S6144x1024, .bf16⟩
  | _, _ => ⟨S2x6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Proof.Gates.lean ====
/-
  Hand-written, untrusted. `KernelIdeal`'s result array at the ideal floats: the blocks of the gate product, written back over the
  grid, are the reference's whole composed term.
-/
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Gates

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The reference's composed term over its two argument arrays: the sigmoid of the gate columns of the product. -/
def REF (X : FVec Ideal S6144x2048 .bf16) (W : FVec Ideal S4x2048x11712 .f32) : FVec Ideal S6144x6144 .bf16 :=
  truncf .bf16 (Host.divf (broadcastInDim Cert.ReferenceIdeal.S6144x6144 ![] Cert.ReferenceIdeal.Gen.bcast_S_S6144x6144 (constant Cert.ReferenceIdeal.S_ .f32 0x3F800000#32))
    (addf (broadcastInDim Cert.ReferenceIdeal.S6144x6144 ![] Cert.ReferenceIdeal.Gen.bcast_S_S6144x6144 (constant Cert.ReferenceIdeal.S_ .f32 0x3F800000#32))
      (Host.exp (Host.negf (extractStridedSlice Cert.ReferenceIdeal.S6144x6144 ![0, 5568]
        (Host.dotGeneral Cert.ReferenceIdeal.dot_S6144x2048_S2048x11712_S6144x11712_1_0_0_1_n_n none
          (extf .f32 X Cert.ReferenceIdeal.Gen.bitsLt_bf16_f32)
          (shapeCast _ (extractStridedSlice Cert.ReferenceIdeal.S1x2048x11712 ![1, 0, 0] W Cert.ReferenceIdeal.Gen.slices_S4x2048x11712_S1x2048x11712_1_0_0)
            Cert.ReferenceIdeal.Gen.shapeCasts_S1x2048x11712_S2048x11712))
        Cert.ReferenceIdeal.Gen.slices_S6144x11712_S6144x6144_0_5568))))) Cert.ReferenceIdeal.Gen.bitsLt_bf16_f32

/-- The windows' index maps over the 6 × 6 grid. The weight's window is an element window: its map gives the first element of its
    block, the layer's plane and the gate columns from 5568 on. -/
theorem idx : ∀ t : Fin cfg0.N, win0_0.index t = ![t.val / 6, 0] ∧ win0_1.index t = ![1, 5568 + 1024 * (t.val % 6), 0]
    ∧ win0_2.index t = ![t.val / 6, t.val % 6] ∧ t.val / 6 < 6 :=
  (by decide +kernel : ∀ t : Fin grid0.N, _)

/-- An element of the weight's block sits in the transposed weight at the block's first element plus its own coordinate. -/
theorem emb1 (t : Fin cfg0.N) (y : (win0_1.xblock (cfg0.grid.coords t)).Idx) (a : Fin 3) :
    ((((View.whole main_v0).slice (win0_1.rect t)).emb y a : Fin _) : ℕ) = (win0_1.index t a : ℕ) + (y a : ℕ) :=
  win0_1.rect_emb_val_off t y a

/-- The gates' weight block at a block index: the transposed plane read back in the weight as it was given. -/
theorem blk1 (c : Dev nD) (t : Fin cfg0.N) (a : Fin 1024) (k : Fin 2048) (j : Fin 11712) (hj : j.val = 5568 + (1024 * (t.val % 6) + a.val)) :
    iblk m c 1 t (ix3 0 a k) = m ((c : Thread nD τ).loc main_arg1) (ix3 1 k j) := by
  unfold iblk
  blk_simp
  show V m c main_v0 _ = _
  entry_read
  pointwise
  blk_ext [idx t]
  all_goals (refine (emb1 t _ _).trans ?_; rw [(idx t).2.1])
  · exact Nat.add_zero _
  · exact Nat.zero_add _
  · rw [hj]; exact Nat.add_assoc _ _ _

/-- What the body stores at a block index of a grid point is the reference's term at the array index it is written to. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  unfold Ideal.logistic
  reads_congr
  · blk_ext [iblk, V, idx t]
  all_goals
    refine blk1 m c t _ _ _ ?_
    blk_simp [idx t]
    show 5568 + (t.val % 6 * 1024 + (y 1).val) = _
    omega

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.Gates

end
-- ==== Proof.S5InCtx.lean ====
/-
  The state-space branch's input columns for the context's rows: a product whose weight window is placed by element offsets.
  A block read at an index is the layer's weight at the same row and the shifted column, so the block product is the reference's.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.S5InCtx

open Idealize.ShloMosaic Idealize.ShloMosaic.TcCoe Idealize.SL.Sem
open Idealize.ShloMosaic.Pipeline (Dat)

section

open Cert.Reference2Ideal Cert.Reference2Ideal.Gen Idealize.ShloMosaic.StableHlo

/-- The reference's array: the context's rows times the layer's weight, its branch columns. -/
def REF (X0 : FVec Ideal S6144x2048 .bf16) (X1 : FVec Ideal S4x2048x11712 .f32) : FVec Ideal S4096x1024 .f32 :=
  extractStridedSlice S4096x1024 ![0, 4544] (Host.dotGeneral dot_S4096x2048_S2048x11712_S4096x11712_1_0_0_1_n_n none (extf .f32 (extractStridedSlice
    S4096x2048 ![0, 0] X0 slices_S6144x2048_S4096x2048_0_0) bitsLt_bf16_f32) (shapeCast _ (extractStridedSlice S1x2048x11712 ![1, 0, 0] X1
    slices_S4x2048x11712_S1x2048x11712_1_0_0) shapeCasts_S1x2048x11712_S2048x11712)) slices_S4096x11712_S4096x1024_0_4544

end

open Cert.Kernel2Ideal Cert.Kernel2Ideal.Gen

variable (m : (ℓ : Loc nD τ sig) → Buf (Elt Ideal) ℓ)

/-- Block indices of every grid point: the activations' row tile, the weight's window of 512 rows at its element offset, the result's tile. -/
theorem idx : ∀ t : Fin cfg0.N, win0_0.index t = ![t.val / 2, 0] ∧ win0_1.index t = ![1, 4544 + 512 * (t.val % 2), 0]
    ∧ win0_2.index t = ![t.val / 2, t.val % 2] ∧ t.val / 2 < 6 := (by decide +kernel : ∀ t : Fin grid0.N, _)

/-- Where a block of the weight lies: its offset's elements further on. -/
theorem emb1 (t : Fin cfg0.N) (y : (win0_1.xblock (cfg0.grid.coords t)).Idx) (a : Fin 3) :
    ((((View.whole main_v0).slice (win0_1.rect t)).emb y a : Fin _) : ℕ) = (win0_1.index t a : ℕ) + (y a : ℕ) :=
  win0_1.rect_emb_val_off t y a

/-- A weight block read at row `a` is the layer's weight at column `4544 + 512 b + a`, for the column tile `b`. -/
theorem blk1 (c : Dev nD) (t : Fin cfg0.N) (a : Fin 512) (k : Fin 2048) (j : Fin 11712)
    (hj : j.val = 4544 + (512 * (t.val % 2) + a.val)) :
    iblk m c 1 t (ix3 0 a k) = m ((c : Thread nD τ).loc main_arg1) (ix3 1 k j) := by
  unfold iblk
  blk_simp
  show V m c main_v0 _ = _
  entry_read
  pointwise
  blk_ext [idx t]
  all_goals (refine (emb1 t _ _).trans ?_; rw [(idx t).2.1])
  · exact Nat.add_zero _
  · exact Nat.zero_add _
  · rw [hj]; exact Nat.add_assoc _ _ _

/-- A block's point of the result. -/
theorem point (c : Dev nD) (t : Fin cfg0.N) (y) :
    k0_pay1 (iblk m c 0 t) (iblk m c 1 t) y = REF (m ((c : Thread nD τ).loc main_arg0)) (m ((c : Thread nD τ).loc main_arg1)) (((cfg0.win 2).blk t).view.emb y) := by
  pointwise [k0_pay1, REF]
  reads_congr
  · blk_ext [iblk, V, idx t]
    all_goals omega
  all_goals
    refine blk1 m c t _ _ _ ?_
    blk_simp [idx t]
    show 4544 + (t.val % 2 * 512 + (y 1).val) = _
    omega

/-- The call's result is the state-space branch's columns of the context's rows. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Proof.S5InCtx

end
-- ==== Proof.S5InLat.lean ====
/-
  The state-space branch's input columns for the latents' rows: the same product as the context's, four row tiles further down.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.S5InLat

open Idealize.ShloMosaic Idealize.ShloMosaic.TcCoe Idealize.SL.Sem
open Idealize.ShloMosaic.Pipeline (Dat)

section

open Cert.Reference3Ideal Cert.Reference3Ideal.Gen Idealize.ShloMosaic.StableHlo

/-- The reference's array: the latents' rows times the layer's weight, its branch columns. -/
def REF (X0 : FVec Ideal S6144x2048 .bf16) (X1 : FVec Ideal S4x2048x11712 .f32) : FVec Ideal S2048x1024 .f32 :=
  extractStridedSlice S2048x1024 ![0, 4544] (Host.dotGeneral dot_S2048x2048_S2048x11712_S2048x11712_1_0_0_1_n_n none (extf .f32 (extractStridedSlice
    S2048x2048 ![4096, 0] X0 slices_S6144x2048_S2048x2048_4096_0) bitsLt_bf16_f32) (shapeCast _ (extractStridedSlice S1x2048x11712 ![1, 0, 0] X1
    slices_S4x2048x11712_S1x2048x11712_1_0_0) shapeCasts_S1x2048x11712_S2048x11712)) slices_S2048x11712_S2048x1024_0_4544

end

open Cert.Kernel3Ideal Cert.Kernel3Ideal.Gen

variable (m : (ℓ : Loc nD τ sig) → Buf (Elt Ideal) ℓ)

/-- Block indices of every grid point: the activations' row tile, the weight's window of 512 rows at its element offset, the result's tile. -/
theorem idx : ∀ t : Fin cfg0.N, win0_0.index t = ![4 + t.val / 2, 0] ∧ win0_1.index t = ![1, 4544 + 512 * (t.val % 2), 0]
    ∧ win0_2.index t = ![t.val / 2, t.val % 2] ∧ t.val / 2 < 6 := (by decide +kernel : ∀ t : Fin grid0.N, _)

/-- Where a block of the weight lies: its offset's elements further on. -/
theorem emb1 (t : Fin cfg0.N) (y : (win0_1.xblock (cfg0.grid.coords t)).Idx) (a : Fin 3) :
    ((((View.whole main_v0).slice (win0_1.rect t)).emb y a : Fin _) : ℕ) = (win0_1.index t a : ℕ) + (y a : ℕ) :=
  win0_1.rect_emb_val_off t y a

/-- A weight block read at row `a` is the layer's weight at column `4544 + 512 b + a`, for the column tile `b`. -/
theorem blk1 (c : Dev nD) (t : Fin cfg0.N) (a : Fin 512) (k : Fin 2048) (j : Fin 11712)
    (hj : j.val = 4544 + (512 * (t.val % 2) + a.val)) :
    iblk m c 1 t (ix3 0 a k) = m ((c : Thread nD τ).loc main_arg1) (ix3 1 k j) := by
  unfold iblk
  blk_simp
  show V m c main_v0 _ = _
  entry_read
  pointwise
  blk_ext [idx t]
  all_goals (refine (emb1 t _ _).trans ?_; rw [(idx t).2.1])
  · exact Nat.add_zero _
  · exact Nat.zero_add _
  · rw [hj]; exact Nat.add_assoc _ _ _

/-- A block's point of the result. -/
theorem point (c : Dev nD) (t : Fin cfg0.N) (y) :
    k0_pay1 (iblk m c 0 t) (iblk m c 1 t) y = REF (m ((c : Thread nD τ).loc main_arg0)) (m ((c : Thread nD τ).loc main_arg1)) (((cfg0.win 2).blk t).view.emb y) := by
  pointwise [k0_pay1, REF]
  reads_congr
  · blk_ext [iblk, V, idx t]
    all_goals omega
  all_goals
    refine blk1 m c t _ _ _ ?_
    blk_simp [idx t]
    show 4544 + (t.val % 2 * 512 + (y 1).val) = _
    omega

/-- The call's result is the state-space branch's columns of the latents' rows. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Proof.S5InLat

end
-- ==== Proof.Shift.lean ====
/-
  The projected columns shifted towards their neighbours in the sequence: the matrix product whose epilogue mixes each row
  with the rows before and after it is the reference's product, padded and shifted sequence by sequence.
-/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Shift

open Idealize.ShloMosaic Idealize.ShloMosaic.TcCoe Idealize.SL.Sem
open Idealize.ShloMosaic.Pipeline (Dat)

section

open Cert.Reference4Ideal Cert.Reference4Ideal.Gen Idealize.ShloMosaic.StableHlo

/-- The reference's projected columns. -/
def Z (X0 : FVec Ideal S6144x2048 .bf16) (X1 : FVec Ideal S4x2048x11712 .f32) : FVec Ideal S6144x11712 .f32 :=
  Host.dotGeneral dot_S6144x2048_S2048x11712_S6144x11712_1_0_0_1_n_n none (extf .f32 X0 bitsLt_bf16_f32) (shapeCast _ (extractStridedSlice
    S1x2048x11712 ![1, 0, 0] X1 slices_S4x2048x11712_S1x2048x11712_1_0_0) shapeCasts_S1x2048x11712_S2048x11712)

/-- The context rows of the time mixing's columns, sequence by sequence. -/
def ZC (z : FVec Ideal S6144x11712 .f32) : FVec Ideal S16x256x3456 .f32 :=
  shapeCast _ (extractStridedSlice S4096x3456 ![0, 0] (extractStridedSlice S6144x3456 ![0, 0] z slices_S6144x11712_S6144x3456_0_0)
    slices_S6144x3456_S4096x3456_0_0) shapeCasts_S4096x3456_S16x256x3456

/-- The sample rows of the time mixing's columns, sequence by sequence. -/
def ZL (z : FVec Ideal S6144x11712 .f32) : FVec Ideal S2x1024x3456 .f32 :=
  shapeCast _ (extractStridedSlice S2048x3456 ![4096, 0] (extractStridedSlice S6144x3456 ![0, 0] z slices_S6144x11712_S6144x3456_0_0)
    slices_S6144x3456_S2048x3456_4096_0) shapeCasts_S2048x3456_S2x1024x3456

/-- The centred shift of the context's sequences. -/
def LC (z : FVec Ideal S16x256x3456 .f32) (mu : FVec Ideal S3456 .f32) : FVec Ideal S16x256x3456 .f32 :=
  addf z (mulf (broadcastInDim S16x256x3456 ![0, 1, 2] bcast_S1x1x3456_S16x256x3456_0_1_2 (broadcastInDim S1x1x3456 ![2] bcast_S3456_S1x1x3456_2 mu))
    (subf (mulf (broadcastInDim S16x256x3456 ![] bcast_S_S16x256x3456 (constant (F := Ideal) S_ .f32 0x3F000000#32)) (addf (pad S16x256x3456 ![0, 1,
    0] ![0, 0, 0] ![0, 0, 0] (extractStridedSlice S16x255x3456 ![0, 0, 0] z slices_S16x256x3456_S16x255x3456_0_0_0) (sitofp .f32 (constantI S_ 32
    0#32)) pads_S16x255x3456_S16x256x3456_000_100_000 h_S_) (pad S16x256x3456 ![0, 0, 0] ![0, 1, 0] ![0, 0, 0] (extractStridedSlice S16x255x3456 ![0,
    1, 0] z slices_S16x256x3456_S16x255x3456_0_1_0) (sitofp .f32 (constantI S_ 32 0#32)) pads_S16x255x3456_S16x256x3456_000_010_000 h_S_))) z))

/-- The centred shift of the samples' sequences. -/
def LL (z : FVec Ideal S2x1024x3456 .f32) (mu : FVec Ideal S3456 .f32) : FVec Ideal S2x1024x3456 .f32 :=
  addf z (mulf (broadcastInDim S2x1024x3456 ![0, 1, 2] bcast_S1x1x3456_S2x1024x3456_0_1_2 (broadcastInDim S1x1x3456 ![2] bcast_S3456_S1x1x3456_2 mu))
    (subf (mulf (broadcastInDim S2x1024x3456 ![] bcast_S_S2x1024x3456 (constant (F := Ideal) S_ .f32 0x3F000000#32)) (addf (pad S2x1024x3456 ![0, 1,
    0] ![0, 0, 0] ![0, 0, 0] (extractStridedSlice S2x1023x3456 ![0, 0, 0] z slices_S2x1024x3456_S2x1023x3456_0_0_0) (sitofp .f32 (constantI S_ 32
    0#32)) pads_S2x1023x3456_S2x1024x3456_000_100_000 h_S_) (pad S2x1024x3456 ![0, 0, 0] ![0, 1, 0] ![0, 0, 0] (extractStridedSlice S2x1023x3456 ![0,
    1, 0] z slices_S2x1024x3456_S2x1023x3456_0_1_0) (sitofp .f32 (constantI S_ 32 0#32)) pads_S2x1023x3456_S2x1024x3456_000_010_000 h_S_))) z))

/-- The reference's array: the shifted columns beside the plain ones. -/
def REF (X0 : FVec Ideal S6144x2048 .bf16) (X1 : FVec Ideal S4x2048x11712 .f32) (X2 : FVec Ideal S3456 .f32) : FVec Ideal S6144x4608 .f32 :=
  concatenate S6144x4608 1 [⟨S6144x3456, (concatenate S6144x3456 0 [⟨S4096x3456, (shapeCast _ (LC (ZC (Z X0 X1)) X2)
    shapeCasts_S16x256x3456_S4096x3456)⟩, ⟨S2048x3456, (shapeCast _ (LL (ZL (Z X0 X1)) X2) shapeCasts_S2x1024x3456_S2048x3456)⟩]
    concatenates_S4096x3456_S2048x3456_S6144x3456_d0)⟩, ⟨S6144x1152, (extractStridedSlice S6144x1152 ![0, 3456] (Z X0 X1)
    slices_S6144x11712_S6144x1152_0_3456)⟩] concatenates_S6144x3456_S6144x1152_S6144x4608_d1

/-- A value drawn towards the mean of its two neighbours. -/
def lerp (z p n mu : EReal) : EReal := z + mu * (Ideal.ofBits .f32 0x3F000000#32 * (p + n) - z)

/-- The centred shift of the context at an index. -/
theorem LC_at (z : FVec Ideal S16x256x3456 .f32) (mu : FVec Ideal S3456 .f32) (u : Fin 16) (s : Fin 256) (j : Fin 3456) :
    LC z mu (ix3 u s j) = lerp (z (ix3 u s j)) (if h : 0 < s.val then z (ix3 u ⟨s.val - 1, by omega⟩ j) else 0)
      (if h : s.val + 1 < 256 then z (ix3 u ⟨s.val + 1, h⟩ j) else 0) (mu (ix1 j)) := by
  pointwise [LC, lerp]
  have e0 : (FloatOps.sitofp FTy.f32 0#32 : Ideal .f32) = 0 := by simp [FloatOps.sitofp]
  rw [e0]
  congr 5
  · by_cases h : 0 < s.val
    · rw [dif_pos h, dif_pos ⟨h, by omega⟩]
    · rw [dif_neg h, dif_neg (fun q => h q.1)]
  · by_cases h : s.val + 1 < 256
    · rw [dif_pos h, dif_pos (by omega)]
      exact congrArg (fun q => z (ix3 u q j)) (Fin.ext (Nat.add_comm _ _))
    · rw [dif_neg h, dif_neg (by omega)]

/-- The centred shift of the samples at an index. -/
theorem LL_at (z : FVec Ideal S2x1024x3456 .f32) (mu : FVec Ideal S3456 .f32) (u : Fin 2) (s : Fin 1024) (j : Fin 3456) :
    LL z mu (ix3 u s j) = lerp (z (ix3 u s j)) (if h : 0 < s.val then z (ix3 u ⟨s.val - 1, by omega⟩ j) else 0)
      (if h : s.val + 1 < 1024 then z (ix3 u ⟨s.val + 1, h⟩ j) else 0) (mu (ix1 j)) := by
  pointwise [LL, lerp]
  have e0 : (FloatOps.sitofp FTy.f32 0#32 : Ideal .f32) = 0 := by simp [FloatOps.sitofp]
  rw [e0]
  congr 5
  · by_cases h : 0 < s.val
    · rw [dif_pos h, dif_pos ⟨h, by omega⟩]
    · rw [dif_neg h, dif_neg (fun q => h q.1)]
  · by_cases h : s.val + 1 < 1024
    · rw [dif_pos h, dif_pos (by omega)]
      exact congrArg (fun q => z (ix3 u q j)) (Fin.ext (Nat.add_comm _ _))
    · rw [dif_neg h, dif_neg (by omega)]

/-- The projected columns at an index: the row against the layer's weight's column. -/
theorem Z_at (X0 : FVec Ideal S6144x2048 .bf16) (X1 : FVec Ideal S4x2048x11712 .f32) (r : Fin 6144) (j : Fin 11712) :
    Z X0 X1 (ix2 r j) = ∑ k : Fin 2048, X0 (ix2 r k) * X1 (ix3 1 k j) := by
  pointwise [Z]

/-- The context's sequences at an index. -/
theorem ZC_at (z : FVec Ideal S6144x11712 .f32) (u : Fin 16) (s : Fin 256) (j : Fin 3456) (r : Fin 6144) (i : Fin 11712)
    (hr : r.val = u.val * 256 + s.val) (hi : i.val = j.val) : ZC z (ix3 u s j) = z (ix2 r i) := by
  rw [show r = ⟨u.val * 256 + s.val, by omega⟩  from Fin.ext hr]
  rw [show i = ⟨j.val, by omega⟩  from Fin.ext hi]
  pointwise [ZC]

/-- The samples' sequences at an index. -/
theorem ZL_at (z : FVec Ideal S6144x11712 .f32) (u : Fin 2) (s : Fin 1024) (j : Fin 3456) (r : Fin 6144) (i : Fin 11712)
    (hr : r.val = 4 * 1024 + (u.val * 1024 + s.val)) (hi : i.val = j.val) : ZL z (ix3 u s j) = z (ix2 r i) := by
  rw [show r = ⟨4 * 1024 + (u.val * 1024 + s.val), by omega⟩  from Fin.ext hr]
  rw [show i = ⟨j.val, by omega⟩  from Fin.ext hi]
  pointwise [ZL]

/-- A row of the shifted columns: the value beside the row before it and the row after it, each zero beyond the sequence's end. -/
def row (z : FVec Ideal S6144x11712 .f32) (L : ℕ) (r : Fin 6144) (i : Fin 11712) (mu : EReal) : EReal :=
  lerp (z (ix2 r i)) (if 0 < r.val % L then z (ix2 ⟨(r.val + 6143) % 6144, Nat.mod_lt _ (by decide)⟩ i) else 0)
    (if r.val % L + 1 < L then z (ix2 ⟨(r.val + 1) % 6144, Nat.mod_lt _ (by decide)⟩ i) else 0) mu

/-- A row of the shifted columns from its three values. -/
theorem row_of (z : FVec Ideal S6144x11712 .f32) (L : ℕ) (r : Fin 6144) (i : Fin 11712) (mu a p n : EReal) (ha : a = z (ix2 r i))
    (hp : 0 < r.val % L → p = z (ix2 ⟨(r.val + 6143) % 6144, Nat.mod_lt _ (by decide)⟩ i)) (hp' : ¬ 0 < r.val % L → p = 0)
    (hn : r.val % L + 1 < L → n = z (ix2 ⟨(r.val + 1) % 6144, Nat.mod_lt _ (by decide)⟩ i)) (hn' : ¬ r.val % L + 1 < L → n = 0) :
    lerp a p n mu = row z L r i mu := by
  unfold row
  rw [ha]
  congr 1
  · by_cases h : 0 < r.val % L
    · rw [if_pos h, hp h]
    · rw [if_neg h, hp' h]
  · by_cases h : r.val % L + 1 < L
    · rw [if_pos h, hn h]
    · rw [if_neg h, hn' h]

/-- The reference at a shifted column: sequences of 256 rows in the context, of 1024 in the samples. -/
theorem refS (X0 : FVec Ideal S6144x2048 .bf16) (X1 : FVec Ideal S4x2048x11712 .f32) (X2 : FVec Ideal S3456 .f32) (r : Fin 6144)
    (j : Fin 4608) (i : Fin 11712) (q : Fin 3456) (hi : i.val = j.val) (hq : q.val = j.val) :
    REF X0 X1 X2 (ix2 r j) = if r.val < 4096 then row (Z X0 X1) 256 r i (X2 (ix1 q)) else row (Z X0 X1) 1024 r i (X2 (ix1 q)) := by
  rw [show q = ⟨j.val, by omega⟩ from Fin.ext hq]
  pointwise [REF]
  rw [dif_pos (show j.val < 3456 by omega)]
  by_cases hr : r.val < 4096
  · rw [dif_pos hr, if_pos hr]
    refine (LC_at _ _ _ _ _).trans (row_of _ _ _ _ _ _ _ _ ?_ (fun h => ?_) (fun h => ?_) (fun h => ?_) (fun h => ?_))
    · exact ZC_at _ _ _ _ _ _ (by dsimp only; omega) hi
    · rw [dif_pos h]
      exact ZC_at _ _ _ _ _ _ (by dsimp only; omega) hi
    · rw [dif_neg h]
    · rw [dif_pos h]
      exact ZC_at _ _ _ _ _ _ (by dsimp only; omega) hi
    · rw [dif_neg h]
  · rw [dif_neg hr, if_neg hr]
    refine (LL_at _ _ _ _ _).trans (row_of _ _ _ _ _ _ _ _ ?_ (fun h => ?_) (fun h => ?_) (fun h => ?_) (fun h => ?_))
    · exact ZL_at _ _ _ _ _ _ (by dsimp only; omega) hi
    · rw [dif_pos (by dsimp only; omega)]
      exact ZL_at _ _ _ _ _ _ (by dsimp only; omega) hi
    · rw [dif_neg (by dsimp only; omega)]
    · rw [dif_pos (by dsimp only; omega)]
      exact ZL_at _ _ _ _ _ _ (by dsimp only; omega) hi
    · rw [dif_neg (by dsimp only; omega)]

/-- The reference at a plain column. -/
theorem refP (X0 : FVec Ideal S6144x2048 .bf16) (X1 : FVec Ideal S4x2048x11712 .f32) (X2 : FVec Ideal S3456 .f32) (r : Fin 6144)
    (j : Fin 4608) (i : Fin 11712) (hi : i.val = j.val) (hj : ¬ j.val < 3456) :
    REF X0 X1 X2 (ix2 r j) = Z X0 X1 (ix2 r i) := by
  rw [show i = ⟨3456 + (j.val - 3456), by omega⟩  from Fin.ext (by dsimp only; omega)]
  pointwise [REF]
  rw [dif_neg hj]

end

open Cert.Kernel4Ideal Cert.Kernel4Ideal.Gen

variable (m : (ℓ : Loc nD τ sig) → Buf (Elt Ideal) ℓ)

/-- Block indices of every grid point: the activations' row tile, the layer's weight's and the weights' column tile, the result's tile. -/
theorem idx : ∀ t : Fin cfg0.N, win0_0.index t = ![t.val / 4, 0] ∧ win0_1.index t = ![1, t.val % 4, 0]
    ∧ win0_2.index t = ![0, t.val % 4] ∧ win0_3.index t = ![t.val / 4, t.val % 4] ∧ t.val / 4 < 6
    ∧ ((grid0.coords t) 0).val = t.val / 4 := (by decide +kernel : ∀ t : Fin grid0.N, _)

/-- The tile's product at an index. -/
def acc (v0 : Vec Ideal S1024x2048 .bf16) (v1 : Vec Ideal S1x1152x2048 .f32) (a : Fin 1024) (b : Fin 1152) : EReal :=
  ∑ k : Fin 2048, v0 (ix2 a k) * v1 (ix3 0 b k)

/-- The words of the position in the sequence, for sequences of 256 rows. -/
theorem words256 : ∀ n : Fin 6, n.val < 4 → Scalar.subi (Scalar.select (Scalar.cmpi CmpIPredicate.slt (BitVec.ofNat 32 n.val) 4#32) 256#32 1024#32) 1#32 = 255#32 := by
  decide +kernel

/-- The words of the position in the sequence, for sequences of 1024 rows. -/
theorem words1024 : ∀ n : Fin 6, ¬ n.val < 4 → Scalar.subi (Scalar.select (Scalar.cmpi CmpIPredicate.slt (BitVec.ofNat 32 n.val) 4#32) 256#32 1024#32) 1#32 = 1023#32 := by
  decide +kernel

/-- The comparisons of the position with the ends of a sequence of 256 rows. -/
theorem pos256 : ∀ a : Fin 1024, IntOp.cmpi CmpIPredicate.eq (IntOp.andi (BitVec.ofNat 32 a.val) 255#32) 0#32 = BitVec.ofBool (decide (¬ 0 < a.val % 256))
    ∧ IntOp.cmpi CmpIPredicate.eq (IntOp.andi (BitVec.ofNat 32 a.val) 255#32) 255#32 = BitVec.ofBool (decide (¬ a.val % 256 + 1 < 256)) := by
  decide +kernel

/-- The comparisons of the position with the ends of a sequence of 1024 rows. -/
theorem pos1024 : ∀ a : Fin 1024, IntOp.cmpi CmpIPredicate.eq (IntOp.andi (BitVec.ofNat 32 a.val) 1023#32) 0#32 = BitVec.ofBool (decide (¬ 0 < a.val % 1024))
    ∧ IntOp.cmpi CmpIPredicate.eq (IntOp.andi (BitVec.ofNat 32 a.val) 1023#32) 1023#32 = BitVec.ofBool (decide (¬ a.val % 1024 + 1 < 1024)) := by
  decide +kernel

/-- A select on the negation of a proposition. -/
theorem select_not {α : Type} (p : Prop) [Decidable p] (x y : α) : Scalar.select (BitVec.ofBool (decide (¬ p))) x y = if p then y else x := by
  rw [WordCmp.select_ofBool]
  by_cases h : p <;> simp [h]

/-- A row of the tile's shifted product: the rows before and after it, each zero beyond the sequence's end. -/
def trow (v0 : Vec Ideal S1024x2048 .bf16) (v1 : Vec Ideal S1x1152x2048 .f32) (L : ℕ) (a : Fin 1024) (b : Fin 1152) (mu : EReal) : EReal :=
  lerp (acc v0 v1 a b) (if 0 < a.val % L then acc v0 v1 ⟨(a.val + 1024 - 1) % 1024, Nat.mod_lt _ (by decide)⟩ b else 0)
    (if a.val % L + 1 < L then acc v0 v1 ⟨(a.val + 1024 - 1023) % 1024, Nat.mod_lt _ (by decide)⟩ b else 0) mu

/-- The payload at an index of a context tile. -/
theorem payC (i : grid0.Coords) (v0 : Vec Ideal S1024x2048 .bf16) (v1 : Vec Ideal S1x1152x2048 .f32) (v2 : Vec Ideal S1x1152 .f32)
    (a : Fin 1024) (b : Fin 1152) (hn : (i 0).val < 4) : k0_pay1 i v0 v1 v2 (ix2 a b) = trow v0 v1 256 a b (v2 (ix2 0 b)) := by
  pointwise [k0_pay1]
  rw [words256 (i 0) hn, (pos256 a).1, (pos256 a).2, select_not, select_not]
  rfl

/-- The payload at an index of a sample tile. -/
theorem payL (i : grid0.Coords) (v0 : Vec Ideal S1024x2048 .bf16) (v1 : Vec Ideal S1x1152x2048 .f32) (v2 : Vec Ideal S1x1152 .f32)
    (a : Fin 1024) (b : Fin 1152) (hn : ¬ (i 0).val < 4) : k0_pay1 i v0 v1 v2 (ix2 a b) = trow v0 v1 1024 a b (v2 (ix2 0 b)) := by
  pointwise [k0_pay1]
  rw [words1024 (i 0) hn, (pos1024 a).1, (pos1024 a).2, select_not, select_not]
  rfl

/-- The weights of the shift, as the call takes them: zero beyond the time mixing's columns. -/
def MU (X2 : FVec Ideal S3456 .f32) : FVec Ideal S1x4608 .f32 :=
  shapeCast S1x4608 (concatenate S4608 0 [⟨S3456, X2⟩, ⟨S1152, broadcastInDim S1152 ![] bcast_S_S1152 (constant (F := Ideal) S_ .f32 0x00000000#32)⟩]
    concatenates_S3456_S1152_S4608_d0) shapeCasts_S4608_S1x4608

/-- The call's third array. -/
theorem V3 (c : Dev nD) : V m c main_v3 = MU (m ((c : Thread nD τ).loc main_arg2)) := by
  entry_read
  rfl

/-- The weights of the shift at an index. -/
theorem MU_at (X2 : FVec Ideal S3456 .f32) (j : Fin 4608) :
    MU X2 (ix2 0 j) = if h : j.val < 3456 then X2 (ix1 ⟨j.val, h⟩) else 0 := by
  pointwise [MU]

/-- An activation block at an index. -/
theorem blk0 (c : Dev nD) (t : Fin cfg0.N) (a : Fin 1024) (k : Fin 2048) (r : Fin 6144) (hr : r.val = t.val / 4 * 1024 + a.val) :
    iblk m c 0 t (ix2 a k) = (m ((c : Thread nD τ).loc main_arg0)) (ix2 r k) := by
  blk_point [iblk, V, idx t]

/-- A weight block at an index: the layer's weight, transposed. -/
theorem blk1 (c : Dev nD) (t : Fin cfg0.N) (b : Fin 1152) (k : Fin 2048) (j : Fin 11712) (hj : j.val = t.val % 4 * 1152 + b.val) :
    X0_1 m c t (ix3 0 b k) = (m ((c : Thread nD τ).loc main_arg1)) (ix3 1 k j) := by
  unfold X0_1
  unfold Pipeline.Window.fill
  rw [dif_pos (moved0_1 t _)]
  blk_point [iblk, V, idx t]

/-- A block of the shift's weights at an index. -/
theorem blk2 (c : Dev nD) (t : Fin cfg0.N) (b : Fin 1152) (j : Fin 4608) (hj : j.val = t.val % 4 * 1152 + b.val) :
    iblk m c 2 t (ix2 0 b) = MU (m ((c : Thread nD τ).loc main_arg2)) (ix2 0 j) := by
  rw [← V3 m c]
  blk_point [iblk, idx t]

/-- A tile's product is the reference's projected column. -/
theorem acc_blk (c : Dev nD) (t : Fin cfg0.N) (a : Fin 1024) (b : Fin 1152) (r : Fin 6144) (j : Fin 11712)
    (hr : r.val = t.val / 4 * 1024 + a.val) (hj : j.val = t.val % 4 * 1152 + b.val) :
    acc (iblk m c 0 t) (X0_1 m c t) a b = Z (m ((c : Thread nD τ).loc main_arg0)) (m ((c : Thread nD τ).loc main_arg1)) (ix2 r j) := by
  rw [Z_at, acc]
  exact Finset.sum_congr rfl fun k _ => congrArg₂ (· * ·) (blk0 m c t a k r hr) (blk1 m c t b k j hj)

/-- A shifted row of a tile is the reference's shifted row. -/
theorem trow_blk (c : Dev nD) (t : Fin cfg0.N) (L : ℕ) (hL : L = 256 ∨ L = 1024) (a : Fin 1024) (b : Fin 1152) (r : Fin 6144) (j : Fin 11712) (mu : EReal)
    (hr : r.val = t.val / 4 * 1024 + a.val) (hj : j.val = t.val % 4 * 1152 + b.val) :
    trow (iblk m c 0 t) (X0_1 m c t) L a b mu = row (Z (m ((c : Thread nD τ).loc main_arg0)) (m ((c : Thread nD τ).loc main_arg1))) L r j mu := by
  have e : r.val % L = a.val % L := by rcases hL with rfl | rfl <;> omega
  rw [trow, row, e]
  congr 1
  · exact acc_blk m c t a b r j hr hj
  · by_cases h : 0 < a.val % L
    · rw [if_pos h, if_pos h]
      exact acc_blk m c t _ b _ j (by rcases hL with rfl | rfl <;> (dsimp only; omega)) hj
    · rw [if_neg h, if_neg h]
  · by_cases h : a.val % L + 1 < L
    · rw [if_pos h, if_pos h]
      exact acc_blk m c t _ b _ j (by rcases hL with rfl | rfl <;> (dsimp only; omega)) hj
    · rw [if_neg h, if_neg h]

/-- A value drawn by nothing stays. -/
theorem lerp_zero (z p n : EReal) : lerp z p n 0 = z := by
  rw [lerp, zero_mul, add_zero]

/-- A block's point of the result. -/
theorem point (c : Dev nD) (t : Fin cfg0.N) (a : Fin 1024) (b : Fin 1152) (r : Fin 6144) (j : Fin 4608)
    (hr : r.val = t.val / 4 * 1024 + a.val) (hj : j.val = t.val % 4 * 1152 + b.val) :
    k0_pay1 (grid0.coords t) (iblk m c 0 t) (X0_1 m c t) (iblk m c 2 t) (ix2 a b) = REF (m ((c : Thread nD τ).loc main_arg0)) (m ((c : Thread nD τ).loc main_arg1)) (m ((c : Thread nD τ).loc main_arg2)) (ix2 r j) := by
  have hc := (idx t).2.2.2.2
  have hmu := (blk2 m c t b j hj).trans (MU_at _ j)
  by_cases hn : t.val / 4 < 4
  · rw [payC _ _ _ _ a b (by rw [hc.2]; exact hn), trow_blk m c t 256 (.inl rfl) a b r ⟨j.val, by omega⟩ _ hr hj, hmu]
    by_cases h : j.val < 3456
    · rw [dif_pos h]
      exact ((refS _ _ _ r j _ _ rfl rfl).trans (if_pos (by omega))).symm
    · rw [dif_neg h, row, lerp_zero]
      exact (refP _ _ _ r j _ rfl h).symm
  · rw [payL _ _ _ _ a b (by rw [hc.2]; exact hn), trow_blk m c t 1024 (.inr rfl) a b r ⟨j.val, by omega⟩ _ hr hj, hmu]
    by_cases h : j.val < 3456
    · rw [dif_pos h]
      exact ((refS _ _ _ r j _ _ rfl rfl).trans (if_neg (by omega))).symm
    · rw [dif_neg h, row, lerp_zero]
      exact (refP _ _ _ r j _ rfl h).symm

/-- The output after the whole grid is the reference's array. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  idx_vars y
  have h := (idx t).2.2.2.2.1
  refine (point m c t y0 y1 ⟨t.val / 4 * 1024 + y0.val, by omega⟩ ⟨t.val % 4 * 1152 + y1.val, by omega⟩ rfl rfl).trans (congrArg _ ?_)
  blk_ext [idx t]

end Cert.Proof.Shift

end
-- ==== Proof.Merge.lean ====
/-
  The branches' projections and their gated merge.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Merge

open Idealize.ShloMosaic Idealize.ShloMosaic.TcCoe Idealize.SL.Sem
open Idealize.ShloMosaic.Pipeline (Dat)

section

open Cert.Reference5Ideal Cert.Reference5Ideal.Gen Idealize.ShloMosaic.StableHlo

/-- The reference's array: each branch's product times its gate, summed. -/
def REF (X0 : FVec Ideal S6144x1024 .bf16) (X1 : FVec Ideal S6144x1024 .bf16) (X2 : FVec Ideal S6144x1024 .bf16) (X3 : FVec Ideal S6144x6144 .bf16) (X4 : FVec Ideal S1024x2048 .f32) (X5 : FVec Ideal S1024x2048 .f32) (X6 : FVec Ideal S1024x2048 .f32) : FVec Ideal S6144x2048 .bf16 :=
  truncf .bf16 (addf (addf (mulf (extractStridedSlice S6144x2048 ![0, 0] (extf .f32 X3 bitsLt_bf16_f32) slices_S6144x6144_S6144x2048_0_0)
    (Host.dotGeneral dot_S6144x1024_S1024x2048_S6144x2048_1_0_0_1_n_n none (extf .f32 X0 bitsLt_bf16_f32) X4)) (mulf (extractStridedSlice S6144x2048
    ![0, 2048] (extf .f32 X3 bitsLt_bf16_f32) slices_S6144x6144_S6144x2048_0_2048) (Host.dotGeneral dot_S6144x1024_S1024x2048_S6144x2048_1_0_0_1_n_n
    none (extf .f32 X1 bitsLt_bf16_f32) X5))) (mulf (extractStridedSlice S6144x2048 ![0, 4096] (extf .f32 X3 bitsLt_bf16_f32)
    slices_S6144x6144_S6144x2048_0_4096) (Host.dotGeneral dot_S6144x1024_S1024x2048_S6144x2048_1_0_0_1_n_n none (extf .f32 X2 bitsLt_bf16_f32) X6)))
    bitsLt_bf16_f32

end

open Cert.Kernel5Ideal Cert.Kernel5Ideal.Gen

variable (m : (ℓ : Loc nD τ sig) → Buf (Elt Ideal) ℓ)

/-- Block indices of every grid point. -/
theorem idx : ∀ t : Fin cfg0.N, win0_0.index t = ![t.val / 4, 0] ∧ win0_1.index t = ![t.val / 4, 0]
    ∧ win0_2.index t = ![t.val / 4, 0] ∧ win0_3.index t = ![0, t.val % 4] ∧ win0_4.index t = ![0, t.val % 4]
    ∧ win0_5.index t = ![0, t.val % 4] ∧ win0_6.index t = ![t.val / 4, t.val % 4] ∧ win0_7.index t = ![t.val / 4, 4 + t.val % 4]
    ∧ win0_8.index t = ![t.val / 4, 8 + t.val % 4] ∧ win0_9.index t = ![t.val / 4, t.val % 4] := (by decide +kernel : ∀ t : Fin grid0.N, _)

/-- A block's point of the result. -/
theorem point (c : Dev nD) (t : Fin cfg0.N) (y) :
    k0_pay1 (iblk m c 6 t) (iblk m c 0 t) (iblk m c 3 t) (iblk m c 7 t) (iblk m c 1 t) (iblk m c 4 t) (iblk m c 8 t) (iblk m c 2 t) (iblk m c 5 t) y = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (((cfg0.win 9).blk t).view.emb y) := by
  pointwise [k0_pay1, REF]
  blk_point [iblk, V, idx t]

/-- The output after the whole grid is the reference's array. -/
theorem final (c : Dev nD) : (dats m 0 c).arrAt 9 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  frame_out
  exact point m c t y

end Cert.Proof.Merge

end
-- ==== Proof.OutProj.lean ====
/-
  The output projection of a layer.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.OutProj

open Idealize.ShloMosaic Idealize.ShloMosaic.TcCoe Idealize.SL.Sem
open Idealize.ShloMosaic.Pipeline (Dat)

section

open Cert.Reference6Ideal Cert.Reference6Ideal.Gen Idealize.ShloMosaic.StableHlo

/-- The reference's array: the merged branches times the weight. -/
def REF (X0 : FVec Ideal S6144x2048 .bf16) (X1 : FVec Ideal S2048x2048 .f32) : FVec Ideal S6144x2048 .f32 :=
  Host.dotGeneral dot_S6144x2048_S2048x2048_S6144x2048_1_0_0_1_n_n none (extf .f32 X0 bitsLt_bf16_f32) X1

end

open Cert.Kernel6Ideal Cert.Kernel6Ideal.Gen

variable (m : (ℓ : Loc nD τ sig) → Buf (Elt Ideal) ℓ)

/-- Block indices of every grid point. -/
theorem idx : ∀ t : Fin cfg0.N, win0_0.index t = ![t.val / 2, 0] ∧ win0_1.index t = ![0, t.val % 2]
    ∧ win0_2.index t = ![t.val / 2, t.val % 2] := (by decide +kernel : ∀ t : Fin grid0.N, _)

/-- A block's point of the result. -/
theorem point (c : Dev nD) (t : Fin cfg0.N) (y) :
    k0_pay1 (iblk m c 0 t) (iblk m c 1 t) y = REF (m ((c : Thread nD τ).loc main_arg0)) (m ((c : Thread nD τ).loc main_arg1))
      (((cfg0.win 2).blk t).view.emb y) := by
  pointwise [k0_pay1, REF]
  blk_point [iblk, V, idx t]

/-- The output after the whole grid is the reference's array. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Proof.OutProj

end
-- ==== Proof.PeerQuery.lean ====
/-
  The expert retrieval's queries.
-/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.PeerQuery

open Idealize.ShloMosaic Idealize.ShloMosaic.TcCoe Idealize.SL.Sem
open Idealize.ShloMosaic.Pipeline (Dat)

section

open Cert.Reference7Ideal Cert.Reference7Ideal.Gen Idealize.ShloMosaic.StableHlo

/-- The reference's array: the normalised stream times the query weight. -/
def REF (X0 : FVec Ideal S6144x2048 .bf16) (X1 : FVec Ideal S2048x2048 .f32) : FVec Ideal S6144x2048 .bf16 :=
  truncf .bf16 (Host.dotGeneral dot_S6144x2048_S2048x2048_S6144x2048_1_0_0_1_n_n none (extf .f32 X0 bitsLt_bf16_f32) X1) bitsLt_bf16_f32

end

open Cert.Kernel7Ideal Cert.Kernel7Ideal.Gen

variable (m : (ℓ : Loc nD τ sig) → Buf (Elt Ideal) ℓ)

/-- Block indices of every grid point. -/
theorem idx : ∀ t : Fin cfg0.N, win0_0.index t = ![t.val / 2, 0] ∧ win0_1.index t = ![0, t.val % 2]
    ∧ win0_2.index t = ![t.val / 2, t.val % 2] := (by decide +kernel : ∀ t : Fin grid0.N, _)

/-- A block's point of the result. -/
theorem point (c : Dev nD) (t : Fin cfg0.N) (y) :
    k0_pay1 (iblk m c 0 t) (iblk m c 1 t) y = REF (m ((c : Thread nD τ).loc main_arg0)) (m ((c : Thread nD τ).loc main_arg1))
      (((cfg0.win 2).blk t).view.emb y) := by
  pointwise [k0_pay1, REF]
  blk_point [iblk, V, idx t]

/-- The output after the whole grid is the reference's array. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Proof.PeerQuery

end
-- ==== Proof.Query.lean ====
/-
  The attention's queries.
-/
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Query

open Idealize.ShloMosaic Idealize.ShloMosaic.TcCoe Idealize.SL.Sem
open Idealize.ShloMosaic.Pipeline (Dat)

section

open Cert.Reference8Ideal Cert.Reference8Ideal.Gen Idealize.ShloMosaic.StableHlo

/-- The rotation's angles: the position's row or column times the axis's frequency. -/
def ANG : FVec Ideal S1024x2x16 .f32 :=
  mulf (broadcastInDim S1024x2x16 ![0, 1, 2] bcast_S1024x2x1_S1024x2x16_0_1_2 (broadcastInDim S1024x2x1 ![0, 1] bcast_S1024x2_S1024x2x1_0_1 (sitofp
    .f32 (concatenate S1024x2 1 [⟨S1024x1, (broadcastInDim S1024x1 ![0] bcast_S1024_S1024x1_0 (shapeCast S1024 (broadcastInDim S16x64 ![0]
    bcast_S16_S16x64_0 (iotaInDim S16 32 0)) shapeCasts_S16x64_S1024))⟩, ⟨S1024x1, (broadcastInDim S1024x1 ![0] bcast_S1024_S1024x1_0 (shapeCast S1024
    (broadcastInDim S16x64 ![1] bcast_S64_S16x64_1 (iotaInDim S64 32 0)) shapeCasts_S16x64_S1024))⟩] concatenates_S1024x1_S1024x1_S1024x2_d1))))
    (broadcastInDim S1024x2x16 ![0, 1, 2] bcast_S1x1x16_S1024x2x16_0_1_2 (broadcastInDim S1x1x16 ![2] bcast_S16_S1x1x16_2 (Host.powf (broadcastInDim
    S16 ![] bcast_S_S16 (constant (F := Ideal) S_ .f32 0x461C4000#32)) (Host.divf (Host.negf (sitofp .f32 (iotaInDim S16 32 0))) (broadcastInDim S16
    ![] bcast_S_S16 (constant (F := Ideal) S_ .f32 0x41800000#32))))))

/-- The queries' projection. -/
def Z (X0 : FVec Ideal S6144x512 .bf16) (X1 : FVec Ideal S512x1536 .f32) : FVec Ideal S6144x1536 .f32 :=
  Host.dotGeneral dot_S6144x512_S512x1536_S6144x1536_1_0_0_1_n_n none (extf .f32 X0 bitsLt_bf16_f32) X1

/-- The samples' rotary columns of the projection. -/
def ZK (z : FVec Ideal S6144x1536 .f32) : FVec Ideal S2x1024x8x64 .f32 :=
  shapeCast _ (extractStridedSlice S2048x8x64 ![4096, 0, 0] (extractStridedSlice S6144x8x64 ![0, 0, 128] (shapeCast _ z
    shapeCasts_S6144x1536_S6144x8x192) slices_S6144x8x192_S6144x8x64_0_0_128) slices_S6144x8x64_S2048x8x64_4096_0_0)
    shapeCasts_S2048x8x64_S2x1024x8x64

/-- The rotation of the pairs by the angles with the given cosines and sines. -/
def ROPE (zk : FVec Ideal S2x1024x8x64 .f32) (co si : FVec Ideal S1024x2x16 .f32) : FVec Ideal S2x1024x8x64 .f32 :=
  shapeCast _ (concatenate S2x1024x8x2x2x16 4 [⟨S2x1024x8x2x1x16, (broadcastInDim S2x1024x8x2x1x16 ![0, 1, 2, 3, 5]
    bcast_S2x1024x8x2x16_S2x1024x8x2x1x16_0_1_2_3_5 (subf (mulf (shapeCast _ (extractStridedSlice S2x1024x8x2x1x16 ![0, 0, 0, 0, 0, 0] (shapeCast _ zk
    shapeCasts_S2x1024x8x64_S2x1024x8x2x2x16) slices_S2x1024x8x2x2x16_S2x1024x8x2x1x16_0_0_0_0_0_0) shapeCasts_S2x1024x8x2x1x16_S2x1024x8x2x16)
    (broadcastInDim S2x1024x8x2x16 ![0, 1, 2, 3, 4] bcast_S1x1024x1x2x16_S2x1024x8x2x16_0_1_2_3_4 (broadcastInDim S1x1024x1x2x16 ![1, 2, 3, 4]
    bcast_S1024x1x2x16_S1x1024x1x2x16_1_2_3_4 (broadcastInDim S1024x1x2x16 ![0, 2, 3] bcast_S1024x2x16_S1024x1x2x16_0_2_3 co)))) (mulf (shapeCast _
    (extractStridedSlice S2x1024x8x2x1x16 ![0, 0, 0, 0, 1, 0] (shapeCast _ zk shapeCasts_S2x1024x8x64_S2x1024x8x2x2x16)
    slices_S2x1024x8x2x2x16_S2x1024x8x2x1x16_0_0_0_0_1_0) shapeCasts_S2x1024x8x2x1x16_S2x1024x8x2x16) (broadcastInDim S2x1024x8x2x16 ![0, 1, 2, 3, 4]
    bcast_S1x1024x1x2x16_S2x1024x8x2x16_0_1_2_3_4 (broadcastInDim S1x1024x1x2x16 ![1, 2, 3, 4] bcast_S1024x1x2x16_S1x1024x1x2x16_1_2_3_4
    (broadcastInDim S1024x1x2x16 ![0, 2, 3] bcast_S1024x2x16_S1024x1x2x16_0_2_3 si))))))⟩, ⟨S2x1024x8x2x1x16, (broadcastInDim S2x1024x8x2x1x16 ![0, 1,
    2, 3, 5] bcast_S2x1024x8x2x16_S2x1024x8x2x1x16_0_1_2_3_5 (addf (mulf (shapeCast _ (extractStridedSlice S2x1024x8x2x1x16 ![0, 0, 0, 0, 0, 0]
    (shapeCast _ zk shapeCasts_S2x1024x8x64_S2x1024x8x2x2x16) slices_S2x1024x8x2x2x16_S2x1024x8x2x1x16_0_0_0_0_0_0)
    shapeCasts_S2x1024x8x2x1x16_S2x1024x8x2x16) (broadcastInDim S2x1024x8x2x16 ![0, 1, 2, 3, 4] bcast_S1x1024x1x2x16_S2x1024x8x2x16_0_1_2_3_4
    (broadcastInDim S1x1024x1x2x16 ![1, 2, 3, 4] bcast_S1024x1x2x16_S1x1024x1x2x16_1_2_3_4 (broadcastInDim S1024x1x2x16 ![0, 2, 3]
    bcast_S1024x2x16_S1024x1x2x16_0_2_3 si)))) (mulf (shapeCast _ (extractStridedSlice S2x1024x8x2x1x16 ![0, 0, 0, 0, 1, 0] (shapeCast _ zk
    shapeCasts_S2x1024x8x64_S2x1024x8x2x2x16) slices_S2x1024x8x2x2x16_S2x1024x8x2x1x16_0_0_0_0_1_0) shapeCasts_S2x1024x8x2x1x16_S2x1024x8x2x16)
    (broadcastInDim S2x1024x8x2x16 ![0, 1, 2, 3, 4] bcast_S1x1024x1x2x16_S2x1024x8x2x16_0_1_2_3_4 (broadcastInDim S1x1024x1x2x16 ![1, 2, 3, 4]
    bcast_S1024x1x2x16_S1x1024x1x2x16_1_2_3_4 (broadcastInDim S1024x1x2x16 ![0, 2, 3] bcast_S1024x2x16_S1024x1x2x16_0_2_3 co))))))⟩]
    concatenates_S2x1024x8x2x1x16_S2x1024x8x2x1x16_S2x1024x8x2x2x16_d4) shapeCasts_S2x1024x8x2x2x16_S2x1024x8x64

/-- The reference's queries without a position. -/
def REF0 (X0 : FVec Ideal S6144x512 .bf16) (X1 : FVec Ideal S512x1536 .f32) : FVec Ideal S6144x1024 .bf16 :=
  truncf .bf16 (shapeCast _ (extractStridedSlice S6144x8x128 ![0, 0, 0] (shapeCast _ (Z X0 X1) shapeCasts_S6144x1536_S6144x8x192)
    slices_S6144x8x192_S6144x8x128_0_0_0) shapeCasts_S6144x8x128_S6144x1024) bitsLt_bf16_f32

/-- The reference's rotary queries. -/
def REF1 (X0 : FVec Ideal S6144x512 .bf16) (X1 : FVec Ideal S512x1536 .f32) : FVec Ideal S6144x512 .bf16 :=
  truncf .bf16 (concatenate S6144x512 0 [⟨S4096x512, (shapeCast _ (extractStridedSlice S4096x8x64 ![0, 0, 0] (extractStridedSlice S6144x8x64 ![0, 0,
    128] (shapeCast _ (Z X0 X1) shapeCasts_S6144x1536_S6144x8x192) slices_S6144x8x192_S6144x8x64_0_0_128) slices_S6144x8x64_S4096x8x64_0_0_0)
    shapeCasts_S4096x8x64_S4096x512)⟩, ⟨S2048x512, (shapeCast _ (ROPE (ZK (Z X0 X1)) (Host.cos ANG) (Host.sin ANG))
    shapeCasts_S2x1024x8x64_S2048x512)⟩] concatenates_S4096x512_S2048x512_S6144x512_d0) bitsLt_bf16_f32

/-- The projection at an index. -/
theorem Z_at (X0 : FVec Ideal S6144x512 .bf16) (X1 : FVec Ideal S512x1536 .f32) (r : Fin 6144) (j : Fin 1536) :
    Z X0 X1 (ix2 r j) = ∑ k : Fin 512, X0 (ix2 r k) * X1 (ix2 k j) := by
  pointwise [Z]

/-- The samples' rotary columns at an index. -/
theorem ZK_at (z : FVec Ideal S6144x1536 .f32) (u : Fin 2) (s : Fin 1024) (h : Fin 8) (d : Fin 64) (r : Fin 6144) (i : Fin 1536)
    (hr : r.val = 4 * 1024 + (u.val * 1024 + s.val)) (hi : i.val = h.val * 192 + (128 + d.val)) : ZK z (ix4 u s h d) = z (ix2 r i) := by
  rw [show r = ⟨4 * 1024 + (u.val * 1024 + s.val), by omega⟩ from Fin.ext hr]
  rw [show i = ⟨h.val * 192 + (128 + d.val), by omega⟩ from Fin.ext hi]
  pointwise [ZK]

/-- An array of rank three at equal coordinates. -/
theorem at3 {a b c : ℕ} (f : FVec Ideal (⟨3, ![a, b, c]⟩ : Shape) .f32) {i i' : Fin a} {j j' : Fin b} {k k' : Fin c} (hi : i.val = i'.val) (hj : j.val = j'.val)
    (hk : k.val = k'.val) : f (ix3 i j k) = f (ix3 i' j' k') := by
  rw [Fin.ext hi, Fin.ext hj, Fin.ext hk]

/-- An array by heads at equal coordinates. -/
theorem at4 (f : FVec Ideal S2x1024x8x64 .f32) {u u' : Fin 2} {s s' : Fin 1024} {h : Fin 8} {d : Fin 64} (hu : u.val = u'.val) (hs : s.val = s'.val) :
    f (ix4 u s h d) = f (ix4 u' s' h d) := by
  rw [Fin.ext hu, Fin.ext hs]

/-- The rotation at an index. -/
theorem ROPE_at (zk : FVec Ideal S2x1024x8x64 .f32) (co si : FVec Ideal S1024x2x16 .f32) (u : Fin 2) (s : Fin 1024) (h : Fin 8) (d : Fin 64) :
    ROPE zk co si (ix4 u s h d) = if hd : d.val % 32 < 16
      then zk (ix4 u s h d) * co (ix3 s ⟨d.val / 32, by omega⟩ ⟨d.val % 16, by omega⟩)
        - zk (ix4 u s h ⟨d.val + 16, by omega⟩) * si (ix3 s ⟨d.val / 32, by omega⟩ ⟨d.val % 16, by omega⟩)
      else zk (ix4 u s h ⟨d.val - 16, by omega⟩) * si (ix3 s ⟨d.val / 32, by omega⟩ ⟨d.val % 16, by omega⟩)
        + zk (ix4 u s h d) * co (ix3 s ⟨d.val / 32, by omega⟩ ⟨d.val % 16, by omega⟩) := by
  pointwise [ROPE]
  by_cases hd : d.val % 32 < 16
  · have e1 : d.val / 32 * 32 + d.val % 16 = d.val := by omega
    have e2 : d.val / 32 * 32 + 16 + d.val % 16 = d.val + 16 := by omega
    refine (dif_pos (show d.val / 16 % 2 < 1 by omega)).trans (Eq.trans ?_ (dif_pos hd).symm)
    simp only [e1, e2, Fin.eta]
  · have e1 : d.val / 32 * 32 + d.val % 16 = d.val - 16 := by omega
    have e2 : d.val / 32 * 32 + 16 + d.val % 16 = d.val := by omega
    refine (dif_neg (show ¬ d.val / 16 % 2 < 1 by omega)).trans (Eq.trans ?_ (dif_neg hd).symm)
    simp only [e1, e2, Fin.eta]

/-- The queries without a position, at an index. -/
theorem REF0_at (X0 : FVec Ideal S6144x512 .bf16) (X1 : FVec Ideal S512x1536 .f32) (r : Fin 6144) (h : Fin 8) (d : Fin 128) : REF0 X0 X1 (ix2 r ⟨h.val * 128 + d.val, by omega⟩) = Z X0 X1 (ix2 r ⟨h.val * 192 + d.val, by omega⟩) := by
  pointwise [REF0]

/-- The context's rotary queries are not turned. -/
theorem REF1_lo (X0 : FVec Ideal S6144x512 .bf16) (X1 : FVec Ideal S512x1536 .f32) (r : Fin 6144) (h : Fin 8) (d : Fin 64) (hr : r.val < 4096) :
    REF1 X0 X1 (ix2 r ⟨h.val * 64 + d.val, by omega⟩) = Z X0 X1 (ix2 r ⟨h.val * 192 + (128 + d.val), by omega⟩) := by
  pointwise [REF1]
  rw [dif_pos hr]

/-- The samples' are. -/
theorem REF1_hi (X0 : FVec Ideal S6144x512 .bf16) (X1 : FVec Ideal S512x1536 .f32) (r : Fin 6144) (u : Fin 2) (s : Fin 1024) (h : Fin 8) (d : Fin 64) (hr : r.val = 4 * 1024 + (u.val * 1024 + s.val)) :
    REF1 X0 X1 (ix2 r ⟨h.val * 64 + d.val, by omega⟩) = ROPE (ZK (Z X0 X1)) (Host.cos ANG) (Host.sin ANG) (ix4 u s h d) := by
  pointwise [REF1]
  rw [dif_neg (by omega)]
  exact at4 _ (by dsimp only; omega) (by dsimp only; omega)

end

open Cert.Kernel8Ideal Cert.Kernel8Ideal.Gen

variable (m : (ℓ : Loc nD τ sig) → Buf (Elt Ideal) ℓ)

/-- The host's table of cosines by lane. -/
def CT (co : FVec Ideal S1024x2x16 .f32) : FVec Ideal S1024x64 .f32 :=
  concatenate S1024x64 1 [⟨S1024x16, (shapeCast S1024x16 (extractStridedSlice S1024x1x16 ![0, 0, 0] co slices_S1024x2x16_S1024x1x16_0_0_0)
    shapeCasts_S1024x1x16_S1024x16)⟩, ⟨S1024x16, (shapeCast S1024x16 (extractStridedSlice S1024x1x16 ![0, 0, 0] co slices_S1024x2x16_S1024x1x16_0_0_0)
    shapeCasts_S1024x1x16_S1024x16)⟩, ⟨S1024x16, (shapeCast S1024x16 (extractStridedSlice S1024x1x16 ![0, 1, 0] co slices_S1024x2x16_S1024x1x16_0_1_0)
    shapeCasts_S1024x1x16_S1024x16)⟩, ⟨S1024x16, (shapeCast S1024x16 (extractStridedSlice S1024x1x16 ![0, 1, 0] co slices_S1024x2x16_S1024x1x16_0_1_0)
    shapeCasts_S1024x1x16_S1024x16)⟩] concatenates_S1024x16_S1024x16_S1024x16_S1024x16_S1024x64_d1

/-- The host's table of signed sines by lane. -/
def ST (si : FVec Ideal S1024x2x16 .f32) : FVec Ideal S1024x64 .f32 :=
  concatenate S1024x64 1 [⟨S1024x16, Host.negf (shapeCast S1024x16 (extractStridedSlice S1024x1x16 ![0, 0, 0] si slices_S1024x2x16_S1024x1x16_0_0_0)
    shapeCasts_S1024x1x16_S1024x16)⟩, ⟨S1024x16, (shapeCast S1024x16 (extractStridedSlice S1024x1x16 ![0, 0, 0] si slices_S1024x2x16_S1024x1x16_0_0_0)
    shapeCasts_S1024x1x16_S1024x16)⟩, ⟨S1024x16, Host.negf (shapeCast S1024x16 (extractStridedSlice S1024x1x16 ![0, 1, 0] si
    slices_S1024x2x16_S1024x1x16_0_1_0) shapeCasts_S1024x1x16_S1024x16)⟩, ⟨S1024x16, (shapeCast S1024x16 (extractStridedSlice S1024x1x16 ![0, 1, 0] si
    slices_S1024x2x16_S1024x1x16_0_1_0) shapeCasts_S1024x1x16_S1024x16)⟩] concatenates_S1024x16_S1024x16_S1024x16_S1024x16_S1024x64_d1

/-- The cosine table at an index. -/
theorem CT_at (co : FVec Ideal S1024x2x16 .f32) (s : Fin 1024) (d : Fin 64) :
    CT co (ix2 s d) = co (ix3 s ⟨d.val / 32, by omega⟩ ⟨d.val % 16, by omega⟩) := by
  pointwise [CT]
  split_ifs <;> exact at3 _ rfl (by dsimp only; omega) (by dsimp only; omega)

/-- The signed sine table at an index. -/
theorem ST_at (si : FVec Ideal S1024x2x16 .f32) (s : Fin 1024) (d : Fin 64) :
    ST si (ix2 s d) = if d.val % 32 < 16 then -(si (ix3 s ⟨d.val / 32, by omega⟩ ⟨d.val % 16, by omega⟩) : EReal)
      else si (ix3 s ⟨d.val / 32, by omega⟩ ⟨d.val % 16, by omega⟩) := by
  pointwise [ST]
  by_cases h : d.val % 32 < 16
  · rw [if_pos h]
    split_ifs <;> first | exact congrArg (fun x : EReal => -x) (at3 _ rfl (by dsimp only; omega) (by dsimp only; omega)) | (exfalso; omega)
  · rw [if_neg h]
    split_ifs <;> first | exact at3 _ rfl (by dsimp only; omega) (by dsimp only; omega) | (exfalso; omega)

/-- The words that name each lane's partner. -/
def WORDS : IVec S64x1 32 :=
  broadcastInDim S64x1 ![0] bcast_S64_S64x1_0 (select (cmpi .slt (fun i => lit0 (S64.rowMajor i)) (broadcastInDim S64 ![] bcast_S_S64 (constantI S_ 32 0#32)))
    (addi (fun i => lit0 (S64.rowMajor i)) (broadcastInDim S64 ![] bcast_S_S64 (constantI S_ 32 64#32))) (fun i => lit0 (S64.rowMajor i)))

/-- A lane's partner. -/
def swap (d : ℕ) : ℕ := if d % 32 < 16 then d + 16 else d - 16

/-- The words are the partners. -/
theorem words : ∀ d : Fin 64, min (WORDS (ix2 d 0)).toInt.toNat (64 - 1) = swap d.val := by
  decide +kernel

/-- The weight by heads. -/
def WH (w : FVec Ideal S512x1536 .f32) : FVec Ideal S512x8x192 .f32 := shapeCast S512x8x192 w shapeCasts_S512x1536_S512x8x192

/-- The weight's rotary columns by heads. -/
def WK (w : FVec Ideal S512x1536 .f32) : FVec Ideal S512x8x64 .f32 := extractStridedSlice S512x8x64 ![0, 0, 128] (WH w) slices_S512x8x192_S512x8x64_0_0_128

/-- The weight's partner columns by heads. -/
def WS (w : FVec Ideal S512x1536 .f32) : FVec Ideal S512x8x64 .f32 := Host.gather gather_S512x8x64_S64x1_S512x8x64_01_2_n_n_2_1_51281 (WK w) WORDS

/-- The weight's rotary columns at an index. -/
theorem WK_at (w : FVec Ideal S512x1536 .f32) (k : Fin 512) (h : Fin 8) (d : Fin 64) (i : Fin 1536) (hi : i.val = h.val * 192 + (128 + d.val)) :
    WK w (ix3 k h d) = w (ix2 k i) := by
  rw [show i = ⟨h.val * 192 + (128 + d.val), by omega⟩ from Fin.ext hi]
  pointwise [WK, WH]

/-- The partner columns at an index. -/
theorem WS_at (w : FVec Ideal S512x1536 .f32) (k : Fin 512) (h : Fin 8) (d : Fin 64) (i : Fin 1536) (hi : i.val = h.val * 192 + (128 + swap d.val)) :
    WS w (ix3 k h d) = w (ix2 k i) := by
  have hb : min (WORDS (ix2 d 0)).toInt.toNat (64 - 1) < 64 := by omega
  refine Eq.trans ?_ (WK_at w k h ⟨min (WORDS (ix2 d 0)).toInt.toNat (64 - 1), hb⟩ i (by dsimp only; rw [words d]; exact hi))
  unfold WS Host.gather
  congr 1
  funext a
  refine Fin.ext ?_
  show GatherDims.start gather_S512x8x64_S64x1_S512x8x64_01_2_n_n_2_1_51281 (ix3 k h d) WORDS a + GatherDims.batchCoord gather_S512x8x64_S64x1_S512x8x64_01_2_n_n_2_1_51281 (ix3 k h d) a + GatherDims.offCoord gather_S512x8x64_S64x1_S512x8x64_01_2_n_n_2_1_51281 (ix3 k h d) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · have h0 : GatherDims.start gather_S512x8x64_S64x1_S512x8x64_01_2_n_n_2_1_51281 (ix3 k h d) WORDS 0 = 0 := rfl
    rw [h0]
    show 0 + 0 + k.val = k.val
    omega
  · have h0 : GatherDims.start gather_S512x8x64_S64x1_S512x8x64_01_2_n_n_2_1_51281 (ix3 k h d) WORDS 1 = 0 := rfl
    rw [h0]
    show 0 + 0 + h.val = h.val
    omega
  · rw [GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S512x8x64_S64x1_S512x8x64_01_2_n_n_2_1_51281.startIndexMap from List.mem_singleton.mpr rfl)]
    have hsi : gather_S512x8x64_S64x1_S512x8x64_01_2_n_n_2_1_51281.siIdx (ix3 k h d) ⟨List.idxOf (2 : Fin 3) gather_S512x8x64_S64x1_S512x8x64_01_2_n_n_2_1_51281.startIndexMap,
        List.idxOf_lt_length_iff.2 (List.mem_singleton.mpr rfl)⟩ = ix2 d 0 := by
      funext b; refine Fin.ext ?_
      match b with
      | ⟨0, _⟩ => rfl
      | ⟨1, _⟩ => rfl
    rw [hsi]
    rfl

/-- The weight the call reads: the columns without a position, the rotary columns, and each column's partner. -/
def W2 (w : FVec Ideal S512x1536 .f32) : FVec Ideal S512x2048 .f32 :=
  concatenate S512x2048 1 [⟨S512x1024, shapeCast S512x1024 (extractStridedSlice S512x8x128 ![0, 0, 0] (WH w) slices_S512x8x192_S512x8x128_0_0_0) shapeCasts_S512x8x128_S512x1024⟩,
    ⟨S512x512, shapeCast S512x512 (WK w) shapeCasts_S512x8x64_S512x512⟩, ⟨S512x512, shapeCast S512x512 (WS w) shapeCasts_S512x8x64_S512x512⟩]
    concatenates_S512x1024_S512x512_S512x512_S512x2048_d1

/-- The weight's columns without a position. -/
theorem W2_n (w : FVec Ideal S512x1536 .f32) (k : Fin 512) (h : Fin 8) (d : Fin 128) : W2 w (ix2 k ⟨h.val * 128 + d.val, by omega⟩) = w (ix2 k ⟨h.val * 192 + d.val, by omega⟩) := by
  pointwise [W2, WH]
  rw [dif_pos (by omega)]

/-- The weight's rotary columns. -/
theorem W2_r (w : FVec Ideal S512x1536 .f32) (k : Fin 512) (h : Fin 8) (d : Fin 64) (i : Fin 1536) (hi : i.val = h.val * 192 + (128 + d.val)) :
    W2 w (ix2 k ⟨1024 + (h.val * 64 + d.val), by omega⟩) = w (ix2 k i) := by
  rw [← WK_at w k h d i hi]
  pointwise [W2]
  rw [dif_pos (by omega)]

/-- The weight's partner columns. -/
theorem W2_s (w : FVec Ideal S512x1536 .f32) (k : Fin 512) (h : Fin 8) (d : Fin 64) (i : Fin 1536) (hi : i.val = h.val * 192 + (128 + swap d.val)) :
    W2 w (ix2 k ⟨1536 + (h.val * 64 + d.val), by omega⟩) = w (ix2 k i) := by
  rw [← WS_at w k h d i hi]
  pointwise [W2]
  rw [dif_neg (by omega), dif_neg (by omega)]
  exact at3 (WS w) rfl (by dsimp only; omega) (by dsimp only; omega)

/-- The call's array. -/
def MM (X0 : FVec Ideal S6144x512 .bf16) (X1 : FVec Ideal S512x1536 .f32) (j : S6144x2048.Idx) : EReal := ∑ k : Fin 512, X0 (ix2 (j 0) k) * W2 X1 (ix2 k (j 1))

/-- The call's first columns are the projection's without a position. -/
theorem MM_n (X0 : FVec Ideal S6144x512 .bf16) (X1 : FVec Ideal S512x1536 .f32) (r : Fin 6144) (h : Fin 8) (d : Fin 128) : MM X0 X1 (ix2 r ⟨h.val * 128 + d.val, by omega⟩) = Z X0 X1 (ix2 r ⟨h.val * 192 + d.val, by omega⟩) :=
  (Finset.sum_congr rfl fun k _ => congrArg (X0 (ix2 r k) * ·) (W2_n X1 k h d)).trans (Z_at X0 X1 r _).symm

/-- The call's next columns are the projection's rotary columns. -/
theorem MM_r (X0 : FVec Ideal S6144x512 .bf16) (X1 : FVec Ideal S512x1536 .f32) (r : Fin 6144) (h : Fin 8) (d : Fin 64) (i : Fin 1536) (hi : i.val = h.val * 192 + (128 + d.val)) :
    MM X0 X1 (ix2 r ⟨1024 + (h.val * 64 + d.val), by omega⟩) = Z X0 X1 (ix2 r i) :=
  (Finset.sum_congr rfl fun k _ => congrArg (X0 (ix2 r k) * ·) (W2_r X1 k h d i hi)).trans (Z_at X0 X1 r i).symm

/-- The call's last columns are the partners. -/
theorem MM_s (X0 : FVec Ideal S6144x512 .bf16) (X1 : FVec Ideal S512x1536 .f32) (r : Fin 6144) (h : Fin 8) (d : Fin 64) (i : Fin 1536) (hi : i.val = h.val * 192 + (128 + swap d.val)) :
    MM X0 X1 (ix2 r ⟨1536 + (h.val * 64 + d.val), by omega⟩) = Z X0 X1 (ix2 r i) :=
  (Finset.sum_congr rfl fun k _ => congrArg (X0 (ix2 r k) * ·) (W2_s X1 k h d i hi)).trans (Z_at X0 X1 r i).symm

/-- Where the windows are at a grid point. -/
theorem idx : ∀ t : Fin cfg0.N, win0_0.index t = ![t.val / 2, 0] ∧ win0_1.index t = ![0, t.val % 2] ∧ win0_2.index t = ![t.val / 2, t.val % 2] := (by decide +kernel : ∀ t : Fin grid0.N, _)

/-- The weight as the call finds it. -/
theorem V56 (c : Dev nD) : V m c main_v56 = W2 (m ((c : Thread nD τ).loc main_arg1)) := by
  show StableHlo.after (List.flatten [hostOps0]) (fun b => m (c, b)) (Proc.devRef .tc main_v56) = _
  simp only [List.flatten_cons, List.flatten_nil, List.append_nil]
  after_results
  rfl

/-- The cosine table as the host leaves it. -/
theorem V31 (c : Dev nD) : V m c main_v31 = CT (Host.cos ANG) := by
  show StableHlo.after (List.flatten [hostOps0]) (fun b => m (c, b)) (Proc.devRef .tc main_v31) = _
  simp only [List.flatten_cons, List.flatten_nil, List.append_nil]
  after_results
  rfl

/-- The sine table as the host leaves it. -/
theorem V42 (c : Dev nD) : V m c main_v42 = ST (Host.sin ANG) := by
  show StableHlo.after (List.flatten [hostOps0]) (fun b => m (c, b)) (Proc.devRef .tc main_v42) = _
  simp only [List.flatten_cons, List.flatten_nil, List.append_nil]
  after_results
  rfl

/-- The rows' block at an index. -/
theorem blk0 (c : Dev nD) (t : Fin cfg0.N) (a : Fin 1024) (k : Fin 512) (r : Fin 6144) (hr : r.val = t.val / 2 * 1024 + a.val) :
    iblk m c 0 t (ix2 a k) = (m ((c : Thread nD τ).loc main_arg0)) (ix2 r k) := by
  rw [show r = ⟨t.val / 2 * 1024 + a.val, by omega⟩ from Fin.ext hr]
  blk_point [iblk, V, idx t]

/-- The weight's block at an index. -/
theorem blk1 (c : Dev nD) (t : Fin cfg0.N) (k : Fin 512) (b : Fin 1024) (j : Fin 2048) (hj : j.val = t.val % 2 * 1024 + b.val) :
    iblk m c 1 t (ix2 k b) = W2 (m ((c : Thread nD τ).loc main_arg1)) (ix2 k j) := by
  rw [show j = ⟨t.val % 2 * 1024 + b.val, by omega⟩ from Fin.ext hj]
  unfold iblk
  blk_simp
  show V m c main_v56 _ = _
  rw [V56]
  refine congrArg (W2 (m ((c : Thread nD τ).loc main_arg1))) ?_
  blk_ext [idx t]

/-- A grid point's block, at an index, is the product's. -/
theorem point (c : Dev nD) (t : Fin cfg0.N) (a b : Fin 1024) (r : Fin 6144) (j : Fin 2048) (hr : r.val = t.val / 2 * 1024 + a.val) (hj : j.val = t.val % 2 * 1024 + b.val) :
    k0_pay1 (iblk m c 0 t) (iblk m c 1 t) (ix2 a b) = MM (m ((c : Thread nD τ).loc main_arg0)) (m ((c : Thread nD τ).loc main_arg1)) (ix2 r j) := by
  pointwise [k0_pay1, MM]
  exact Finset.sum_congr rfl fun k _ => congrArg₂ (fun x y : EReal => x * y) (blk0 m c t a k r hr) (blk1 m c t k b j hj)

/-- The call's array is the product. -/
theorem final (c : Dev nD) : (dats m 0 c).arrAt 2 cfg0.N = MM (m ((c : Thread nD τ).loc main_arg0)) (m ((c : Thread nD τ).loc main_arg1)) := by
  refine (dats m 0 c).arrAt_eq_of_covers 2 _ (by decide +kernel) fun t _ y => ?_
  have ht : t.val < 12 := t.isLt
  have hi := (idx t).2.2
  blk_simp
  rw [after0_2]
  frame_out
  idx_vars y
  refine (point m c t y0 y1 ⟨t.val / 2 * 1024 + y0.val, by omega⟩ ⟨t.val % 2 * 1024 + y1.val, by omega⟩ rfl rfl).trans (congrArg _ ?_)
  blk_ext [idx t]

/-- The rotation is the table's products: the first lane of a pair subtracts, the second adds. -/
theorem rope (x p co si : EReal) : x * co + p * (-si) = x * co - p * si := by
  rw [mul_neg, sub_eq_add_neg]

/-- The samples' queries from the call's array are the reference's. -/
theorem rotated (X0 : FVec Ideal S6144x512 .bf16) (X1 : FVec Ideal S512x1536 .f32) (u : Fin 2) (s : Fin 1024) (h : Fin 8) (d : Fin 64) (r : Fin 6144)
    (hr : r.val = 4 * 1024 + (u.val * 1024 + s.val)) (co si : FVec Ideal S1024x2x16 .f32) :
    MM X0 X1 (ix2 r ⟨1024 + (h.val * 64 + d.val), by omega⟩) * CT co (ix2 s d) + MM X0 X1 (ix2 r ⟨1536 + (h.val * 64 + d.val), by omega⟩) * ST si (ix2 s d)
      = ROPE (ZK (Z X0 X1)) co si (ix4 u s h d) := by
  have ho : h.val * 192 + (128 + swap d.val) < 1536 := by unfold swap; split_ifs <;> omega
  rw [ROPE_at, CT_at, ST_at, MM_r X0 X1 r h d ⟨h.val * 192 + (128 + d.val), by omega⟩ rfl, MM_s X0 X1 r h d ⟨h.val * 192 + (128 + swap d.val), ho⟩ rfl]
  rw [ZK_at (Z X0 X1) u s h d r ⟨h.val * 192 + (128 + d.val), by omega⟩ hr rfl]
  by_cases hd : d.val % 32 < 16
  · rw [dif_pos hd, if_pos hd, rope]
    rw [ZK_at (Z X0 X1) u s h ⟨d.val + 16, _⟩ r ⟨h.val * 192 + (128 + swap d.val), ho⟩ hr (by dsimp only; unfold swap; rw [if_pos (by omega)])]
  · rw [dif_neg hd, if_neg hd]
    rw [ZK_at (Z X0 X1) u s h ⟨d.val - 16, _⟩ r ⟨h.val * 192 + (128 + swap d.val), ho⟩ hr (by dsimp only; unfold swap; rw [if_neg (by omega)])]
    exact add_comm _ _

/-- What the host makes of the call's array: the queries without a position. -/
theorem tail76 (c : Dev nD) : Pipeline.afterTail₀ cfgs (dats m) 0 (Gen.V0 m) [hostOps1] c main_v76
    = extractStridedSlice S6144x1024 ![0, 0] ((dats m 0 c).arrAt 2 cfg0.N) slices_S6144x2048_S6144x1024_0_0 := by
  unfold Pipeline.afterTail₀
  simp only [List.flatten_cons, List.flatten_nil, List.append_nil]
  after_results
  exact congrArg (fun A => extractStridedSlice S6144x1024 ![0, 0] A slices_S6144x2048_S6144x1024_0_0)
    ((dats m 0 c).withArrays_arrAt (by decide) (Gen.V0 m c) (fun _ => rfl) 2)

/-- A table for every sample and head, as the rows and columns of the rotary queries. -/
def TILE (ct : FVec Ideal S1024x64 .f32) : FVec Ideal S2048x512 .f32 :=
  shapeCast S2048x512 (broadcastInDim S2x1024x8x64 ![0, 1, 2, 3] bcast_S1x1024x1x64_S2x1024x8x64_0_1_2_3 (shapeCast S1x1024x1x64 ct shapeCasts_S1024x64_S1x1024x1x64)) shapeCasts_S2x1024x8x64_S2048x512

/-- The rotary columns, or the partners, of the call's array. -/
def PART (A : FVec Ideal S6144x2048 .bf16) : FVec Ideal S6144x512 .f32 :=
  extf .f32 (extractStridedSlice S6144x512 ![0, 1024] A slices_S6144x2048_S6144x512_0_1024) bitsLt_bf16_f32

/-- The partner columns of the call's array. -/
def PARTS (A : FVec Ideal S6144x2048 .bf16) : FVec Ideal S6144x512 .f32 :=
  extf .f32 (extractStridedSlice S6144x512 ![0, 1536] A slices_S6144x2048_S6144x512_0_1536) bitsLt_bf16_f32

/-- The samples' turned queries. -/
def TURN (a b : FVec Ideal S6144x512 .f32) (ct st : FVec Ideal S2048x512 .f32) : FVec Ideal S2048x512 .f32 :=
  addf (mulf (extractStridedSlice S2048x512 ![4096, 0] a slices_S6144x512_S2048x512_4096_0) ct)
    (mulf (extractStridedSlice S2048x512 ![4096, 0] b slices_S6144x512_S2048x512_4096_0) st)

/-- The rotary queries from the call's array and the tables. -/
def ROT (A : FVec Ideal S6144x2048 .bf16) (ct st : FVec Ideal S1024x64 .f32) : FVec Ideal S6144x512 .bf16 :=
  truncf .bf16 (concatenate S6144x512 0 [⟨S4096x512, extractStridedSlice S4096x512 ![0, 0] (PART A) slices_S6144x512_S4096x512_0_0⟩,
    ⟨S2048x512, TURN (PART A) (PARTS A) (TILE ct) (TILE st)⟩] concatenates_S4096x512_S2048x512_S6144x512_d0) bitsLt_bf16_f32

/-- A table's tile at an index. -/
theorem TILE_at (ct : FVec Ideal S1024x64 .f32) (p : Fin 2048) (u : Fin 2) (s : Fin 1024) (h : Fin 8) (d : Fin 64) (hp : p.val = u.val * 1024 + s.val) :
    TILE ct (ix2 p ⟨h.val * 64 + d.val, by omega⟩) = ct (ix2 s d) := by
  rw [show p = ⟨u.val * 1024 + s.val, by omega⟩ from Fin.ext hp]
  pointwise [TILE]

/-- The turned queries at an index. -/
theorem TURN_at (a b : FVec Ideal S6144x512 .f32) (ct st : FVec Ideal S2048x512 .f32) (p : Fin 2048) (j : Fin 512) (r : Fin 6144) (hr : r.val = 4096 + p.val) :
    TURN a b ct st (ix2 p j) = a (ix2 r j) * ct (ix2 p j) + b (ix2 r j) * st (ix2 p j) := by
  have e : r = ⟨4096 + p.val, by omega⟩ := Fin.ext hr
  pointwise [TURN]
  rw [e]

/-- The rotary columns at an index. -/
theorem PART_at (A : FVec Ideal S6144x2048 .bf16) (r : Fin 6144) (j : Fin 512) : PART A (ix2 r j) = A (ix2 r ⟨1024 + j.val, by omega⟩) := by
  pointwise [PART]

/-- The partner columns at an index. -/
theorem PARTS_at (A : FVec Ideal S6144x2048 .bf16) (r : Fin 6144) (j : Fin 512) : PARTS A (ix2 r j) = A (ix2 r ⟨1536 + j.val, by omega⟩) := by
  pointwise [PARTS]

/-- The context's rows of the rotary queries. -/
theorem ROT_lo (A : FVec Ideal S6144x2048 .bf16) (ct st : FVec Ideal S1024x64 .f32) (r : Fin 6144) (j : Fin 512) (hr : r.val < 4096) :
    ROT A ct st (ix2 r j) = A (ix2 r ⟨1024 + j.val, by omega⟩) := by
  rw [← PART_at A r j]
  pointwise [ROT]
  rw [dif_pos hr]

/-- The samples' rows of them. -/
theorem ROT_hi (A : FVec Ideal S6144x2048 .bf16) (ct st : FVec Ideal S1024x64 .f32) (r : Fin 6144) (u : Fin 2) (s : Fin 1024) (h : Fin 8) (d : Fin 64)
    (hr : r.val = 4 * 1024 + (u.val * 1024 + s.val)) :
    ROT A ct st (ix2 r ⟨h.val * 64 + d.val, by omega⟩)
      = A (ix2 r ⟨1024 + (h.val * 64 + d.val), by omega⟩) * ct (ix2 s d)
        + A (ix2 r ⟨1536 + (h.val * 64 + d.val), by omega⟩) * st (ix2 s d) := by
  have hp : r.val - 4096 < 2048 := by omega
  have e : ROT A ct st (ix2 r ⟨h.val * 64 + d.val, by omega⟩)
      = TURN (PART A) (PARTS A) (TILE ct) (TILE st) (ix2 ⟨r.val - 4096, hp⟩ ⟨h.val * 64 + d.val, by omega⟩) := by
    pointwise [ROT]
    rw [dif_neg (by omega)]
  rw [e, TURN_at _ _ _ _ ⟨r.val - 4096, hp⟩ _ r (by dsimp only; omega), PART_at, PARTS_at,
    TILE_at ct ⟨r.val - 4096, hp⟩ u s h d (by dsimp only; omega), TILE_at st ⟨r.val - 4096, hp⟩ u s h d (by dsimp only; omega)]

/-- What the host makes of the call's array: the rotary queries. -/
theorem tail75 (c : Dev nD) : Pipeline.afterTail₀ cfgs (dats m) 0 (Gen.V0 m) [hostOps1] c main_v75
    = ROT ((dats m 0 c).arrAt 2 cfg0.N) (CT (Host.cos ANG)) (ST (Host.sin ANG)) := by
  have e31 : Pipeline.withArrays spec0 c (Gen.V0 m c) (fun w => (dats m 0 c).arrAt w cfg0.N) (Proc.devRef .tc main_v31) = CT (Host.cos ANG) :=
    (Pipeline.withArrays_of_ne _ c (Gen.V0 m c) _ main_v31 (by exact (by decide : ∀ w, Pipeline.arrRef spec0 w ≠ main_v31))).trans (V31 m c)
  have e42 : Pipeline.withArrays spec0 c (Gen.V0 m c) (fun w => (dats m 0 c).arrAt w cfg0.N) (Proc.devRef .tc main_v42) = ST (Host.sin ANG) :=
    (Pipeline.withArrays_of_ne _ c (Gen.V0 m c) _ main_v42 (by exact (by decide : ∀ w, Pipeline.arrRef spec0 w ≠ main_v42))).trans (V42 m c)
  have e57 := (dats m 0 c).withArrays_arrAt (by decide) (Gen.V0 m c) (fun _ => rfl) 2
  unfold Pipeline.afterTail₀
  simp only [List.flatten_cons, List.flatten_nil, List.append_nil]
  after_results
  rw [← e31, ← e42, ← e57]
  rfl

/-- The queries without a position are the reference's. -/
theorem res76 (c : Dev nD) : Pipeline.afterTail₀ cfgs (dats m) 0 (Gen.V0 m) [hostOps1] c main_v76 = REF0 (m ((c : Thread nD τ).loc main_arg0)) (m ((c : Thread nD τ).loc main_arg1)) := by
  rw [tail76, final]
  funext j
  idx_vars j
  obtain ⟨h, d, hj⟩ : ∃ (h : Fin 8) (d : Fin 128), j1 = ⟨h.val * 128 + d.val, by omega⟩ := ⟨⟨j1.val / 128, by omega⟩, ⟨j1.val % 128, by omega⟩, Fin.ext (by dsimp only; omega)⟩
  subst hj
  refine Eq.trans ?_ ((MM_n _ _ j0 h d).trans (REF0_at _ _ j0 h d).symm)
  pointwise

/-- The rotary queries are the reference's. -/
theorem res75 (c : Dev nD) : Pipeline.afterTail₀ cfgs (dats m) 0 (Gen.V0 m) [hostOps1] c main_v75 = REF1 (m ((c : Thread nD τ).loc main_arg0)) (m ((c : Thread nD τ).loc main_arg1)) := by
  rw [tail75, final]
  funext j
  idx_vars j
  obtain ⟨h, d, hj⟩ : ∃ (h : Fin 8) (d : Fin 64), j1 = ⟨h.val * 64 + d.val, by omega⟩ := ⟨⟨j1.val / 64, by omega⟩, ⟨j1.val % 64, by omega⟩, Fin.ext (by dsimp only; omega)⟩
  subst hj
  by_cases hr : j0.val < 4096
  · rw [ROT_lo _ _ _ j0 _ hr, REF1_lo _ _ j0 h d hr]
    exact MM_r _ _ j0 h d _ rfl
  · obtain ⟨u, s, hj⟩ : ∃ (u : Fin 2) (s : Fin 1024), j0.val = 4 * 1024 + (u.val * 1024 + s.val) :=
      ⟨⟨(j0.val - 4096) / 1024, by omega⟩, ⟨(j0.val - 4096) % 1024, by omega⟩, by dsimp only; omega⟩
    rw [ROT_hi _ _ _ j0 u s h d hj, REF1_hi _ _ j0 u s h d hj]
    exact rotated _ _ u s h d _ hj _ _

end Cert.Proof.Query

end
-- ==== Proof.KeyValue.lean ====
/-
  The attention's keys and values: the cached and the new latents of each sample, then the context's, times the two weights side by side.
  The reference takes the products of the parts and puts them together; the kernel puts the parts together and takes one product.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.KeyValue

open Idealize.ShloMosaic Idealize.ShloMosaic.TcCoe Idealize.SL.Sem
open Idealize.ShloMosaic.Pipeline (Dat)

section

open Cert.Reference9Ideal Cert.Reference9Ideal.Gen Idealize.ShloMosaic.StableHlo

/-- Each sample's latents: the cached rows, then the new ones. -/
def CAT (X0 : FVec Ideal S2x512x512 .f32) (X1 : FVec Ideal S6144x512 .f32) : FVec Ideal S2x1536x512 .f32 :=
  concatenate S2x1536x512 1 [⟨S2x512x512, X0⟩, ⟨S2x1024x512, (shapeCast _
    (extractStridedSlice S2048x512 ![4096, 0] X1 slices_S6144x512_S2048x512_4096_0) shapeCasts_S2048x512_S2x1024x512)⟩]
    concatenates_S2x512x512_S2x1024x512_S2x1536x512_d1

/-- The context's latents. -/
def CTX (X1 : FVec Ideal S6144x512 .f32) : FVec Ideal S4096x512 .f32 := extractStridedSlice S4096x512 ![0, 0] X1 slices_S6144x512_S4096x512_0_0

/-- The reference's keys (or values): the samples' product over the context's. -/
def HALF (C : FVec Ideal S2x1536x512 .f32) (E : FVec Ideal S4096x512 .f32) (W : FVec Ideal S512x1024 .f32) : FVec Ideal S7168x1024 .f32 :=
  concatenate S7168x1024 0 [⟨S3072x1024, (shapeCast _ (Host.dotGeneral
    dot_S2x1536x512_S512x1024_S2x1536x1024_2_0_01_1_n_n none C W) shapeCasts_S2x1536x1024_S3072x1024)⟩, ⟨S4096x1024, (Host.dotGeneral
    dot_S4096x512_S512x1024_S4096x1024_1_0_0_1_n_n none E W)⟩]
    concatenates_S3072x1024_S4096x1024_S7168x1024_d0

/-- The reference's array: the keys and the values side by side. -/
def REF (X0 : FVec Ideal S2x512x512 .f32) (X1 : FVec Ideal S6144x512 .f32) (X2 X3 : FVec Ideal S512x1024 .f32) : FVec Ideal S7168x2048 .bf16 :=
  truncf .bf16 (concatenate S7168x2048 1 [⟨S7168x1024, HALF (CAT X0 X1) (CTX X1) X2⟩, ⟨S7168x1024, HALF (CAT X0 X1) (CTX X1) X3⟩]
    concatenates_S7168x1024_S7168x1024_S7168x2048_d1) bitsLt_bf16_f32

end

open Cert.Kernel9Ideal Cert.Kernel9Ideal.Gen

variable (m : (ℓ : Loc nD τ sig) → Buf (Elt Ideal) ℓ)

/-- The kernel's left operand: every latent row, the samples' before the context's. -/
def LAT (C : FVec Ideal S2x1536x512 .f32) (E : FVec Ideal S4096x512 .f32) : FVec Ideal S7168x512 .bf16 :=
  truncf .bf16 (concatenate S7168x512 0 [⟨S3072x512, shapeCast _ C shapeCasts_S2x1536x512_S3072x512⟩, ⟨S4096x512, E⟩]
    concatenates_S3072x512_S4096x512_S7168x512_d0) bitsLt_bf16_f32

/-- The kernel's right operand: the two weights side by side. -/
def UKV (X2 X3 : FVec Ideal S512x1024 .f32) : FVec Ideal S512x2048 .f32 :=
  concatenate S512x2048 1 [⟨S512x1024, X2⟩, ⟨S512x1024, X3⟩] concatenates_S512x1024_S512x1024_S512x2048_d1

/-- What the call's first window reads. -/
theorem V7 (c : Dev nD) : V m c main_v7 = LAT (CAT (m ((c : Thread nD τ).loc main_arg0)) (m ((c : Thread nD τ).loc main_arg1))) (CTX (m ((c : Thread nD τ).loc main_arg1))) := by
  entry_read
  rfl

/-- What the call's second window reads. -/
theorem V6 (c : Dev nD) : V m c main_v6 = UKV (m ((c : Thread nD τ).loc main_arg2)) (m ((c : Thread nD τ).loc main_arg3)) := by
  entry_read
  rfl

/-- The product over the parts is the parts' product, row by row. -/
theorem half_apply (C : FVec Ideal S2x1536x512 .f32) (E : FVec Ideal S4096x512 .f32) (W : FVec Ideal S512x1024 .f32)
    (r : Fin 7168) (n : Fin 1024) : HALF C E W (ix2 r n) = ∑ k : Fin 512, LAT C E (ix2 r k) * W (ix2 k n) := by
  pointwise [HALF, LAT]
  by_cases hr : r.val < 3072
  · simp only [dif_pos hr]
  · simp only [dif_neg hr]

/-- The reference's array at an index is the product of the kernel's operands there. -/
theorem ref_apply (X0 : FVec Ideal S2x512x512 .f32) (X1 : FVec Ideal S6144x512 .f32) (X2 X3 : FVec Ideal S512x1024 .f32)
    (r : Fin 7168) (n : Fin 2048) :
    REF X0 X1 X2 X3 (ix2 r n) = ∑ k : Fin 512, LAT (CAT X0 X1) (CTX X1) (ix2 r k) * UKV X2 X3 (ix2 k n) := by
  pointwise [REF, UKV, half_apply]
  by_cases hn : n.val < 1024
  · simp only [dif_pos hn]
  · simp only [dif_neg hn]

/-- Block indices of every grid point. -/
theorem idx : ∀ t : Fin cfg0.N, win0_0.index t = ![t.val / 2, 0] ∧ win0_1.index t = ![0, t.val % 2]
    ∧ win0_2.index t = ![t.val / 2, t.val % 2] ∧ t.val / 2 < 14 := (by decide +kernel : ∀ t : Fin grid0.N, _)

/-- A row block of the latents. -/
theorem blk0 (c : Dev nD) (t : Fin cfg0.N) (a b : Fin 512) (r : Fin 7168) (hr : r.val = t.val / 2 * 512 + a.val) :
    iblk m c 0 t (ix2 a b) = V m c main_v7 (ix2 r b) := by
  unfold iblk
  blk_ext [idx t]
  all_goals omega

/-- A column block of the weights. -/
theorem blk1 (c : Dev nD) (t : Fin cfg0.N) (a : Fin 512) (b : Fin 1024) (n : Fin 2048) (hn : n.val = t.val % 2 * 1024 + b.val) :
    iblk m c 1 t (ix2 a b) = V m c main_v6 (ix2 a n) := by
  unfold iblk
  blk_ext [idx t]
  all_goals omega

/-- A block's point of the result. -/
theorem point (c : Dev nD) (t : Fin cfg0.N) (a : Fin 512) (b : Fin 1024) (r : Fin 7168) (n : Fin 2048) (hr : r.val = t.val / 2 * 512 + a.val)
    (hn : n.val = t.val % 2 * 1024 + b.val) : k0_pay1 (iblk m c 0 t) (iblk m c 1 t) (ix2 a b) = REF (m ((c : Thread nD τ).loc main_arg0)) (m ((c : Thread nD τ).loc main_arg1)) (m ((c : Thread nD τ).loc main_arg2)) (m ((c : Thread nD τ).loc main_arg3)) (ix2 r n) := by
  rw [ref_apply, ← V7, ← V6]
  pointwise [k0_pay1]
  exact Finset.sum_congr rfl fun k _ => by rw [blk0 m c t a k r hr, blk1 m c t k b n hn]

/-- The output after the whole grid is the reference's array. -/
theorem final (c : Dev nD) : (dats m 0 c).arrAt 2 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t _ y => ?_
  blk_simp
  rw [after0_2]
  frame_out
  idx_vars y
  have h := (idx t).2.2.2
  refine (point m c t y0 y1 ⟨t.val / 2 * 512 + y0.val, by omega⟩ ⟨t.val % 2 * 1024 + y1.val, by omega⟩ rfl rfl).trans (congrArg _ ?_)
  blk_ext [idx t]

end Cert.Proof.KeyValue

end
-- ==== Proof.Glu.lean ====
/-
  The state-space branch's gated unit on the latents' rows, written beside the context's.
-/
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Glu

open Idealize.ShloMosaic Idealize.ShloMosaic.TcCoe Idealize.SL.Sem
open Idealize.ShloMosaic.Pipeline (Dat)

section

open Cert.Reference10Ideal Cert.Reference10Ideal.Gen Idealize.ShloMosaic.StableHlo

/-- The unit's argument: the two scans' outputs and the skip. -/
def XS (X0 : FVec Ideal S2048x1024 .f32) (X1 : FVec Ideal S2048x1024 .f32) (X2 : FVec Ideal S2048x1024 .f32) (X3 : FVec Ideal S1024 .f32) : FVec Ideal S2048x1024 .f32 :=
  addf (addf X0 X1) (mulf (broadcastInDim S2048x1024 ![0, 1] bcast_S1x1024_S2048x1024_0_1 (broadcastInDim S1x1024 ![1] bcast_S1024_S1x1024_1 X3)) X2)

/-- The activation, by its hyperbolic tangent. -/
def GELU (x : FVec Ideal S2048x1024 .f32) : FVec Ideal S2048x1024 .f32 :=
  mulf x (mulf (broadcastInDim S2048x1024 ![] bcast_S_S2048x1024 (constant (F := Ideal) S_ .f32 0x3F000000#32)) (addf (broadcastInDim S2048x1024 ![]
    bcast_S_S2048x1024 (constant (F := Ideal) S_ .f32 0x3F800000#32)) (Host.tanh (mulf (broadcastInDim S2048x1024 ![] bcast_S_S2048x1024 (constant (F
    := Ideal) S_ .f32 0x3F4C422A#32)) (addf x (mulf (broadcastInDim S2048x1024 ![] bcast_S_S2048x1024 (constant (F := Ideal) S_ .f32 0x3D372713#32))
    (mulf (mulf x x) x)))))))

/-- The gated product. -/
def GATED (y : FVec Ideal S2048x1024 .f32) (X4 : FVec Ideal S1024x1024 .f32) (X5 : FVec Ideal S1024x1024 .f32) : FVec Ideal S2048x1024 .bf16 :=
  truncf .bf16 (mulf (Host.dotGeneral dot_S2048x1024_S1024x1024_S2048x1024_1_0_0_1_n_n none y X4) (Host.divf (broadcastInDim S2048x1024 ![]
    bcast_S_S2048x1024 (constant (F := Ideal) S_ .f32 0x3F800000#32)) (addf (broadcastInDim S2048x1024 ![] bcast_S_S2048x1024 (constant (F := Ideal)
    S_ .f32 0x3F800000#32)) (Host.exp (Host.negf (Host.dotGeneral dot_S2048x1024_S1024x1024_S2048x1024_1_0_0_1_n_n none y X5)))))) bitsLt_bf16_f32

/-- The reference: the context's rows as they came, and the latents' gated product. -/
def REF (X0 : FVec Ideal S2048x1024 .f32) (X1 : FVec Ideal S2048x1024 .f32) (X2 : FVec Ideal S2048x1024 .f32) (X3 : FVec Ideal S1024 .f32) (X4 : FVec Ideal S1024x1024 .f32) (X5 : FVec Ideal S1024x1024 .f32) (X6 : FVec Ideal S6144x1024 .bf16) : FVec Ideal S6144x1024 .bf16 :=
  concatenate S6144x1024 0 [⟨S4096x1024, (extractStridedSlice S4096x1024 ![0, 0] X6 slices_S6144x1024_S4096x1024_0_0)⟩, ⟨S2048x1024, GATED (GELU (XS
    X0 X1 X2 X3)) X4 X5⟩] concatenates_S4096x1024_S2048x1024_S6144x1024_d0

/-- The activation of a number. -/
def gelu (x : EReal) : EReal :=
  x * (Ideal.ofBits .f32 0x3F000000#32 * (Ideal.ofBits .f32 0x3F800000#32 + Ideal.tanh (Ideal.ofBits .f32 0x3F4C422A#32 * (x + Ideal.ofBits .f32 0x3D372713#32 * (x * (x * x))))))

/-- The unit's argument at an index. -/
theorem XS_at (X0 : FVec Ideal S2048x1024 .f32) (X1 : FVec Ideal S2048x1024 .f32) (X2 : FVec Ideal S2048x1024 .f32) (X3 : FVec Ideal S1024 .f32) (r : Fin 2048) (k : Fin 1024) :
    XS X0 X1 X2 X3 (ix2 r k) = X0 (ix2 r k) + X1 (ix2 r k) + X3 (ix1 k) * X2 (ix2 r k) := by
  pointwise [XS]

/-- The activation at an index. -/
theorem GELU_at (x : FVec Ideal S2048x1024 .f32) (r : Fin 2048) (k : Fin 1024) : GELU x (ix2 r k) = gelu (x (ix2 r k)) := by
  pointwise [GELU, gelu]
  rw [mul_comm (x (ix2 r k) * x (ix2 r k)) (x (ix2 r k))]

/-- The gated product at an index. -/
theorem GATED_at (y : FVec Ideal S2048x1024 .f32) (X4 : FVec Ideal S1024x1024 .f32) (X5 : FVec Ideal S1024x1024 .f32) (r : Fin 2048) (j : Fin 1024) :
    GATED y X4 X5 (ix2 r j) = (∑ k : Fin 1024, y (ix2 r k) * X4 (ix2 k j)) * Ideal.logistic (∑ k : Fin 1024, y (ix2 r k) * X5 (ix2 k j)) := by
  unfold Ideal.logistic
  pointwise [GATED]

/-- The reference's latent rows. -/
theorem REF_hi (X0 : FVec Ideal S2048x1024 .f32) (X1 : FVec Ideal S2048x1024 .f32) (X2 : FVec Ideal S2048x1024 .f32) (X3 : FVec Ideal S1024 .f32) (X4 : FVec Ideal S1024x1024 .f32) (X5 : FVec Ideal S1024x1024 .f32) (X6 : FVec Ideal S6144x1024 .bf16) (r : Fin 6144) (s : Fin 2048) (j : Fin 1024) (hr : r.val = 4 * 1024 + s.val) :
    REF X0 X1 X2 X3 X4 X5 X6 (ix2 r j) = GATED (GELU (XS X0 X1 X2 X3)) X4 X5 (ix2 s j) := by
  rw [show r = ⟨4 * 1024 + s.val, by omega⟩  from Fin.ext hr]
  pointwise [REF]

/-- The reference's context rows. -/
theorem REF_lo (X0 : FVec Ideal S2048x1024 .f32) (X1 : FVec Ideal S2048x1024 .f32) (X2 : FVec Ideal S2048x1024 .f32) (X3 : FVec Ideal S1024 .f32) (X4 : FVec Ideal S1024x1024 .f32) (X5 : FVec Ideal S1024x1024 .f32) (X6 : FVec Ideal S6144x1024 .bf16) (r : Fin 6144) (j : Fin 1024) (hr : r.val < 4 * 1024) :
    REF X0 X1 X2 X3 X4 X5 X6 (ix2 r j) = X6 (ix2 r j) := by
  pointwise [REF]
  rw [dif_pos (by omega)]

end

open Cert.Kernel10Ideal Cert.Kernel10Ideal.Gen

variable (m : (ℓ : Loc nD τ sig) → Buf (Elt Ideal) ℓ)

/-- Where the windows are at a grid point. -/
theorem idx : ∀ t : Fin cfg0.N, win0_0.index t = ![t.val / 2, 0] ∧ win0_1.index t = ![t.val / 2, 0] ∧ win0_2.index t = ![t.val / 2, 0] ∧ win0_3.index t = ![0, 0]
    ∧ win0_4.index t = ![0, t.val % 2] ∧ win0_5.index t = ![0, t.val % 2] ∧ win0_6.index t = ![4 + t.val / 2, t.val % 2] := (by decide +kernel : ∀ t : Fin grid0.N, _)

/-- The skip's weights as the call finds them. -/
theorem V0 (c : Dev nD) : V m c main_v0 = shapeCast S1x1024 (m ((c : Thread nD τ).loc main_arg3)) shapeCasts_S1024_S1x1024 := by
  entry_read
  rfl

/-- The result's buffer as the call finds it. -/
theorem V1 (c : Dev nD) : V m c main_v1 = (m ((c : Thread nD τ).loc main_arg6)) := by
  unfold V
  after_results
  try rfl

/-- The forward scan's block at an index. -/
theorem blk0 (c : Dev nD) (t : Fin cfg0.N) (a : Fin 1024) (k : Fin 1024) (r : Fin 2048) (hr : r.val = t.val / 2 * 1024 + a.val) :
    iblk m c 0 t (ix2 a k) = (m ((c : Thread nD τ).loc main_arg0)) (ix2 r k) := by
  rw [show r = ⟨t.val / 2 * 1024 + a.val, by omega⟩  from Fin.ext hr]
  blk_point [iblk, V, idx t]

/-- The backward scan's block at an index. -/
theorem blk1 (c : Dev nD) (t : Fin cfg0.N) (a : Fin 1024) (k : Fin 1024) (r : Fin 2048) (hr : r.val = t.val / 2 * 1024 + a.val) :
    iblk m c 1 t (ix2 a k) = (m ((c : Thread nD τ).loc main_arg1)) (ix2 r k) := by
  rw [show r = ⟨t.val / 2 * 1024 + a.val, by omega⟩  from Fin.ext hr]
  blk_point [iblk, V, idx t]

/-- The skip's block at an index. -/
theorem blk2 (c : Dev nD) (t : Fin cfg0.N) (a : Fin 1024) (k : Fin 1024) (r : Fin 2048) (hr : r.val = t.val / 2 * 1024 + a.val) :
    iblk m c 2 t (ix2 a k) = (m ((c : Thread nD τ).loc main_arg2)) (ix2 r k) := by
  rw [show r = ⟨t.val / 2 * 1024 + a.val, by omega⟩  from Fin.ext hr]
  blk_point [iblk, V, idx t]

/-- The skip's weights' block at an index. -/
theorem blk3 (c : Dev nD) (t : Fin cfg0.N) (k : Fin 1024) : iblk m c 3 t (ix2 0 k) = (m ((c : Thread nD τ).loc main_arg3)) (ix1 k) := by
  unfold iblk
  blk_simp
  show V m c main_v0 _ = _
  rw [V0]
  pointwise
  blk_ext [idx t]

/-- The first weight's block at an index. -/
theorem blk4 (c : Dev nD) (t : Fin cfg0.N) (k : Fin 1024) (b : Fin 512) (j : Fin 1024) (hj : j.val = t.val % 2 * 512 + b.val) :
    iblk m c 4 t (ix2 k b) = (m ((c : Thread nD τ).loc main_arg4)) (ix2 k j) := by
  rw [show j = ⟨t.val % 2 * 512 + b.val, by omega⟩  from Fin.ext hj]
  blk_point [iblk, V, idx t]

/-- The second weight's block at an index. -/
theorem blk5 (c : Dev nD) (t : Fin cfg0.N) (k : Fin 1024) (b : Fin 512) (j : Fin 1024) (hj : j.val = t.val % 2 * 512 + b.val) :
    iblk m c 5 t (ix2 k b) = (m ((c : Thread nD τ).loc main_arg5)) (ix2 k j) := by
  rw [show j = ⟨t.val % 2 * 512 + b.val, by omega⟩  from Fin.ext hj]
  blk_point [iblk, V, idx t]

/-- The activation the body keeps, at an index. -/
theorem act (c : Dev nD) (t : Fin cfg0.N) (a : Fin 1024) (k : Fin 1024) (r : Fin 2048) (hr : r.val = t.val / 2 * 1024 + a.val) :
    k0_pay1 (iblk m c 0 t) (iblk m c 1 t) (iblk m c 3 t) (iblk m c 2 t) (ix2 a k) = GELU (XS (m ((c : Thread nD τ).loc main_arg0)) (m ((c : Thread nD τ).loc main_arg1)) (m ((c : Thread nD τ).loc main_arg2)) (m ((c : Thread nD τ).loc main_arg3))) (ix2 r k) := by
  rw [GELU_at, XS_at, ← blk0 m c t a k r hr, ← blk1 m c t a k r hr, ← blk2 m c t a k r hr, ← blk3 m c t k]
  pointwise [k0_pay1, gelu]

/-- The kept activation after the first column tile of a row tile. -/
theorem scratchA (c : Dev nD) (t : Fin cfg0.N) (h : t.val % 2 = 0) :
    (outsAt0 m c t.val t.isLt).2 = k0_pay1 (iblk m c 0 t) (iblk m c 1 t) (iblk m c 3 t) (iblk m c 2 t) := by
  rw [outsAt0_A m c t h]
  frame_out

/-- What the first column tile of a row tile stores. -/
theorem outA (c : Dev nD) (t : Fin cfg0.N) (h : t.val % 2 = 0) :
    (outsAt0 m c t.val t.isLt).1 = k0_pay2 (k0_pay1 (iblk m c 0 t) (iblk m c 1 t) (iblk m c 3 t) (iblk m c 2 t)) (iblk m c 4 t) (iblk m c 5 t) := by
  rw [outsAt0_A m c t h]
  frame_out

/-- What the other column tile stores: over the activation kept from the point before. -/
theorem outB (c : Dev nD) (t : Fin cfg0.N) (h : ¬ t.val % 2 = 0) (hp : t.val - 1 < cfg0.N) :
    (outsAt0 m c t.val t.isLt).1 = k0_pay2 (outsAt0 m c (t.val - 1) hp).2 (iblk m c 4 t) (iblk m c 5 t) := by
  rw [outsAt0_B m c t h]
  frame_out
  exact congrArg (fun y => k0_pay2 y (iblk m c 4 t) (iblk m c 5 t)) (Memref.IsWhole.read_unread _ _)

/-- A grid point's product over the row tile's activation, at an index. -/
theorem product (c : Dev nD) (t : Fin cfg0.N) (y : FVec Ideal S1024x1024 .bf16) (a : Fin 1024) (b : Fin 512) (r : Fin 2048) (j : Fin 1024)
    (hj : j.val = t.val % 2 * 512 + b.val) (hy : ∀ k : Fin 1024, y (ix2 a k) = GELU (XS (m ((c : Thread nD τ).loc main_arg0)) (m ((c : Thread nD τ).loc main_arg1)) (m ((c : Thread nD τ).loc main_arg2)) (m ((c : Thread nD τ).loc main_arg3))) (ix2 r k)) :
    k0_pay2 y (iblk m c 4 t) (iblk m c 5 t) (ix2 a b) = GATED (GELU (XS (m ((c : Thread nD τ).loc main_arg0)) (m ((c : Thread nD τ).loc main_arg1)) (m ((c : Thread nD τ).loc main_arg2)) (m ((c : Thread nD τ).loc main_arg3)))) (m ((c : Thread nD τ).loc main_arg4)) (m ((c : Thread nD τ).loc main_arg5)) (ix2 r j) := by
  rw [GATED_at]
  pointwise [k0_pay2]
  exact congrArg₂ (fun p q : EReal => p * Ideal.logistic q)
    (Finset.sum_congr rfl fun k _ => congrArg₂ (fun p q : EReal => p * q) (hy k) (blk4 m c t k b j hj))
    (Finset.sum_congr rfl fun k _ => congrArg₂ (fun p q : EReal => p * q) (hy k) (blk5 m c t k b j hj))

/-- What a grid point stores, at an index, is the reference's. -/
theorem point (c : Dev nD) (t : Fin cfg0.N) (a : Fin 1024) (b : Fin 512) (r : Fin 2048) (j : Fin 1024) (hr : r.val = t.val / 2 * 1024 + a.val)
    (hj : j.val = t.val % 2 * 512 + b.val) : (outsAt0 m c t.val t.isLt).1 (ix2 a b) = GATED (GELU (XS (m ((c : Thread nD τ).loc main_arg0)) (m ((c : Thread nD τ).loc main_arg1)) (m ((c : Thread nD τ).loc main_arg2)) (m ((c : Thread nD τ).loc main_arg3)))) (m ((c : Thread nD τ).loc main_arg4)) (m ((c : Thread nD τ).loc main_arg5)) (ix2 r j) := by
  by_cases h : t.val % 2 = 0
  · rw [outA m c t h]
    exact product m c t _ a b r j hj fun k => act m c t a k r hr
  · have hp : t.val - 1 < cfg0.N := Nat.lt_of_le_of_lt (Nat.sub_le _ _) t.isLt
    rw [outB m c t h hp, scratchA m c ⟨t.val - 1, hp⟩ (by dsimp only; omega)]
    exact product m c t _ a b r j hj fun k => act m c ⟨t.val - 1, hp⟩ a k r (by dsimp only; omega)

/-- The result array after the run: the rows the call writes, over what it found. -/
theorem array (c : Dev nD) : (dats m 0 c).arrAt 6 (cfgs 0).N
    = fun i => if 4 * 1024 ≤ (i 0 : ℕ) then REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i else V m c main_v1 i := by
  refine (dats m 0 c).arrAt_eq_of_coversWhere 6 _ (fun β => 4 ≤ β 0) (by decide +kernel) (fun t _ y => ?_) (fun j => by blk_simp [Pipeline.Window.cell_apply]; omega)
  have ht : t.val < 4 := t.isLt
  have hi := (idx t).2.2.2.2.2.2
  blk_simp
  rw [after0_6]
  idx_vars y
  refine (point m c t y0 y1 ⟨t.val / 2 * 1024 + y0.val, by omega⟩ ⟨t.val % 2 * 512 + y1.val, by omega⟩ rfl rfl).trans ?_
  refine (REF_hi (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨4 * 1024 + (t.val / 2 * 1024 + y0.val), by omega⟩ _ _ rfl).symm.trans (congrArg _ ?_)
  blk_ext [idx t]

/-- The result array is the reference's. -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [array]
  funext i
  idx_vars i
  rw [V1]
  by_cases h : 4 * 1024 ≤ i0.val
  · exact if_pos h
  · exact (if_neg h).trans (REF_lo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i0 i1 (by omega)).symm

end Cert.Proof.Glu

end
-- ==== Proof.Attention.lean ====
/-
  The latents' attention, written beside the context's rows.
-/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Attention

open Idealize.ShloMosaic Idealize.ShloMosaic.TcCoe Idealize.SL.Sem
open Idealize.ShloMosaic.Pipeline (Dat)

section

open Cert.Reference11Ideal Cert.Reference11Ideal.Gen Idealize.ShloMosaic.StableHlo

/-- The scaled scores: the two products' sum times the scale. -/
def SCORE (X0 : FVec Ideal S6144x2048 .bf16) (X1 : FVec Ideal S6144x512 .bf16) (X2 : FVec Ideal S7168x2048 .bf16) (X3 : FVec Ideal S7168x64 .f32) : FVec Ideal S2x8x1024x1536 .f32 :=
  mulf (addf (Host.dotGeneral dot_S2x1024x8x128_S2x1536x8x128_S2x8x1024x1536_3_3_1_1_02_02 none (shapeCast _ (extf .f32 (extractStridedSlice
    S2048x1024 ![4096, 0] X0 slices_S6144x2048_S2048x1024_4096_0) bitsLt_bf16_f32) shapeCasts_S2048x1024_S2x1024x8x128) (shapeCast _ (extf .f32
    (extractStridedSlice S3072x1024 ![0, 0] X2 slices_S7168x2048_S3072x1024_0_0) bitsLt_bf16_f32) shapeCasts_S3072x1024_S2x1536x8x128)) (transpose
    S2x8x1024x1536 [0, 3, 2, 1] (Host.dotGeneral dot_S2x1536x64_S2x1024x8x64_S2x1536x1024x8_2_3_1_12_0_0 none (shapeCast _ (extractStridedSlice
    S3072x64 ![0, 0] X3 slices_S7168x64_S3072x64_0_0) shapeCasts_S3072x64_S2x1536x64) (shapeCast _ (extf .f32 (extractStridedSlice S2048x512 ![4096,
    0] X1 slices_S6144x512_S2048x512_4096_0) bitsLt_bf16_f32) shapeCasts_S2048x512_S2x1024x8x64)) transposes_S2x1536x1024x8_S2x8x1024x1536_0_3_2_1))
    (broadcastInDim S2x8x1024x1536 ![] bcast_S_S2x8x1024x1536 (constant (F := Ideal) S_ .f32 0x3D93CD3A#32))

/-- Each row's greatest score. -/
def TOPS (x : FVec Ideal S2x8x1024x1536 .f32) : FVec Ideal S2x8x1024 .f32 :=
  maximumf (broadcastInDim S2x8x1024 ![] bcast_S_S2x8x1024 (constant (F := Ideal) S_ .f32 0xFF800000#32)) (Host.reduce FloatOps.maximumf x (constant
    (F := Ideal) S_ .f32 0xFF800000#32) reducesTo_S2x8x1024x1536_S2x8x1024_d3 h_S_)

/-- The scores' exponentials, from the row's greatest. -/
def EXPS (x : FVec Ideal S2x8x1024x1536 .f32) : FVec Ideal S2x8x1024x1536 .f32 :=
  Host.exp (subf x (broadcastInDim S2x8x1024x1536 ![0, 1, 2, 3] bcast_S2x8x1024x1_S2x8x1024x1536_0_1_2_3 (broadcastInDim S2x8x1024x1 ![0, 1, 2]
    bcast_S2x8x1024_S2x8x1024x1_0_1_2 (TOPS x))))

/-- The softmax of the scores. -/
def PROB (x : FVec Ideal S2x8x1024x1536 .f32) : FVec Ideal S2x8x1024x1536 .f32 :=
  Host.divf (EXPS x) (broadcastInDim S2x8x1024x1536 ![0, 1, 2, 3] bcast_S2x8x1024x1_S2x8x1024x1536_0_1_2_3 (broadcastInDim S2x8x1024x1 ![0, 1, 2]
    bcast_S2x8x1024_S2x8x1024x1_0_1_2 (Host.reduceAdd (EXPS x) (constant (F := Ideal) S_ .f32 0x00000000#32) reducesTo_S2x8x1024x1536_S2x8x1024_d3
    h_S_)))

/-- The values weighed by the probabilities. -/
def OUT (p : FVec Ideal S2x8x1024x1536 .f32) (X2 : FVec Ideal S7168x2048 .bf16) : FVec Ideal S2048x1024 .bf16 :=
  truncf .bf16 (shapeCast _ (transpose S2x1024x8x128 [0, 3, 1, 2] (Host.dotGeneral dot_S2x1536x8x128_S2x8x1024x1536_S2x8x128x1024_1_3_3_2_02_01 none
    (shapeCast _ (extf .f32 (extractStridedSlice S3072x1024 ![0, 1024] X2 slices_S7168x2048_S3072x1024_0_1024) bitsLt_bf16_f32)
    shapeCasts_S3072x1024_S2x1536x8x128) p) transposes_S2x8x128x1024_S2x1024x8x128_0_3_1_2) shapeCasts_S2x1024x8x128_S2048x1024) bitsLt_bf16_f32

/-- The reference: the context's rows as they came, and the latents' attention. -/
def REF (X0 : FVec Ideal S6144x2048 .bf16) (X1 : FVec Ideal S6144x512 .bf16) (X2 : FVec Ideal S7168x2048 .bf16) (X3 : FVec Ideal S7168x64 .f32) (X4 : FVec Ideal S6144x1024 .bf16) : FVec Ideal S6144x1024 .bf16 :=
  concatenate S6144x1024 0 [⟨S4096x1024, (extractStridedSlice S4096x1024 ![0, 0] X4 slices_S6144x1024_S4096x1024_0_0)⟩, ⟨S2048x1024, OUT (PROB (SCORE
    X0 X1 X2 X3)) X2⟩] concatenates_S4096x1024_S2048x1024_S6144x1024_d0

/-- The greatest of a row of scores. -/
def top (s : Fin 1536 → EReal) : EReal := Finset.univ.fold max (Ideal.ofBits .f32 0xFF800000#32) s

/-- A row's softmax weighing a column. -/
def weigh (s v : Fin 1536 → EReal) : EReal :=
  ∑ k : Fin 1536, Ideal.div (Ideal.exp (s k - top s)) (∑ l : Fin 1536, Ideal.exp (s l - top s)) * v k

/-- A row's scores. -/
def level (X0 : FVec Ideal S6144x2048 .bf16) (X1 : FVec Ideal S6144x512 .bf16) (X2 : FVec Ideal S7168x2048 .bf16) (X3 : FVec Ideal S7168x64 .f32) (b : Fin 2) (h : Fin 8) (r : Fin 6144) (k : Fin 1536) : EReal :=
  (∑ d : Fin 128, X0 (ix2 r ⟨h.val * 128 + d.val, by omega⟩) * X2 (ix2 ⟨b.val * 1536 + k.val, by omega⟩ ⟨h.val * 128 + d.val, by omega⟩) + ∑ d : Fin 64, X1 (ix2 r ⟨h.val * 64 + d.val, by omega⟩) * X3 (ix2 ⟨b.val * 1536 + k.val, by omega⟩ d)) * Ideal.ofBits .f32 0x3D93CD3A#32

/-- The scores at an index. -/
theorem SCORE_at (X0 : FVec Ideal S6144x2048 .bf16) (X1 : FVec Ideal S6144x512 .bf16) (X2 : FVec Ideal S7168x2048 .bf16) (X3 : FVec Ideal S7168x64 .f32) (b : Fin 2) (h : Fin 8) (q : Fin 1024) (k : Fin 1536) (r : Fin 6144) (hr : r.val = 4096 + (b.val * 1024 + q.val)) :
    SCORE X0 X1 X2 X3 (ix4 b h q k) = level X0 X1 X2 X3 b h r k := by
  rw [show r = ⟨4096 + (b.val * 1024 + q.val), by omega⟩ from Fin.ext hr]
  unfold level
  pointwise [SCORE]
  exact congrArg (fun z : EReal => (_ + z) * _) (Finset.sum_congr rfl fun d _ => mul_comm _ _)

/-- A maximum along the last of four axes, from the least element, at an index. -/
theorem greatest {n0 n1 n2 n3 : ℕ} (x : FVec Ideal ⟨4, ![n0, n1, n2, n3]⟩ .f32) (hb : S_.BroadcastsInDim ⟨3, ![n0, n1, n2]⟩ (![] : Fin 0 → Fin 3))
    (hr : (⟨4, ![n0, n1, n2, n3]⟩ : Shape).ReducesTo [3] ⟨3, ![n0, n1, n2]⟩) (hu : 0 < S_.numel) (b : Fin n0) (h : Fin n1) (q : Fin n2) :
    maximumf (broadcastInDim ⟨3, ![n0, n1, n2]⟩ ![] hb (constant (F := Ideal) S_ .f32 0xFF800000#32)) (Host.reduce FloatOps.maximumf x (constant (F := Ideal) S_ .f32 0xFF800000#32) hr hu) (ix3 b h q)
      = Finset.univ.fold max (Ideal.ofBits .f32 0xFF800000#32) fun k : Fin n3 => x (ix4 b h q k) := by
  pointwise
  exact max_eq_right ((Finset.le_fold_max _).mpr (Or.inl le_rfl))

/-- A row's greatest score. -/
theorem TOPS_at (x : FVec Ideal S2x8x1024x1536 .f32) (b : Fin 2) (h : Fin 8) (q : Fin 1024) : TOPS x (ix3 b h q) = top fun k => x (ix4 b h q k) :=
  greatest x bcast_S_S2x8x1024 reducesTo_S2x8x1024x1536_S2x8x1024_d3 h_S_ b h q

/-- An exponential at an index. -/
theorem EXPS_at (x : FVec Ideal S2x8x1024x1536 .f32) (b : Fin 2) (h : Fin 8) (q : Fin 1024) (k : Fin 1536) :
    EXPS x (ix4 b h q k) = Ideal.exp (x (ix4 b h q k) - top fun k => x (ix4 b h q k)) := by
  rw [← TOPS_at]
  pointwise [EXPS]

/-- The softmax at an index. -/
theorem PROB_at (x : FVec Ideal S2x8x1024x1536 .f32) (b : Fin 2) (h : Fin 8) (q : Fin 1024) (k : Fin 1536) :
    PROB x (ix4 b h q k) = Ideal.div (EXPS x (ix4 b h q k)) (∑ l : Fin 1536, EXPS x (ix4 b h q l)) := by
  pointwise [PROB]

/-- The weighed values at an index. -/
theorem OUT_at (p : FVec Ideal S2x8x1024x1536 .f32) (X2 : FVec Ideal S7168x2048 .bf16) (b : Fin 2) (h : Fin 8) (q : Fin 1024) (d : Fin 128) :
    OUT p X2 (ix2 ⟨b.val * 1024 + q.val, by omega⟩ ⟨h.val * 128 + d.val, by omega⟩) = ∑ k : Fin 1536, p (ix4 b h q k) * X2 (ix2 ⟨b.val * 1536 + k.val, by omega⟩ ⟨1024 + (h.val * 128 + d.val), by omega⟩) := by
  pointwise [OUT]
  exact Finset.sum_congr rfl fun k _ => mul_comm _ _

/-- The reference's attention at an index: the row's softmax weighing the head's values. -/
theorem OUT_level (X0 : FVec Ideal S6144x2048 .bf16) (X1 : FVec Ideal S6144x512 .bf16) (X2 : FVec Ideal S7168x2048 .bf16) (X3 : FVec Ideal S7168x64 .f32) (b : Fin 2) (h : Fin 8) (q : Fin 1024) (d : Fin 128) (r : Fin 6144) (hr : r.val = 4096 + (b.val * 1024 + q.val)) :
    OUT (PROB (SCORE X0 X1 X2 X3)) X2 (ix2 ⟨b.val * 1024 + q.val, by omega⟩ ⟨h.val * 128 + d.val, by omega⟩)
      = weigh (level X0 X1 X2 X3 b h r) fun k => X2 (ix2 ⟨b.val * 1536 + k.val, by omega⟩ ⟨1024 + (h.val * 128 + d.val), by omega⟩) := by
  rw [OUT_at]
  unfold weigh
  simp only [PROB_at, EXPS_at, SCORE_at X0 X1 X2 X3 b h q _ r hr]

/-- The reference's latent rows. -/
theorem REF_hi (X0 : FVec Ideal S6144x2048 .bf16) (X1 : FVec Ideal S6144x512 .bf16) (X2 : FVec Ideal S7168x2048 .bf16) (X3 : FVec Ideal S7168x64 .f32) (X4 : FVec Ideal S6144x1024 .bf16) (r : Fin 6144) (s : Fin 2048) (j : Fin 1024) (hr : r.val = 4 * 1024 + s.val) :
    REF X0 X1 X2 X3 X4 (ix2 r j) = OUT (PROB (SCORE X0 X1 X2 X3)) X2 (ix2 s j) := by
  rw [show r = ⟨4 * 1024 + s.val, by omega⟩ from Fin.ext hr]
  pointwise [REF]

/-- The reference's context rows. -/
theorem REF_lo (X0 : FVec Ideal S6144x2048 .bf16) (X1 : FVec Ideal S6144x512 .bf16) (X2 : FVec Ideal S7168x2048 .bf16) (X3 : FVec Ideal S7168x64 .f32) (X4 : FVec Ideal S6144x1024 .bf16) (r : Fin 6144) (j : Fin 1024) (hr : r.val < 4 * 1024) :
    REF X0 X1 X2 X3 X4 (ix2 r j) = X4 (ix2 r j) := by
  pointwise [REF]
  rw [dif_pos (by omega)]

end

open Cert.Kernel11Ideal Cert.Kernel11Ideal.Gen

variable (m : (ℓ : Loc nD τ sig) → Buf (Elt Ideal) ℓ)

/-- Where the windows are at a grid point. -/
theorem idx : ∀ t : Fin cfg0.N, win0_0.index t = ![16 + (t.val / 16 * 4 + t.val % 4), t.val / 4 % 4] ∧ win0_1.index t = ![16 + (t.val / 16 * 4 + t.val % 4), t.val / 4 % 4]
    ∧ win0_2.index t = ![t.val / 16, t.val / 4 % 4] ∧ win0_3.index t = ![t.val / 16, 0] ∧ win0_4.index t = ![t.val / 16, 4 + t.val / 4 % 4]
    ∧ win0_5.index t = ![16 + (t.val / 16 * 4 + t.val % 4), t.val / 4 % 4] := (by decide +kernel : ∀ t : Fin grid0.N, _)

/-- The rotary keys, side by side twice. -/
def KR (X3 : FVec Ideal S7168x64 .f32) : FVec Ideal S7168x128 .bf16 :=
  truncf .bf16 (concatenate S7168x128 1 [⟨S7168x64, X3⟩, ⟨S7168x64, X3⟩] concatenates_S7168x64_S7168x64_S7168x128_d1) bitsLt_bf16_f32

/-- The first copy at an index. -/
theorem KR_lo (X3 : FVec Ideal S7168x64 .f32) (r : Fin 7168) (d : Fin 64) (e : Fin 128) (he : e.val = d.val) : KR X3 (ix2 r e) = X3 (ix2 r d) := by
  rw [show e = ⟨d.val, by omega⟩ from Fin.ext he]
  pointwise [KR]

/-- The second copy at an index. -/
theorem KR_hi (X3 : FVec Ideal S7168x64 .f32) (r : Fin 7168) (d : Fin 64) (e : Fin 128) (he : e.val = 64 + d.val) : KR X3 (ix2 r e) = X3 (ix2 r d) := by
  rw [show e = ⟨64 + d.val, by omega⟩ from Fin.ext he]
  pointwise [KR]

/-- The rotary keys as the call finds them. -/
theorem V0 (c : Dev nD) : V m c main_v1 = KR (m ((c : Thread nD τ).loc main_arg3)) := by
  entry_read
  rfl

/-- The result's buffer as the call finds it. -/
theorem V1 (c : Dev nD) : V m c main_v2 = (m ((c : Thread nD τ).loc main_arg4)) := by
  unfold V
  after_results
  try rfl

/-- The lower half's lanes. -/
theorem lanes_lo : ∀ x : Fin 128, IntOp.andi (IntOp.cmpi CmpIPredicate.sge (BitVec.ofNat 32 x.val) 0#32) (IntOp.cmpi CmpIPredicate.slt (BitVec.ofNat 32 x.val) 64#32) = BitVec.ofBool (decide (x.val < 64)) := by
  decide +kernel

/-- The upper half's lanes. -/
theorem lanes_hi : ∀ x : Fin 128, IntOp.andi (IntOp.cmpi CmpIPredicate.sge (BitVec.ofNat 32 x.val) 64#32) (IntOp.cmpi CmpIPredicate.slt (BitVec.ofNat 32 x.val) 128#32) = BitVec.ofBool (decide (64 ≤ x.val)) := by
  decide +kernel

/-- The sum over the lower half's lanes, as the body masks it. -/
def lo (f : Fin 128 → EReal) : EReal :=
  ∑ x : Fin 128, Scalar.select (IntOp.andi (IntOp.cmpi CmpIPredicate.sge (BitVec.ofNat 32 x.val) 0#32) (IntOp.cmpi CmpIPredicate.slt (BitVec.ofNat 32 x.val) 64#32)) (f x) 0

/-- A sum over the lower half's lanes. -/
theorem sum_lo (f : Fin 128 → EReal) : lo f = ∑ d : Fin 64, f ⟨d.val, by omega⟩ := by
  unfold lo
  simp only [lanes_lo, WordCmp.select_ofBool, decide_eq_true_eq]
  refine (Fin.sum_univ_add (a := 64) (b := 64) _).trans ?_
  refine (congrArg₂ (fun x y : EReal => x + y) (Finset.sum_congr rfl fun d _ => ?_) (Finset.sum_eq_zero fun d _ => ?_)).trans (add_zero _)
  · exact if_pos (show d.val < 64 from d.isLt)
  · exact if_neg (show ¬ (64 + d.val < 64) by omega)

/-- The sum over the upper half's lanes, as the body masks it. -/
def hi (f : Fin 128 → EReal) : EReal :=
  ∑ x : Fin 128, Scalar.select (IntOp.andi (IntOp.cmpi CmpIPredicate.sge (BitVec.ofNat 32 x.val) 64#32) (IntOp.cmpi CmpIPredicate.slt (BitVec.ofNat 32 x.val) 128#32)) (f x) 0

/-- A sum over the upper half's lanes. -/
theorem sum_hi (f : Fin 128 → EReal) : hi f = ∑ d : Fin 64, f ⟨64 + d.val, by omega⟩ := by
  unfold hi
  simp only [lanes_hi, WordCmp.select_ofBool, decide_eq_true_eq]
  refine (Fin.sum_univ_add (a := 64) (b := 64) _).trans ?_
  refine (congrArg₂ (fun x y : EReal => x + y) (Finset.sum_eq_zero fun d _ => ?_) (Finset.sum_congr rfl fun d _ => ?_)).trans (zero_add _)
  · exact if_neg (show ¬ (64 ≤ d.val) by omega)
  · exact if_pos (show 64 ≤ 64 + d.val by omega)

/-- The first head's columns. -/
theorem pay4_at (v0 : Vec Ideal S256x128 .bf16) (v2 : Vec Ideal S1536x128 .bf16) (v5 : Vec Ideal S256x128 .bf16) (v6 v31 : Vec Ideal S1536x128 .bf16) (a : Fin 256) (b : Fin 128) :
    k0_pay4 v0 v2 v5 v6 v31 (ix2 a b) = weigh (fun k => (∑ d : Fin 128, v5 (ix2 a d) * v6 (ix2 k d) + lo (fun d => v0 (ix2 a d) * v2 (ix2 k d))) * Ideal.ofBits .f32 0x3D93CD3A#32) (fun k => v31 (ix2 k b)) := by
  unfold weigh top lo
  pointwise [k0_pay4, k0_pay2, k0_pay3]

/-- The second head's columns. -/
def second (v1 : FVec Ideal S256x128 .f32) (v3 : FVec Ideal S1536x128 .bf16) (v4 : IVec S1x128 32) (v34 : FVec Ideal S256x128 .bf16) (v35 : FVec Ideal S1536x128 .bf16) (v60 : FVec Ideal S1536x128 .bf16) : FVec Ideal S256x128 .f32 :=
  have v36 : IVec S1x128 32 := broadcast S1x128 64#32
  have v37 : IVec S1x128 1 := cmpi .sge v4 v36
  have v38 : IVec S1x128 32 := broadcast S1x128 128#32
  have v39 : IVec S1x128 1 := cmpi .slt v4 v38
  have v40 : IVec S1x128 1 := andi v37 v39
  have cst_19 : Ideal .f32 := Scalar.ofBits .f32 0x00000000#32
  have v41 : IVec S1x128 1 := shapeCast S1x128 v40 shapeCasts_S1x128_S1x128 -- %41 = vector.shape_cast %40 : vector<1x128xi1> to vector<1x128xi1>
  have v42 : IVec S256x128 1 := broadcastTo S256x128 v41 broadcasts_S1x128_S256x128 -- %42 = vector.broadcast %41 : vector<1x128xi1> to vector<256x128xi1>
  have v43 : FVec Ideal S256x128 .f32 := broadcast S256x128 cst_19
  have v44 : FVec Ideal S256x128 .f32 := select v42 v1 v43
  have cst_20 : FVec Ideal S256x1536 .f32 := constant S256x1536 .f32 0x00000000#32 -- %cst_20 = arith.constant dense<0.000000e+00> : vector<256x1536xf32>
  have v45 : FVec Ideal S256x1536 .f32 := matmul dot_S256x128_S1536x128_S256x1536_1_1_0_0_n_n none v34 v35 cst_20 -- %45 = tpu.matmul %34, %35, %cst_20 {dimension_numbers = #tpu.dot_dimension_numbers<[1], [1], [0], [0], [0, 0, 1, 0], [], []>, transpose_lhs_hint = false} : vector<256x128xbf16>, vector<1536x128xbf16>, vector<256x1536xf32> -> vector<256x1536xf32>  @ test_k:63
  have v46 : FVec Ideal S256x128 .bf16 := truncf .bf16 v44 bitsLt_bf16_f32
  have cst_21 : FVec Ideal S256x1536 .f32 := constant S256x1536 .f32 0x00000000#32 -- %cst_21 = arith.constant dense<0.000000e+00> : vector<256x1536xf32>
  have v47 : FVec Ideal S256x1536 .f32 := matmul dot_S256x128_S1536x128_S256x1536_1_1_0_0_n_n none v46 v3 cst_21 -- %47 = tpu.matmul %46, %3, %cst_21 {dimension_numbers = #tpu.dot_dimension_numbers<[1], [1], [0], [0], [0, 0, 1, 0], [], []>, transpose_lhs_hint = false} : vector<256x128xbf16>, vector<1536x128xbf16>, vector<256x1536xf32> -> vector<256x1536xf32>  @ test_k:63
  have v48 : FVec Ideal S256x1536 .f32 := addf v45 v47
  have cst_22 : Ideal .f32 := Scalar.ofBits .f32 0x3D93CD3A#32
  have v49 : FVec Ideal S256x1536 .f32 := broadcast S256x1536 cst_22
  have v50 : FVec Ideal S256x1536 .f32 := mulf v48 v49
  have v51 : FVec Ideal S256 .f32 := multiReduction .maximumf [1] S256 v50 0xFF800000#32 reduces_S256x1536_S256 (.inl rfl) rfl -- %51 = vector.multi_reduction <maximumf>, %50, %cst_23 [1] : vector<256x1536xf32> to vector<256xf32>  @ test_k:238
  have v52 : FVec Ideal S256x1 .f32 := shapeCast S256x1 v51 shapeCasts_S256_S256x1 -- %52 = vector.shape_cast %51 : vector<256xf32> to vector<256x1xf32>  @ test_k:238
  have v53 : FVec Ideal S256x1536 .f32 := broadcastTo S256x1536 v52 broadcasts_S256x1_S256x1536 -- %53 = vector.broadcast %52 : vector<256x1xf32> to vector<256x1536xf32>  @ test_k:238
  have v54 : FVec Ideal S256x1536 .f32 := subf v50 v53
  have v55 : FVec Ideal S256x1536 .f32 := exp v54
  have v56 : FVec Ideal S256 .f32 := multiReduction .add [1] S256 v55 0x00000000#32 reduces_S256x1536_S256 (.inl rfl) rfl -- %56 = vector.multi_reduction <add>, %55, %cst_24 [1] : vector<256x1536xf32> to vector<256xf32>  @ test_k:240
  have v57 : FVec Ideal S256x1 .f32 := shapeCast S256x1 v56 shapeCasts_S256_S256x1 -- %57 = vector.shape_cast %56 : vector<256xf32> to vector<256x1xf32>  @ test_k:238
  have v58 : FVec Ideal S256x1536 .f32 := broadcastTo S256x1536 v57 broadcasts_S256x1_S256x1536 -- %58 = vector.broadcast %57 : vector<256x1xf32> to vector<256x1536xf32>  @ test_k:240
  have v59 : FVec Ideal S256x1536 .f32 := divf v55 v58
  have v61 : FVec Ideal S256x1536 .bf16 := truncf .bf16 v59 bitsLt_bf16_f32 -- %61 = arith.truncf %59 : vector<256x1536xf32> to vector<256x1536xbf16>  @ test_k:59
  have cst_27 : FVec Ideal S256x128 .f32 := constant S256x128 .f32 0x00000000#32 -- %cst_27 = arith.constant dense<0.000000e+00> : vector<256x128xf32>
  have v62 : FVec Ideal S256x128 .f32 := matmul dot_S256x1536_S1536x128_S256x128_1_0_0_1_n_n none v61 v60 cst_27 -- %62 = tpu.matmul %61, %60, %cst_27 {dimension_numbers = #tpu.dot_dimension_numbers<[1], [0], [0], [1], [0, 0, 1, 1], [], []>, transpose_lhs_hint = false} : vector<256x1536xbf16>, vector<1536x128xbf16>, vector<256x128xf32> -> vector<256x128xf32>  @ test_k:59
  v62

/-- Two heads' columns, side by side. -/
def pair (x y : FVec Ideal S256x128 .f32) : FVec Ideal S256x256 .bf16 :=
  truncf .bf16 (concatenate S256x256 1 [⟨S256x128, x⟩, ⟨S256x128, y⟩] concatenates_S256x128_S256x128_S256x256_d1) bitsLt_bf16_f32

/-- The first head's columns of the pair. -/
theorem pair_lo (x y : FVec Ideal S256x128 .f32) (a : Fin 256) (b : Fin 128) : pair x y (ix2 a ⟨b.val, by omega⟩) = x (ix2 a b) := by
  pointwise [pair]

/-- The second head's columns of the pair. -/
theorem pair_hi (x y : FVec Ideal S256x128 .f32) (a : Fin 256) (b : Fin 128) : pair x y (ix2 a ⟨128 + b.val, by omega⟩) = y (ix2 a b) := by
  pointwise [pair]

/-- The stored block. -/
theorem pay1_eq (v1 : FVec Ideal S256x128 .f32) (v3 : FVec Ideal S1536x128 .bf16) (v4 : IVec S1x128 32) (v33 : FVec Ideal S256x128 .f32) (v34 : Vec Ideal S256x128 .bf16)
    (v35 v60 : Vec Ideal S1536x128 .bf16) : k0_pay1 v1 v3 v4 v33 v34 v35 v60 = pair v33 (second v1 v3 v4 v34 v35 v60) := rfl

/-- The second head's columns at an index. -/
theorem second_at (v0 : Vec Ideal S256x128 .bf16) (v2 : Vec Ideal S1536x128 .bf16) (v34 : Vec Ideal S256x128 .bf16)
    (v35 v60 : Vec Ideal S1536x128 .bf16) (a : Fin 256) (b : Fin 128) :
    second (k0_pay2 v0) (k0_pay3 v2) (iota .tc S1x128 32 [1] iota_S1x128_d1_w32) v34 v35 v60 (ix2 a b)
      = weigh (fun k => (∑ d : Fin 128, v34 (ix2 a d) * v35 (ix2 k d) + hi (fun d => v0 (ix2 a d) * v2 (ix2 k d))) * Ideal.ofBits .f32 0x3D93CD3A#32) (fun k => v60 (ix2 k b)) := by
  unfold weigh top hi
  pointwise [second, k0_pay2, k0_pay3]

/-- A block of the unrotated queries at an index. -/
theorem blk0 (c : Dev nD) (t : Fin cfg0.N) (a : Fin 256) (e : Fin 256) (r : Fin 6144) (j : Fin 2048) (hr : r.val = (16 + (t.val / 16 * 4 + t.val % 4)) * 256 + a.val) (hj : j.val = t.val / 4 % 4 * 256 + e.val) :
    iblk m c 0 t (ix2 a e) = (m ((c : Thread nD τ).loc main_arg0)) (ix2 r j) := by
  have ht : t.val < 32 := t.isLt
  rw [show r = ⟨(16 + (t.val / 16 * 4 + t.val % 4)) * 256 + a.val, by omega⟩ from Fin.ext hr, show j = ⟨t.val / 4 % 4 * 256 + e.val, by omega⟩ from Fin.ext hj]
  blk_point [iblk, V, idx t]

/-- A block of the rotated queries at an index. -/
theorem blk1 (c : Dev nD) (t : Fin cfg0.N) (a : Fin 256) (e : Fin 128) (r : Fin 6144) (j : Fin 512) (hr : r.val = (16 + (t.val / 16 * 4 + t.val % 4)) * 256 + a.val) (hj : j.val = t.val / 4 % 4 * 128 + e.val) :
    iblk m c 1 t (ix2 a e) = (m ((c : Thread nD τ).loc main_arg1)) (ix2 r j) := by
  have ht : t.val < 32 := t.isLt
  rw [show r = ⟨(16 + (t.val / 16 * 4 + t.val % 4)) * 256 + a.val, by omega⟩ from Fin.ext hr, show j = ⟨t.val / 4 % 4 * 128 + e.val, by omega⟩ from Fin.ext hj]
  blk_point [iblk, V, idx t]

/-- A block of the keys at an index. -/
theorem blk2 (c : Dev nD) (t : Fin cfg0.N) (k : Fin 1536) (e : Fin 256) (r : Fin 7168) (j : Fin 2048) (hr : r.val = t.val / 16 * 1536 + k.val) (hj : j.val = t.val / 4 % 4 * 256 + e.val) :
    X0_2 m c t (ix2 k e) = (m ((c : Thread nD τ).loc main_arg2)) (ix2 r j) := by
  have ht : t.val < 32 := t.isLt
  rw [show r = ⟨t.val / 16 * 1536 + k.val, by omega⟩ from Fin.ext hr, show j = ⟨t.val / 4 % 4 * 256 + e.val, by omega⟩ from Fin.ext hj]
  unfold X0_2 Pipeline.Window.fill
  rw [dif_pos (moved0_2 t _)]
  blk_point [iblk, V, idx t]

/-- A block of the rotary keys at an index. -/
theorem blk3 (c : Dev nD) (t : Fin cfg0.N) (k : Fin 1536) (e : Fin 128) (r : Fin 7168) (hr : r.val = t.val / 16 * 1536 + k.val) :
    X0_3 m c t (ix2 k e) = KR (m ((c : Thread nD τ).loc main_arg3)) (ix2 r e) := by
  have ht : t.val < 32 := t.isLt
  rw [show r = ⟨t.val / 16 * 1536 + k.val, by omega⟩ from Fin.ext hr]
  unfold X0_3 Pipeline.Window.fill
  rw [dif_pos (moved0_3 t _)]
  unfold iblk
  blk_simp
  show V m c main_v1 _ = _
  rw [V0]
  refine congrArg (KR (m ((c : Thread nD τ).loc main_arg3))) ?_
  blk_ext [idx t]

/-- A block of the values at an index. -/
theorem blk4 (c : Dev nD) (t : Fin cfg0.N) (k : Fin 1536) (e : Fin 256) (r : Fin 7168) (j : Fin 2048) (hr : r.val = t.val / 16 * 1536 + k.val) (hj : j.val = (4 + t.val / 4 % 4) * 256 + e.val) :
    X0_4 m c t (ix2 k e) = (m ((c : Thread nD τ).loc main_arg2)) (ix2 r j) := by
  have ht : t.val < 32 := t.isLt
  rw [show r = ⟨t.val / 16 * 1536 + k.val, by omega⟩ from Fin.ext hr, show j = ⟨(4 + t.val / 4 % 4) * 256 + e.val, by omega⟩ from Fin.ext hj]
  unfold X0_4 Pipeline.Window.fill
  rw [dif_pos (moved0_4 t _)]
  blk_point [iblk, V, idx t]

/-- Equal scores and equal values are weighed alike. -/
theorem weigh_congr {X0 : FVec Ideal S6144x2048 .bf16} {X1 : FVec Ideal S6144x512 .bf16} {X2 : FVec Ideal S7168x2048 .bf16} {X3 : FVec Ideal S7168x64 .f32} (b : Fin 2) (h : Fin 8) (r : Fin 6144)
    (q0 : Fin 128 → EReal) (k0 : Fin 1536 → Fin 128 → EReal) (q1 : Fin 64 → EReal) (k1 : Fin 1536 → Fin 64 → EReal) (v w : Fin 1536 → EReal)
    (h0 : ∀ d, q0 d = X0 (ix2 r ⟨h.val * 128 + d.val, by omega⟩)) (h1 : ∀ k d, k0 k d = X2 (ix2 ⟨b.val * 1536 + k.val, by omega⟩ ⟨h.val * 128 + d.val, by omega⟩))
    (h2 : ∀ d, q1 d = X1 (ix2 r ⟨h.val * 64 + d.val, by omega⟩)) (h3 : ∀ k d, k1 k d = X3 (ix2 ⟨b.val * 1536 + k.val, by omega⟩ d)) (h4 : ∀ k, v k = w k) :
    weigh (fun k => (∑ d : Fin 128, q0 d * k0 k d + ∑ d : Fin 64, q1 d * k1 k d) * Ideal.ofBits .f32 0x3D93CD3A#32) v = weigh (level X0 X1 X2 X3 b h r) w := by
  refine congrArg₂ weigh (funext fun k => ?_) (funext h4)
  unfold level
  simp only [h0, h1, h2, h3]

/-- What a grid point stores in its first head's columns is the reference's. -/
theorem point_lo (c : Dev nD) (t : Fin cfg0.N) (a : Fin 256) (e : Fin 128) (b : Fin 2) (h : Fin 8) (q : Fin 1024) (hb : b.val = t.val / 16) (hh : h.val = t.val / 4 % 4 * 2)
    (hq : q.val = t.val % 4 * 256 + a.val) :
    outsAt0 m c t (ix2 a ⟨e.val, by omega⟩) = OUT (PROB (SCORE (m ((c : Thread nD τ).loc main_arg0)) (m ((c : Thread nD τ).loc main_arg1)) (m ((c : Thread nD τ).loc main_arg2)) (m ((c : Thread nD τ).loc main_arg3)))) (m ((c : Thread nD τ).loc main_arg2)) (ix2 ⟨b.val * 1024 + q.val, by omega⟩ ⟨h.val * 128 + e.val, by omega⟩) := by
  rw [OUT_level (m ((c : Thread nD τ).loc main_arg0)) (m ((c : Thread nD τ).loc main_arg1)) (m ((c : Thread nD τ).loc main_arg2)) (m ((c : Thread nD τ).loc main_arg3)) b h q e ⟨4096 + (b.val * 1024 + q.val), by omega⟩ rfl]
  unfold outsAt0
  frame_out
  rw [pay1_eq, pair_lo, pay4_at]
  simp only [sum_lo]
  refine weigh_congr b h _ _ _ _ _ _ _ (fun d => ?_) (fun k d => ?_) (fun d => ?_) (fun k d => ?_) (fun k => ?_)
  · pointwise
    exact blk0 m c t a _ _ _ (by dsimp only; omega) (by dsimp only; omega)
  · pointwise
    exact blk2 m c t k _ _ _ (by dsimp only; omega) (by dsimp only; omega)
  · exact blk1 m c t a _ _ _ (by dsimp only; omega) (by dsimp only; omega)
  · exact (blk3 m c t k _ _ (by dsimp only; omega)).trans (KR_lo _ _ d _ rfl)
  · pointwise
    exact blk4 m c t k _ _ _ (by dsimp only; omega) (by dsimp only; omega)

/-- What a grid point stores in its second head's columns is the reference's. -/
theorem point_hi (c : Dev nD) (t : Fin cfg0.N) (a : Fin 256) (e : Fin 128) (b : Fin 2) (h : Fin 8) (q : Fin 1024) (hb : b.val = t.val / 16) (hh : h.val = t.val / 4 % 4 * 2 + 1)
    (hq : q.val = t.val % 4 * 256 + a.val) :
    outsAt0 m c t (ix2 a ⟨128 + e.val, by omega⟩) = OUT (PROB (SCORE (m ((c : Thread nD τ).loc main_arg0)) (m ((c : Thread nD τ).loc main_arg1)) (m ((c : Thread nD τ).loc main_arg2)) (m ((c : Thread nD τ).loc main_arg3)))) (m ((c : Thread nD τ).loc main_arg2)) (ix2 ⟨b.val * 1024 + q.val, by omega⟩ ⟨h.val * 128 + e.val, by omega⟩) := by
  rw [OUT_level (m ((c : Thread nD τ).loc main_arg0)) (m ((c : Thread nD τ).loc main_arg1)) (m ((c : Thread nD τ).loc main_arg2)) (m ((c : Thread nD τ).loc main_arg3)) b h q e ⟨4096 + (b.val * 1024 + q.val), by omega⟩ rfl]
  unfold outsAt0
  frame_out
  rw [pay1_eq, pair_hi, second_at]
  simp only [sum_hi]
  refine weigh_congr b h _ _ _ _ _ _ _ (fun d => ?_) (fun k d => ?_) (fun d => ?_) (fun k d => ?_) (fun k => ?_)
  · pointwise
    exact blk0 m c t a _ _ _ (by dsimp only; omega) (by dsimp only; omega)
  · pointwise
    exact blk2 m c t k _ _ _ (by dsimp only; omega) (by dsimp only; omega)
  · exact blk1 m c t a _ _ _ (by dsimp only; omega) (by dsimp only; omega)
  · exact (blk3 m c t k _ _ (by dsimp only; omega)).trans (KR_hi _ _ d _ rfl)
  · pointwise
    exact blk4 m c t k _ _ _ (by dsimp only; omega) (by dsimp only; omega)

/-- What a grid point stores, at an index, is the reference's. -/
theorem point (c : Dev nD) (t : Fin cfg0.N) (a e : Fin 256) (s : Fin 2048) (j : Fin 1024) (hs : s.val = (t.val / 16 * 4 + t.val % 4) * 256 + a.val) (hj : j.val = t.val / 4 % 4 * 256 + e.val) :
    outsAt0 m c t (ix2 a e) = OUT (PROB (SCORE (m ((c : Thread nD τ).loc main_arg0)) (m ((c : Thread nD τ).loc main_arg1)) (m ((c : Thread nD τ).loc main_arg2)) (m ((c : Thread nD τ).loc main_arg3)))) (m ((c : Thread nD τ).loc main_arg2)) (ix2 s j) := by
  have ht : t.val < 32 := t.isLt
  by_cases h : e.val < 128
  · rw [show e = ⟨(⟨e.val, h⟩ : Fin 128).val, e.isLt⟩ from rfl]
    refine (point_lo m c t a ⟨e.val, h⟩ ⟨t.val / 16, by omega⟩ ⟨t.val / 4 % 4 * 2, by omega⟩ ⟨t.val % 4 * 256 + a.val, by omega⟩ rfl rfl rfl).trans (congrArg _ ?_)
    exact congrArg₂ ix2 (Fin.ext (by dsimp only; omega)) (Fin.ext (by dsimp only; omega))
  · rw [show e = ⟨128 + (⟨e.val - 128, by omega⟩ : Fin 128).val, by dsimp only; omega⟩ from Fin.ext (by dsimp only; omega)]
    refine (point_hi m c t a ⟨e.val - 128, by omega⟩ ⟨t.val / 16, by omega⟩ ⟨t.val / 4 % 4 * 2 + 1, by omega⟩ ⟨t.val % 4 * 256 + a.val, by omega⟩ rfl rfl rfl).trans (congrArg _ ?_)
    exact congrArg₂ ix2 (Fin.ext (by dsimp only; omega)) (Fin.ext (by dsimp only; omega))

/-- The result array after the run: the rows the call writes, over what it found. -/
theorem array (c : Dev nD) : (dats m 0 c).arrAt 5 (cfgs 0).N = fun i => if 4 * 1024 ≤ (i 0 : ℕ) then REF (m ((c : Thread nD τ).loc main_arg0)) (m ((c : Thread nD τ).loc main_arg1)) (m ((c : Thread nD τ).loc main_arg2)) (m ((c : Thread nD τ).loc main_arg3)) (m ((c : Thread nD τ).loc main_arg4)) i else V m c main_v2 i := by
  refine (dats m 0 c).arrAt_eq_of_coversWhere 5 _ (fun β => 16 ≤ β 0) (by decide +kernel) (fun t _ y => ?_) (fun j => by blk_simp [Pipeline.Window.cell_apply]; omega)
  have ht : t.val < 32 := t.isLt
  have hi := (idx t).2.2.2.2.2
  blk_simp
  rw [after0_5]
  idx_vars y
  refine (point m c t y0 y1 ⟨(t.val / 16 * 4 + t.val % 4) * 256 + y0.val, by omega⟩ ⟨t.val / 4 % 4 * 256 + y1.val, by omega⟩ rfl rfl).trans ?_
  refine (REF_hi (m ((c : Thread nD τ).loc main_arg0)) (m ((c : Thread nD τ).loc main_arg1)) (m ((c : Thread nD τ).loc main_arg2)) (m ((c : Thread nD τ).loc main_arg3)) (m ((c : Thread nD τ).loc main_arg4)) ⟨4 * 1024 + ((t.val / 16 * 4 + t.val % 4) * 256 + y0.val), by omega⟩ _ _ rfl).symm.trans (congrArg _ ?_)
  blk_ext [idx t]

/-- The result array is the reference's. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  rw [array]
  funext i
  idx_vars i
  rw [V1]
  by_cases h : 4 * 1024 ≤ i0.val
  · exact if_pos h
  · exact (if_neg h).trans (REF_lo (m ((c : Thread nD τ).loc main_arg0)) (m ((c : Thread nD τ).loc main_arg1)) (m ((c : Thread nD τ).loc main_arg2)) (m ((c : Thread nD τ).loc main_arg3)) (m ((c : Thread nD τ).loc main_arg4)) i0 i1 (by omega)).symm

end Cert.Proof.Attention

end
-- ==== Proof.Latents.lean ====
/-
  The normalised latents of the attention.
-/
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Latents

open Idealize.ShloMosaic Idealize.ShloMosaic.TcCoe Idealize.SL.Sem
open Idealize.ShloMosaic.Pipeline (Dat)

section

open Cert.Reference12Ideal Cert.Reference12Ideal.Gen Idealize.ShloMosaic.StableHlo

/-- The reference's query latents. -/
def REF0 (X0 : FVec Ideal S6144x4608 .f32) (X1 : FVec Ideal S512 .f32) (X2 : FVec Ideal S512 .f32) : FVec Ideal S6144x512 .bf16 :=
  truncf .bf16 (mulf (mulf (extractStridedSlice S6144x512 ![0, 3456] X0 slices_S6144x4608_S6144x512_0_3456) (broadcastInDim S6144x512 ![0, 1]
    bcast_S6144x1_S6144x512_0_1 (Host.rsqrt (addf (Host.divf (broadcastInDim S6144x1 ![0] bcast_S6144_S6144x1_0 (Host.reduceAdd (mulf
    (extractStridedSlice S6144x512 ![0, 3456] X0 slices_S6144x4608_S6144x512_0_3456) (extractStridedSlice S6144x512 ![0, 3456] X0
    slices_S6144x4608_S6144x512_0_3456)) (constant (F := Ideal) S_ .f32 0x00000000#32) reducesTo_S6144x512_S6144_d1 h_S_)) (broadcastInDim S6144x1 ![]
    bcast_S_S6144x1 (constant (F := Ideal) S_ .f32 0x44000000#32))) (broadcastInDim S6144x1 ![] bcast_S_S6144x1 (constant (F := Ideal) S_ .f32
    0x358637BD#32)))))) (broadcastInDim S6144x512 ![0, 1] bcast_S1x512_S6144x512_0_1 (broadcastInDim S1x512 ![1] bcast_S512_S1x512_1 X1)))
    bitsLt_bf16_f32

/-- The reference's context latents. -/
def REF1 (X0 : FVec Ideal S6144x4608 .f32) (X1 : FVec Ideal S512 .f32) (X2 : FVec Ideal S512 .f32) : FVec Ideal S16x256x512 .f32 :=
  mulf (mulf (shapeCast _ (extractStridedSlice S4096x512 ![0, 0] (extractStridedSlice S6144x512 ![0, 3968] X0 slices_S6144x4608_S6144x512_0_3968)
    slices_S6144x512_S4096x512_0_0) shapeCasts_S4096x512_S16x256x512) (broadcastInDim S16x256x512 ![0, 1, 2] bcast_S16x256x1_S16x256x512_0_1_2
    (Host.rsqrt (addf (Host.divf (broadcastInDim S16x256x1 ![0, 1] bcast_S16x256_S16x256x1_0_1 (Host.reduceAdd (mulf (shapeCast _ (extractStridedSlice
    S4096x512 ![0, 0] (extractStridedSlice S6144x512 ![0, 3968] X0 slices_S6144x4608_S6144x512_0_3968) slices_S6144x512_S4096x512_0_0)
    shapeCasts_S4096x512_S16x256x512) (shapeCast _ (extractStridedSlice S4096x512 ![0, 0] (extractStridedSlice S6144x512 ![0, 3968] X0
    slices_S6144x4608_S6144x512_0_3968) slices_S6144x512_S4096x512_0_0) shapeCasts_S4096x512_S16x256x512)) (constant (F := Ideal) S_ .f32
    0x00000000#32) reducesTo_S16x256x512_S16x256_d2 h_S_)) (broadcastInDim S16x256x1 ![] bcast_S_S16x256x1 (constant (F := Ideal) S_ .f32
    0x44000000#32))) (broadcastInDim S16x256x1 ![] bcast_S_S16x256x1 (constant (F := Ideal) S_ .f32 0x358637BD#32)))))) (broadcastInDim S16x256x512
    ![0, 1, 2] bcast_S1x1x512_S16x256x512_0_1_2 (broadcastInDim S1x1x512 ![2] bcast_S512_S1x1x512_2 X2))

/-- The reference's new latents. -/
def REF2 (X0 : FVec Ideal S6144x4608 .f32) (X1 : FVec Ideal S512 .f32) (X2 : FVec Ideal S512 .f32) : FVec Ideal S2x1024x512 .f32 :=
  mulf (mulf (shapeCast _ (extractStridedSlice S2048x512 ![4096, 0] (extractStridedSlice S6144x512 ![0, 3968] X0 slices_S6144x4608_S6144x512_0_3968)
    slices_S6144x512_S2048x512_4096_0) shapeCasts_S2048x512_S2x1024x512) (broadcastInDim S2x1024x512 ![0, 1, 2] bcast_S2x1024x1_S2x1024x512_0_1_2
    (Host.rsqrt (addf (Host.divf (broadcastInDim S2x1024x1 ![0, 1] bcast_S2x1024_S2x1024x1_0_1 (Host.reduceAdd (mulf (shapeCast _ (extractStridedSlice
    S2048x512 ![4096, 0] (extractStridedSlice S6144x512 ![0, 3968] X0 slices_S6144x4608_S6144x512_0_3968) slices_S6144x512_S2048x512_4096_0)
    shapeCasts_S2048x512_S2x1024x512) (shapeCast _ (extractStridedSlice S2048x512 ![4096, 0] (extractStridedSlice S6144x512 ![0, 3968] X0
    slices_S6144x4608_S6144x512_0_3968) slices_S6144x512_S2048x512_4096_0) shapeCasts_S2048x512_S2x1024x512)) (constant (F := Ideal) S_ .f32
    0x00000000#32) reducesTo_S2x1024x512_S2x1024_d2 h_S_)) (broadcastInDim S2x1024x1 ![] bcast_S_S2x1024x1 (constant (F := Ideal) S_ .f32
    0x44000000#32))) (broadcastInDim S2x1024x1 ![] bcast_S_S2x1024x1 (constant (F := Ideal) S_ .f32 0x358637BD#32)))))) (broadcastInDim S2x1024x512
    ![0, 1, 2] bcast_S1x1x512_S2x1024x512_0_1_2 (broadcastInDim S1x1x512 ![2] bcast_S512_S1x1x512_2 X2))

end

open Cert.Kernel12Ideal Cert.Kernel12Ideal.Gen

variable (m : (ℓ : Loc nD τ sig) → Buf (Elt Ideal) ℓ)

/-- The normalised key latents of every row. -/
def CKV (X0 : FVec Ideal S6144x4608 .f32) (X2 : FVec Ideal S512 .f32) (j : S6144x512.Idx) : EReal :=
  X0 (ix2 (j 0) ⟨3968 + (j 1).val, by have : (j 1).val < 512 := (j 1).isLt; omega⟩)
    * Ideal.rsqrt (Ideal.div (∑ k : Fin 512, X0 (ix2 (j 0) ⟨3968 + k.val, by omega⟩) * X0 (ix2 (j 0) ⟨3968 + k.val, by omega⟩)) (Ideal.ofBits .f32 0x44000000#32)
      + Ideal.ofBits .f32 0x358637BD#32) * X2 (ix1 (j 1))

/-- The reference's context latents: the rows of the context, cut by prompts. -/
theorem ref1 (X0 : FVec Ideal S6144x4608 .f32) (X1 X2 : FVec Ideal S512 .f32) :
    REF1 X0 X1 X2 = shapeCast S16x256x512 (extractStridedSlice S4096x512 ![0, 0] (CKV X0 X2) slices_S6144x512_S4096x512_0_0) shapeCasts_S4096x512_S16x256x512 := by
  funext j
  idx_vars j
  pointwise [REF1, CKV]

/-- The reference's latents of the samples: the rows after the context's, cut by samples. -/
theorem ref2 (X0 : FVec Ideal S6144x4608 .f32) (X1 X2 : FVec Ideal S512 .f32) :
    REF2 X0 X1 X2 = shapeCast S2x1024x512 (extractStridedSlice S2048x512 ![4096, 0] (CKV X0 X2) slices_S6144x512_S2048x512_4096_0) shapeCasts_S2048x512_S2x1024x512 := by
  funext j
  idx_vars j
  pointwise [REF2, CKV]

/-- The blocks of a step: the fourth column block of its rows, the whole gains, its rows of both outputs. -/
theorem idx : ∀ t : Fin cfg0.N, win0_0.index t = ![t.val, 3] ∧ win0_1.index t = ![0, 0]
    ∧ win0_2.index t = ![0, 0] ∧ win0_3.index t = ![t.val, 0] ∧ win0_4.index t = ![t.val, 0] := (by decide +kernel : ∀ t : Fin grid0.N, _)

/-- The query gain is handed to the call as one row. -/
theorem V0' (c : Dev nD) : V m c main_v0 = shapeCast S1x512 (m ((c : Thread nD τ).loc main_arg1)) shapeCasts_S512_S1x512 := by
  show StableHlo.after (List.flatten [hostOps0]) (fun b => m (c, b)) (Proc.devRef .tc main_v0) = _
  simp only [List.flatten_cons, List.flatten_nil, List.append_nil]
  after_results
  rfl

/-- The key gain is handed to the call as one row. -/
theorem V1' (c : Dev nD) : V m c main_v1 = shapeCast S1x512 (m ((c : Thread nD τ).loc main_arg2)) shapeCasts_S512_S1x512 := by
  show StableHlo.after (List.flatten [hostOps0]) (fun b => m (c, b)) (Proc.devRef .tc main_v1) = _
  simp only [List.flatten_cons, List.flatten_nil, List.append_nil]
  after_results
  rfl

/-- A step's block of the query gain is the whole gain. -/
theorem blk1 (c : Dev nD) (t : Fin cfg0.N) (b : Fin 512) : iblk m c 1 t (ix2 0 b) = (m ((c : Thread nD τ).loc main_arg1)) (ix1 b) := by
  unfold iblk
  blk_simp
  show V m c main_v0 _ = _
  rw [V0']
  pointwise
  blk_ext [idx t]

/-- A step's block of the key gain is the whole gain. -/
theorem blk2 (c : Dev nD) (t : Fin cfg0.N) (b : Fin 512) : iblk m c 2 t (ix2 0 b) = (m ((c : Thread nD τ).loc main_arg2)) (ix1 b) := by
  unfold iblk
  blk_simp
  show V m c main_v1 _ = _
  rw [V1']
  pointwise
  blk_ext [idx t]

/-- The call's first array: the normalised query latents, as the reference has them. -/
theorem final0 (c : Dev nD) : (dats m 0 c).arrAt 3 cfg0.N = REF0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, REF0]
  blk_point [iblk, V, idx t]
  refine (blk1 m c t (y 1)).trans ?_
  blk_ext [idx t]

/-- The call's second array: the normalised key latents of every row. -/
theorem final1 (c : Dev nD) : (dats m 0 c).arrAt 4 cfg0.N = CKV (m ((c : Thread nD τ).loc main_arg0)) (m ((c : Thread nD τ).loc main_arg2)) := by
  refine (dats m 0 c).arrAt_eq_of_covers 4 _ (by decide +kernel) fun t _ y => ?_
  blk_simp
  rw [after0_4]
  frame_out
  pointwise [k0_pay2, CKV]
  blk_point [iblk, V, idx t]
  refine (blk2 m c t (y 1)).trans ?_
  blk_ext [idx t]

/-- What the host makes of the call's array: result 4. -/
theorem tail4 (c : Dev nD) : Pipeline.afterTail₀ cfgs (dats m) 0 (Gen.V0 m) [hostOps1] c main_v4
    = shapeCast S16x256x512 (extractStridedSlice S4096x512 ![0, 0] ((dats m 0 c).arrAt 4 cfg0.N) slices_S6144x512_S4096x512_0_0) shapeCasts_S4096x512_S16x256x512 := by
  unfold Pipeline.afterTail₀
  simp only [List.flatten_cons, List.flatten_nil, List.append_nil]
  after_results
  exact congrArg (fun A => shapeCast S16x256x512 (extractStridedSlice S4096x512 ![0, 0] A slices_S6144x512_S4096x512_0_0) shapeCasts_S4096x512_S16x256x512)
    ((dats m 0 c).withArrays_arrAt (by decide) (Gen.V0 m c) (fun _ => rfl) 4)

/-- What the host makes of the call's array: result 6. -/
theorem tail6 (c : Dev nD) : Pipeline.afterTail₀ cfgs (dats m) 0 (Gen.V0 m) [hostOps1] c main_v6
    = shapeCast S2x1024x512 (extractStridedSlice S2048x512 ![4096, 0] ((dats m 0 c).arrAt 4 cfg0.N) slices_S6144x512_S2048x512_4096_0) shapeCasts_S2048x512_S2x1024x512 := by
  unfold Pipeline.afterTail₀
  simp only [List.flatten_cons, List.flatten_nil, List.append_nil]
  after_results
  exact congrArg (fun A => shapeCast S2x1024x512 (extractStridedSlice S2048x512 ![4096, 0] A slices_S6144x512_S2048x512_4096_0) shapeCasts_S2048x512_S2x1024x512)
    ((dats m 0 c).withArrays_arrAt (by decide) (Gen.V0 m c) (fun _ => rfl) 4)

/-- Result 4 of the call's program is the reference's. -/
theorem res4 (c : Dev nD) : Pipeline.afterTail₀ cfgs (dats m) 0 (Gen.V0 m) [hostOps1] c main_v4 = REF1 (m ((c : Thread nD τ).loc main_arg0)) (m ((c : Thread nD τ).loc main_arg1)) (m ((c : Thread nD τ).loc main_arg2)) := by
  rw [tail4, final1, ref1]

/-- Result 6 of the call's program is the reference's. -/
theorem res6 (c : Dev nD) : Pipeline.afterTail₀ cfgs (dats m) 0 (Gen.V0 m) [hostOps1] c main_v6 = REF2 (m ((c : Thread nD τ).loc main_arg0)) (m ((c : Thread nD τ).loc main_arg1)) (m ((c : Thread nD τ).loc main_arg2)) := by
  rw [tail6, final1, ref2]

end Cert.Proof.Latents

end
-- ==== Proof.FinalNorm.lean ====
/-
  The last residual and the final norm. The call's modulation after it is zero, so its scale is one and its shift zero.
-/
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.FinalNorm

open Idealize.ShloMosaic Idealize.ShloMosaic.TcCoe Idealize.SL.Sem
open Idealize.ShloMosaic.Pipeline (Dat)

section

open Cert.Reference13Ideal Cert.Reference13Ideal.Gen Idealize.ShloMosaic.StableHlo

/-- The reference's first result. -/
def REF0 (X0 : FVec Ideal S6144x2048 .f32) (X1 : FVec Ideal S6144x2048 .f32) (X2 : FVec Ideal S8x12288 .f32) (X3 : FVec Ideal S2048 .f32) : FVec Ideal S16x256x2048 .f32 :=
  mulf (mulf (addf (shapeCast _ (extractStridedSlice S4096x2048 ![0, 0] X0 slices_S6144x2048_S4096x2048_0_0) shapeCasts_S4096x2048_S16x256x2048) (mulf
    (broadcastInDim S16x256x2048 ![0, 1, 2] bcast_S1x1x2048_S16x256x2048_0_1_2 (broadcastInDim S1x1x2048 ![0, 2] bcast_S1x2048_S1x1x2048_0_2
    (extractStridedSlice S1x2048 ![0, 0] (extractStridedSlice S8x2048 ![0, 10240] X2 slices_S8x12288_S8x2048_0_10240) slices_S8x2048_S1x2048_0_0)))
    (shapeCast _ (extractStridedSlice S4096x2048 ![0, 0] X1 slices_S6144x2048_S4096x2048_0_0) shapeCasts_S4096x2048_S16x256x2048))) (broadcastInDim
    S16x256x2048 ![0, 1, 2] bcast_S16x256x1_S16x256x2048_0_1_2 (Host.rsqrt (addf (Host.divf (broadcastInDim S16x256x1 ![0, 1]
    bcast_S16x256_S16x256x1_0_1 (Host.reduceAdd (mulf (addf (shapeCast _ (extractStridedSlice S4096x2048 ![0, 0] X0 slices_S6144x2048_S4096x2048_0_0)
    shapeCasts_S4096x2048_S16x256x2048) (mulf (broadcastInDim S16x256x2048 ![0, 1, 2] bcast_S1x1x2048_S16x256x2048_0_1_2 (broadcastInDim S1x1x2048
    ![0, 2] bcast_S1x2048_S1x1x2048_0_2 (extractStridedSlice S1x2048 ![0, 0] (extractStridedSlice S8x2048 ![0, 10240] X2
    slices_S8x12288_S8x2048_0_10240) slices_S8x2048_S1x2048_0_0))) (shapeCast _ (extractStridedSlice S4096x2048 ![0, 0] X1
    slices_S6144x2048_S4096x2048_0_0) shapeCasts_S4096x2048_S16x256x2048))) (addf (shapeCast _ (extractStridedSlice S4096x2048 ![0, 0] X0
    slices_S6144x2048_S4096x2048_0_0) shapeCasts_S4096x2048_S16x256x2048) (mulf (broadcastInDim S16x256x2048 ![0, 1, 2]
    bcast_S1x1x2048_S16x256x2048_0_1_2 (broadcastInDim S1x1x2048 ![0, 2] bcast_S1x2048_S1x1x2048_0_2 (extractStridedSlice S1x2048 ![0, 0]
    (extractStridedSlice S8x2048 ![0, 10240] X2 slices_S8x12288_S8x2048_0_10240) slices_S8x2048_S1x2048_0_0))) (shapeCast _ (extractStridedSlice
    S4096x2048 ![0, 0] X1 slices_S6144x2048_S4096x2048_0_0) shapeCasts_S4096x2048_S16x256x2048)))) (constant (F := Ideal) S_ .f32 0x00000000#32)
    reducesTo_S16x256x2048_S16x256_d2 h_S_)) (broadcastInDim S16x256x1 ![] bcast_S_S16x256x1 (constant (F := Ideal) S_ .f32 0x45000000#32)))
    (broadcastInDim S16x256x1 ![] bcast_S_S16x256x1 (constant (F := Ideal) S_ .f32 0x358637BD#32)))))) (broadcastInDim S16x256x2048 ![0, 1, 2]
    bcast_S1x1x2048_S16x256x2048_0_1_2 (broadcastInDim S1x1x2048 ![2] bcast_S2048_S1x1x2048_2 X3))

/-- The reference's second result. -/
def REF1 (X0 : FVec Ideal S6144x2048 .f32) (X1 : FVec Ideal S6144x2048 .f32) (X2 : FVec Ideal S8x12288 .f32) (X3 : FVec Ideal S2048 .f32) : FVec Ideal S2x1024x2048 .f32 :=
  mulf (mulf (addf (shapeCast _ (extractStridedSlice S2048x2048 ![4096, 0] X0 slices_S6144x2048_S2048x2048_4096_0) shapeCasts_S2048x2048_S2x1024x2048)
    (mulf (broadcastInDim S2x1024x2048 ![0, 1, 2] bcast_S2x1x2048_S2x1024x2048_0_1_2 (broadcastInDim S2x1x2048 ![0, 2] bcast_S2x2048_S2x1x2048_0_2
    (extractStridedSlice S2x2048 ![1, 0] (extractStridedSlice S8x2048 ![0, 10240] X2 slices_S8x12288_S8x2048_0_10240) slices_S8x2048_S2x2048_1_0)))
    (shapeCast _ (extractStridedSlice S2048x2048 ![4096, 0] X1 slices_S6144x2048_S2048x2048_4096_0) shapeCasts_S2048x2048_S2x1024x2048)))
    (broadcastInDim S2x1024x2048 ![0, 1, 2] bcast_S2x1024x1_S2x1024x2048_0_1_2 (Host.rsqrt (addf (Host.divf (broadcastInDim S2x1024x1 ![0, 1]
    bcast_S2x1024_S2x1024x1_0_1 (Host.reduceAdd (mulf (addf (shapeCast _ (extractStridedSlice S2048x2048 ![4096, 0] X0
    slices_S6144x2048_S2048x2048_4096_0) shapeCasts_S2048x2048_S2x1024x2048) (mulf (broadcastInDim S2x1024x2048 ![0, 1, 2]
    bcast_S2x1x2048_S2x1024x2048_0_1_2 (broadcastInDim S2x1x2048 ![0, 2] bcast_S2x2048_S2x1x2048_0_2 (extractStridedSlice S2x2048 ![1, 0]
    (extractStridedSlice S8x2048 ![0, 10240] X2 slices_S8x12288_S8x2048_0_10240) slices_S8x2048_S2x2048_1_0))) (shapeCast _ (extractStridedSlice
    S2048x2048 ![4096, 0] X1 slices_S6144x2048_S2048x2048_4096_0) shapeCasts_S2048x2048_S2x1024x2048))) (addf (shapeCast _ (extractStridedSlice
    S2048x2048 ![4096, 0] X0 slices_S6144x2048_S2048x2048_4096_0) shapeCasts_S2048x2048_S2x1024x2048) (mulf (broadcastInDim S2x1024x2048 ![0, 1, 2]
    bcast_S2x1x2048_S2x1024x2048_0_1_2 (broadcastInDim S2x1x2048 ![0, 2] bcast_S2x2048_S2x1x2048_0_2 (extractStridedSlice S2x2048 ![1, 0]
    (extractStridedSlice S8x2048 ![0, 10240] X2 slices_S8x12288_S8x2048_0_10240) slices_S8x2048_S2x2048_1_0))) (shapeCast _ (extractStridedSlice
    S2048x2048 ![4096, 0] X1 slices_S6144x2048_S2048x2048_4096_0) shapeCasts_S2048x2048_S2x1024x2048)))) (constant (F := Ideal) S_ .f32 0x00000000#32)
    reducesTo_S2x1024x2048_S2x1024_d2 h_S_)) (broadcastInDim S2x1024x1 ![] bcast_S_S2x1024x1 (constant (F := Ideal) S_ .f32 0x45000000#32)))
    (broadcastInDim S2x1024x1 ![] bcast_S_S2x1024x1 (constant (F := Ideal) S_ .f32 0x358637BD#32)))))) (broadcastInDim S2x1024x2048 ![0, 1, 2]
    bcast_S1x1x2048_S2x1024x2048_0_1_2 (broadcastInDim S1x1x2048 ![2] bcast_S2048_S1x1x2048_2 X3))

end

open Cert.Kernel13Ideal Cert.Kernel13Ideal.Gen

variable (m : (ℓ : Loc nD τ sig) → Buf (Elt Ideal) ℓ)

/-- The modulation as the call's windows read it. -/
theorem V0' (c : Dev nD) : V m c main_v0 = shapeCast S8x1x12288 (m ((c : Thread nD τ).loc main_arg2)) shapeCasts_S8x12288_S8x1x12288 := by
  show StableHlo.after (List.flatten [hostOps0]) (fun b => m (c, b)) (Proc.devRef .tc main_v0) = _
  simp only [List.flatten_cons, List.flatten_nil, List.append_nil]
  after_results
  rfl

/-- A reshape that inserts a unit axis, at an index. -/
theorem cast_at (X : FVec Ideal S8x12288 .f32) (r : Fin 8) (j : Fin 12288) :
    shapeCast S8x1x12288 X shapeCasts_S8x12288_S8x1x12288 (ix3 r 0 j) = X (ix2 r j) := by
  pointwise

/-- The same at an index. -/
theorem V0_at (c : Dev nD) (r : Fin 8) (j : Fin 12288) : V m c main_v0 (ix3 r 0 j) = (m ((c : Thread nD τ).loc main_arg2)) (ix2 r j) :=
  (congrFun (V0' m c) _).trans (cast_at _ r j)

/-- The norm's weight as the call's window reads it. -/
theorem V1' (c : Dev nD) : V m c main_v2 = shapeCast S1x2048 (m ((c : Thread nD τ).loc main_arg3)) shapeCasts_S2048_S1x2048 := by
  show StableHlo.after (List.flatten [hostOps0]) (fun b => m (c, b)) (Proc.devRef .tc main_v2) = _
  simp only [List.flatten_cons, List.flatten_nil, List.append_nil]
  after_results
  rfl

/-- Block indices of every grid point: the row tile, and the modulation's row — the context's, or the tile's sample's. -/
theorem idx : ∀ t : Fin cfg0.N, win0_0.index t = ![t.val, 0] ∧ win0_1.index t = ![t.val, 0]
    ∧ win0_2.index t = ![if t.val < 8 then 0 else 1 + (t.val - 8) / 2, 0, 5] ∧ win0_3.index t = ![0, 0]
    ∧ win0_4.index t = ![if t.val < 8 then 0 else 1 + (t.val - 8) / 2, 0, 0]
    ∧ win0_5.index t = ![if t.val < 8 then 0 else 1 + (t.val - 8) / 2, 0, 0]
    ∧ win0_6.index t = ![t.val, 0] ∧ win0_7.index t = ![t.val, 0] ∧ t.val < 12 := (by decide +kernel : ∀ t : Fin grid0.N, _)

/-- A row block of the stream. -/
theorem blkx (c : Dev nD) (t : Fin cfg0.N) (a : Fin 512) (b : Fin 2048) (i : Fin 6144) (hi : i.val = t.val * 512 + a.val) :
    iblk m c 0 t (ix2 a b) = (m ((c : Thread nD τ).loc main_arg0)) (ix2 i b) := by
  blk_ext [iblk, V, idx t]
  all_goals omega

/-- A row block of the residual. -/
theorem blkd (c : Dev nD) (t : Fin cfg0.N) (a : Fin 512) (b : Fin 2048) (i : Fin 6144) (hi : i.val = t.val * 512 + a.val) :
    iblk m c 1 t (ix2 a b) = (m ((c : Thread nD τ).loc main_arg1)) (ix2 i b) := by
  blk_ext [iblk, V, idx t]
  all_goals omega

/-- The row of the modulation a token's row reads. -/
def mrow (i : Fin 6144) : Fin 8 := ⟨if i.val < 4096 then 0 else 1 + (i.val - 4096) / 1024, by split <;> omega⟩

/-- A row tile lies in one sequence's rows. -/
theorem mrow_eq (t : Fin cfg0.N) (a : Fin 512) (i : Fin 6144) (hi : i.val = t.val * 512 + a.val) :
    (mrow i).val = if t.val < 8 then 0 else 1 + (t.val - 8) / 2 := by
  show (if i.val < 4096 then 0 else 1 + (i.val - 4096) / 1024) = _
  split <;> split <;> omega

/-- The norm's weight. -/
theorem blkn (c : Dev nD) (t : Fin cfg0.N) (b : Fin 2048) : iblk m c 3 t (ix2 0 b) = (m ((c : Thread nD τ).loc main_arg3)) (ix1 b) := by
  unfold iblk
  blk_simp
  show V m c main_v2 _ = _
  rw [V1']
  pointwise
  blk_ext [idx t]

/-- The gate's block of the modulation. -/
theorem blkg (c : Dev nD) (t : Fin cfg0.N) (b : Fin 2048) (r : Fin 8) (j : Fin 12288)
    (hr : r.val = if t.val < 8 then 0 else 1 + (t.val - 8) / 2) (hj : j.val = 5 * 2048 + b.val) :
    iblk m c 2 t (ix3 0 0 b) = (m ((c : Thread nD τ).loc main_arg2)) (ix2 r j) := by
  unfold iblk
  blk_simp
  show V m c main_v0 _ = _
  refine (congrArg (V m c main_v0) (?_ : _ = ix3 r 0 j)).trans (V0_at m c r j)
  blk_ext [idx t]
  all_goals omega

/-- The residual stream at an index: the stream plus the gated residual. -/
def res (X0 X1 : FVec Ideal S6144x2048 .f32) (X2 : FVec Ideal S8x12288 .f32) (i : Fin 6144) (b : Fin 2048) : EReal :=
  X0 (ix2 i b) + X2 (ix2 (mrow i) ⟨5 * 2048 + b.val, by omega⟩) * X1 (ix2 i b)

/-- The normalised stream at an index. -/
def nrm (X0 X1 : FVec Ideal S6144x2048 .f32) (X2 : FVec Ideal S8x12288 .f32) (X3 : FVec Ideal S2048 .f32) (i : Fin 6144) (b : Fin 2048) : EReal :=
  res X0 X1 X2 i b * Ideal.rsqrt (Ideal.div (∑ k : Fin 2048, res X0 X1 X2 i k * res X0 X1 X2 i k) (Ideal.ofBits .f32 0x45000000#32)
    + Ideal.ofBits .f32 0x358637BD#32) * X3 (ix1 b)

/-- The kernel's stream block at an index. -/
theorem pay1 (c : Dev nD) (t : Fin cfg0.N) (a : Fin 512) (b : Fin 2048) (i : Fin 6144) (hi : i.val = t.val * 512 + a.val) :
    k0_pay1 (iblk m c 0 t) (iblk m c 2 t) (iblk m c 1 t) (ix2 a b) = res (m ((c : Thread nD τ).loc main_arg0)) (m ((c : Thread nD τ).loc main_arg1)) (m ((c : Thread nD τ).loc main_arg2)) i b := by
  pointwise [k0_pay1, res]
  rw [blkx m c t a b i hi, blkd m c t a b i hi, blkg m c t b (mrow i) ⟨5 * 2048 + b.val, by omega⟩ (mrow_eq t a i hi) rfl]

/-- The modulation after the last layer is zero. -/
theorem V3' (c : Dev nD) : V m c main_v1 = broadcastInDim S8x1x12288 ![] bcast_S_S8x1x12288 (constant (F := Ideal) S_ .f32 0x00000000#32) := by
  show StableHlo.after (List.flatten [hostOps0]) (fun b => m (c, b)) (Proc.devRef .tc main_v1) = _
  simp only [List.flatten_cons, List.flatten_nil, List.append_nil]
  after_results

/-- The scale's block is zero. -/
theorem blks (c : Dev nD) (t : Fin cfg0.N) (b : Fin 2048) : iblk m c 4 t (ix3 0 0 b) = (0 : EReal) := by
  unfold iblk
  blk_simp
  show V m c main_v1 _ = _
  rw [V3']
  pointwise

/-- The shift's block is zero. -/
theorem blkh (c : Dev nD) (t : Fin cfg0.N) (b : Fin 2048) : iblk m c 5 t (ix3 0 0 b) = (0 : EReal) := by
  unfold iblk
  blk_simp
  show V m c main_v1 _ = _
  rw [V3']
  pointwise

/-- The kernel's normalised block at an index. -/
theorem pay2 (c : Dev nD) (t : Fin cfg0.N) (a : Fin 512) (b : Fin 2048) (i : Fin 6144) (hi : i.val = t.val * 512 + a.val) :
    k0_pay2 (iblk m c 0 t) (iblk m c 2 t) (iblk m c 1 t) (iblk m c 3 t) (iblk m c 4 t) (iblk m c 5 t) (ix2 a b) = nrm (m ((c : Thread nD τ).loc main_arg0)) (m ((c : Thread nD τ).loc main_arg1)) (m ((c : Thread nD τ).loc main_arg2)) (m ((c : Thread nD τ).loc main_arg3)) i b := by
  have hp : ∀ b : Fin 2048, k0_pay1 (iblk m c 0 t) (iblk m c 2 t) (iblk m c 1 t) (ix2 a b) = res (m ((c : Thread nD τ).loc main_arg0)) (m ((c : Thread nD τ).loc main_arg1)) (m ((c : Thread nD τ).loc main_arg2)) i b :=
    fun b => pay1 m c t a b i hi
  pointwise [k0_pay2, hp, nrm]
  rw [blkn, blks, blkh]
  exact (add_zero _).trans ((congrArg _ (add_zero _)).trans (mul_one _))

/-- The normalised stream, every row. -/
def NRM (X0 X1 : FVec Ideal S6144x2048 .f32) (X2 : FVec Ideal S8x12288 .f32) (X3 : FVec Ideal S2048 .f32) : FVec Ideal S6144x2048 .f32 :=
  fun j => nrm X0 X1 X2 X3 (j 0) (j 1)

/-- The normalised stream at an index. -/
theorem NRM_at (X0 X1 : FVec Ideal S6144x2048 .f32) (X2 : FVec Ideal S8x12288 .f32) (X3 : FVec Ideal S2048 .f32) (i : Fin 6144) (b : Fin 2048) :
    NRM X0 X1 X2 X3 (ix2 i b) = nrm X0 X1 X2 X3 i b := rfl

/-- The reference's first result: the context's rows. -/
theorem ref0 (X0 X1 : FVec Ideal S6144x2048 .f32) (X2 : FVec Ideal S8x12288 .f32) (X3 : FVec Ideal S2048 .f32) :
    REF0 X0 X1 X2 X3 = shapeCast S16x256x2048 (extractStridedSlice S4096x2048 ![0, 0] (NRM X0 X1 X2 X3) slices_S6144x2048_S4096x2048_0_0)
      shapeCasts_S4096x2048_S16x256x2048 := by
  funext j
  idx_vars j
  pointwise [REF0]
  have e : mrow ⟨j0.val * 256 + j1.val, by omega⟩ = 0 := Fin.ext (if_pos (by dsimp only; omega))
  refine Eq.trans ?_ (NRM_at _ _ _ _ _ _).symm
  unfold nrm res
  rw [e]

/-- The reference's second result: the samples' rows. -/
theorem ref1 (X0 X1 : FVec Ideal S6144x2048 .f32) (X2 : FVec Ideal S8x12288 .f32) (X3 : FVec Ideal S2048 .f32) :
    REF1 X0 X1 X2 X3 = shapeCast S2x1024x2048 (extractStridedSlice S2048x2048 ![4096, 0] (NRM X0 X1 X2 X3) slices_S6144x2048_S2048x2048_4096_0)
      shapeCasts_S2048x2048_S2x1024x2048 := by
  funext j
  idx_vars j
  pointwise [REF1]
  have e : mrow ⟨4096 + (j0.val * 1024 + j1.val), by omega⟩ = ⟨1 + j0.val, by omega⟩ :=
    Fin.ext ((if_neg (by dsimp only; omega)).trans (by dsimp only; omega))
  refine Eq.trans ?_ (NRM_at _ _ _ _ _ _).symm
  unfold nrm res
  rw [e]

/-- The call's normalised stream after the whole grid. -/
theorem final (c : Dev nD) : (dats m 0 c).arrAt 7 cfg0.N = NRM (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  idx_vars y
  have h := (idx t).2.2.2.2.2.2.2.2
  refine (pay2 m c t y0 y1 ⟨t.val * 512 + y0.val, by omega⟩ rfl).trans ?_
  show NRM (m ((c : Thread nD τ).loc main_arg0)) (m ((c : Thread nD τ).loc main_arg1)) (m ((c : Thread nD τ).loc main_arg2)) (m ((c : Thread nD τ).loc main_arg3)) (ix2 ⟨t.val * 512 + y0.val, by omega⟩ y1) = _
  refine congrArg _ ?_
  blk_ext [idx t]

/-- What the host makes of the call's array: result 5. -/
theorem tail5 (c : Dev nD) : Pipeline.afterTail₀ cfgs (dats m) 0 (Gen.V0 m) [hostOps1] c main_v5
    = shapeCast S16x256x2048 (extractStridedSlice S4096x2048 ![0, 0] ((dats m 0 c).arrAt 7 cfg0.N) slices_S6144x2048_S4096x2048_0_0) shapeCasts_S4096x2048_S16x256x2048 := by
  unfold Pipeline.afterTail₀
  simp only [List.flatten_cons, List.flatten_nil, List.append_nil]
  after_results
  exact congrArg (fun A => shapeCast S16x256x2048 (extractStridedSlice S4096x2048 ![0, 0] A slices_S6144x2048_S4096x2048_0_0) shapeCasts_S4096x2048_S16x256x2048)
    ((dats m 0 c).withArrays_arrAt sharedIn0 (Gen.V0 m c) (fun _ => rfl) 7)

/-- What the host makes of the call's array: result 7. -/
theorem tail7 (c : Dev nD) : Pipeline.afterTail₀ cfgs (dats m) 0 (Gen.V0 m) [hostOps1] c main_v7
    = shapeCast S2x1024x2048 (extractStridedSlice S2048x2048 ![4096, 0] ((dats m 0 c).arrAt 7 cfg0.N) slices_S6144x2048_S2048x2048_4096_0) shapeCasts_S2048x2048_S2x1024x2048 := by
  unfold Pipeline.afterTail₀
  simp only [List.flatten_cons, List.flatten_nil, List.append_nil]
  after_results
  exact congrArg (fun A => shapeCast S2x1024x2048 (extractStridedSlice S2048x2048 ![4096, 0] A slices_S6144x2048_S2048x2048_4096_0) shapeCasts_S2048x2048_S2x1024x2048)
    ((dats m 0 c).withArrays_arrAt sharedIn0 (Gen.V0 m c) (fun _ => rfl) 7)

/-- Result 5 of the call's program is the reference's. -/
theorem res5 (c : Dev nD) : Pipeline.afterTail₀ cfgs (dats m) 0 (Gen.V0 m) [hostOps1] c main_v5 = REF0 (m ((c : Thread nD τ).loc main_arg0)) (m ((c : Thread nD τ).loc main_arg1)) (m ((c : Thread nD τ).loc main_arg2)) (m ((c : Thread nD τ).loc main_arg3)) := by
  rw [tail5, final, ref0]

/-- Result 7 of the call's program is the reference's. -/
theorem res7 (c : Dev nD) : Pipeline.afterTail₀ cfgs (dats m) 0 (Gen.V0 m) [hostOps1] c main_v7 = REF1 (m ((c : Thread nD τ).loc main_arg0)) (m ((c : Thread nD τ).loc main_arg1)) (m ((c : Thread nD τ).loc main_arg2)) (m ((c : Thread nD τ).loc main_arg3)) := by
  rw [tail7, final, ref1]

end Cert.Proof.FinalNorm

end
-- ==== Proof.RotaryKey.lean ====
/-
  The rotary keys.
-/
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.RotaryKey

open Idealize.ShloMosaic Idealize.ShloMosaic.TcCoe Idealize.SL.Sem
open Idealize.ShloMosaic.Pipeline (Dat)

section

open Cert.Reference14Ideal Cert.Reference14Ideal.Gen Idealize.ShloMosaic.StableHlo

/-- The rotation's angles: the position's row or column times the axis's frequency. -/
def ANG : FVec Ideal S1024x2x16 .f32 :=
  mulf (broadcastInDim S1024x2x16 ![0, 1, 2] bcast_S1024x2x1_S1024x2x16_0_1_2 (broadcastInDim S1024x2x1 ![0, 1] bcast_S1024x2_S1024x2x1_0_1 (sitofp
    .f32 (concatenate S1024x2 1 [⟨S1024x1, (broadcastInDim S1024x1 ![0] bcast_S1024_S1024x1_0 (shapeCast S1024 (broadcastInDim S16x64 ![0]
    bcast_S16_S16x64_0 (iotaInDim S16 32 0)) shapeCasts_S16x64_S1024))⟩, ⟨S1024x1, (broadcastInDim S1024x1 ![0] bcast_S1024_S1024x1_0 (shapeCast S1024
    (broadcastInDim S16x64 ![1] bcast_S64_S16x64_1 (iotaInDim S64 32 0)) shapeCasts_S16x64_S1024))⟩] concatenates_S1024x1_S1024x1_S1024x2_d1))))
    (broadcastInDim S1024x2x16 ![0, 1, 2] bcast_S1x1x16_S1024x2x16_0_1_2 (broadcastInDim S1x1x16 ![2] bcast_S16_S1x1x16_2 (Host.powf (broadcastInDim
    S16 ![] bcast_S_S16 (constant (F := Ideal) S_ .f32 0x461C4000#32)) (Host.divf (Host.negf (sitofp .f32 (iotaInDim S16 32 0))) (broadcastInDim S16
    ![] bcast_S_S16 (constant (F := Ideal) S_ .f32 0x41800000#32))))))

/-- The layer's projected columns. -/
def Z (X0 : FVec Ideal S6144x2048 .bf16) (X1 : FVec Ideal S4x2048x11712 .f32) : FVec Ideal S6144x11712 .f32 :=
  Host.dotGeneral dot_S6144x2048_S2048x11712_S6144x11712_1_0_0_1_n_n none (extf .f32 X0 bitsLt_bf16_f32) (shapeCast _ (extractStridedSlice
    S1x2048x11712 ![1, 0, 0] X1 slices_S4x2048x11712_S1x2048x11712_1_0_0) shapeCasts_S1x2048x11712_S2048x11712)

/-- The samples' rotary columns of the projection. -/
def ZK (z : FVec Ideal S6144x11712 .f32) : FVec Ideal S2x1024x64 .f32 :=
  shapeCast _ (extractStridedSlice S2048x64 ![4096, 0] (extractStridedSlice S6144x64 ![0, 4480] z slices_S6144x11712_S6144x64_0_4480)
    slices_S6144x64_S2048x64_4096_0) shapeCasts_S2048x64_S2x1024x64

/-- The rotation of the pairs by the angles with the given cosines and sines. -/
def ROPE (zk : FVec Ideal S2x1024x64 .f32) (co si : FVec Ideal S1024x2x16 .f32) : FVec Ideal S2x1024x64 .f32 :=
  shapeCast _ (concatenate S2x1024x2x2x16 3 [⟨S2x1024x2x1x16, (broadcastInDim S2x1024x2x1x16 ![0, 1, 2, 4] bcast_S2x1024x2x16_S2x1024x2x1x16_0_1_2_4
    (subf (mulf (shapeCast _ (extractStridedSlice S2x1024x2x1x16 ![0, 0, 0, 0, 0] (shapeCast _ zk shapeCasts_S2x1024x64_S2x1024x2x2x16)
    slices_S2x1024x2x2x16_S2x1024x2x1x16_0_0_0_0_0) shapeCasts_S2x1024x2x1x16_S2x1024x2x16) (broadcastInDim S2x1024x2x16 ![0, 1, 2, 3]
    bcast_S1x1024x2x16_S2x1024x2x16_0_1_2_3 (broadcastInDim S1x1024x2x16 ![1, 2, 3] bcast_S1024x2x16_S1x1024x2x16_1_2_3 co))) (mulf (shapeCast _
    (extractStridedSlice S2x1024x2x1x16 ![0, 0, 0, 1, 0] (shapeCast _ zk shapeCasts_S2x1024x64_S2x1024x2x2x16)
    slices_S2x1024x2x2x16_S2x1024x2x1x16_0_0_0_1_0) shapeCasts_S2x1024x2x1x16_S2x1024x2x16) (broadcastInDim S2x1024x2x16 ![0, 1, 2, 3]
    bcast_S1x1024x2x16_S2x1024x2x16_0_1_2_3 (broadcastInDim S1x1024x2x16 ![1, 2, 3] bcast_S1024x2x16_S1x1024x2x16_1_2_3 si)))))⟩, ⟨S2x1024x2x1x16,
    (broadcastInDim S2x1024x2x1x16 ![0, 1, 2, 4] bcast_S2x1024x2x16_S2x1024x2x1x16_0_1_2_4 (addf (mulf (shapeCast _ (extractStridedSlice
    S2x1024x2x1x16 ![0, 0, 0, 0, 0] (shapeCast _ zk shapeCasts_S2x1024x64_S2x1024x2x2x16) slices_S2x1024x2x2x16_S2x1024x2x1x16_0_0_0_0_0)
    shapeCasts_S2x1024x2x1x16_S2x1024x2x16) (broadcastInDim S2x1024x2x16 ![0, 1, 2, 3] bcast_S1x1024x2x16_S2x1024x2x16_0_1_2_3 (broadcastInDim
    S1x1024x2x16 ![1, 2, 3] bcast_S1024x2x16_S1x1024x2x16_1_2_3 si))) (mulf (shapeCast _ (extractStridedSlice S2x1024x2x1x16 ![0, 0, 0, 1, 0]
    (shapeCast _ zk shapeCasts_S2x1024x64_S2x1024x2x2x16) slices_S2x1024x2x2x16_S2x1024x2x1x16_0_0_0_1_0) shapeCasts_S2x1024x2x1x16_S2x1024x2x16)
    (broadcastInDim S2x1024x2x16 ![0, 1, 2, 3] bcast_S1x1024x2x16_S2x1024x2x16_0_1_2_3 (broadcastInDim S1x1024x2x16 ![1, 2, 3]
    bcast_S1024x2x16_S1x1024x2x16_1_2_3 co)))))⟩] concatenates_S2x1024x2x1x16_S2x1024x2x1x16_S2x1024x2x2x16_d3) shapeCasts_S2x1024x2x2x16_S2x1024x64

/-- The reference's rotary keys of the context. -/
def REF0 (X0 : FVec Ideal S6144x2048 .bf16) (X1 : FVec Ideal S4x2048x11712 .f32) : FVec Ideal S16x256x64 .f32 :=
  shapeCast _ (extractStridedSlice S4096x64 ![0, 0] (extractStridedSlice S6144x64 ![0, 4480] (Z X0 X1) slices_S6144x11712_S6144x64_0_4480)
    slices_S6144x64_S4096x64_0_0) shapeCasts_S4096x64_S16x256x64

/-- The reference's rotary keys of the samples. -/
def REF1 (X0 : FVec Ideal S6144x2048 .bf16) (X1 : FVec Ideal S4x2048x11712 .f32) : FVec Ideal S2x1024x64 .f32 := ROPE (ZK (Z X0 X1)) (Host.cos ANG) (Host.sin ANG)

/-- The projected columns at an index: the row against the layer's weight's column. -/
theorem Z_at (X0 : FVec Ideal S6144x2048 .bf16) (X1 : FVec Ideal S4x2048x11712 .f32) (r : Fin 6144) (j : Fin 11712) :
    Z X0 X1 (ix2 r j) = ∑ k : Fin 2048, X0 (ix2 r k) * X1 (ix3 1 k j) := by
  pointwise [Z]

/-- The samples' rotary columns at an index. -/
theorem ZK_at (z : FVec Ideal S6144x11712 .f32) (u : Fin 2) (s : Fin 1024) (j : Fin 64) (r : Fin 6144) (i : Fin 11712)
    (hr : r.val = 4 * 1024 + (u.val * 1024 + s.val)) (hi : i.val = 4480 + j.val) : ZK z (ix3 u s j) = z (ix2 r i) := by
  rw [show r = ⟨4 * 1024 + (u.val * 1024 + s.val), by omega⟩  from Fin.ext hr]
  rw [show i = ⟨4480 + j.val, by omega⟩  from Fin.ext hi]
  pointwise [ZK]

/-- An array of rank three at equal coordinates. -/
theorem at3 {a b c : ℕ} (f : FVec Ideal (⟨3, ![a, b, c]⟩ : Shape) .f32) {i i' : Fin a} {j j' : Fin b} {k k' : Fin c} (hi : i.val = i'.val) (hj : j.val = j'.val)
    (hk : k.val = k'.val) : f (ix3 i j k) = f (ix3 i' j' k') := by
  rw [Fin.ext hi, Fin.ext hj, Fin.ext hk]

/-- The rotation at an index. -/
theorem ROPE_at (zk : FVec Ideal S2x1024x64 .f32) (co si : FVec Ideal S1024x2x16 .f32) (u : Fin 2) (s : Fin 1024) (d : Fin 64) :
    ROPE zk co si (ix3 u s d) = if h : d.val % 32 < 16
      then zk (ix3 u s d) * co (ix3 s ⟨d.val / 32, by omega⟩ ⟨d.val % 16, by omega⟩)
        - zk (ix3 u s ⟨d.val + 16, by omega⟩) * si (ix3 s ⟨d.val / 32, by omega⟩ ⟨d.val % 16, by omega⟩)
      else zk (ix3 u s ⟨d.val - 16, by omega⟩) * si (ix3 s ⟨d.val / 32, by omega⟩ ⟨d.val % 16, by omega⟩)
        + zk (ix3 u s d) * co (ix3 s ⟨d.val / 32, by omega⟩ ⟨d.val % 16, by omega⟩) := by
  pointwise [ROPE]
  by_cases h : d.val % 32 < 16
  · have e1 : d.val / 32 * 32 + d.val % 16 = d.val := by omega
    have e2 : d.val / 32 * 32 + 16 + d.val % 16 = d.val + 16 := by omega
    refine (dif_pos (show d.val / 16 % 2 < 1 by omega)).trans (Eq.trans ?_ (dif_pos h).symm)
    simp only [e1, e2, Fin.eta]
  · have e1 : d.val / 32 * 32 + d.val % 16 = d.val - 16 := by omega
    have e2 : d.val / 32 * 32 + 16 + d.val % 16 = d.val := by omega
    refine (dif_neg (show ¬ d.val / 16 % 2 < 1 by omega)).trans (Eq.trans ?_ (dif_neg h).symm)
    simp only [e1, e2, Fin.eta]

end

open Cert.Kernel14Ideal Cert.Kernel14Ideal.Gen

variable (m : (ℓ : Loc nD τ sig) → Buf (Elt Ideal) ℓ)

/-- The host's table of cosines by lane. -/
def CT (co : FVec Ideal S1024x2x16 .f32) : FVec Ideal S1024x64 .f32 :=
  concatenate S1024x64 1 [⟨S1024x16, (shapeCast S1024x16 (extractStridedSlice S1024x1x16 ![0, 0, 0] co slices_S1024x2x16_S1024x1x16_0_0_0)
    shapeCasts_S1024x1x16_S1024x16)⟩, ⟨S1024x16, (shapeCast S1024x16 (extractStridedSlice S1024x1x16 ![0, 0, 0] co slices_S1024x2x16_S1024x1x16_0_0_0)
    shapeCasts_S1024x1x16_S1024x16)⟩, ⟨S1024x16, (shapeCast S1024x16 (extractStridedSlice S1024x1x16 ![0, 1, 0] co slices_S1024x2x16_S1024x1x16_0_1_0)
    shapeCasts_S1024x1x16_S1024x16)⟩, ⟨S1024x16, (shapeCast S1024x16 (extractStridedSlice S1024x1x16 ![0, 1, 0] co slices_S1024x2x16_S1024x1x16_0_1_0)
    shapeCasts_S1024x1x16_S1024x16)⟩] concatenates_S1024x16_S1024x16_S1024x16_S1024x16_S1024x64_d1

/-- The host's table of signed sines by lane. -/
def ST (si : FVec Ideal S1024x2x16 .f32) : FVec Ideal S1024x64 .f32 :=
  concatenate S1024x64 1 [⟨S1024x16, Host.negf (shapeCast S1024x16 (extractStridedSlice S1024x1x16 ![0, 0, 0] si slices_S1024x2x16_S1024x1x16_0_0_0)
    shapeCasts_S1024x1x16_S1024x16)⟩, ⟨S1024x16, (shapeCast S1024x16 (extractStridedSlice S1024x1x16 ![0, 0, 0] si slices_S1024x2x16_S1024x1x16_0_0_0)
    shapeCasts_S1024x1x16_S1024x16)⟩, ⟨S1024x16, Host.negf (shapeCast S1024x16 (extractStridedSlice S1024x1x16 ![0, 1, 0] si
    slices_S1024x2x16_S1024x1x16_0_1_0) shapeCasts_S1024x1x16_S1024x16)⟩, ⟨S1024x16, (shapeCast S1024x16 (extractStridedSlice S1024x1x16 ![0, 1, 0] si
    slices_S1024x2x16_S1024x1x16_0_1_0) shapeCasts_S1024x1x16_S1024x16)⟩] concatenates_S1024x16_S1024x16_S1024x16_S1024x16_S1024x64_d1

/-- The cosine table at an index. -/
theorem CT_at (co : FVec Ideal S1024x2x16 .f32) (s : Fin 1024) (d : Fin 64) :
    CT co (ix2 s d) = co (ix3 s ⟨d.val / 32, by omega⟩ ⟨d.val % 16, by omega⟩) := by
  pointwise [CT]
  split_ifs <;> exact at3 _ rfl (by dsimp only; omega) (by dsimp only; omega)

/-- The signed sine table at an index. -/
theorem ST_at (si : FVec Ideal S1024x2x16 .f32) (s : Fin 1024) (d : Fin 64) :
    ST si (ix2 s d) = if d.val % 32 < 16 then -(si (ix3 s ⟨d.val / 32, by omega⟩ ⟨d.val % 16, by omega⟩) : EReal)
      else si (ix3 s ⟨d.val / 32, by omega⟩ ⟨d.val % 16, by omega⟩) := by
  pointwise [ST]
  by_cases h : d.val % 32 < 16
  · rw [if_pos h]
    split_ifs <;> first | exact congrArg (fun x : EReal => -x) (at3 _ rfl (by dsimp only; omega) (by dsimp only; omega)) | (exfalso; omega)
  · rw [if_neg h]
    split_ifs <;> first | exact at3 _ rfl (by dsimp only; omega) (by dsimp only; omega) | (exfalso; omega)

/-- The words that name each lane's partner. -/
def WORDS : IVec S64x1 32 :=
  broadcastInDim S64x1 ![0] bcast_S64_S64x1_0 (select (cmpi .slt (fun i => lit0 (S64.rowMajor i)) (broadcastInDim S64 ![] bcast_S_S64 (constantI S_ 32 0#32)))
    (addi (fun i => lit0 (S64.rowMajor i)) (broadcastInDim S64 ![] bcast_S_S64 (constantI S_ 32 64#32))) (fun i => lit0 (S64.rowMajor i)))

/-- A lane's partner. -/
def swap (d : ℕ) : ℕ := if d % 32 < 16 then d + 16 else d - 16

/-- The words are the partners. -/
theorem words : ∀ d : Fin 64, min (WORDS (ix2 d 0)).toInt.toNat (64 - 1) = swap d.val := by
  decide +kernel

/-- The weight's rotary columns, as rows. -/
def WK (w : FVec Ideal S4x2048x11712 .f32) : FVec Ideal S64x2048 .f32 :=
  shapeCast S64x2048 (extractStridedSlice S1x64x2048 ![1, 4480, 0] (transpose S4x11712x2048 [0, 2, 1] w transposes_S4x2048x11712_S4x11712x2048_0_2_1)
    slices_S4x11712x2048_S1x64x2048_1_4480_0) shapeCasts_S1x64x2048_S64x2048

/-- The weight's partner rows. -/
def WS (w : FVec Ideal S4x2048x11712 .f32) : FVec Ideal S64x2048 .f32 :=
  Host.gather gather_S64x2048_S64x1_S64x2048_1_0_n_n_0_1_12048 (WK w) WORDS

/-- The weight's rotary columns at an index. -/
theorem WK_at (w : FVec Ideal S4x2048x11712 .f32) (d : Fin 64) (k : Fin 2048) (i : Fin 11712) (hi : i.val = 4480 + d.val) :
    WK w (ix2 d k) = w (ix3 1 k i) := by
  rw [show i = ⟨4480 + d.val, by omega⟩  from Fin.ext hi]
  pointwise [WK]

/-- The partner rows at an index. -/
theorem WS_at (w : FVec Ideal S4x2048x11712 .f32) (d : Fin 64) (k : Fin 2048) (i : Fin 11712) (hi : i.val = 4480 + swap d.val) :
    WS w (ix2 d k) = w (ix3 1 k i) := by
  have hb : min (WORDS (ix2 d 0)).toInt.toNat (64 - 1) < 64 := by omega
  refine Eq.trans ?_ (WK_at w ⟨min (WORDS (ix2 d 0)).toInt.toNat (64 - 1), hb⟩ k i (by dsimp only; rw [words d]; exact hi))
  unfold WS Host.gather
  congr 1
  funext a
  refine Fin.ext ?_
  show GatherDims.start gather_S64x2048_S64x1_S64x2048_1_0_n_n_0_1_12048 (ix2 d k) WORDS a + GatherDims.batchCoord gather_S64x2048_S64x1_S64x2048_1_0_n_n_0_1_12048 (ix2 d k) a
    + GatherDims.offCoord gather_S64x2048_S64x1_S64x2048_1_0_n_n_0_1_12048 (ix2 d k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S64x2048_S64x1_S64x2048_1_0_n_n_0_1_12048.startIndexMap from List.mem_singleton.mpr rfl)]
    have hsi : gather_S64x2048_S64x1_S64x2048_1_0_n_n_0_1_12048.siIdx (ix2 d k) ⟨List.idxOf (0 : Fin 2) gather_S64x2048_S64x1_S64x2048_1_0_n_n_0_1_12048.startIndexMap,
        List.idxOf_lt_length_iff.2 (List.mem_singleton.mpr rfl)⟩ = ix2 d 0 := by
      funext b; refine Fin.ext ?_
      match b with
      | ⟨0, _⟩ => rfl
      | ⟨1, _⟩ => rfl
    rw [hsi]
    rfl
  · have h0 : GatherDims.start gather_S64x2048_S64x1_S64x2048_1_0_n_n_0_1_12048 (ix2 d k) WORDS 1 = 0 := rfl
    rw [h0]
    show 0 + 0 + k.val = k.val
    omega

/-- The weight the call reads: the rotary columns, and each column's partner. -/
def W2 (w : FVec Ideal S4x2048x11712 .f32) : FVec Ideal S2048x128 .f32 :=
  transpose S2048x128 [1, 0] (concatenate S128x2048 0 [⟨S64x2048, WK w⟩, ⟨S64x2048, WS w⟩] concatenates_S64x2048_S64x2048_S128x2048_d0) transposes_S128x2048_S2048x128_1_0

/-- The weight's first half. -/
theorem W2_lo (w : FVec Ideal S4x2048x11712 .f32) (k : Fin 2048) (j : Fin 128) (i : Fin 11712) (h : j.val < 64) (hi : i.val = 4480 + j.val) :
    W2 w (ix2 k j) = w (ix3 1 k i) := by
  pointwise [W2]
  rw [dif_pos h]
  exact WK_at w _ k i (by dsimp only; omega)

/-- The weight's second half. -/
theorem W2_hi (w : FVec Ideal S4x2048x11712 .f32) (k : Fin 2048) (j : Fin 128) (i : Fin 11712) (h : ¬ j.val < 64) (hi : i.val = 4480 + swap (j.val - 64)) :
    W2 w (ix2 k j) = w (ix3 1 k i) := by
  pointwise [W2]
  rw [dif_neg h]
  exact WS_at w _ k i (by dsimp only; omega)

/-- The call's array. -/
def MM (X0 : FVec Ideal S6144x2048 .bf16) (X1 : FVec Ideal S4x2048x11712 .f32) (j : S6144x128.Idx) : EReal := ∑ k : Fin 2048, X0 (ix2 (j 0) k) * W2 X1 (ix2 k (j 1))

/-- The call's first columns are the projection's rotary columns. -/
theorem MM_lo (X0 : FVec Ideal S6144x2048 .bf16) (X1 : FVec Ideal S4x2048x11712 .f32) (r : Fin 6144) (j : Fin 128) (i : Fin 11712) (h : j.val < 64)
    (hi : i.val = 4480 + j.val) : MM X0 X1 (ix2 r j) = Z X0 X1 (ix2 r i) :=
  (Finset.sum_congr rfl fun k _ => congrArg (X0 (ix2 r k) * ·) (W2_lo X1 k j i h hi)).trans (Z_at X0 X1 r i).symm

/-- The call's other columns are the partners. -/
theorem MM_hi (X0 : FVec Ideal S6144x2048 .bf16) (X1 : FVec Ideal S4x2048x11712 .f32) (r : Fin 6144) (j : Fin 128) (i : Fin 11712) (h : ¬ j.val < 64)
    (hi : i.val = 4480 + swap (j.val - 64)) : MM X0 X1 (ix2 r j) = Z X0 X1 (ix2 r i) :=
  (Finset.sum_congr rfl fun k _ => congrArg (X0 (ix2 r k) * ·) (W2_hi X1 k j i h hi)).trans (Z_at X0 X1 r i).symm

/-- Where the windows are at a grid point. -/
theorem idx : ∀ t : Fin cfg0.N, win0_0.index t = ![t.val, 0] ∧ win0_1.index t = ![0, 0] ∧ win0_2.index t = ![t.val, 0] := (by decide +kernel : ∀ t : Fin grid0.N, _)

/-- The weight as the call finds it. -/
theorem V54 (c : Dev nD) : V m c main_v54 = W2 (m ((c : Thread nD τ).loc main_arg1)) := by
  show StableHlo.after (List.flatten [hostOps0]) (fun b => m (c, b)) (Proc.devRef .tc main_v54) = _
  simp only [List.flatten_cons, List.flatten_nil, List.append_nil]
  after_results
  rfl

/-- The cosine table as the host leaves it. -/
theorem V32 (c : Dev nD) : V m c main_v32 = CT (Host.cos ANG) := by
  show StableHlo.after (List.flatten [hostOps0]) (fun b => m (c, b)) (Proc.devRef .tc main_v32) = _
  simp only [List.flatten_cons, List.flatten_nil, List.append_nil]
  after_results
  rfl

/-- The sine table as the host leaves it. -/
theorem V43 (c : Dev nD) : V m c main_v43 = ST (Host.sin ANG) := by
  show StableHlo.after (List.flatten [hostOps0]) (fun b => m (c, b)) (Proc.devRef .tc main_v43) = _
  simp only [List.flatten_cons, List.flatten_nil, List.append_nil]
  after_results
  rfl

/-- The rows' block at an index. -/
theorem blk0 (c : Dev nD) (t : Fin cfg0.N) (a : Fin 1024) (k : Fin 2048) (r : Fin 6144) (hr : r.val = t.val * 1024 + a.val) :
    iblk m c 0 t (ix2 a k) = (m ((c : Thread nD τ).loc main_arg0)) (ix2 r k) := by
  rw [show r = ⟨t.val * 1024 + a.val, by omega⟩  from Fin.ext hr]
  blk_point [iblk, V, idx t]

/-- The weight's block at an index. -/
theorem blk1 (c : Dev nD) (t : Fin cfg0.N) (k : Fin 2048) (b : Fin 128) : iblk m c 1 t (ix2 k b) = W2 (m ((c : Thread nD τ).loc main_arg1)) (ix2 k b) := by
  unfold iblk
  blk_simp
  show V m c main_v54 _ = _
  rw [V54]
  blk_ext [idx t]

/-- A grid point's block, at an index, is the product's. -/
theorem point (c : Dev nD) (t : Fin cfg0.N) (a : Fin 1024) (b : Fin 128) (r : Fin 6144) (hr : r.val = t.val * 1024 + a.val) :
    k0_pay1 (iblk m c 0 t) (iblk m c 1 t) (ix2 a b) = MM (m ((c : Thread nD τ).loc main_arg0)) (m ((c : Thread nD τ).loc main_arg1)) (ix2 r b) := by
  pointwise [k0_pay1, MM]
  exact Finset.sum_congr rfl fun k _ => congrArg₂ (fun x y : EReal => x * y) (blk0 m c t a k r hr) (blk1 m c t k b)

/-- The call's array is the product. -/
theorem final (c : Dev nD) : (dats m 0 c).arrAt 2 cfg0.N = MM (m ((c : Thread nD τ).loc main_arg0)) (m ((c : Thread nD τ).loc main_arg1)) := by
  refine (dats m 0 c).arrAt_eq_of_covers 2 _ (by decide +kernel) fun t _ y => ?_
  have ht : t.val < 6 := t.isLt
  have hi := (idx t).2.2
  blk_simp
  rw [after0_2]
  frame_out
  idx_vars y
  refine (point m c t y0 y1 ⟨t.val * 1024 + y0.val, by omega⟩ rfl).trans (congrArg _ ?_)
  blk_ext [idx t]

/-- The rotation is the table's products: the first lane of a pair subtracts, the second adds. -/
theorem rope (x p co si : EReal) : x * co + p * (-si) = x * co - p * si := by
  rw [mul_neg, sub_eq_add_neg]

/-- The samples' keys from the call's array are the reference's. -/
theorem rotated (X0 : FVec Ideal S6144x2048 .bf16) (X1 : FVec Ideal S4x2048x11712 .f32) (u : Fin 2) (s : Fin 1024) (d : Fin 64) (r : Fin 6144)
    (hr : r.val = 4 * 1024 + (u.val * 1024 + s.val)) (co si : FVec Ideal S1024x2x16 .f32) :
    MM X0 X1 (ix2 r ⟨d.val, by omega⟩) * CT co (ix2 s d) + MM X0 X1 (ix2 r ⟨64 + d.val, by omega⟩) * ST si (ix2 s d) = ROPE (ZK (Z X0 X1)) co si (ix3 u s d) := by
  have ho : 4480 + swap (64 + d.val - 64) < 11712 := by unfold swap; split_ifs <;> omega
  rw [ROPE_at, CT_at, ST_at, MM_lo X0 X1 r ⟨d.val, _⟩ ⟨4480 + d.val, by omega⟩ d.isLt rfl,
    MM_hi X0 X1 r ⟨64 + d.val, _⟩ ⟨4480 + swap (64 + d.val - 64), ho⟩ (by dsimp only; omega) rfl]
  rw [ZK_at (Z X0 X1) u s d r ⟨4480 + d.val, by omega⟩ hr rfl]
  by_cases h : d.val % 32 < 16
  · rw [dif_pos h, if_pos h, rope]
    rw [ZK_at (Z X0 X1) u s ⟨d.val + 16, _⟩ r ⟨4480 + swap (64 + d.val - 64), ho⟩ hr (by dsimp only; unfold swap; rw [if_pos (by omega)]; omega)]
  · rw [dif_neg h, if_neg h]
    rw [ZK_at (Z X0 X1) u s ⟨d.val - 16, _⟩ r ⟨4480 + swap (64 + d.val - 64), ho⟩ hr (by dsimp only; unfold swap; rw [if_neg (by omega)]; omega)]
    exact add_comm _ _

/-- What the host makes of the call's array: the context's keys. -/
theorem tail69 (c : Dev nD) : Pipeline.afterTail₀ cfgs (dats m) 0 (Gen.V0 m) [hostOps1] c main_v69
    = shapeCast S16x256x64 (extractStridedSlice S4096x64 ![0, 0] (extractStridedSlice S6144x64 ![0, 0] ((dats m 0 c).arrAt 2 cfg0.N) slices_S6144x128_S6144x64_0_0)
      slices_S6144x64_S4096x64_0_0) shapeCasts_S4096x64_S16x256x64 := by
  unfold Pipeline.afterTail₀
  simp only [List.flatten_cons, List.flatten_nil, List.append_nil]
  after_results
  exact congrArg (fun A => shapeCast S16x256x64 (extractStridedSlice S4096x64 ![0, 0] (extractStridedSlice S6144x64 ![0, 0] A slices_S6144x128_S6144x64_0_0)
      slices_S6144x64_S4096x64_0_0) shapeCasts_S4096x64_S16x256x64)
    ((dats m 0 c).withArrays_arrAt (by decide) (Gen.V0 m c) (fun _ => rfl) 2)

/-- The samples' keys from the call's array and the tables. -/
def ROT (A : FVec Ideal S6144x128 .f32) (ct st : FVec Ideal S1024x64 .f32) : FVec Ideal S2x1024x64 .f32 :=
  shapeCast S2x1024x64 (addf
    (mulf (extractStridedSlice S2048x64 ![4096, 0] (extractStridedSlice S6144x64 ![0, 0] A slices_S6144x128_S6144x64_0_0) slices_S6144x64_S2048x64_4096_0)
      (shapeCast S2048x64 (broadcastInDim S2x1024x1x64 ![0, 1, 2, 3] bcast_S1x1024x1x64_S2x1024x1x64_0_1_2_3 (shapeCast S1x1024x1x64 ct shapeCasts_S1024x64_S1x1024x1x64)) shapeCasts_S2x1024x1x64_S2048x64))
    (mulf (extractStridedSlice S2048x64 ![4096, 64] A slices_S6144x128_S2048x64_4096_64)
      (shapeCast S2048x64 (broadcastInDim S2x1024x1x64 ![0, 1, 2, 3] bcast_S1x1024x1x64_S2x1024x1x64_0_1_2_3 (shapeCast S1x1024x1x64 st shapeCasts_S1024x64_S1x1024x1x64)) shapeCasts_S2x1024x1x64_S2048x64)))
    shapeCasts_S2048x64_S2x1024x64

/-- What the host makes of the call's array: the samples' keys. -/
theorem tail70 (c : Dev nD) : Pipeline.afterTail₀ cfgs (dats m) 0 (Gen.V0 m) [hostOps1] c main_v70
    = ROT ((dats m 0 c).arrAt 2 cfg0.N) (CT (Host.cos ANG)) (ST (Host.sin ANG)) := by
  have e32 : Pipeline.withArrays spec0 c (Gen.V0 m c) (fun w => (dats m 0 c).arrAt w cfg0.N) (Proc.devRef .tc main_v32) = CT (Host.cos ANG) :=
    (Pipeline.withArrays_of_ne _ c (Gen.V0 m c) _ main_v32 (by exact (by decide : ∀ w, Pipeline.arrRef spec0 w ≠ main_v32))).trans (V32 m c)
  have e43 : Pipeline.withArrays spec0 c (Gen.V0 m c) (fun w => (dats m 0 c).arrAt w cfg0.N) (Proc.devRef .tc main_v43) = ST (Host.sin ANG) :=
    (Pipeline.withArrays_of_ne _ c (Gen.V0 m c) _ main_v43 (by exact (by decide : ∀ w, Pipeline.arrRef spec0 w ≠ main_v43))).trans (V43 m c)
  have e55 := (dats m 0 c).withArrays_arrAt (by decide) (Gen.V0 m c) (fun _ => rfl) 2
  unfold Pipeline.afterTail₀
  simp only [List.flatten_cons, List.flatten_nil, List.append_nil]
  after_results
  rw [← e32, ← e43, ← e55]
  rfl

/-- The context's keys are the reference's. -/
theorem res69 (c : Dev nD) : Pipeline.afterTail₀ cfgs (dats m) 0 (Gen.V0 m) [hostOps1] c main_v69 = REF0 (m ((c : Thread nD τ).loc main_arg0)) (m ((c : Thread nD τ).loc main_arg1)) := by
  rw [tail69, final]
  funext j
  idx_vars j
  pointwise [REF0]
  exact MM_lo _ _ _ _ _ (by dsimp only; omega) rfl

/-- The samples' keys are the reference's. -/
theorem res70 (c : Dev nD) : Pipeline.afterTail₀ cfgs (dats m) 0 (Gen.V0 m) [hostOps1] c main_v70 = REF1 (m ((c : Thread nD τ).loc main_arg0)) (m ((c : Thread nD τ).loc main_arg1)) := by
  rw [tail70, final]
  funext j
  idx_vars j
  unfold REF1
  refine Eq.trans ?_ (rotated _ _ j0 j1 j2 ⟨4 * 1024 + (j0.val * 1024 + j1.val), by omega⟩ rfl _ _)
  pointwise [ROT]

end Cert.Proof.RotaryKey

end
-- ==== Proof.Modulation.lean ====
/-
  The layers' modulation: the conditioning's silu times each layer's weight, plus its bias.
-/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Modulation

open Idealize.ShloMosaic Idealize.ShloMosaic.TcCoe Idealize.SL.Sem
open Idealize.ShloMosaic.Pipeline (Dat)

section

open Cert.Reference15Ideal Cert.Reference15Ideal.Gen Idealize.ShloMosaic.StableHlo

/-- The conditioning: the context's row, the samples' rows, and rows of zeros. -/
def COND (X0 : FVec Ideal S2048 .f32) (X1 : FVec Ideal S2x2048 .f32) : FVec Ideal S8x2048 .f32 :=
  concatenate S8x2048 0 [⟨S1x2048, ((broadcastInDim S1x2048 ![1] bcast_S2048_S1x2048_1 X0) : (⟨S1x2048, .f32⟩ : BufTy).Contents (Elt Ideal))⟩,
    ⟨S2x2048, (X1 : (⟨S2x2048, .f32⟩ : BufTy).Contents (Elt Ideal))⟩, ⟨S5x2048, ((broadcastInDim S5x2048 ![] bcast_S_S5x2048
    (constant (F := Ideal) S_ .f32 0x00000000#32)) : (⟨S5x2048, .f32⟩ : BufTy).Contents (Elt Ideal))⟩] concatenates_S1x2048_S2x2048_S5x2048_S8x2048_d0

/-- The reference's array from the conditioning. -/
def REFC (C : FVec Ideal S8x2048 .f32) (X2 : FVec Ideal S4x2048x12288 .f32) (X3 : FVec Ideal S4x12288 .f32) : FVec Ideal S4x8x12288 .f32 :=
  addf (transpose S4x8x12288 [0, 2, 1] (Host.dotGeneral dot_S4x2048x12288_S8x2048_S4x12288x8_1_1_02_0_n_n none X2 (mulf C
    (Host.divf (broadcastInDim S8x2048 ![] bcast_S_S8x2048 (constant (F := Ideal) S_ .f32 0x3F800000#32)) (addf (broadcastInDim S8x2048 ![]
    bcast_S_S8x2048 (constant (F := Ideal) S_ .f32 0x3F800000#32)) (Host.exp (Host.negf C))))))
    transposes_S4x12288x8_S4x8x12288_0_2_1) (broadcastInDim S4x8x12288 ![0, 1, 2] bcast_S4x1x12288_S4x8x12288_0_1_2 (broadcastInDim S4x1x12288 ![0, 2]
    bcast_S4x12288_S4x1x12288_0_2 X3))

end

open Cert.Kernel15Ideal Cert.Kernel15Ideal.Gen

variable (m : (ℓ : Loc nD τ sig) → Buf (Elt Ideal) ℓ)

/-- The kernel's conditioning is the reference's. -/
theorem V2 (c : Dev nD) : V m c main_v2 = COND (m ((c : Thread nD τ).loc main_arg0)) (m ((c : Thread nD τ).loc main_arg1)) := by
  show StableHlo.after hostOps0 _ _ = _
  after_results
  rfl

/-- Block indices of every grid point: the layer and the column tile. -/
theorem idx : ∀ t : Fin cfg0.N, win0_0.index t = ![0, 0] ∧ win0_1.index t = ![t.val / 8, 0, t.val % 8]
    ∧ win0_2.index t = ![t.val / 8, 0, t.val % 8] ∧ win0_3.index t = ![t.val / 8, 0, t.val % 8] ∧ t.val / 8 < 4 := (by decide +kernel : ∀ t : Fin grid0.N, _)

/-- The conditioning's block is the whole conditioning. -/
theorem blk0 (c : Dev nD) (t : Fin cfg0.N) (a : Fin 8) (b : Fin 2048) : iblk m c 0 t (ix2 a b) = COND (m ((c : Thread nD τ).loc main_arg0)) (m ((c : Thread nD τ).loc main_arg1)) (ix2 a b) := by
  rw [← V2 m c]
  unfold iblk
  blk_ext [idx t]

/-- The weight's block. -/
theorem blk1 (c : Dev nD) (t : Fin cfg0.N) (a : Fin 2048) (b : Fin 1536) (l : Fin 4) (n : Fin 12288) (hl : l.val = t.val / 8)
    (hn : n.val = t.val % 8 * 1536 + b.val) : iblk m c 1 t (ix3 0 a b) = (m ((c : Thread nD τ).loc main_arg2)) (ix3 l a n) := by
  blk_ext [iblk, V, idx t]
  all_goals omega

/-- The bias's block. -/
theorem blk2 (c : Dev nD) (t : Fin cfg0.N) (b : Fin 1536) (l : Fin 4) (n : Fin 12288) (hl : l.val = t.val / 8)
    (hn : n.val = t.val % 8 * 1536 + b.val) : iblk m c 2 t (ix3 0 0 b) = (m ((c : Thread nD τ).loc main_arg3)) (ix2 l n) := by
  unfold iblk
  blk_simp
  show V m c main_v3 _ = _
  entry_read
  pointwise
  blk_ext [idx t]
  all_goals omega

/-- A block's point of the result. -/
theorem point (c : Dev nD) (t : Fin cfg0.N) (a : Fin 8) (b : Fin 1536) (l : Fin 4) (n : Fin 12288) (hl : l.val = t.val / 8)
    (hn : n.val = t.val % 8 * 1536 + b.val) :
    k0_pay1 (iblk m c 0 t) (iblk m c 1 t) (iblk m c 2 t) (ix3 0 a b) = REFC (COND (m ((c : Thread nD τ).loc main_arg0)) (m ((c : Thread nD τ).loc main_arg1))) (m ((c : Thread nD τ).loc main_arg2)) (m ((c : Thread nD τ).loc main_arg3)) (ix3 l a n) := by
  pointwise [k0_pay1, REFC, blk2 m c t b l n hl hn]
  unfold Ideal.logistic
  refine congrArg₂ (· + ·) (Finset.sum_congr rfl fun k _ => (mul_comm _ _).trans ?_) rfl
  rw [blk0, blk1 m c t k b l n hl hn]

/-- The output after the whole grid is the reference's array. -/
theorem final (c : Dev nD) : (dats m 0 c).arrAt 3 (cfgs 0).N = REFC (COND (m ((c : Thread nD τ).loc main_arg0)) (m ((c : Thread nD τ).loc main_arg1))) (m ((c : Thread nD τ).loc main_arg2)) (m ((c : Thread nD τ).loc main_arg3)) := by
  refine (dats m 0 c).arrAt_eq_of_covers 3 _ (by decide +kernel) fun t _ y => ?_
  blk_simp
  rw [after0_3]
  frame_out
  idx_vars y
  obtain rfl : y0 = 0 := Subsingleton.elim _ _
  have h := (idx t).2.2.2.2
  refine (point m c t y1 y2 ⟨t.val / 8, h⟩ ⟨t.val % 8 * 1536 + y2.val, by omega⟩ rfl rfl).trans (congrArg _ ?_)
  blk_ext [idx t]

end Cert.Proof.Modulation

end
-- ==== Proof.MidNorm.lean ====
/-
  The attention's residual, and the norm and modulation before the expert retrieval. A row tile lies in one sequence, so its rows read one row
  of the modulation: the context's first, the samples' after it, as the reference slices them.
-/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.MidNorm

open Idealize.ShloMosaic Idealize.ShloMosaic.TcCoe Idealize.SL.Sem
open Idealize.ShloMosaic.Pipeline (Dat)

section

open Cert.Reference16Ideal Cert.Reference16Ideal.Gen Idealize.ShloMosaic.StableHlo

/-- The reference's stream. -/
def REF0 (X0 : FVec Ideal S6144x2048 .f32) (X1 : FVec Ideal S6144x2048 .f32) (X2 : FVec Ideal S8x12288 .f32) (X3 : FVec Ideal S2048 .f32) : FVec Ideal S6144x2048 .f32 :=
  concatenate S6144x2048 0 [⟨S4096x2048, (shapeCast _ (addf (shapeCast _ (extractStridedSlice S4096x2048 ![0, 0] X0 slices_S6144x2048_S4096x2048_0_0)
    shapeCasts_S4096x2048_S16x256x2048) (mulf (broadcastInDim S16x256x2048 ![0, 1, 2] bcast_S1x1x2048_S16x256x2048_0_1_2 (extractStridedSlice
    S1x1x2048 ![0, 0, 0] (extractStridedSlice S8x1x2048 ![0, 0, 4096] (broadcastInDim S8x1x12288 ![0, 2] bcast_S8x12288_S8x1x12288_0_2 X2)
    slices_S8x1x12288_S8x1x2048_0_0_4096) slices_S8x1x2048_S1x1x2048_0_0_0)) (shapeCast _ (extractStridedSlice S4096x2048 ![0, 0] X1
    slices_S6144x2048_S4096x2048_0_0) shapeCasts_S4096x2048_S16x256x2048))) shapeCasts_S16x256x2048_S4096x2048)⟩, ⟨S2048x2048, (shapeCast _ (addf
    (shapeCast _ (extractStridedSlice S2048x2048 ![4096, 0] X0 slices_S6144x2048_S2048x2048_4096_0) shapeCasts_S2048x2048_S2x1024x2048) (mulf
    (broadcastInDim S2x1024x2048 ![0, 1, 2] bcast_S2x1x2048_S2x1024x2048_0_1_2 (extractStridedSlice S2x1x2048 ![1, 0, 0] (extractStridedSlice
    S8x1x2048 ![0, 0, 4096] (broadcastInDim S8x1x12288 ![0, 2] bcast_S8x12288_S8x1x12288_0_2 X2) slices_S8x1x12288_S8x1x2048_0_0_4096)
    slices_S8x1x2048_S2x1x2048_1_0_0)) (shapeCast _ (extractStridedSlice S2048x2048 ![4096, 0] X1 slices_S6144x2048_S2048x2048_4096_0)
    shapeCasts_S2048x2048_S2x1024x2048))) shapeCasts_S2x1024x2048_S2048x2048)⟩] concatenates_S4096x2048_S2048x2048_S6144x2048_d0

/-- The reference's normalised, modulated context. -/
def PC (X0 : FVec Ideal S6144x2048 .f32) (X1 : FVec Ideal S6144x2048 .f32) (X2 : FVec Ideal S8x12288 .f32) (X3 : FVec Ideal S2048 .f32) : FVec Ideal S16x256x2048 .f32 :=
  (addf (mulf (mulf (mulf (addf (shapeCast _ (extractStridedSlice S4096x2048 ![0, 0] X0 slices_S6144x2048_S4096x2048_0_0)
    shapeCasts_S4096x2048_S16x256x2048) (mulf (broadcastInDim S16x256x2048 ![0, 1, 2] bcast_S1x1x2048_S16x256x2048_0_1_2 (extractStridedSlice
    S1x1x2048 ![0, 0, 0] (extractStridedSlice S8x1x2048 ![0, 0, 4096] (broadcastInDim S8x1x12288 ![0, 2] bcast_S8x12288_S8x1x12288_0_2 X2)
    slices_S8x1x12288_S8x1x2048_0_0_4096) slices_S8x1x2048_S1x1x2048_0_0_0)) (shapeCast _ (extractStridedSlice S4096x2048 ![0, 0] X1
    slices_S6144x2048_S4096x2048_0_0) shapeCasts_S4096x2048_S16x256x2048))) (broadcastInDim S16x256x2048 ![0, 1, 2]
    bcast_S16x256x1_S16x256x2048_0_1_2 (Host.rsqrt (addf (Host.divf (broadcastInDim S16x256x1 ![0, 1] bcast_S16x256_S16x256x1_0_1 (Host.reduceAdd
    (mulf (addf (shapeCast _ (extractStridedSlice S4096x2048 ![0, 0] X0 slices_S6144x2048_S4096x2048_0_0) shapeCasts_S4096x2048_S16x256x2048) (mulf
    (broadcastInDim S16x256x2048 ![0, 1, 2] bcast_S1x1x2048_S16x256x2048_0_1_2 (extractStridedSlice S1x1x2048 ![0, 0, 0] (extractStridedSlice
    S8x1x2048 ![0, 0, 4096] (broadcastInDim S8x1x12288 ![0, 2] bcast_S8x12288_S8x1x12288_0_2 X2) slices_S8x1x12288_S8x1x2048_0_0_4096)
    slices_S8x1x2048_S1x1x2048_0_0_0)) (shapeCast _ (extractStridedSlice S4096x2048 ![0, 0] X1 slices_S6144x2048_S4096x2048_0_0)
    shapeCasts_S4096x2048_S16x256x2048))) (addf (shapeCast _ (extractStridedSlice S4096x2048 ![0, 0] X0 slices_S6144x2048_S4096x2048_0_0)
    shapeCasts_S4096x2048_S16x256x2048) (mulf (broadcastInDim S16x256x2048 ![0, 1, 2] bcast_S1x1x2048_S16x256x2048_0_1_2 (extractStridedSlice
    S1x1x2048 ![0, 0, 0] (extractStridedSlice S8x1x2048 ![0, 0, 4096] (broadcastInDim S8x1x12288 ![0, 2] bcast_S8x12288_S8x1x12288_0_2 X2)
    slices_S8x1x12288_S8x1x2048_0_0_4096) slices_S8x1x2048_S1x1x2048_0_0_0)) (shapeCast _ (extractStridedSlice S4096x2048 ![0, 0] X1
    slices_S6144x2048_S4096x2048_0_0) shapeCasts_S4096x2048_S16x256x2048)))) (constant (F := Ideal) S_ .f32 0x00000000#32)
    reducesTo_S16x256x2048_S16x256_d2 h_S_)) (broadcastInDim S16x256x1 ![] bcast_S_S16x256x1 (constant (F := Ideal) S_ .f32 0x45000000#32)))
    (broadcastInDim S16x256x1 ![] bcast_S_S16x256x1 (constant (F := Ideal) S_ .f32 0x358637BD#32)))))) (broadcastInDim S16x256x2048 ![0, 1, 2]
    bcast_S1x1x2048_S16x256x2048_0_1_2 (broadcastInDim S1x1x2048 ![2] bcast_S2048_S1x1x2048_2 X3))) (broadcastInDim S16x256x2048 ![0, 1, 2]
    bcast_S1x1x2048_S16x256x2048_0_1_2 (addf (broadcastInDim S1x1x2048 ![] bcast_S_S1x1x2048 (constant (F := Ideal) S_ .f32 0x3F800000#32))
    (extractStridedSlice S1x1x2048 ![0, 0, 0] (extractStridedSlice S8x1x2048 ![0, 0, 8192] (broadcastInDim S8x1x12288 ![0, 2]
    bcast_S8x12288_S8x1x12288_0_2 X2) slices_S8x1x12288_S8x1x2048_0_0_8192) slices_S8x1x2048_S1x1x2048_0_0_0)))) (broadcastInDim S16x256x2048 ![0,
    1, 2] bcast_S1x1x2048_S16x256x2048_0_1_2 (extractStridedSlice S1x1x2048 ![0, 0, 0] (extractStridedSlice S8x1x2048 ![0, 0, 6144] (broadcastInDim
    S8x1x12288 ![0, 2] bcast_S8x12288_S8x1x12288_0_2 X2) slices_S8x1x12288_S8x1x2048_0_0_6144) slices_S8x1x2048_S1x1x2048_0_0_0)))

/-- The reference's normalised, modulated samples. -/
def PL (X0 : FVec Ideal S6144x2048 .f32) (X1 : FVec Ideal S6144x2048 .f32) (X2 : FVec Ideal S8x12288 .f32) (X3 : FVec Ideal S2048 .f32) : FVec Ideal S2x1024x2048 .f32 :=
  (addf (mulf (mulf (mulf (addf (shapeCast _ (extractStridedSlice S2048x2048 ![4096, 0] X0 slices_S6144x2048_S2048x2048_4096_0)
    shapeCasts_S2048x2048_S2x1024x2048) (mulf (broadcastInDim S2x1024x2048 ![0, 1, 2] bcast_S2x1x2048_S2x1024x2048_0_1_2 (extractStridedSlice
    S2x1x2048 ![1, 0, 0] (extractStridedSlice S8x1x2048 ![0, 0, 4096] (broadcastInDim S8x1x12288 ![0, 2] bcast_S8x12288_S8x1x12288_0_2 X2)
    slices_S8x1x12288_S8x1x2048_0_0_4096) slices_S8x1x2048_S2x1x2048_1_0_0)) (shapeCast _ (extractStridedSlice S2048x2048 ![4096, 0] X1
    slices_S6144x2048_S2048x2048_4096_0) shapeCasts_S2048x2048_S2x1024x2048))) (broadcastInDim S2x1024x2048 ![0, 1, 2]
    bcast_S2x1024x1_S2x1024x2048_0_1_2 (Host.rsqrt (addf (Host.divf (broadcastInDim S2x1024x1 ![0, 1] bcast_S2x1024_S2x1024x1_0_1 (Host.reduceAdd
    (mulf (addf (shapeCast _ (extractStridedSlice S2048x2048 ![4096, 0] X0 slices_S6144x2048_S2048x2048_4096_0) shapeCasts_S2048x2048_S2x1024x2048)
    (mulf (broadcastInDim S2x1024x2048 ![0, 1, 2] bcast_S2x1x2048_S2x1024x2048_0_1_2 (extractStridedSlice S2x1x2048 ![1, 0, 0] (extractStridedSlice
    S8x1x2048 ![0, 0, 4096] (broadcastInDim S8x1x12288 ![0, 2] bcast_S8x12288_S8x1x12288_0_2 X2) slices_S8x1x12288_S8x1x2048_0_0_4096)
    slices_S8x1x2048_S2x1x2048_1_0_0)) (shapeCast _ (extractStridedSlice S2048x2048 ![4096, 0] X1 slices_S6144x2048_S2048x2048_4096_0)
    shapeCasts_S2048x2048_S2x1024x2048))) (addf (shapeCast _ (extractStridedSlice S2048x2048 ![4096, 0] X0 slices_S6144x2048_S2048x2048_4096_0)
    shapeCasts_S2048x2048_S2x1024x2048) (mulf (broadcastInDim S2x1024x2048 ![0, 1, 2] bcast_S2x1x2048_S2x1024x2048_0_1_2 (extractStridedSlice
    S2x1x2048 ![1, 0, 0] (extractStridedSlice S8x1x2048 ![0, 0, 4096] (broadcastInDim S8x1x12288 ![0, 2] bcast_S8x12288_S8x1x12288_0_2 X2)
    slices_S8x1x12288_S8x1x2048_0_0_4096) slices_S8x1x2048_S2x1x2048_1_0_0)) (shapeCast _ (extractStridedSlice S2048x2048 ![4096, 0] X1
    slices_S6144x2048_S2048x2048_4096_0) shapeCasts_S2048x2048_S2x1024x2048)))) (constant (F := Ideal) S_ .f32 0x00000000#32)
    reducesTo_S2x1024x2048_S2x1024_d2 h_S_)) (broadcastInDim S2x1024x1 ![] bcast_S_S2x1024x1 (constant (F := Ideal) S_ .f32 0x45000000#32)))
    (broadcastInDim S2x1024x1 ![] bcast_S_S2x1024x1 (constant (F := Ideal) S_ .f32 0x358637BD#32)))))) (broadcastInDim S2x1024x2048 ![0, 1, 2]
    bcast_S1x1x2048_S2x1024x2048_0_1_2 (broadcastInDim S1x1x2048 ![2] bcast_S2048_S1x1x2048_2 X3))) (broadcastInDim S2x1024x2048 ![0, 1, 2]
    bcast_S2x1x2048_S2x1024x2048_0_1_2 (addf (broadcastInDim S2x1x2048 ![] bcast_S_S2x1x2048 (constant (F := Ideal) S_ .f32 0x3F800000#32))
    (extractStridedSlice S2x1x2048 ![1, 0, 0] (extractStridedSlice S8x1x2048 ![0, 0, 8192] (broadcastInDim S8x1x12288 ![0, 2]
    bcast_S8x12288_S8x1x12288_0_2 X2) slices_S8x1x12288_S8x1x2048_0_0_8192) slices_S8x1x2048_S2x1x2048_1_0_0)))) (broadcastInDim S2x1024x2048 ![0,
    1, 2] bcast_S2x1x2048_S2x1024x2048_0_1_2 (extractStridedSlice S2x1x2048 ![1, 0, 0] (extractStridedSlice S8x1x2048 ![0, 0, 6144] (broadcastInDim
    S8x1x12288 ![0, 2] bcast_S8x12288_S8x1x12288_0_2 X2) slices_S8x1x12288_S8x1x2048_0_0_6144) slices_S8x1x2048_S2x1x2048_1_0_0)))

/-- The reference's normalised, modulated stream. -/
def REF1 (X0 : FVec Ideal S6144x2048 .f32) (X1 : FVec Ideal S6144x2048 .f32) (X2 : FVec Ideal S8x12288 .f32) (X3 : FVec Ideal S2048 .f32) : FVec Ideal S6144x2048 .bf16 :=
  truncf .bf16 (concatenate S6144x2048 0 [⟨S4096x2048, (shapeCast _ (PC X0 X1 X2 X3) shapeCasts_S16x256x2048_S4096x2048)⟩,
    ⟨S2048x2048, (shapeCast _ (PL X0 X1 X2 X3) shapeCasts_S2x1024x2048_S2048x2048)⟩] concatenates_S4096x2048_S2048x2048_S6144x2048_d0) bitsLt_bf16_f32

end

open Cert.Kernel16Ideal Cert.Kernel16Ideal.Gen

variable (m : (ℓ : Loc nD τ sig) → Buf (Elt Ideal) ℓ)

/-- The modulation as the call's windows read it. -/
theorem V0' (c : Dev nD) : V m c main_v0 = shapeCast S8x1x12288 (m ((c : Thread nD τ).loc main_arg2)) shapeCasts_S8x12288_S8x1x12288 := by
  entry_read
  rfl

/-- A reshape that inserts a unit axis, at an index. -/
theorem cast_at (X : FVec Ideal S8x12288 .f32) (r : Fin 8) (j : Fin 12288) :
    shapeCast S8x1x12288 X shapeCasts_S8x12288_S8x1x12288 (ix3 r 0 j) = X (ix2 r j) := by
  pointwise

/-- The same at an index. -/
theorem V0_at (c : Dev nD) (r : Fin 8) (j : Fin 12288) : V m c main_v0 (ix3 r 0 j) = (m ((c : Thread nD τ).loc main_arg2)) (ix2 r j) :=
  (congrFun (V0' m c) _).trans (cast_at _ r j)

/-- The norm's weight as the call's window reads it. -/
theorem V1' (c : Dev nD) : V m c main_v1 = shapeCast S1x2048 (m ((c : Thread nD τ).loc main_arg3)) shapeCasts_S2048_S1x2048 := by
  entry_read
  rfl

/-- Block indices of every grid point: the row tile, and the modulation's row — the context's, or the tile's sample's. -/
theorem idx : ∀ t : Fin cfg0.N, win0_0.index t = ![t.val, 0] ∧ win0_1.index t = ![t.val, 0]
    ∧ win0_2.index t = ![if t.val < 8 then 0 else 1 + (t.val - 8) / 2, 0, 2] ∧ win0_3.index t = ![0, 0]
    ∧ win0_4.index t = ![if t.val < 8 then 0 else 1 + (t.val - 8) / 2, 0, 4]
    ∧ win0_5.index t = ![if t.val < 8 then 0 else 1 + (t.val - 8) / 2, 0, 3]
    ∧ win0_6.index t = ![t.val, 0] ∧ win0_7.index t = ![t.val, 0] ∧ t.val < 12 := (by decide +kernel : ∀ t : Fin grid0.N, _)

/-- A row block of the stream. -/
theorem blkx (c : Dev nD) (t : Fin cfg0.N) (a : Fin 512) (b : Fin 2048) (i : Fin 6144) (hi : i.val = t.val * 512 + a.val) :
    iblk m c 0 t (ix2 a b) = (m ((c : Thread nD τ).loc main_arg0)) (ix2 i b) := by
  blk_ext [iblk, V, idx t]
  all_goals omega

/-- A row block of the residual. -/
theorem blkd (c : Dev nD) (t : Fin cfg0.N) (a : Fin 512) (b : Fin 2048) (i : Fin 6144) (hi : i.val = t.val * 512 + a.val) :
    iblk m c 1 t (ix2 a b) = (m ((c : Thread nD τ).loc main_arg1)) (ix2 i b) := by
  blk_ext [iblk, V, idx t]
  all_goals omega

/-- The row of the modulation a token's row reads. -/
def mrow (i : Fin 6144) : Fin 8 := ⟨if i.val < 4096 then 0 else 1 + (i.val - 4096) / 1024, by split <;> omega⟩

/-- A row tile lies in one sequence's rows. -/
theorem mrow_eq (t : Fin cfg0.N) (a : Fin 512) (i : Fin 6144) (hi : i.val = t.val * 512 + a.val) :
    (mrow i).val = if t.val < 8 then 0 else 1 + (t.val - 8) / 2 := by
  show (if i.val < 4096 then 0 else 1 + (i.val - 4096) / 1024) = _
  split <;> split <;> omega

/-- The norm's weight. -/
theorem blkn (c : Dev nD) (t : Fin cfg0.N) (b : Fin 2048) : iblk m c 3 t (ix2 0 b) = (m ((c : Thread nD τ).loc main_arg3)) (ix1 b) := by
  unfold iblk
  blk_simp
  show V m c main_v1 _ = _
  rw [V1']
  pointwise
  blk_ext [idx t]

/-- The gate's block of the modulation. -/
theorem blkg (c : Dev nD) (t : Fin cfg0.N) (b : Fin 2048) (r : Fin 8) (j : Fin 12288)
    (hr : r.val = if t.val < 8 then 0 else 1 + (t.val - 8) / 2) (hj : j.val = 2 * 2048 + b.val) :
    iblk m c 2 t (ix3 0 0 b) = (m ((c : Thread nD τ).loc main_arg2)) (ix2 r j) := by
  unfold iblk
  blk_simp
  show V m c main_v0 _ = _
  refine (congrArg (V m c main_v0) (?_ : _ = ix3 r 0 j)).trans (V0_at m c r j)
  blk_ext [idx t]
  all_goals omega

/-- The scale's block of the modulation. -/
theorem blks (c : Dev nD) (t : Fin cfg0.N) (b : Fin 2048) (r : Fin 8) (j : Fin 12288)
    (hr : r.val = if t.val < 8 then 0 else 1 + (t.val - 8) / 2) (hj : j.val = 4 * 2048 + b.val) :
    iblk m c 4 t (ix3 0 0 b) = (m ((c : Thread nD τ).loc main_arg2)) (ix2 r j) := by
  unfold iblk
  blk_simp
  show V m c main_v0 _ = _
  refine (congrArg (V m c main_v0) (?_ : _ = ix3 r 0 j)).trans (V0_at m c r j)
  blk_ext [idx t]
  all_goals omega

/-- The shift's block of the modulation. -/
theorem blkh (c : Dev nD) (t : Fin cfg0.N) (b : Fin 2048) (r : Fin 8) (j : Fin 12288)
    (hr : r.val = if t.val < 8 then 0 else 1 + (t.val - 8) / 2) (hj : j.val = 3 * 2048 + b.val) :
    iblk m c 5 t (ix3 0 0 b) = (m ((c : Thread nD τ).loc main_arg2)) (ix2 r j) := by
  unfold iblk
  blk_simp
  show V m c main_v0 _ = _
  refine (congrArg (V m c main_v0) (?_ : _ = ix3 r 0 j)).trans (V0_at m c r j)
  blk_ext [idx t]
  all_goals omega

/-- The residual stream at an index: the stream plus the gated residual. -/
def res (X0 X1 : FVec Ideal S6144x2048 .f32) (X2 : FVec Ideal S8x12288 .f32) (i : Fin 6144) (b : Fin 2048) : EReal :=
  X0 (ix2 i b) + X2 (ix2 (mrow i) ⟨2 * 2048 + b.val, by omega⟩) * X1 (ix2 i b)

/-- The normalised stream at an index. -/
def nrm (X0 X1 : FVec Ideal S6144x2048 .f32) (X2 : FVec Ideal S8x12288 .f32) (X3 : FVec Ideal S2048 .f32) (i : Fin 6144) (b : Fin 2048) : EReal :=
  res X0 X1 X2 i b * Ideal.rsqrt (Ideal.div (∑ k : Fin 2048, res X0 X1 X2 i k * res X0 X1 X2 i k) (Ideal.ofBits .f32 0x45000000#32)
    + Ideal.ofBits .f32 0x358637BD#32) * X3 (ix1 b)

/-- The kernel's stream block at an index. -/
theorem pay1 (c : Dev nD) (t : Fin cfg0.N) (a : Fin 512) (b : Fin 2048) (i : Fin 6144) (hi : i.val = t.val * 512 + a.val) :
    k0_pay1 (iblk m c 0 t) (iblk m c 2 t) (iblk m c 1 t) (ix2 a b) = res (m ((c : Thread nD τ).loc main_arg0)) (m ((c : Thread nD τ).loc main_arg1)) (m ((c : Thread nD τ).loc main_arg2)) i b := by
  pointwise [k0_pay1, res]
  rw [blkx m c t a b i hi, blkd m c t a b i hi, blkg m c t b (mrow i) ⟨2 * 2048 + b.val, by omega⟩ (mrow_eq t a i hi) rfl]

/-- The kernel's normalised block at an index. -/
theorem pay2 (c : Dev nD) (t : Fin cfg0.N) (a : Fin 512) (b : Fin 2048) (i : Fin 6144) (hi : i.val = t.val * 512 + a.val) :
    k0_pay2 (iblk m c 0 t) (iblk m c 2 t) (iblk m c 1 t) (iblk m c 3 t) (iblk m c 4 t) (iblk m c 5 t) (ix2 a b)
      = nrm (m ((c : Thread nD τ).loc main_arg0)) (m ((c : Thread nD τ).loc main_arg1)) (m ((c : Thread nD τ).loc main_arg2)) (m ((c : Thread nD τ).loc main_arg3)) i b * (1 + (m ((c : Thread nD τ).loc main_arg2)) (ix2 (mrow i) ⟨4 * 2048 + b.val, by omega⟩)) + (m ((c : Thread nD τ).loc main_arg2)) (ix2 (mrow i) ⟨3 * 2048 + b.val, by omega⟩) := by
  have hp : ∀ b : Fin 2048, k0_pay1 (iblk m c 0 t) (iblk m c 2 t) (iblk m c 1 t) (ix2 a b) = res (m ((c : Thread nD τ).loc main_arg0)) (m ((c : Thread nD τ).loc main_arg1)) (m ((c : Thread nD τ).loc main_arg2)) i b :=
    fun b => pay1 m c t a b i hi
  pointwise [k0_pay2, hp, nrm]
  rw [blkn, blks m c t b (mrow i) ⟨4 * 2048 + b.val, by omega⟩ (mrow_eq t a i hi) rfl, blkh m c t b (mrow i) ⟨3 * 2048 + b.val, by omega⟩ (mrow_eq t a i hi) rfl]

/-- The reference's stream at an index. -/
theorem ref0 (X0 X1 : FVec Ideal S6144x2048 .f32) (X2 : FVec Ideal S8x12288 .f32) (X3 : FVec Ideal S2048 .f32) (i : Fin 6144) (b : Fin 2048) :
    REF0 X0 X1 X2 X3 (ix2 i b) = res X0 X1 X2 i b := by
  unfold REF0 res
  pointwise
  by_cases h : i.val < 4096
  · rw [dif_pos h]
    have e : mrow i = 0 := Fin.ext (if_pos h)
    rw [e]
    reads_congr
    all_goals (first | exact congrArg _ ((ix2_inj ..).2 ⟨Fin.ext (by dsimp only; omega), rfl⟩) | rfl)
  · rw [dif_neg h]
    have e : mrow i = ⟨1 + (i.val - 4096) / 1024, by omega⟩ := Fin.ext (if_neg h)
    rw [e]
    reads_congr
    all_goals (first | exact congrArg _ ((ix2_inj ..).2 ⟨Fin.ext (by dsimp only; omega), rfl⟩) | rfl)

/-- The reference's normalised context at an index. -/
theorem PC_at (X0 : FVec Ideal S6144x2048 .f32) (X1 : FVec Ideal S6144x2048 .f32) (X2 : FVec Ideal S8x12288 .f32) (X3 : FVec Ideal S2048 .f32) (u : Fin 16) (s : Fin 256) (b : Fin 2048) :
    PC X0 X1 X2 X3 (ix3 u s b) = nrm X0 X1 X2 X3 ⟨u.val * 256 + s.val, by omega⟩ b * (1 + X2 (ix2 (mrow ⟨u.val * 256 + s.val, by omega⟩) ⟨4 * 2048 + b.val, by omega⟩)) + X2 (ix2 (mrow ⟨u.val * 256 + s.val, by omega⟩) ⟨3 * 2048 + b.val, by omega⟩) := by
  have e : mrow ⟨u.val * 256 + s.val, by omega⟩ = 0 := Fin.ext (if_pos (by dsimp only; omega))
  unfold nrm res
  rw [e]
  pointwise [PC]

/-- The reference's normalised samples at an index. -/
theorem PL_at (X0 : FVec Ideal S6144x2048 .f32) (X1 : FVec Ideal S6144x2048 .f32) (X2 : FVec Ideal S8x12288 .f32) (X3 : FVec Ideal S2048 .f32) (u : Fin 2) (s : Fin 1024) (b : Fin 2048) :
    PL X0 X1 X2 X3 (ix3 u s b) = nrm X0 X1 X2 X3 ⟨4096 + (u.val * 1024 + s.val), by omega⟩ b * (1 + X2 (ix2 (mrow ⟨4096 + (u.val * 1024 + s.val), by omega⟩) ⟨4 * 2048 + b.val, by omega⟩)) + X2 (ix2 (mrow ⟨4096 + (u.val * 1024 + s.val), by omega⟩) ⟨3 * 2048 + b.val, by omega⟩) := by
  have e : mrow ⟨4096 + (u.val * 1024 + s.val), by omega⟩ = ⟨1 + u.val, by omega⟩ := Fin.ext ((if_neg (by dsimp only; omega)).trans (by dsimp only; omega))
  unfold nrm res
  rw [e]
  pointwise [PL]

/-- The reference's normalised stream at an index. -/
theorem ref1 (X0 : FVec Ideal S6144x2048 .f32) (X1 : FVec Ideal S6144x2048 .f32) (X2 : FVec Ideal S8x12288 .f32) (X3 : FVec Ideal S2048 .f32) (i : Fin 6144) (b : Fin 2048) :
    REF1 X0 X1 X2 X3 (ix2 i b)
      = nrm X0 X1 X2 X3 i b * (1 + X2 (ix2 (mrow i) ⟨4 * 2048 + b.val, by omega⟩)) + X2 (ix2 (mrow i) ⟨3 * 2048 + b.val, by omega⟩) := by
  pointwise [REF1]
  by_cases h : i.val < 4096
  · rw [dif_pos h, PC_at]
    have e : (⟨i.val / 256 * 256 + i.val % 256, by omega⟩ : Fin 6144) = i := Fin.ext (by dsimp only; omega)
    rw [e]
  · rw [dif_neg h, PL_at]
    have e : (⟨4096 + ((i.val - 4096) / 1024 * 1024 + (i.val - 4096) % 1024), by omega⟩ : Fin 6144) = i := Fin.ext (by dsimp only; omega)
    rw [e]

/-- The call's stream after the whole grid is the reference's. -/
theorem final0 (c : Dev nD) : (dats m 0 c).arrAt 6 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  frame_out
  idx_vars y
  have h := (idx t).2.2.2.2.2.2.2.2
  refine (pay1 m c t y0 y1 ⟨t.val * 512 + y0.val, by omega⟩ rfl).trans ((ref0 _ _ _ _ _ _).symm.trans (congrArg _ ?_))
  blk_ext [idx t]

/-- The call's normalised stream after the whole grid is the reference's. -/
theorem final1 (c : Dev nD) : (dats m 0 c).arrAt 7 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  idx_vars y
  have h := (idx t).2.2.2.2.2.2.2.2
  refine (pay2 m c t y0 y1 ⟨t.val * 512 + y0.val, by omega⟩ rfl).trans ((ref1 _ _ _ _ _ _).symm.trans (congrArg _ ?_))
  blk_ext [idx t]

end Cert.Proof.MidNorm

end
-- ==== Proof.Split.lean ====
/-
  Sums over one head's 64 of 1024 channels, and the reals among the extended reals.
-/
module

public import Idealize.ShloMosaic.Lib.Pointwise
public import Mathlib.Algebra.BigOperators.Fin

@[expose] public section

open Idealize.ShloMosaic

namespace Split

/-- An extended real that is a real number. -/
def IsReal (x : EReal) : Prop := ∃ r : ℝ, x = (r : EReal)

/-- A number whose absolute value is below infinity is a real number. -/
theorem real_of_lt {x : EReal} (h : max x (-x) < ⊤) : IsReal x := by
  induction x with
  | bot => simp at h
  | top => simp at h
  | coe r => exact ⟨r, rfl⟩

/-- Sums of two reals are real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- Differences of two reals are real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- Products of two reals are real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- Finite sums of reals are real. -/
theorem IsReal.sum {ι : Type} (s : Finset ι) {f : ι → EReal} (hf : ∀ i, IsReal (f i)) :
    IsReal (∑ i ∈ s, f i) := by
  classical
  induction s using Finset.induction_on with
  | empty => exact ⟨0, by simp⟩
  | insert a s ha ih => rw [Finset.sum_insert ha]; exact (hf a).add ih

/-- A real less itself is nothing. -/
theorem IsReal.sub_self {x : EReal} (hx : IsReal x) : x - x = 0 := by
  obtain ⟨a, rfl⟩ := hx
  rw [← EReal.coe_sub, _root_.sub_self, EReal.coe_zero]

/-- A sum over 1024 channels against the ones of one head is the sum over the head's 64 channels. -/
theorem blocks (f : Fin 1024 → EReal) (h : Fin 16) :
    ∑ k : Fin 1024, f k * (if k.val / 64 = h.val then (1 : EReal) else 0)
      = ∑ i : Fin 64, f ⟨h.val * 64 + i.val, by omega⟩ := by
  rw [← (finProdFinEquiv (m := 16) (n := 64)).sum_comp, Fintype.sum_prod_type,
    Finset.sum_eq_single h]
  · refine Finset.sum_congr rfl fun i _ => ?_
    have hv : ((finProdFinEquiv (m := 16) (n := 64)) (h, i)).val = i.val + 64 * h.val := rfl
    rw [if_pos (by rw [hv]; omega), mul_one]
    exact congrArg f (Fin.ext (by rw [hv]; show _ = h.val * 64 + i.val; omega))
  · intro b _ hb
    refine Finset.sum_eq_zero fun i _ => ?_
    have hv : ((finProdFinEquiv (m := 16) (n := 64)) (b, i)).val = i.val + 64 * b.val := rfl
    rw [if_neg (by rw [hv]; intro e; exact hb (Fin.ext (by omega))), mul_zero]
  · intro hh; exact absurd (Finset.mem_univ h) hh

/-- A sum of reals taken in a high part and a remainder that is nothing: the head's sum. -/
theorem split (f : Fin 1024 → EReal) (hf : ∀ k, IsReal (f k)) (h : Fin 16) :
    ∑ k : Fin 1024, f k * (if k.val / 64 = h.val then (1 : EReal) else 0)
        + ∑ k : Fin 1024, (f k - f k) * (if k.val / 64 = h.val then (1 : EReal) else 0)
      = ∑ i : Fin 64, f ⟨h.val * 64 + i.val, by omega⟩ := by
  rw [blocks, Finset.sum_eq_zero (s := Finset.univ)
    (f := fun k : Fin 1024 => (f k - f k) * (if k.val / 64 = h.val then (1 : EReal) else 0)) fun k _ => by
      rw [(hf k).sub_self, zero_mul], add_zero]

end Split

end
-- ==== Proof.MixPrep.lean ====
/-
  The time mixing before its recurrence: the receptance, the value, the decay, the keys, the removal key, the bonus and the gate. A head's sums
  are taken against a matrix of ones and in two parts: on reals the second part is nothing.
-/
module

public import proofs.«01_k».proof.Defs
public import proofs.«01_k».proof.Proof.Gen.Kernel17.Frame
public import proofs.«01_k».proof.Proof.Gen.Kernel17Ideal.Frame
public import proofs.«01_k».proof.Proof.Gen.Reference17Ideal.Run
public import Idealize.ShloMosaic.Lib.Pipeline.ValueKit
public import Idealize.ShloMosaic.Lib.Pointwise
public import Idealize.ShloMosaic.Lib.Claim
public import proofs.«01_k».proof.Proof.Split

@[expose] public section

set_option maxRecDepth 16384

noncomputable section

namespace Cert.Proof.MixPrep

open Idealize.ShloMosaic Idealize.ShloMosaic.TcCoe Idealize.SL.Sem
open Idealize.ShloMosaic.Pipeline (Dat)

section

open Cert.Reference17Ideal Cert.Reference17Ideal.Gen Idealize.ShloMosaic.StableHlo

/-- The decay's argument. -/
def WIN (X0 : FVec Ideal S6144x4608 .f32) (X1 : FVec Ideal S2x1024 .f32) (X2 : FVec Ideal S2x64x1024 .f32) : FVec Ideal S6144x2x1024 .f32 :=
  addf (broadcastInDim S6144x2x1024 ![0, 1, 2] bcast_S1x2x1024_S6144x2x1024_0_1_2 (broadcastInDim S1x2x1024 ![1, 2] bcast_S2x1024_S1x2x1024_1_2 X1))
    (transpose S6144x2x1024 [2, 0, 1] (Host.dotGeneral dot_S2x64x1024_S6144x2x64_S2x1024x6144_1_2_2_0_0_1 none X2 (Host.tanh (shapeCast _
    (extractStridedSlice S6144x128 ![0, 3072] (extractStridedSlice S6144x3456 ![0, 0] X0 slices_S6144x4608_S6144x3456_0_0)
    slices_S6144x3456_S6144x128_0_3072) shapeCasts_S6144x128_S6144x2x64))) transposes_S2x1024x6144_S6144x2x1024_2_0_1)

/-- The learning rate's argument. -/
def AIN (X0 : FVec Ideal S6144x4608 .f32) (X3 : FVec Ideal S2x1024 .f32) (X4 : FVec Ideal S2x64x1024 .f32) : FVec Ideal S6144x2x1024 .f32 :=
  addf (broadcastInDim S6144x2x1024 ![0, 1, 2] bcast_S1x2x1024_S6144x2x1024_0_1_2 (broadcastInDim S1x2x1024 ![1, 2] bcast_S2x1024_S1x2x1024_1_2 X3))
    (transpose S6144x2x1024 [2, 0, 1] (Host.dotGeneral dot_S2x64x1024_S6144x2x64_S2x1024x6144_1_2_2_0_0_1 none X4 (shapeCast _ (extractStridedSlice
    S6144x128 ![0, 3200] (extractStridedSlice S6144x3456 ![0, 0] X0 slices_S6144x4608_S6144x3456_0_0) slices_S6144x3456_S6144x128_0_3200)
    shapeCasts_S6144x128_S6144x2x64)) transposes_S2x1024x6144_S6144x2x1024_2_0_1)

/-- The sigmoid of both directions. -/
def SIG (A : FVec Ideal S6144x2x1024 .f32) : FVec Ideal S6144x2x1024 .f32 :=
  Host.divf (broadcastInDim S6144x2x1024 ![] bcast_S_S6144x2x1024 (constant (F := Ideal) S_ .f32 0x3F800000#32)) (addf (broadcastInDim S6144x2x1024
    ![] bcast_S_S6144x2x1024 (constant (F := Ideal) S_ .f32 0x3F800000#32)) (Host.exp (Host.negf A)))

/-- The keys of both directions. -/
def KDR (X0 : FVec Ideal S6144x4608 .f32) (S : FVec Ideal S6144x2x1024 .f32) (X7 : FVec Ideal S1024 .f32) : FVec Ideal S6144x2x1024 .f32 :=
  mulf (broadcastInDim S6144x2x1024 ![0, 1, 2] bcast_S6144x1x1024_S6144x2x1024_0_1_2 (broadcastInDim S6144x1x1024 ![0, 2]
    bcast_S6144x1024_S6144x1x1024_0_2 (extractStridedSlice S6144x1024 ![0, 1024] (extractStridedSlice S6144x3456 ![0, 0] X0
    slices_S6144x4608_S6144x3456_0_0) slices_S6144x3456_S6144x1024_0_1024))) (addf (broadcastInDim S6144x2x1024 ![] bcast_S_S6144x2x1024 (constant (F
    := Ideal) S_ .f32 0x3F800000#32)) (mulf (subf S (broadcastInDim S6144x2x1024 ![] bcast_S_S6144x2x1024 (constant (F := Ideal) S_ .f32
    0x3F800000#32))) (broadcastInDim S6144x2x1024 ![0, 1, 2] bcast_S1x1x1024_S6144x2x1024_0_1_2 (broadcastInDim S1x1x1024 ![2] bcast_S1024_S1x1x1024_2
    X7))))

/-- The removal key by heads. -/
def KKH (X0 : FVec Ideal S6144x4608 .f32) (X6 : FVec Ideal S1024 .f32) : FVec Ideal S6144x16x64 .f32 :=
  shapeCast _ (mulf (extractStridedSlice S6144x1024 ![0, 1024] (extractStridedSlice S6144x3456 ![0, 0] X0 slices_S6144x4608_S6144x3456_0_0)
    slices_S6144x3456_S6144x1024_0_1024) (broadcastInDim S6144x1024 ![0, 1] bcast_S1x1024_S6144x1024_0_1 (broadcastInDim S1x1024 ![1]
    bcast_S1024_S1x1024_1 X6))) shapeCasts_S6144x1024_S6144x16x64

/-- A head's removal key over its length. -/
def NRM (K : FVec Ideal S6144x16x64 .f32) : FVec Ideal S6144x16x64 .f32 :=
  mulf K (broadcastInDim S6144x16x64 ![0, 1, 2] bcast_S6144x16x1_S6144x16x64_0_1_2 (Host.rsqrt (maximumf (broadcastInDim S6144x16x1 ![0, 1]
    bcast_S6144x16_S6144x16x1_0_1 (Host.reduceAdd (mulf K K) (constant (F := Ideal) S_ .f32 0x00000000#32) reducesTo_S6144x16x64_S6144x16_d2 h_S_))
    (broadcastInDim S6144x16x1 ![] bcast_S_S6144x16x1 (constant (F := Ideal) S_ .f32 0x179ABE15#32)))))

/-- The bonus's inner sums. -/
def INN (X0 : FVec Ideal S6144x4608 .f32) (K : FVec Ideal S6144x2x1024 .f32) (X8 : FVec Ideal S16x64 .f32) : FVec Ideal S6144x2x16 .f32 :=
  Host.reduceAdd (mulf (mulf (broadcastInDim S6144x2x16x64 ![0, 1, 2, 3] bcast_S6144x1x16x64_S6144x2x16x64_0_1_2_3 (broadcastInDim S6144x1x16x64 ![0,
    2, 3] bcast_S6144x16x64_S6144x1x16x64_0_2_3 (shapeCast _ (extractStridedSlice S6144x1024 ![0, 0] (extractStridedSlice S6144x3456 ![0, 0] X0
    slices_S6144x4608_S6144x3456_0_0) slices_S6144x3456_S6144x1024_0_0) shapeCasts_S6144x1024_S6144x16x64))) (shapeCast _ K
    shapeCasts_S6144x2x1024_S6144x2x16x64)) (broadcastInDim S6144x2x16x64 ![0, 1, 2, 3] bcast_S1x1x16x64_S6144x2x16x64_0_1_2_3 (broadcastInDim
    S1x1x16x64 ![2, 3] bcast_S16x64_S1x1x16x64_2_3 X8))) (constant (F := Ideal) S_ .f32 0x00000000#32) reducesTo_S6144x2x16x64_S6144x2x16_d3 h_S_

/-- The sum over the directions. -/
def OUT (I : FVec Ideal S6144x2x16 .f32) : FVec Ideal S6144x16x1 .f32 :=
  Host.reduceAdd (broadcastInDim S6144x2x16x1 ![0, 1, 2] bcast_S6144x2x16_S6144x2x16x1_0_1_2 I) (constant (F := Ideal) S_ .f32 0x00000000#32)
    reducesTo_S6144x2x16x1_S6144x16x1_d1 h_S_

/-- The sigmoid of the gate's columns. -/
def SIGG (X0 : FVec Ideal S6144x4608 .f32) : FVec Ideal S6144x128 .f32 :=
  Host.divf (broadcastInDim S6144x128 ![] bcast_S_S6144x128 (constant (F := Ideal) S_ .f32 0x3F800000#32)) (addf (broadcastInDim S6144x128 ![]
    bcast_S_S6144x128 (constant (F := Ideal) S_ .f32 0x3F800000#32)) (Host.exp (Host.negf (extractStridedSlice S6144x128 ![0, 3328]
    (extractStridedSlice S6144x3456 ![0, 0] X0 slices_S6144x4608_S6144x3456_0_0) slices_S6144x3456_S6144x128_0_3328))))

/-- The decay's logarithm from its argument. -/
def LW (W : FVec Ideal S6144x2x1024 .f32) : FVec Ideal S2x6144x1024 .f32 :=
  transpose S2x6144x1024 [1, 0, 2] (Host.negf (Host.exp (subf (Host.negf (select (cmpf .une (subf (Host.negf W) (broadcastInDim S6144x2x1024 ![]
    bcast_S_S6144x2x1024 (constant (F := Ideal) S_ .f32 0x00000000#32))) (subf (Host.negf W) (broadcastInDim S6144x2x1024 ![] bcast_S_S6144x2x1024
    (constant (F := Ideal) S_ .f32 0x00000000#32)))) (addf (Host.negf W) (broadcastInDim S6144x2x1024 ![] bcast_S_S6144x2x1024 (constant (F := Ideal)
    S_ .f32 0x00000000#32))) (addf (maximumf (Host.negf W) (broadcastInDim S6144x2x1024 ![] bcast_S_S6144x2x1024 (constant (F := Ideal) S_ .f32
    0x00000000#32))) (Host.log1p (Host.exp (Host.negf (Host.absf (subf (Host.negf W) (broadcastInDim S6144x2x1024 ![] bcast_S_S6144x2x1024 (constant
    (F := Ideal) S_ .f32 0x00000000#32)))))))))) (broadcastInDim S6144x2x1024 ![] bcast_S_S6144x2x1024 (constant (F := Ideal) S_ .f32
    0x3F000000#32))))) transposes_S6144x2x1024_S2x6144x1024_1_0_2

/-- The receptance. -/
def REF0 (X0 : FVec Ideal S6144x4608 .f32) : FVec Ideal S6144x1024 .f32 :=
  extractStridedSlice S6144x1024 ![0, 0] (extractStridedSlice S6144x3456 ![0, 0] X0 slices_S6144x4608_S6144x3456_0_0) slices_S6144x3456_S6144x1024_0_0

/-- The value. -/
def REF1 (X0 : FVec Ideal S6144x4608 .f32) : FVec Ideal S6144x1024 .f32 :=
  extractStridedSlice S6144x1024 ![0, 2048] (extractStridedSlice S6144x3456 ![0, 0] X0 slices_S6144x4608_S6144x3456_0_0)
    slices_S6144x3456_S6144x1024_0_2048

/-- The removal key, negated. -/
def REF2 (X0 : FVec Ideal S6144x4608 .f32) (X6 : FVec Ideal S1024 .f32) : FVec Ideal S6144x1024 .f32 :=
  shapeCast _ (Host.negf (NRM (KKH X0 X6))) shapeCasts_S6144x16x64_S6144x1024

/-- The decay's logarithm. -/
def REF3 (X0 : FVec Ideal S6144x4608 .f32) (X1 : FVec Ideal S2x1024 .f32) (X2 : FVec Ideal S2x64x1024 .f32) : FVec Ideal S2x6144x1024 .f32 :=
  LW (WIN X0 X1 X2)

/-- The keys. -/
def REF4 (X0 : FVec Ideal S6144x4608 .f32) (X3 : FVec Ideal S2x1024 .f32) (X4 : FVec Ideal S2x64x1024 .f32) (X7 : FVec Ideal S1024 .f32) : FVec Ideal S2x6144x1024 .f32 :=
  shapeCast _ (transpose S2x6144x16x64 [1, 0, 2, 3] (shapeCast _ (KDR X0 (SIG (AIN X0 X3 X4)) X7) shapeCasts_S6144x2x1024_S6144x2x16x64)
    transposes_S6144x2x16x64_S2x6144x16x64_1_0_2_3) shapeCasts_S2x6144x16x64_S2x6144x1024

/-- The removal key times the learning rate. -/
def REF5 (X0 : FVec Ideal S6144x4608 .f32) (X3 : FVec Ideal S2x1024 .f32) (X4 : FVec Ideal S2x64x1024 .f32) (X6 : FVec Ideal S1024 .f32) : FVec Ideal S2x6144x1024 .f32 :=
  shapeCast _ (transpose S2x6144x16x64 [1, 0, 2, 3] (mulf (broadcastInDim S6144x2x16x64 ![0, 1, 2, 3] bcast_S6144x1x16x64_S6144x2x16x64_0_1_2_3
    (broadcastInDim S6144x1x16x64 ![0, 2, 3] bcast_S6144x16x64_S6144x1x16x64_0_2_3 (NRM (KKH X0 X6)))) (shapeCast _ (SIG (AIN X0 X3 X4))
    shapeCasts_S6144x2x1024_S6144x2x16x64)) transposes_S6144x2x16x64_S2x6144x16x64_1_0_2_3) shapeCasts_S2x6144x16x64_S2x6144x1024

/-- The bonus. -/
def REF6 (X0 : FVec Ideal S6144x4608 .f32) (X3 : FVec Ideal S2x1024 .f32) (X4 : FVec Ideal S2x64x1024 .f32) (X7 : FVec Ideal S1024 .f32) (X8 : FVec Ideal S16x64 .f32) : FVec Ideal S6144x1024 .f32 :=
  shapeCast _ (mulf (broadcastInDim S6144x16x64 ![0, 1, 2] bcast_S6144x16x1_S6144x16x64_0_1_2 (OUT (INN X0 (KDR X0 (SIG (AIN X0 X3 X4)) X7) X8)))
    (shapeCast _ (extractStridedSlice S6144x1024 ![0, 2048] (extractStridedSlice S6144x3456 ![0, 0] X0 slices_S6144x4608_S6144x3456_0_0)
    slices_S6144x3456_S6144x1024_0_2048) shapeCasts_S6144x1024_S6144x16x64)) shapeCasts_S6144x16x64_S6144x1024

/-- The gate. -/
def REF7 (X0 : FVec Ideal S6144x4608 .f32) (X5 : FVec Ideal S128x1024 .f32) : FVec Ideal S6144x1024 .f32 :=
  Host.dotGeneral dot_S6144x128_S128x1024_S6144x1024_1_0_0_1_n_n none (SIGG X0) X5

end

open Cert.Kernel17Ideal Cert.Kernel17Ideal.Gen

variable (m : (ℓ : Loc nD τ sig) → Buf (Elt Ideal) ℓ)

open Split

/-- The decay's logarithm from its argument, at an element. -/
def decay (x : EReal) : EReal :=
  0 - Ideal.exp ((0 - (max (0 - x) 0 + Ideal.log1p (Ideal.exp (0 - max (0 - x) (-(0 - x)))))) - Ideal.ofBits .f32 0x3F000000#32)

/-- The decay's argument at an element. -/
theorem WIN_at (X0 : FVec Ideal Cert.Reference17Ideal.S6144x4608 .f32) (X1 : FVec Ideal Cert.Reference17Ideal.S2x1024 .f32) (X2 : FVec Ideal Cert.Reference17Ideal.S2x64x1024 .f32) (r : Fin 6144) (d : Fin 2) (j : Fin 1024) :
    WIN X0 X1 X2 (ix3 r d j) = X1 (ix2 d j) + ∑ k : Fin 64, X2 (ix3 d k j) * Ideal.tanh (X0 (ix2 r ⟨3072 + (d.val * 64 + k.val), by omega⟩)) := by
  pointwise [WIN]

/-- The learning rate's argument at an element. -/
theorem AIN_at (X0 : FVec Ideal Cert.Reference17Ideal.S6144x4608 .f32) (X3 : FVec Ideal Cert.Reference17Ideal.S2x1024 .f32) (X4 : FVec Ideal Cert.Reference17Ideal.S2x64x1024 .f32) (r : Fin 6144) (d : Fin 2) (j : Fin 1024) :
    AIN X0 X3 X4 (ix3 r d j) = X3 (ix2 d j) + ∑ k : Fin 64, X4 (ix3 d k j) * X0 (ix2 r ⟨3200 + (d.val * 64 + k.val), by omega⟩) := by
  pointwise [AIN]

/-- The sigmoid at an element. -/
theorem SIG_at (M : FVec Ideal Cert.Reference17Ideal.S6144x2x1024 .f32) (r : Fin 6144) (d : Fin 2) (j : Fin 1024) : SIG M (ix3 r d j) = Ideal.logistic (M (ix3 r d j)) := by
  have e : SIG M (ix3 r d j) = Ideal.div (Ideal.ofBits .f32 0x3F800000#32) (Ideal.ofBits .f32 0x3F800000#32 + Ideal.exp (-(M (ix3 r d j)))) := by
    pointwise [SIG]
  rw [e, Ideal.ofBits_one_f32]
  rfl

/-- The decay's logarithm at an element. -/
theorem LW_at (M : FVec Ideal Cert.Reference17Ideal.S6144x2x1024 .f32) (r : Fin 6144) (d : Fin 2) (j : Fin 1024) : LW M (ix3 d r j) = decay (M (ix3 r d j)) := by
  pointwise [LW]
  simp only [ne_eq, not_true_eq_false, if_false, decay, zero_sub]
  rfl

/-- The keys at an element. -/
theorem KDR_at (X0 : FVec Ideal Cert.Reference17Ideal.S6144x4608 .f32) (S : FVec Ideal Cert.Reference17Ideal.S6144x2x1024 .f32) (X7 : FVec Ideal Cert.Reference17Ideal.S1024 .f32) (r : Fin 6144) (d : Fin 2) (j : Fin 1024) :
    KDR X0 S X7 (ix3 r d j) = X0 (ix2 r ⟨1024 + j.val, by omega⟩) * (Ideal.ofBits .f32 0x3F800000#32 + (S (ix3 r d j) - Ideal.ofBits .f32 0x3F800000#32) * X7 (ix1 j)) := by
  pointwise [KDR]

/-- The removal key at an element. -/
theorem KKH_at (X0 : FVec Ideal Cert.Reference17Ideal.S6144x4608 .f32) (X6 : FVec Ideal Cert.Reference17Ideal.S1024 .f32) (r : Fin 6144) (h : Fin 16) (n : Fin 64) (j : Fin 1024) (hj : j.val = h.val * 64 + n.val) :
    KKH X0 X6 (ix3 r h n) = X0 (ix2 r ⟨1024 + j.val, by omega⟩) * X6 (ix1 j) := by
  have hb : h.val * 64 + n.val < 1024 := by omega
  obtain rfl : j = ⟨h.val * 64 + n.val, hb⟩ := Fin.ext hj
  pointwise [KKH]

/-- The normalised removal key at an element. -/
theorem NRM_at (K : FVec Ideal Cert.Reference17Ideal.S6144x16x64 .f32) (r : Fin 6144) (h : Fin 16) (n : Fin 64) :
    NRM K (ix3 r h n) = K (ix3 r h n) * Ideal.rsqrt (max (∑ i : Fin 64, K (ix3 r h i) * K (ix3 r h i)) (Ideal.ofBits .f32 0x179ABE15#32)) := by
  pointwise [NRM]

/-- The bonus's inner sum at an element. -/
theorem INN_at (X0 : FVec Ideal Cert.Reference17Ideal.S6144x4608 .f32) (K : FVec Ideal Cert.Reference17Ideal.S6144x2x1024 .f32) (X8 : FVec Ideal Cert.Reference17Ideal.S16x64 .f32) (r : Fin 6144) (d : Fin 2) (h : Fin 16) :
    INN X0 K X8 (ix3 r d h) = ∑ i : Fin 64, X0 (ix2 r ⟨h.val * 64 + i.val, by omega⟩) * K (ix3 r d ⟨h.val * 64 + i.val, by omega⟩) * X8 (ix2 h i) := by
  pointwise [INN]

/-- The sum over the directions at an element. -/
theorem OUT_at (I : FVec Ideal Cert.Reference17Ideal.S6144x2x16 .f32) (r : Fin 6144) (h : Fin 16) : OUT I (ix3 r h (0 : Fin 1)) = I (ix3 r (0 : Fin 2) h) + I (ix3 r (1 : Fin 2) h) := by
  have e : OUT I (ix3 r h (0 : Fin 1)) = ∑ d : Fin 2, I (ix3 r d h) := by
    pointwise [OUT]
  rw [e, Fin.sum_univ_two]

/-- The receptance at an element. -/
theorem REF0_at (X0 : FVec Ideal Cert.Reference17Ideal.S6144x4608 .f32) (r : Fin 6144) (j : Fin 1024) : REF0 X0 (ix2 r j) = X0 (ix2 r ⟨j.val, by omega⟩) := by
  pointwise [REF0]

/-- The value at an element. -/
theorem REF1_at (X0 : FVec Ideal Cert.Reference17Ideal.S6144x4608 .f32) (r : Fin 6144) (j : Fin 1024) : REF1 X0 (ix2 r j) = X0 (ix2 r ⟨2048 + j.val, by omega⟩) := by
  pointwise [REF1]

/-- The negated removal key at an element. -/
theorem REF2_at (X0 : FVec Ideal Cert.Reference17Ideal.S6144x4608 .f32) (X6 : FVec Ideal Cert.Reference17Ideal.S1024 .f32) (r : Fin 6144) (h : Fin 16) (n : Fin 64) (j : Fin 1024) (hj : j.val = h.val * 64 + n.val) : REF2 X0 X6 (ix2 r j) = -(NRM (KKH X0 X6) (ix3 r h n)) := by
  have hb : h.val * 64 + n.val < 1024 := by omega
  obtain rfl : j = ⟨h.val * 64 + n.val, hb⟩ := Fin.ext hj
  unfold REF2
  generalize NRM (KKH X0 X6) = M
  pointwise []

/-- The keys' result at an element. -/
theorem REF4_at (X0 : FVec Ideal Cert.Reference17Ideal.S6144x4608 .f32) (X3 : FVec Ideal Cert.Reference17Ideal.S2x1024 .f32) (X4 : FVec Ideal Cert.Reference17Ideal.S2x64x1024 .f32) (X7 : FVec Ideal Cert.Reference17Ideal.S1024 .f32) (r : Fin 6144) (d : Fin 2) (h : Fin 16) (n : Fin 64) (j : Fin 1024) (hj : j.val = h.val * 64 + n.val) :
    REF4 X0 X3 X4 X7 (ix3 d r j) = KDR X0 (SIG (AIN X0 X3 X4)) X7 (ix3 r d j) := by
  have hb : h.val * 64 + n.val < 1024 := by omega
  obtain rfl : j = ⟨h.val * 64 + n.val, hb⟩ := Fin.ext hj
  unfold REF4
  generalize KDR X0 (SIG (AIN X0 X3 X4)) X7 = M
  pointwise []

/-- The removal key times the learning rate at an element. -/
theorem REF5_at (X0 : FVec Ideal Cert.Reference17Ideal.S6144x4608 .f32) (X3 : FVec Ideal Cert.Reference17Ideal.S2x1024 .f32) (X4 : FVec Ideal Cert.Reference17Ideal.S2x64x1024 .f32) (X6 : FVec Ideal Cert.Reference17Ideal.S1024 .f32) (r : Fin 6144) (d : Fin 2) (h : Fin 16) (n : Fin 64) (j : Fin 1024) (hj : j.val = h.val * 64 + n.val) :
    REF5 X0 X3 X4 X6 (ix3 d r j) = NRM (KKH X0 X6) (ix3 r h n) * SIG (AIN X0 X3 X4) (ix3 r d j) := by
  have hb : h.val * 64 + n.val < 1024 := by omega
  obtain rfl : j = ⟨h.val * 64 + n.val, hb⟩ := Fin.ext hj
  unfold REF5
  generalize SIG (AIN X0 X3 X4) = S
  generalize NRM (KKH X0 X6) = M
  pointwise []

/-- The bonus at an element. -/
theorem REF6_at (X0 : FVec Ideal Cert.Reference17Ideal.S6144x4608 .f32) (X3 : FVec Ideal Cert.Reference17Ideal.S2x1024 .f32) (X4 : FVec Ideal Cert.Reference17Ideal.S2x64x1024 .f32) (X7 : FVec Ideal Cert.Reference17Ideal.S1024 .f32) (X8 : FVec Ideal Cert.Reference17Ideal.S16x64 .f32) (r : Fin 6144) (h : Fin 16) (n : Fin 64) (j : Fin 1024) (hj : j.val = h.val * 64 + n.val) :
    REF6 X0 X3 X4 X7 X8 (ix2 r j) = OUT (INN X0 (KDR X0 (SIG (AIN X0 X3 X4)) X7) X8) (ix3 r h (0 : Fin 1)) * X0 (ix2 r ⟨2048 + j.val, by omega⟩) := by
  have hb : h.val * 64 + n.val < 1024 := by omega
  obtain rfl : j = ⟨h.val * 64 + n.val, hb⟩ := Fin.ext hj
  unfold REF6
  generalize OUT (INN X0 (KDR X0 (SIG (AIN X0 X3 X4)) X7) X8) = M
  pointwise []

/-- The gate's sigmoid at an element. -/
theorem SIGG_at (X0 : FVec Ideal Cert.Reference17Ideal.S6144x4608 .f32) (r : Fin 6144) (k : Fin 128) : SIGG X0 (ix2 r k) = Ideal.logistic (X0 (ix2 r ⟨3328 + k.val, by omega⟩)) := by
  have e : SIGG X0 (ix2 r k) = Ideal.div (Ideal.ofBits .f32 0x3F800000#32) (Ideal.ofBits .f32 0x3F800000#32 + Ideal.exp (-(X0 (ix2 r ⟨3328 + k.val, by omega⟩)))) := by
    pointwise [SIGG]
  rw [e, Ideal.ofBits_one_f32]
  rfl

/-- The gate at an element. -/
theorem REF7_at (X0 : FVec Ideal Cert.Reference17Ideal.S6144x4608 .f32) (X5 : FVec Ideal Cert.Reference17Ideal.S128x1024 .f32) (r : Fin 6144) (j : Fin 1024) :
    REF7 X0 X5 (ix2 r j) = ∑ k : Fin 128, Ideal.logistic (X0 (ix2 r ⟨3328 + k.val, by omega⟩)) * X5 (ix2 k j) := by
  have e : REF7 X0 X5 (ix2 r j) = ∑ k : Fin 128, SIGG X0 (ix2 r k) * X5 (ix2 k j) := by
    unfold REF7
    generalize SIGG X0 = S
    pointwise []
  rw [e]
  exact Finset.sum_congr rfl fun k _ => congrArg (· * X5 (ix2 k j)) (SIGG_at X0 r k)

/-- The second direction's decay argument of a tile. -/
def K17 (v3 : FVec Ideal S256x384 .f32) (w : FVec Ideal S1x1024 .f32) (u : FVec Ideal S1x64x1024 .f32) : FVec Ideal S256x1024 .f32 :=
  addf (broadcastTo S256x1024 w broadcasts_S1x1024_S256x1024)
    (matmul dot_S256x64_S64x1024_S256x1024_1_0_0_1_n_n none (truncf .bf16 (tanh (extractStridedSlice S256x64 ![0, 64] v3 slices_S256x384_o0_64_S256x64)) bitsLt_bf16_f32)
      (truncf .bf16 (shapeCast S64x1024 u shapeCasts_S1x64x1024_S64x1024) bitsLt_bf16_f32) (constant S256x1024 .f32 0x00000000#32))

/-- The first direction's decay argument at an element of a tile. -/
theorem pay8_at (v3 : FVec Ideal S256x384 .f32) (w : FVec Ideal S1x1024 .f32) (u : FVec Ideal S1x64x1024 .f32) (a : Fin 256) (j : Fin 1024) :
    k0_pay8 (F := Ideal) v3 w u (ix2 a j) = w (ix2 (0 : Fin 1) j) + ∑ k : Fin 64, Ideal.tanh (v3 (ix2 a ⟨k.val, by omega⟩)) * u (ix3 (0 : Fin 1) k j) := by
  pointwise [k0_pay8]

/-- The second direction's decay argument at an element of a tile. -/
theorem K17_at (v3 : FVec Ideal S256x384 .f32) (w : FVec Ideal S1x1024 .f32) (u : FVec Ideal S1x64x1024 .f32) (a : Fin 256) (j : Fin 1024) :
    K17 v3 w u (ix2 a j) = w (ix2 (0 : Fin 1) j) + ∑ k : Fin 64, Ideal.tanh (v3 (ix2 a ⟨64 + k.val, by omega⟩)) * u (ix3 (0 : Fin 1) k j) := by
  pointwise [K17]

/-- The decay's logarithm at an element of a tile. -/
theorem pay10_at (x : FVec Ideal S256x1024 .f32) (a : Fin 256) (j : Fin 1024) : k0_pay10 (F := Ideal) x k0_pay9 (ix3 (0 : Fin 1) a j) = decay (x (ix2 a j)) := by
  pointwise [k0_pay10, k0_pay9]
  rfl

/-- The second direction's payload is the first's, of its own argument. -/
theorem pay17_eq (v3 : FVec Ideal S256x384 .f32) (w : FVec Ideal S1x1024 .f32) (u : FVec Ideal S1x64x1024 .f32) : k0_pay17 (F := Ideal) v3 w u = k0_pay10 (K17 v3 w u) k0_pay9 := rfl

/-- The learning rate at an element of a tile. -/
theorem pay11_at (x : FVec Ideal S256x64 .f32) (w : FVec Ideal S1x1024 .f32) (u : FVec Ideal S1x64x1024 .f32) (a : Fin 256) (j : Fin 1024) :
    k0_pay11 (F := Ideal) x w u (ix2 a j) = Ideal.logistic (w (ix2 (0 : Fin 1) j) + ∑ k : Fin 64, x (ix2 a k) * u (ix3 (0 : Fin 1) k j)) := by
  pointwise [k0_pay11]

/-- The keys at an element of a tile. -/
theorem pay12_at (v1 : FVec Ideal S256x1024 .f32) (x : FVec Ideal S256x64 .f32) (w : FVec Ideal S1x1024 .f32) (u : FVec Ideal S1x64x1024 .f32) (v : FVec Ideal S1x1024 .f32) (a : Fin 256) (j : Fin 1024) :
    k0_pay12 (F := Ideal) v1 x w u v (ix2 a j) = v1 (ix2 a j) * (Ideal.ofBits .f32 0x3F800000#32 + (k0_pay11 (F := Ideal) x w u (ix2 a j) - Ideal.ofBits .f32 0x3F800000#32) * v (ix2 (0 : Fin 1) j)) := by
  unfold k0_pay12
  generalize k0_pay11 (F := Ideal) x w u = S
  pointwise []

/-- The gate at an element of a tile. -/
theorem pay1_at (v3 : FVec Ideal S256x384 .f32) (g : FVec Ideal S128x1024 .f32) (a : Fin 256) (j : Fin 1024) :
    k0_pay1 (F := Ideal) (k0_pay3 v3) g (ix2 a j) = ∑ k : Fin 128, Ideal.logistic (v3 (ix2 a ⟨256 + k.val, by omega⟩)) * g (ix2 k j) := by
  pointwise [k0_pay1, k0_pay3]

/-- The decay's logarithm of direction 0 at an element of a tile is the reference's. -/
theorem lw0 (v3 : FVec Ideal S256x384 .f32) (w : FVec Ideal S1x1024 .f32) (u : FVec Ideal S1x64x1024 .f32) (X0 : FVec Ideal Cert.Reference17Ideal.S6144x4608 .f32) (X1 : FVec Ideal Cert.Reference17Ideal.S2x1024 .f32) (X2 : FVec Ideal Cert.Reference17Ideal.S2x64x1024 .f32) (r : Fin 6144) (a : Fin 256) (j : Fin 1024)
    (h3 : ∀ k : Fin 384, v3 (ix2 a k) = X0 (ix2 r ⟨3072 + k.val, by omega⟩))
    (hw : w (ix2 (0 : Fin 1) j) = X1 (ix2 (0 : Fin 2) j)) (hu : ∀ k : Fin 64, u (ix3 (0 : Fin 1) k j) = X2 (ix3 (0 : Fin 2) k j)) :
    k0_pay10 (F := Ideal) (k0_pay8 v3 w u) k0_pay9 (ix3 (0 : Fin 1) a j) = REF3 X0 X1 X2 (ix3 (0 : Fin 2) r j) := by
  rw [pay10_at, pay8_at]
  show _ = LW (WIN X0 X1 X2) _
  rw [LW_at, WIN_at, hw]
  refine congrArg (fun s => decay (X1 (ix2 (0 : Fin 2) j) + s)) (Finset.sum_congr rfl fun k _ => ?_)
  rw [h3, hu, mul_comm]
  exact congrArg (fun q => X2 (ix3 (0 : Fin 2) k j) * Ideal.tanh (X0 (ix2 r q))) (Fin.ext (by simp))

/-- The decay's logarithm of direction 1 at an element of a tile is the reference's. -/
theorem lw1 (v3 : FVec Ideal S256x384 .f32) (w : FVec Ideal S1x1024 .f32) (u : FVec Ideal S1x64x1024 .f32) (X0 : FVec Ideal Cert.Reference17Ideal.S6144x4608 .f32) (X1 : FVec Ideal Cert.Reference17Ideal.S2x1024 .f32) (X2 : FVec Ideal Cert.Reference17Ideal.S2x64x1024 .f32) (r : Fin 6144) (a : Fin 256) (j : Fin 1024)
    (h3 : ∀ k : Fin 384, v3 (ix2 a k) = X0 (ix2 r ⟨3072 + k.val, by omega⟩))
    (hw : w (ix2 (0 : Fin 1) j) = X1 (ix2 (1 : Fin 2) j)) (hu : ∀ k : Fin 64, u (ix3 (0 : Fin 1) k j) = X2 (ix3 (1 : Fin 2) k j)) :
    k0_pay17 (F := Ideal) v3 w u (ix3 (0 : Fin 1) a j) = REF3 X0 X1 X2 (ix3 (1 : Fin 2) r j) := by
  rw [pay17_eq, pay10_at, K17_at]
  show _ = LW (WIN X0 X1 X2) _
  rw [LW_at, WIN_at, hw]
  refine congrArg (fun s => decay (X1 (ix2 (1 : Fin 2) j) + s)) (Finset.sum_congr rfl fun k _ => ?_)
  rw [h3, hu, mul_comm]
  exact congrArg (fun q => X2 (ix3 (1 : Fin 2) k j) * Ideal.tanh (X0 (ix2 r q))) (Fin.ext (by simp))

/-- The learning rate's columns of direction 0 in a tile. -/
theorem cols0 (v3 : FVec Ideal S256x384 .f32) (X0 : FVec Ideal Cert.Reference17Ideal.S6144x4608 .f32) (r : Fin 6144) (a : Fin 256)
    (h3 : ∀ k : Fin 384, v3 (ix2 a k) = X0 (ix2 r ⟨3072 + k.val, by omega⟩)) (k : Fin 64) :
    k0_pay7 (F := Ideal) v3 (ix2 a k) = X0 (ix2 r ⟨3200 + ((0 : Fin 2).val * 64 + k.val), by omega⟩) := by
  have e : k0_pay7 (F := Ideal) v3 (ix2 a k) = v3 (ix2 a ⟨128 + k.val, by omega⟩) := by
    pointwise [k0_pay7]
  rw [e, h3]
  exact congrArg (fun q => X0 (ix2 r q)) (Fin.ext (by simp; omega))

/-- The learning rate's columns of direction 1 in a tile. -/
theorem cols1 (v3 : FVec Ideal S256x384 .f32) (X0 : FVec Ideal Cert.Reference17Ideal.S6144x4608 .f32) (r : Fin 6144) (a : Fin 256)
    (h3 : ∀ k : Fin 384, v3 (ix2 a k) = X0 (ix2 r ⟨3072 + k.val, by omega⟩)) (k : Fin 64) :
    k0_pay16 (F := Ideal) v3 (ix2 a k) = X0 (ix2 r ⟨3200 + ((1 : Fin 2).val * 64 + k.val), by omega⟩) := by
  have e : k0_pay16 (F := Ideal) v3 (ix2 a k) = v3 (ix2 a ⟨192 + k.val, by omega⟩) := by
    pointwise [k0_pay16]
  rw [e, h3]
  exact congrArg (fun q => X0 (ix2 r q)) (Fin.ext (by simp; omega))

/-- The learning rate at an element of a tile is the reference's. -/
theorem rate (x : FVec Ideal S256x64 .f32) (w : FVec Ideal S1x1024 .f32) (u : FVec Ideal S1x64x1024 .f32) (X0 : FVec Ideal Cert.Reference17Ideal.S6144x4608 .f32) (X3 : FVec Ideal Cert.Reference17Ideal.S2x1024 .f32) (X4 : FVec Ideal Cert.Reference17Ideal.S2x64x1024 .f32) (d : Fin 2) (r : Fin 6144) (a : Fin 256) (j : Fin 1024)
    (hx : ∀ k : Fin 64, x (ix2 a k) = X0 (ix2 r ⟨3200 + (d.val * 64 + k.val), by omega⟩))
    (hw : w (ix2 (0 : Fin 1) j) = X3 (ix2 d j)) (hu : ∀ k : Fin 64, u (ix3 (0 : Fin 1) k j) = X4 (ix3 d k j)) :
    k0_pay11 (F := Ideal) x w u (ix2 a j) = SIG (AIN X0 X3 X4) (ix3 r d j) := by
  rw [pay11_at, SIG_at, AIN_at, hw]
  refine congrArg (fun s => Ideal.logistic (X3 (ix2 d j) + s)) (Finset.sum_congr rfl fun k _ => ?_)
  rw [hx, hu, mul_comm]

/-- The keys at an element of a tile are the reference's. -/
theorem keys (v1 : FVec Ideal S256x1024 .f32) (x : FVec Ideal S256x64 .f32) (w : FVec Ideal S1x1024 .f32) (u : FVec Ideal S1x64x1024 .f32) (v : FVec Ideal S1x1024 .f32) (X0 : FVec Ideal Cert.Reference17Ideal.S6144x4608 .f32) (X3 : FVec Ideal Cert.Reference17Ideal.S2x1024 .f32) (X4 : FVec Ideal Cert.Reference17Ideal.S2x64x1024 .f32) (X7 : FVec Ideal Cert.Reference17Ideal.S1024 .f32) (d : Fin 2) (r : Fin 6144) (a : Fin 256) (j : Fin 1024)
    (h1 : v1 (ix2 a j) = X0 (ix2 r ⟨1024 + j.val, by omega⟩))
    (hx : ∀ k : Fin 64, x (ix2 a k) = X0 (ix2 r ⟨3200 + (d.val * 64 + k.val), by omega⟩))
    (hw : w (ix2 (0 : Fin 1) j) = X3 (ix2 d j)) (hu : ∀ k : Fin 64, u (ix3 (0 : Fin 1) k j) = X4 (ix3 d k j)) (hv : v (ix2 (0 : Fin 1) j) = X7 (ix1 j)) :
    k0_pay12 (F := Ideal) v1 x w u v (ix2 a j) = KDR X0 (SIG (AIN X0 X3 X4)) X7 (ix3 r d j) := by
  rw [pay12_at, rate x w u X0 X3 X4 d r a j hx hw hu, KDR_at, h1, hv]

/-- A sum against the matrix in two parts, the high part and the remainder. -/
def DOT2 (x : FVec Ideal S256x1024 .f32) (e : FVec Ideal S1024x1024 .bf16) : FVec Ideal S256x1024 .f32 :=
  addf (matmul dot_S256x1024_S1024x1024_S256x1024_1_0_0_1_n_n none (truncf .bf16 x bitsLt_bf16_f32) e (constant S256x1024 .f32 0x00000000#32))
    (matmul dot_S256x1024_S1024x1024_S256x1024_1_0_0_1_n_n none (truncf .bf16 (subf x (extf .f32 (truncf .bf16 x bitsLt_bf16_f32) bitsLt_bf16_f32)) bitsLt_bf16_f32) e
      (constant S256x1024 .f32 0x00000000#32))

/-- The sum in two parts, against the heads' ones, is the head's sum. -/
theorem DOT2_at (x : FVec Ideal S256x1024 .f32) (e : FVec Ideal S1024x1024 .bf16) (a : Fin 256) (hx : ∀ k : Fin 1024, IsReal (x (ix2 a k)))
    (he : ∀ k j : Fin 1024, e (ix2 k j) = if k.val / 64 = j.val / 64 then (1 : EReal) else 0) (h : Fin 16) (j : Fin 1024) (hj : j.val / 64 = h.val) :
    DOT2 x e (ix2 a j) = ∑ i : Fin 64, x (ix2 a ⟨h.val * 64 + i.val, by omega⟩) := by
  have p : DOT2 x e (ix2 a j) = ∑ k : Fin 1024, x (ix2 a k) * e (ix2 k j) + ∑ k : Fin 1024, (x (ix2 a k) - x (ix2 a k)) * e (ix2 k j) := by
    pointwise [DOT2]
  rw [p]
  simp only [he, hj]
  exact split (fun k => x (ix2 a k)) hx h

/-- A tile's removal keys. -/
def KB (v1 : FVec Ideal S256x1024 .f32) (v7 : FVec Ideal S1x1024 .f32) : FVec Ideal S256x1024 .f32 :=
  mulf v1 (broadcastTo S256x1024 (shapeCast S1x1024 v7 shapeCasts_S1x1024_S1x1024) broadcasts_S1x1024_S256x1024)

/-- A tile's removal keys at an element. -/
theorem KB_at (v1 : FVec Ideal S256x1024 .f32) (v7 : FVec Ideal S1x1024 .f32) (a : Fin 256) (k : Fin 1024) :
    KB v1 v7 (ix2 a k) = v1 (ix2 a k) * v7 (ix2 (0 : Fin 1) k) := by
  pointwise [KB]

/-- The matrix as the body reads it. -/
theorem pay4_at (e : FVec Ideal S1024x1024 .bf16) (k j : Fin 1024) : k0_pay4 (F := Ideal) e (ix2 k j) = e (ix2 k j) := by
  pointwise [k0_pay4]

/-- The removal keys' payload from its parts. -/
theorem pay5_at (v1 : FVec Ideal S256x1024 .f32) (e : FVec Ideal S1024x1024 .bf16) (v7 : FVec Ideal S1x1024 .f32) (a : Fin 256) (j : Fin 1024) :
    k0_pay5 (F := Ideal) v1 e v7 (ix2 a j)
      = KB v1 v7 (ix2 a j) * Ideal.rsqrt (max (DOT2 (mulf (KB v1 v7) (KB v1 v7)) (k0_pay4 (F := Ideal) e) (ix2 a j)) (Ideal.ofBits .f32 0x179ABE15#32)) := rfl

/-- A tile's normalised removal keys are the reference's, on reals. -/
theorem unit (v1 : FVec Ideal S256x1024 .f32) (e : FVec Ideal S1024x1024 .bf16) (v7 : FVec Ideal S1x1024 .f32) (X0 : FVec Ideal Cert.Reference17Ideal.S6144x4608 .f32) (X6 : FVec Ideal Cert.Reference17Ideal.S1024 .f32) (r : Fin 6144) (a : Fin 256)
    (h1 : ∀ k : Fin 1024, v1 (ix2 a k) = X0 (ix2 r ⟨1024 + k.val, by omega⟩))
    (he : ∀ k j : Fin 1024, e (ix2 k j) = if k.val / 64 = j.val / 64 then (1 : EReal) else 0)
    (h7 : ∀ k : Fin 1024, v7 (ix2 (0 : Fin 1) k) = X6 (ix1 k)) (g0 : ∀ k : Fin 1024, IsReal (X0 (ix2 r ⟨1024 + k.val, by omega⟩))) (g6 : ∀ k : Fin 1024, IsReal (X6 (ix1 k)))
    (h : Fin 16) (n : Fin 64) (j : Fin 1024) (hj : j.val = h.val * 64 + n.val) : k0_pay5 (F := Ideal) v1 e v7 (ix2 a j) = NRM (KKH X0 X6) (ix3 r h n) := by
  have p : ∀ k : Fin 1024, mulf (KB v1 v7) (KB v1 v7) (ix2 a k) = KB v1 v7 (ix2 a k) * KB v1 v7 (ix2 a k) := fun _ => rfl
  have q : ∀ (h : Fin 16) (n : Fin 64) (j : Fin 1024), j.val = h.val * 64 + n.val → KB v1 v7 (ix2 a j) = KKH X0 X6 (ix3 r h n) := by
    intro h n j hj
    rw [KB_at, h1, h7, KKH_at X0 X6 r h n j hj]
  rw [pay5_at, NRM_at, q h n j hj, DOT2_at _ _ a (fun k => by
    rw [p, KB_at, h1, h7]
    exact ((g0 k).mul (g6 k)).mul ((g0 k).mul (g6 k))) (fun k j => by rw [pay4_at, he]) h j (by omega)]
  refine congrArg (fun s => KKH X0 X6 (ix3 r h n) * Ideal.rsqrt (max s (Ideal.ofBits .f32 0x179ABE15#32))) (Finset.sum_congr rfl fun i _ => ?_)
  rw [p, q h i _ rfl]

/-- The logistic function's values are reals. -/
theorem real_logistic (x : EReal) : IsReal (Ideal.logistic x) := by
  induction x with
  | bot => exact ⟨0, by simp⟩
  | top => exact ⟨1, by simp⟩
  | coe y => exact ⟨_, Ideal.logistic_coe y⟩

/-- The keys are reals where the key and its weight are. -/
theorem real_keys (X0 : FVec Ideal Cert.Reference17Ideal.S6144x4608 .f32) (X3 : FVec Ideal Cert.Reference17Ideal.S2x1024 .f32) (X4 : FVec Ideal Cert.Reference17Ideal.S2x64x1024 .f32) (X7 : FVec Ideal Cert.Reference17Ideal.S1024 .f32) (r : Fin 6144) (d : Fin 2) (j : Fin 1024)
    (g0 : IsReal (X0 (ix2 r ⟨1024 + j.val, by omega⟩))) (g7 : IsReal (X7 (ix1 j))) : IsReal (KDR X0 (SIG (AIN X0 X3 X4)) X7 (ix3 r d j)) := by
  have o : IsReal (Ideal.ofBits .f32 0x3F800000#32) := ⟨1, by simp⟩
  rw [KDR_at, SIG_at]
  exact g0.mul (o.add (((real_logistic _).sub o).mul g7))

/-- The tile whose heads' sums make the bonus. -/
def BQ (v0 s : FVec Ideal S256x1024 .f32) (v : FVec Ideal S1x1024 .f32) : FVec Ideal S256x1024 .f32 :=
  mulf (mulf v0 s) (broadcastTo S256x1024 (shapeCast S1x1024 v shapeCasts_S1x1024_S1x1024) broadcasts_S1x1024_S256x1024)

/-- That tile at an element. -/
theorem BQ_at (v0 s : FVec Ideal S256x1024 .f32) (v : FVec Ideal S1x1024 .f32) (a : Fin 256) (k : Fin 1024) :
    BQ v0 s v (ix2 a k) = v0 (ix2 a k) * s (ix2 a k) * v (ix2 (0 : Fin 1) k) := by
  pointwise [BQ]

/-- The bonus's payload from its parts. -/
theorem pay22_at (v0 v1 v2 : FVec Ideal S256x1024 .f32) (e : FVec Ideal S1024x1024 .bf16) (z : FVec Ideal S256x1024 .f32) (x : FVec Ideal S256x64 .f32) (w : FVec Ideal S1x1024 .f32) (u : FVec Ideal S1x64x1024 .f32) (v v' : FVec Ideal S1x1024 .f32) (a : Fin 256) (j : Fin 1024) :
    k0_pay22 (F := Ideal) v0 v1 v2 e z x w u v v' (ix2 a j) = DOT2 (BQ v0 (addf z (k0_pay12 (F := Ideal) v1 x w u v)) v') e (ix2 a j) * v2 (ix2 a j) := rfl

/-- One term of the bonus: the directions' keys summed before or after. -/
theorem term {x a b y : EReal} (hx : IsReal x) (ha : IsReal a) (hb : IsReal b) (hy : IsReal y) : x * (0 + a + b) * y = x * a * y + x * b * y := by
  obtain ⟨x, rfl⟩ := hx
  obtain ⟨a, rfl⟩ := ha
  obtain ⟨b, rfl⟩ := hb
  obtain ⟨y, rfl⟩ := hy
  rw [zero_add]
  simp only [← EReal.coe_add, ← EReal.coe_mul]
  exact congrArg _ (by ring)

/-- A tile's bonus is the reference's, on reals. -/
theorem bonus (v0 s : FVec Ideal S256x1024 .f32) (e : FVec Ideal S1024x1024 .bf16) (v : FVec Ideal S1x1024 .f32) (X0 : FVec Ideal Cert.Reference17Ideal.S6144x4608 .f32) (X8 : FVec Ideal Cert.Reference17Ideal.S16x64 .f32) (M : FVec Ideal Cert.Reference17Ideal.S6144x2x1024 .f32) (r : Fin 6144) (a : Fin 256)
    (h0 : ∀ k : Fin 1024, v0 (ix2 a k) = X0 (ix2 r ⟨k.val, by omega⟩))
    (hs : ∀ k : Fin 1024, s (ix2 a k) = 0 + M (ix3 r (0 : Fin 2) k) + M (ix3 r (1 : Fin 2) k))
    (he : ∀ k j : Fin 1024, e (ix2 k j) = if k.val / 64 = j.val / 64 then (1 : EReal) else 0)
    (h8 : ∀ (h : Fin 16) (n : Fin 64) (j : Fin 1024), j.val = h.val * 64 + n.val → v (ix2 (0 : Fin 1) j) = X8 (ix2 h n))
    (g0 : ∀ k : Fin 1024, IsReal (X0 (ix2 r ⟨k.val, by omega⟩))) (gM : ∀ (d : Fin 2) (k : Fin 1024), IsReal (M (ix3 r d k))) (g8 : ∀ (h : Fin 16) (n : Fin 64), IsReal (X8 (ix2 h n)))
    (h : Fin 16) (n : Fin 64) (j : Fin 1024) (hj : j.val = h.val * 64 + n.val) : DOT2 (BQ v0 s v) e (ix2 a j) = OUT (INN X0 M X8) (ix3 r h (0 : Fin 1)) := by
  have q : ∀ (h : Fin 16) (n : Fin 64) (j : Fin 1024), j.val = h.val * 64 + n.val → BQ v0 s v (ix2 a j)
      = X0 (ix2 r ⟨j.val, by omega⟩) * M (ix3 r (0 : Fin 2) j) * X8 (ix2 h n) + X0 (ix2 r ⟨j.val, by omega⟩) * M (ix3 r (1 : Fin 2) j) * X8 (ix2 h n) := by
    intro h n j hj
    rw [BQ_at, h0, hs, h8 h n j hj]
    exact term (g0 j) (gM 0 j) (gM 1 j) (g8 h n)
  rw [DOT2_at _ _ a (fun k => by
    rw [q ⟨k.val / 64, by omega⟩ ⟨k.val % 64, by omega⟩ k (by show k.val = k.val / 64 * 64 + k.val % 64; omega)]
    exact (((g0 k).mul (gM 0 k)).mul (g8 _ _)).add (((g0 k).mul (gM 1 k)).mul (g8 _ _))) he h j (by omega), OUT_at, INN_at, INN_at, ← Finset.sum_add_distrib]
  exact Finset.sum_congr rfl fun i _ => q h i _ rfl

/-- A tile's gate is the reference's. -/
theorem gate (v3 : FVec Ideal S256x384 .f32) (g : FVec Ideal S128x1024 .f32) (X0 : FVec Ideal Cert.Reference17Ideal.S6144x4608 .f32) (X5 : FVec Ideal Cert.Reference17Ideal.S128x1024 .f32) (r : Fin 6144) (a : Fin 256) (j : Fin 1024)
    (h3 : ∀ k : Fin 384, v3 (ix2 a k) = X0 (ix2 r ⟨3072 + k.val, by omega⟩))
    (h5 : ∀ k : Fin 128, g (ix2 k j) = X5 (ix2 k j)) : k0_pay1 (F := Ideal) (k0_pay3 v3) g (ix2 a j) = REF7 X0 X5 (ix2 r j) := by
  rw [REF7_at, pay1_at]
  refine Finset.sum_congr rfl fun k _ => ?_
  rw [h3, h5]
  exact congrArg (fun q => Ideal.logistic (X0 (ix2 r q)) * X5 (ix2 k j)) (Fin.ext (by simp; omega))

/-- The matrix of sixteen heads' ones, before the rows and columns are spread over 64 channels. -/
def EQM : IVec S16x16 1 :=
  cmpi .eq (addi (iotaInDim S16x16 32 0) (broadcastInDim S16x16 ![] bcast_S_S16x16 (constantI S_ 32 0#32))) (iotaInDim S16x16 32 1)

/-- The host's matrix of ones: channel against channel of the same head. -/
def EH : FVec Ideal S1024x1024 .bf16 :=
  truncf .bf16 (shapeCast S1024x1024 (mulf (broadcastInDim S16x64x16x64 ![0, 1, 2, 3] bcast_S16x1x16x1_S16x64x16x64_0_1_2_3
    (broadcastInDim S16x1x16x1 ![0, 2] bcast_S16x16_S16x1x16x1_0_2 (uitofp (F := Ideal) .f32 EQM)))
    (broadcastInDim S16x64x16x64 ![0, 1, 2, 3] bcast_S1x64x1x64_S16x64x16x64_0_1_2_3
    (broadcastInDim S1x64x1x64 ![1, 3] bcast_S64x64_S1x64x1x64_1_3 (broadcastInDim S64x64 ![] bcast_S_S64x64
    (constant (F := Ideal) S_ .f32 0x3F800000#32))))) shapeCasts_S16x64x16x64_S1024x1024) bitsLt_bf16_f32

/-- The comparison of the two coordinates. -/
theorem EQM_at (a b : Fin 16) : EQM (ix2 a b) = BitVec.ofBool (decide (a = b)) := by
  pointwise [EQM]
  revert a b
  decide +kernel

/-- A number spread over a coordinate of sixteen heads. -/
theorem EYE_at (a b : Fin 16) : (((EQM (ix2 a b)).toNat : ℝ) : EReal) = if a = b then 1 else 0 := by
  rw [EQM_at]
  by_cases h : a = b <;> simp [h]

/-- The host's matrix at an element. -/
theorem EH_at (k j : Fin 1024) : EH (ix2 k j) = if k.val / 64 = j.val / 64 then (1 : EReal) else 0 := by
  have e : EH (ix2 k j) = (((EQM (ix2 (⟨k.val / 64, by omega⟩ : Fin 16) (⟨j.val / 64, by omega⟩ : Fin 16))).toNat : ℝ) : EReal) := by
    unfold EH
    generalize EQM = M
    pointwise []
    rfl
  rw [e, EYE_at]
  simp only [Fin.mk.injEq]

/-- The matrix as the host leaves it. -/
theorem V8 (c : Dev nD) : V m c main_v8 = EH := by
  show StableHlo.after (List.flatten [hostOps0, hostOps0_1, hostOps0_2]) (fun b => m (c, b)) (Proc.devRef .tc main_v8) = _
  simp only [hostOps0, hostOps0_1, hostOps0_2, List.flatten_cons, List.flatten_nil, List.append_nil, List.cons_append, List.nil_append]
  after_results
  rfl

/-- The removal key's weight as the host leaves it. -/
theorem V9 (c : Dev nD) : V m c main_v9 = shapeCast S1x1024 ((m ((c : Thread nD τ).loc main_arg6)) : FVec Ideal S1024 .f32) shapeCasts_S1024_S1x1024 := by
  show StableHlo.after (List.flatten [hostOps0, hostOps0_1, hostOps0_2]) (fun b => m (c, b)) (Proc.devRef .tc main_v9) = _
  simp only [hostOps0, hostOps0_1, hostOps0_2, List.flatten_cons, List.flatten_nil, List.append_nil, List.cons_append, List.nil_append]
  after_results
  rfl

/-- The key's weight as the host leaves it. -/
theorem V10 (c : Dev nD) : V m c main_v10 = shapeCast S1x1024 ((m ((c : Thread nD τ).loc main_arg7)) : FVec Ideal S1024 .f32) shapeCasts_S1024_S1x1024 := by
  show StableHlo.after (List.flatten [hostOps0, hostOps0_1, hostOps0_2]) (fun b => m (c, b)) (Proc.devRef .tc main_v10) = _
  simp only [hostOps0, hostOps0_1, hostOps0_2, List.flatten_cons, List.flatten_nil, List.append_nil, List.cons_append, List.nil_append]
  after_results
  rfl

/-- The bonus's weight as the host leaves it. -/
theorem V11 (c : Dev nD) : V m c main_v11 = shapeCast S1x1024 ((m ((c : Thread nD τ).loc main_arg8)) : FVec Ideal S16x64 .f32) shapeCasts_S16x64_S1x1024 := by
  show StableHlo.after (List.flatten [hostOps0, hostOps0_1, hostOps0_2]) (fun b => m (c, b)) (Proc.devRef .tc main_v11) = _
  simp only [hostOps0, hostOps0_1, hostOps0_2, List.flatten_cons, List.flatten_nil, List.append_nil, List.cons_append, List.nil_append]
  after_results
  rfl

/-- Every window's block at a grid point. -/
theorem idx : ∀ t : Fin cfg0.N, win0_0.index t 0 = t.val ∧ win0_0.index t 1 = 0 ∧ win0_1.index t 0 = 0 ∧ win0_1.index t 1 = 0 ∧ win0_2.index t 0 = 0 ∧ win0_2.index t 1 = 0 ∧
    win0_2.index t 2 = 0 ∧ win0_3.index t 0 = 0 ∧ win0_3.index t 1 = 0 ∧ win0_4.index t 0 = 0 ∧ win0_4.index t 1 = 0 ∧ win0_4.index t 2 = 0 ∧
    win0_5.index t 0 = 0 ∧ win0_5.index t 1 = 0 ∧ win0_6.index t 0 = 0 ∧ win0_6.index t 1 = 0 ∧ win0_7.index t 0 = 0 ∧ win0_7.index t 1 = 0 ∧
    win0_8.index t 0 = 0 ∧ win0_8.index t 1 = 0 ∧ win0_9.index t 0 = 0 ∧ win0_9.index t 1 = 0 ∧ win0_10.index t 0 = t.val ∧ win0_10.index t 1 = 0 ∧
    win0_11.index t 0 = t.val ∧ win0_11.index t 1 = 0 ∧ win0_12.index t 0 = t.val ∧ win0_12.index t 1 = 0 ∧ win0_16.index t 0 = t.val ∧ win0_16.index
    t 1 = 0 ∧ win0_17.index t 0 = t.val ∧ win0_17.index t 1 = 0 ∧ win0_13.index t 0 = 0 ∧ win0_13.index t 1 = t.val ∧ win0_13.index t 2 = 0 ∧
    win0_14.index t 0 = 0 ∧ win0_14.index t 1 = t.val ∧ win0_14.index t 2 = 0 ∧ win0_15.index t 0 = 0 ∧ win0_15.index t 1 = t.val ∧ win0_15.index t 2
    = 0 ∧ t.val < 24 := by
  decide +kernel

/-- The grid has 24 points. -/
theorem lt (t : Fin cfg0.N) : t.val < 24 :=
  (idx t).2.2.2.2.2.2.2.2.2.2.2.2.2.2.2.2.2.2.2.2.2.2.2.2.2.2.2.2.2.2.2.2.2.2.2.2.2.2.2.2.2

/-- The projections' block at an index: none of its columns lies outside the array. -/
theorem blk0 (c : Dev nD) (t : Fin cfg0.N) (a : Fin 256) (k : Fin 3456) (r : Fin 6144) (hr : r.val = t.val * 256 + a.val) :
    X0_0 m c t (ix2 a k) = (m ((c : Thread nD τ).loc main_arg0)) (ix2 r ⟨k.val, by omega⟩) := by
  have l := lt t
  rw [show r = ⟨t.val * 256 + a.val, by omega⟩ from Fin.ext hr]
  unfold X0_0 Pipeline.Window.fill
  rw [dif_pos (moved0_0 t _)]
  blk_ext [iblk, V, idx t]

/-- Argument 1's block at an index. -/
theorem blk1 (c : Dev nD) (t : Fin cfg0.N) (d : Fin 2) (j : Fin 1024) : iblk m c 1 t (ix2 d j) = (m ((c : Thread nD τ).loc main_arg1)) (ix2 d j) := by
  blk_ext [iblk, V, idx t]

/-- Argument 3's block at an index. -/
theorem blk3 (c : Dev nD) (t : Fin cfg0.N) (d : Fin 2) (j : Fin 1024) : iblk m c 3 t (ix2 d j) = (m ((c : Thread nD τ).loc main_arg3)) (ix2 d j) := by
  blk_ext [iblk, V, idx t]

/-- Argument 2's block at an index. -/
theorem blk2 (c : Dev nD) (t : Fin cfg0.N) (d : Fin 2) (k : Fin 64) (j : Fin 1024) : iblk m c 2 t (ix3 d k j) = (m ((c : Thread nD τ).loc main_arg2)) (ix3 d k j) := by
  blk_ext [iblk, V, idx t]

/-- Argument 4's block at an index. -/
theorem blk4 (c : Dev nD) (t : Fin cfg0.N) (d : Fin 2) (k : Fin 64) (j : Fin 1024) : iblk m c 4 t (ix3 d k j) = (m ((c : Thread nD τ).loc main_arg4)) (ix3 d k j) := by
  blk_ext [iblk, V, idx t]

/-- Argument 5's block at an index. -/
theorem blk5 (c : Dev nD) (t : Fin cfg0.N) (k : Fin 128) (j : Fin 1024) : iblk m c 5 t (ix2 k j) = (m ((c : Thread nD τ).loc main_arg5)) (ix2 k j) := by
  blk_ext [iblk, V, idx t]

/-- Argument 6's block at an index. -/
theorem blk6 (c : Dev nD) (t : Fin cfg0.N) (k : Fin 1024) : iblk m c 6 t (ix2 (0 : Fin 1) k) = (m ((c : Thread nD τ).loc main_arg6)) (ix1 k) := by
  have e : iblk m c 6 t (ix2 (0 : Fin 1) k) = V m c main_v9 (ix2 (0 : Fin 1) k) := by blk_ext [iblk, idx t]
  rw [e, V9]
  pointwise []

/-- Argument 7's block at an index. -/
theorem blk7 (c : Dev nD) (t : Fin cfg0.N) (k : Fin 1024) : iblk m c 7 t (ix2 (0 : Fin 1) k) = (m ((c : Thread nD τ).loc main_arg7)) (ix1 k) := by
  have e : iblk m c 7 t (ix2 (0 : Fin 1) k) = V m c main_v10 (ix2 (0 : Fin 1) k) := by blk_ext [iblk, idx t]
  rw [e, V10]
  pointwise []

/-- The bonus's weight read by channels. -/
theorem cast8 (x : FVec Ideal S16x64 .f32) (h : Fin 16) (n : Fin 64) (j : Fin 1024) (hj : j.val = h.val * 64 + n.val) : shapeCast S1x1024 x shapeCasts_S16x64_S1x1024 (ix2 (0 : Fin 1) j) = x (ix2 h n) := by
  have hb : h.val * 64 + n.val < 1024 := by omega
  obtain rfl : j = ⟨h.val * 64 + n.val, hb⟩ := Fin.ext hj
  pointwise []

/-- Argument 8's block at an index. -/
theorem blk8 (c : Dev nD) (t : Fin cfg0.N) (h : Fin 16) (n : Fin 64) (j : Fin 1024) (hj : j.val = h.val * 64 + n.val) : iblk m c 8 t (ix2 (0 : Fin 1) j) = (m ((c : Thread nD τ).loc main_arg8)) (ix2 h n) := by
  have e : iblk m c 8 t (ix2 (0 : Fin 1) j) = V m c main_v11 (ix2 (0 : Fin 1) j) := by blk_ext [iblk, idx t]
  rw [e, V11]
  exact cast8 _ h n j hj

/-- The matrix's block at an index. -/
theorem blk9 (c : Dev nD) (t : Fin cfg0.N) (k j : Fin 1024) : iblk m c 9 t (ix2 k j) = if k.val / 64 = j.val / 64 then (1 : EReal) else 0 := by
  have e : iblk m c 9 t (ix2 k j) = V m c main_v8 (ix2 k j) := by blk_ext [iblk, idx t]
  rw [e, V8, EH_at]

/-- The block's columns from 0 on. -/
theorem z0 (c : Dev nD) (t : Fin cfg0.N) (a : Fin 256) (r : Fin 6144) (hr : r.val = t.val * 256 + a.val) (k : Fin 1024) :
    View.ld (X0_0 m c t) (Rect.unit ![0, 0] ![256, 1024] inb_S256x3456_S256x1024_0_0) (ix2 a k) = (m ((c : Thread nD τ).loc main_arg0)) (ix2 r ⟨k.val, by omega⟩) := by
  refine Eq.trans ?_ (blk0 m c t a ⟨k.val, by omega⟩ r hr)
  generalize X0_0 m c t = x
  pointwise []

/-- The block's columns from 1024 on. -/
theorem z1 (c : Dev nD) (t : Fin cfg0.N) (a : Fin 256) (r : Fin 6144) (hr : r.val = t.val * 256 + a.val) (k : Fin 1024) :
    View.ld (X0_0 m c t) (Rect.unit ![0, 1024] ![256, 1024] inb_S256x3456_S256x1024_0_1024) (ix2 a k) = (m ((c : Thread nD τ).loc main_arg0)) (ix2 r ⟨1024 + k.val, by omega⟩) := by
  refine Eq.trans ?_ (blk0 m c t a ⟨1024 + k.val, by omega⟩ r hr)
  generalize X0_0 m c t = x
  pointwise []

/-- The block's columns from 2048 on. -/
theorem z2 (c : Dev nD) (t : Fin cfg0.N) (a : Fin 256) (r : Fin 6144) (hr : r.val = t.val * 256 + a.val) (k : Fin 1024) :
    View.ld (X0_0 m c t) (Rect.unit ![0, 2048] ![256, 1024] inb_S256x3456_S256x1024_0_2048) (ix2 a k) = (m ((c : Thread nD τ).loc main_arg0)) (ix2 r ⟨2048 + k.val, by omega⟩) := by
  refine Eq.trans ?_ (blk0 m c t a ⟨2048 + k.val, by omega⟩ r hr)
  generalize X0_0 m c t = x
  pointwise []

/-- The block's columns from 3072 on. -/
theorem z3 (c : Dev nD) (t : Fin cfg0.N) (a : Fin 256) (r : Fin 6144) (hr : r.val = t.val * 256 + a.val) (k : Fin 384) :
    View.ld (X0_0 m c t) (Rect.unit ![0, 3072] ![256, 384] inb_S256x3456_S256x384_0_3072) (ix2 a k) = (m ((c : Thread nD τ).loc main_arg0)) (ix2 r ⟨3072 + k.val, by omega⟩) := by
  refine Eq.trans ?_ (blk0 m c t a ⟨3072 + k.val, by omega⟩ r hr)
  generalize X0_0 m c t = x
  pointwise []

/-- Row 0 of argument 1. -/
theorem row1_0 (c : Dev nD) (t : Fin cfg0.N) (j : Fin 1024) :
    View.ld (iblk m c 1 t) (Rect.unit ![0, 0] ![1, 1024] inb_S2x1024_S1x1024_0_0) (ix2 (0 : Fin 1) j) = (m ((c : Thread nD τ).loc main_arg1)) (ix2 (0 : Fin 2) j) := by
  refine Eq.trans ?_ (blk1 m c t (0 : Fin 2) j)
  generalize iblk m c 1 t = x
  pointwise []

/-- Slab 0 of argument 2. -/
theorem row2_0 (c : Dev nD) (t : Fin cfg0.N) (j : Fin 1024) (k : Fin 64) :
    View.ld (iblk m c 2 t) (Rect.unit ![0, 0, 0] ![1, 64, 1024] inb_S2x64x1024_S1x64x1024_0_0_0) (ix3 (0 : Fin 1) k j) = (m ((c : Thread nD τ).loc main_arg2)) (ix3 (0 : Fin 2) k j) := by
  refine Eq.trans ?_ (blk2 m c t (0 : Fin 2) k j)
  generalize iblk m c 2 t = x
  pointwise []

/-- Row 1 of argument 1. -/
theorem row1_1 (c : Dev nD) (t : Fin cfg0.N) (j : Fin 1024) :
    View.ld (iblk m c 1 t) (Rect.unit ![1, 0] ![1, 1024] inb_S2x1024_S1x1024_1_0) (ix2 (0 : Fin 1) j) = (m ((c : Thread nD τ).loc main_arg1)) (ix2 (1 : Fin 2) j) := by
  refine Eq.trans ?_ (blk1 m c t (1 : Fin 2) j)
  generalize iblk m c 1 t = x
  pointwise []

/-- Slab 1 of argument 2. -/
theorem row2_1 (c : Dev nD) (t : Fin cfg0.N) (j : Fin 1024) (k : Fin 64) :
    View.ld (iblk m c 2 t) (Rect.unit ![1, 0, 0] ![1, 64, 1024] inb_S2x64x1024_S1x64x1024_1_0_0) (ix3 (0 : Fin 1) k j) = (m ((c : Thread nD τ).loc main_arg2)) (ix3 (1 : Fin 2) k j) := by
  refine Eq.trans ?_ (blk2 m c t (1 : Fin 2) k j)
  generalize iblk m c 2 t = x
  pointwise []

/-- Row 0 of argument 3. -/
theorem row3_0 (c : Dev nD) (t : Fin cfg0.N) (j : Fin 1024) :
    View.ld (iblk m c 3 t) (Rect.unit ![0, 0] ![1, 1024] inb_S2x1024_S1x1024_0_0) (ix2 (0 : Fin 1) j) = (m ((c : Thread nD τ).loc main_arg3)) (ix2 (0 : Fin 2) j) := by
  refine Eq.trans ?_ (blk3 m c t (0 : Fin 2) j)
  generalize iblk m c 3 t = x
  pointwise []

/-- Slab 0 of argument 4. -/
theorem row4_0 (c : Dev nD) (t : Fin cfg0.N) (j : Fin 1024) (k : Fin 64) :
    View.ld (iblk m c 4 t) (Rect.unit ![0, 0, 0] ![1, 64, 1024] inb_S2x64x1024_S1x64x1024_0_0_0) (ix3 (0 : Fin 1) k j) = (m ((c : Thread nD τ).loc main_arg4)) (ix3 (0 : Fin 2) k j) := by
  refine Eq.trans ?_ (blk4 m c t (0 : Fin 2) k j)
  generalize iblk m c 4 t = x
  pointwise []

/-- Row 1 of argument 3. -/
theorem row3_1 (c : Dev nD) (t : Fin cfg0.N) (j : Fin 1024) :
    View.ld (iblk m c 3 t) (Rect.unit ![1, 0] ![1, 1024] inb_S2x1024_S1x1024_1_0) (ix2 (0 : Fin 1) j) = (m ((c : Thread nD τ).loc main_arg3)) (ix2 (1 : Fin 2) j) := by
  refine Eq.trans ?_ (blk3 m c t (1 : Fin 2) j)
  generalize iblk m c 3 t = x
  pointwise []

/-- Slab 1 of argument 4. -/
theorem row4_1 (c : Dev nD) (t : Fin cfg0.N) (j : Fin 1024) (k : Fin 64) :
    View.ld (iblk m c 4 t) (Rect.unit ![1, 0, 0] ![1, 64, 1024] inb_S2x64x1024_S1x64x1024_1_0_0) (ix3 (0 : Fin 1) k j) = (m ((c : Thread nD τ).loc main_arg4)) (ix3 (1 : Fin 2) k j) := by
  refine Eq.trans ?_ (blk4 m c t (1 : Fin 2) k j)
  generalize iblk m c 4 t = x
  pointwise []

/-- The first output's block is the block's first columns. -/
theorem out10 (c : Dev nD) (t : Fin cfg0.N) : (outsAt0 m c t).1 = View.ld (X0_0 m c t) (Rect.unit ![0, 0] ![256, 1024] inb_S256x3456_S256x1024_0_0) := by
  dsimp only [outsAt0]
  frame_out
  rfl

/-- The receptance after the whole grid is the reference's. -/
theorem final10 (c : Dev nD) : (dats m 0 c).arrAt 10 (cfgs 0).N = REF0 (m ((c : Thread nD τ).loc main_arg0)) := by
  refine (dats m 0 c).arrAt_eq_of_covers 10 _ (by decide +kernel) fun t _ y => ?_
  have l := lt t
  blk_simp
  rw [after0_10]
  rw [out10]
  idx_vars y
  refine Eq.trans ?_ (congrArg _ (?_ : ix2 (⟨t.val * 256 + y0.val, by omega⟩ : Fin 6144) y1 = _))
  · rw [REF0_at]
    exact z0 m c t y0 ⟨t.val * 256 + y0.val, by omega⟩ rfl y1
  · blk_ext [idx t]

/-- The value after the whole grid is the reference's. -/
theorem final11 (c : Dev nD) : (dats m 0 c).arrAt 11 (cfgs 0).N = REF1 (m ((c : Thread nD τ).loc main_arg0)) := by
  refine (dats m 0 c).arrAt_eq_of_covers 11 _ (by decide +kernel) fun t _ y => ?_
  have l := lt t
  blk_simp
  rw [after0_11]
  frame_out
  idx_vars y
  refine Eq.trans ?_ (congrArg _ (?_ : ix2 (⟨t.val * 256 + y0.val, by omega⟩ : Fin 6144) y1 = _))
  · rw [REF1_at]
    exact z2 m c t y0 ⟨t.val * 256 + y0.val, by omega⟩ rfl y1
  · blk_ext [idx t]

/-- The negation's payload at an element. -/
theorem pay2_at (x : FVec Ideal S256x1024 .f32) (a : Fin 256) (j : Fin 1024) : k0_pay2 (F := Ideal) x (ix2 a j) = -(x (ix2 a j)) := by
  have e : k0_pay2 (F := Ideal) x (ix2 a j) = 0 - x (ix2 a j) := by
    pointwise [k0_pay2]
  rw [e, zero_sub]

/-- A tile's normalised removal keys, at its own block. -/
theorem unit_blk (c : Dev nD) (t : Fin cfg0.N) (g0 : ∀ (r : Fin 6144) (k : Fin 2048), IsReal (((m ((c : Thread nD τ).loc main_arg0)) : FVec Ideal S6144x4608 .f32) (ix2 r ⟨k.val, by omega⟩))) (g6 : ∀ k : Fin 1024, IsReal (((m ((c : Thread nD τ).loc main_arg6)) : FVec Ideal S1024 .f32) (ix1 k)))
    (r : Fin 6144) (a : Fin 256) (hr : r.val = t.val * 256 + a.val) (h : Fin 16) (n : Fin 64) (j : Fin 1024) (hj : j.val = h.val * 64 + n.val) :
    k0_pay5 (F := Ideal) (View.ld (X0_0 m c t) (Rect.unit ![0, 1024] ![256, 1024] inb_S256x3456_S256x1024_0_1024)) (iblk m c 9 t) (iblk m c 6 t) (ix2 a j)
      = NRM (KKH (m ((c : Thread nD τ).loc main_arg0)) (m ((c : Thread nD τ).loc main_arg6))) (ix3 r h n) :=
  unit _ _ _ _ _ r a (fun k => z1 m c t a r hr k) (fun k j => blk9 m c t k j) (fun k => blk6 m c t k) (fun k => g0 _ ⟨1024 + k.val, by omega⟩) g6 h n j hj

/-- The negated removal key after the whole grid is the reference's. -/
theorem final12 (c : Dev nD) (g0 : ∀ (r : Fin 6144) (k : Fin 2048), IsReal (((m ((c : Thread nD τ).loc main_arg0)) : FVec Ideal S6144x4608 .f32) (ix2 r ⟨k.val, by omega⟩))) (g6 : ∀ k : Fin 1024, IsReal (((m ((c : Thread nD τ).loc main_arg6)) : FVec Ideal S1024 .f32) (ix1 k))) : (dats m 0 c).arrAt 12 (cfgs 0).N = REF2 (m ((c : Thread nD τ).loc main_arg0)) (m ((c : Thread nD τ).loc main_arg6)) := by
  refine (dats m 0 c).arrAt_eq_of_covers 12 _ (by decide +kernel) fun t _ y => ?_
  have l := lt t
  blk_simp
  rw [after0_12]
  frame_out
  idx_vars y
  refine Eq.trans ?_ (congrArg _ (?_ : ix2 (⟨t.val * 256 + y0.val, by omega⟩ : Fin 6144) y1 = _))
  · rw [pay2_at, REF2_at _ _ ⟨t.val * 256 + y0.val, by omega⟩ ⟨y1.val / 64, by omega⟩ ⟨y1.val % 64, by omega⟩ y1 (by show y1.val = y1.val / 64 * 64 + y1.val % 64; omega)]
    exact congrArg _ (unit_blk m c t g0 g6 ⟨t.val * 256 + y0.val, by omega⟩ y0 rfl ⟨y1.val / 64, by omega⟩ ⟨y1.val % 64, by omega⟩ y1 (by show y1.val = y1.val / 64 * 64 + y1.val % 64; omega))
  · blk_ext [idx t]

/-- The decay's logarithm after the whole grid is the reference's. -/
theorem final13 (c : Dev nD) : (dats m 0 c).arrAt 13 (cfgs 0).N = REF3 (m ((c : Thread nD τ).loc main_arg0)) (m ((c : Thread nD τ).loc main_arg1)) (m ((c : Thread nD τ).loc main_arg2)) := by
  refine (dats m 0 c).arrAt_eq_of_covers 13 _ (by decide +kernel) fun t _ y => ?_
  have l := lt t
  blk_simp
  rw [after0_13]
  frame_out
  canon_tiles x q
  · idx_vars x
    obtain rfl : x0 = 0 := Subsingleton.elim _ _
    refine Eq.trans ?_ (congrArg _ (?_ : ix3 (1 : Fin 2) (⟨t.val * 256 + x1.val, by omega⟩ : Fin 6144) x2 = _))
    · exact lw1 _ _ _ _ _ _ ⟨t.val * 256 + x1.val, by omega⟩ x1 x2 (fun k => z3 m c t x1 ⟨t.val * 256 + x1.val, by omega⟩ rfl k) (row1_1 m c t x2) (fun k => row2_1 m c t x2 k)
    · blk_ext [idx t]
  · idx_vars x
    obtain rfl : x0 = 0 := Subsingleton.elim _ _
    refine Eq.trans ?_ (congrArg _ (?_ : ix3 (0 : Fin 2) (⟨t.val * 256 + x1.val, by omega⟩ : Fin 6144) x2 = _))
    · exact lw0 _ _ _ _ _ _ ⟨t.val * 256 + x1.val, by omega⟩ x1 x2 (fun k => z3 m c t x1 ⟨t.val * 256 + x1.val, by omega⟩ rfl k) (row1_0 m c t x2) (fun k => row2_0 m c t x2 k)
    · blk_ext [idx t]

/-- The keys' payloads at an element. -/
theorem pay13_at (x : FVec Ideal S256x1024 .f32) (a : Fin 256) (j : Fin 1024) : k0_pay13 (F := Ideal) x (ix3 (0 : Fin 1) a j) = x (ix2 a j) := by
  pointwise [k0_pay13]

/-- The second direction's payload is the first's, of its own columns. -/
theorem pay20_eq (v1 : FVec Ideal S256x1024 .f32) (x : FVec Ideal S256x64 .f32) (w : FVec Ideal S1x1024 .f32) (u : FVec Ideal S1x64x1024 .f32) (v : FVec Ideal S1x1024 .f32) :
    k0_pay20 (F := Ideal) v1 x w u v = k0_pay13 (k0_pay12 v1 x w u v) := rfl

/-- The removal key times the rate, at an element. -/
theorem pay14_at (x y : FVec Ideal S256x1024 .f32) (a : Fin 256) (j : Fin 1024) : k0_pay14 (F := Ideal) x y (ix3 (0 : Fin 1) a j) = x (ix2 a j) * y (ix2 a j) := by
  pointwise [k0_pay14]

/-- The second direction's payload is the first's, of its own columns. -/
theorem pay21_eq (v : FVec Ideal S256x1024 .f32) (x : FVec Ideal S256x64 .f32) (w : FVec Ideal S1x1024 .f32) (u : FVec Ideal S1x64x1024 .f32) :
    k0_pay21 (F := Ideal) v x w u = k0_pay14 v (k0_pay11 x w u) := rfl

/-- The keys of direction 0 of a tile, at its own block. -/
theorem keys_blk0 (c : Dev nD) (t : Fin cfg0.N) (r : Fin 6144) (a : Fin 256) (hr : r.val = t.val * 256 + a.val) (j : Fin 1024) :
    k0_pay12 (F := Ideal) (View.ld (X0_0 m c t) (Rect.unit ![0, 1024] ![256, 1024] inb_S256x3456_S256x1024_0_1024)) (k0_pay7 (View.ld (X0_0 m c t) (Rect.unit ![0, 3072] ![256, 384] inb_S256x3456_S256x384_0_3072)))
      (View.ld (iblk m c 3 t) (Rect.unit ![0, 0] ![1, 1024] inb_S2x1024_S1x1024_0_0)) (View.ld (iblk m c 4 t) (Rect.unit ![0, 0, 0] ![1, 64, 1024] inb_S2x64x1024_S1x64x1024_0_0_0)) (iblk m c 7 t) (ix2 a j)
      = KDR (m ((c : Thread nD τ).loc main_arg0)) (SIG (AIN (m ((c : Thread nD τ).loc main_arg0)) (m ((c : Thread nD τ).loc main_arg3)) (m ((c : Thread nD τ).loc main_arg4)))) (m ((c : Thread nD τ).loc main_arg7)) (ix3 r (0 : Fin 2) j) :=
  keys _ _ _ _ _ _ _ _ _ (0 : Fin 2) r a j (z1 m c t a r hr j) (fun k => cols0 _ _ r a (fun k => z3 m c t a r hr k) k) (row3_0 m c t j) (fun k => row4_0 m c t j k) (blk7 m c t j)

/-- The learning rate of direction 0 of a tile, at its own block. -/
theorem rate_blk0 (c : Dev nD) (t : Fin cfg0.N) (r : Fin 6144) (a : Fin 256) (hr : r.val = t.val * 256 + a.val) (j : Fin 1024) :
    k0_pay11 (F := Ideal) (k0_pay7 (View.ld (X0_0 m c t) (Rect.unit ![0, 3072] ![256, 384] inb_S256x3456_S256x384_0_3072)))
      (View.ld (iblk m c 3 t) (Rect.unit ![0, 0] ![1, 1024] inb_S2x1024_S1x1024_0_0)) (View.ld (iblk m c 4 t) (Rect.unit ![0, 0, 0] ![1, 64, 1024] inb_S2x64x1024_S1x64x1024_0_0_0)) (ix2 a j)
      = SIG (AIN (m ((c : Thread nD τ).loc main_arg0)) (m ((c : Thread nD τ).loc main_arg3)) (m ((c : Thread nD τ).loc main_arg4))) (ix3 r (0 : Fin 2) j) :=
  rate _ _ _ _ _ _ (0 : Fin 2) r a j (fun k => cols0 _ _ r a (fun k => z3 m c t a r hr k) k) (row3_0 m c t j) (fun k => row4_0 m c t j k)

/-- The keys of direction 1 of a tile, at its own block. -/
theorem keys_blk1 (c : Dev nD) (t : Fin cfg0.N) (r : Fin 6144) (a : Fin 256) (hr : r.val = t.val * 256 + a.val) (j : Fin 1024) :
    k0_pay12 (F := Ideal) (View.ld (X0_0 m c t) (Rect.unit ![0, 1024] ![256, 1024] inb_S256x3456_S256x1024_0_1024)) (k0_pay16 (View.ld (X0_0 m c t) (Rect.unit ![0, 3072] ![256, 384] inb_S256x3456_S256x384_0_3072)))
      (View.ld (iblk m c 3 t) (Rect.unit ![1, 0] ![1, 1024] inb_S2x1024_S1x1024_1_0)) (View.ld (iblk m c 4 t) (Rect.unit ![1, 0, 0] ![1, 64, 1024] inb_S2x64x1024_S1x64x1024_1_0_0)) (iblk m c 7 t) (ix2 a j)
      = KDR (m ((c : Thread nD τ).loc main_arg0)) (SIG (AIN (m ((c : Thread nD τ).loc main_arg0)) (m ((c : Thread nD τ).loc main_arg3)) (m ((c : Thread nD τ).loc main_arg4)))) (m ((c : Thread nD τ).loc main_arg7)) (ix3 r (1 : Fin 2) j) :=
  keys _ _ _ _ _ _ _ _ _ (1 : Fin 2) r a j (z1 m c t a r hr j) (fun k => cols1 _ _ r a (fun k => z3 m c t a r hr k) k) (row3_1 m c t j) (fun k => row4_1 m c t j k) (blk7 m c t j)

/-- The learning rate of direction 1 of a tile, at its own block. -/
theorem rate_blk1 (c : Dev nD) (t : Fin cfg0.N) (r : Fin 6144) (a : Fin 256) (hr : r.val = t.val * 256 + a.val) (j : Fin 1024) :
    k0_pay11 (F := Ideal) (k0_pay16 (View.ld (X0_0 m c t) (Rect.unit ![0, 3072] ![256, 384] inb_S256x3456_S256x384_0_3072)))
      (View.ld (iblk m c 3 t) (Rect.unit ![1, 0] ![1, 1024] inb_S2x1024_S1x1024_1_0)) (View.ld (iblk m c 4 t) (Rect.unit ![1, 0, 0] ![1, 64, 1024] inb_S2x64x1024_S1x64x1024_1_0_0)) (ix2 a j)
      = SIG (AIN (m ((c : Thread nD τ).loc main_arg0)) (m ((c : Thread nD τ).loc main_arg3)) (m ((c : Thread nD τ).loc main_arg4))) (ix3 r (1 : Fin 2) j) :=
  rate _ _ _ _ _ _ (1 : Fin 2) r a j (fun k => cols1 _ _ r a (fun k => z3 m c t a r hr k) k) (row3_1 m c t j) (fun k => row4_1 m c t j k)

/-- The keys after the whole grid is the reference's. -/
theorem final14 (c : Dev nD) : (dats m 0 c).arrAt 14 (cfgs 0).N = REF4 (m ((c : Thread nD τ).loc main_arg0)) (m ((c : Thread nD τ).loc main_arg3)) (m ((c : Thread nD τ).loc main_arg4)) (m ((c : Thread nD τ).loc main_arg7)) := by
  refine (dats m 0 c).arrAt_eq_of_covers 14 _ (by decide +kernel) fun t _ y => ?_
  have l := lt t
  blk_simp
  rw [after0_14]
  frame_out
  canon_tiles x q
  · idx_vars x
    obtain rfl : x0 = 0 := Subsingleton.elim _ _
    refine Eq.trans ?_ (congrArg _ (?_ : ix3 (1 : Fin 2) (⟨t.val * 256 + x1.val, by omega⟩ : Fin 6144) x2 = _))
    · rw [REF4_at _ _ _ _ ⟨t.val * 256 + x1.val, by omega⟩ (1 : Fin 2) ⟨x2.val / 64, by omega⟩ ⟨x2.val % 64, by omega⟩ x2 (by show x2.val = x2.val / 64 * 64 + x2.val % 64; omega), pay20_eq, pay13_at]
      exact keys_blk1 m c t ⟨t.val * 256 + x1.val, by omega⟩ x1 rfl x2
    · blk_ext [idx t]
  · idx_vars x
    obtain rfl : x0 = 0 := Subsingleton.elim _ _
    refine Eq.trans ?_ (congrArg _ (?_ : ix3 (0 : Fin 2) (⟨t.val * 256 + x1.val, by omega⟩ : Fin 6144) x2 = _))
    · rw [REF4_at _ _ _ _ ⟨t.val * 256 + x1.val, by omega⟩ (0 : Fin 2) ⟨x2.val / 64, by omega⟩ ⟨x2.val % 64, by omega⟩ x2 (by show x2.val = x2.val / 64 * 64 + x2.val % 64; omega), pay13_at]
      exact keys_blk0 m c t ⟨t.val * 256 + x1.val, by omega⟩ x1 rfl x2
    · blk_ext [idx t]

/-- The removal key times the learning rate after the whole grid is the reference's. -/
theorem final15 (c : Dev nD) (g0 : ∀ (r : Fin 6144) (k : Fin 2048), IsReal (((m ((c : Thread nD τ).loc main_arg0)) : FVec Ideal S6144x4608 .f32) (ix2 r ⟨k.val, by omega⟩))) (g6 : ∀ k : Fin 1024, IsReal (((m ((c : Thread nD τ).loc main_arg6)) : FVec Ideal S1024 .f32) (ix1 k))) : (dats m 0 c).arrAt 15 (cfgs 0).N = REF5 (m ((c : Thread nD τ).loc main_arg0)) (m ((c : Thread nD τ).loc main_arg3)) (m ((c : Thread nD τ).loc main_arg4)) (m ((c : Thread nD τ).loc main_arg6)) := by
  refine (dats m 0 c).arrAt_eq_of_covers 15 _ (by decide +kernel) fun t _ y => ?_
  have l := lt t
  blk_simp
  rw [after0_15]
  frame_out
  canon_tiles x q
  · idx_vars x
    obtain rfl : x0 = 0 := Subsingleton.elim _ _
    refine Eq.trans ?_ (congrArg _ (?_ : ix3 (1 : Fin 2) (⟨t.val * 256 + x1.val, by omega⟩ : Fin 6144) x2 = _))
    · rw [REF5_at _ _ _ _ ⟨t.val * 256 + x1.val, by omega⟩ (1 : Fin 2) ⟨x2.val / 64, by omega⟩ ⟨x2.val % 64, by omega⟩ x2 (by show x2.val = x2.val / 64 * 64 + x2.val % 64; omega), pay21_eq, pay14_at]
      exact congrArg₂ (· * ·) (unit_blk m c t g0 g6 ⟨t.val * 256 + x1.val, by omega⟩ x1 rfl ⟨x2.val / 64, by omega⟩ ⟨x2.val % 64, by omega⟩ x2 (by show x2.val = x2.val / 64 * 64 + x2.val % 64; omega)) (rate_blk1 m c t ⟨t.val * 256 + x1.val, by omega⟩ x1 rfl x2)
    · blk_ext [idx t]
  · idx_vars x
    obtain rfl : x0 = 0 := Subsingleton.elim _ _
    refine Eq.trans ?_ (congrArg _ (?_ : ix3 (0 : Fin 2) (⟨t.val * 256 + x1.val, by omega⟩ : Fin 6144) x2 = _))
    · rw [REF5_at _ _ _ _ ⟨t.val * 256 + x1.val, by omega⟩ (0 : Fin 2) ⟨x2.val / 64, by omega⟩ ⟨x2.val % 64, by omega⟩ x2 (by show x2.val = x2.val / 64 * 64 + x2.val % 64; omega), pay14_at]
      exact congrArg₂ (· * ·) (unit_blk m c t g0 g6 ⟨t.val * 256 + x1.val, by omega⟩ x1 rfl ⟨x2.val / 64, by omega⟩ ⟨x2.val % 64, by omega⟩ x2 (by show x2.val = x2.val / 64 * 64 + x2.val % 64; omega)) (rate_blk0 m c t ⟨t.val * 256 + x1.val, by omega⟩ x1 rfl x2)
    · blk_ext [idx t]

/-- The keys summed over the directions, at an element of a tile. -/
theorem pay15_at (x y : FVec Ideal S256x1024 .f32) (i : S256x1024.Idx) : addf (k0_pay15 (F := Ideal) k0_pay6 x) y i = 0 + x i + y i := by
  have e : addf (k0_pay15 (F := Ideal) k0_pay6 x) y i = Ideal.ofBits .f32 0x00000000#32 + x i + y i := rfl
  rw [e, Ideal.ofBits_zero_f32]

/-- The bonus after the whole grid is the reference's. -/
theorem final16 (c : Dev nD) (g0 : ∀ (r : Fin 6144) (k : Fin 2048), IsReal (((m ((c : Thread nD τ).loc main_arg0)) : FVec Ideal S6144x4608 .f32) (ix2 r ⟨k.val, by omega⟩))) (g7 : ∀ k : Fin 1024, IsReal (((m ((c : Thread nD τ).loc main_arg7)) : FVec Ideal S1024 .f32) (ix1 k))) (g8 : ∀ (h : Fin 16) (n : Fin 64), IsReal (((m ((c : Thread nD τ).loc main_arg8)) : FVec Ideal S16x64 .f32) (ix2 h n))) : (dats m 0 c).arrAt 16 (cfgs 0).N = REF6 (m ((c : Thread nD τ).loc main_arg0)) (m ((c : Thread nD τ).loc main_arg3)) (m ((c : Thread nD τ).loc main_arg4)) (m ((c : Thread nD τ).loc main_arg7)) (m ((c : Thread nD τ).loc main_arg8)) := by
  refine (dats m 0 c).arrAt_eq_of_covers 16 _ (by decide +kernel) fun t _ y => ?_
  have l := lt t
  blk_simp
  rw [after0_16]
  frame_out
  idx_vars y
  refine Eq.trans ?_ (congrArg _ (?_ : ix2 (⟨t.val * 256 + y0.val, by omega⟩ : Fin 6144) y1 = _))
  · rw [REF6_at _ _ _ _ _ ⟨t.val * 256 + y0.val, by omega⟩ ⟨y1.val / 64, by omega⟩ ⟨y1.val % 64, by omega⟩ y1 (by show y1.val = y1.val / 64 * 64 + y1.val % 64; omega), pay22_at]
    refine congrArg₂ (· * ·) ?_ (z2 m c t y0 ⟨t.val * 256 + y0.val, by omega⟩ rfl y1)
    refine bonus _ _ _ _ _ _ _ ⟨t.val * 256 + y0.val, by omega⟩ y0 (fun k => z0 m c t y0 ⟨t.val * 256 + y0.val, by omega⟩ rfl k) (fun k => ?_) (fun k j => (pay4_at _ k j).trans (blk9 m c t k j)) (fun h n j hj => blk8 m c t h n j hj)
      (fun k => g0 _ ⟨k.val, by omega⟩) (fun d k => real_keys _ _ _ _ ⟨t.val * 256 + y0.val, by omega⟩ d k (g0 _ ⟨1024 + k.val, by omega⟩) (g7 k)) g8 ⟨y1.val / 64, by omega⟩ ⟨y1.val % 64, by omega⟩ y1 (by show y1.val = y1.val / 64 * 64 + y1.val % 64; omega)
    exact (pay15_at _ _ _).trans (congrArg₂ (fun p q : EReal => 0 + p + q) (keys_blk0 m c t ⟨t.val * 256 + y0.val, by omega⟩ y0 rfl k) (keys_blk1 m c t ⟨t.val * 256 + y0.val, by omega⟩ y0 rfl k))
  · blk_ext [idx t]

/-- The gate after the whole grid is the reference's. -/
theorem final17 (c : Dev nD) : (dats m 0 c).arrAt 17 (cfgs 0).N = REF7 (m ((c : Thread nD τ).loc main_arg0)) (m ((c : Thread nD τ).loc main_arg5)) := by
  refine (dats m 0 c).arrAt_eq_of_covers 17 _ (by decide +kernel) fun t _ y => ?_
  have l := lt t
  blk_simp
  rw [after0_17]
  frame_out
  idx_vars y
  refine Eq.trans ?_ (congrArg _ (?_ : ix2 (⟨t.val * 256 + y0.val, by omega⟩ : Fin 6144) y1 = _))
  · exact gate _ _ _ _ ⟨t.val * 256 + y0.val, by omega⟩ y0 y1 (fun k => z3 m c t y0 ⟨t.val * 256 + y0.val, by omega⟩ rfl k) (fun k => blk5 m c t k y1)
  · blk_ext [idx t]

/-- The precondition says that the receptance and the key are reals. -/
theorem real0 [Cert.Pre_finite17.Facts] (h : Cert.Pre_Kernel17Ideal_finite17 m) (c : Dev nD) (r : Fin 6144) (k : Fin 2048) : IsReal (((m ((c : Thread nD τ).loc main_arg0)) : FVec Ideal S6144x4608 .f32) (ix2 r ⟨k.val, by omega⟩)) := by
  refine real_of_lt ?_
  have e := congrFun (h c).1 (ix2 r k)
  have q : ∀ x : FVec Ideal Cert.Pre_finite17.S6144x4608 .f32, (Cert.Pre_finite17.fn (F := Ideal) x (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).1 (ix2 r k)
      = Ideal.cmp .olt (max (x (ix2 r ⟨k.val, by omega⟩)) (-(x (ix2 r ⟨k.val, by omega⟩)))) (Ideal.ofBits .f32 0x7F800000#32) := by
    intro x
    pointwise [Cert.Pre_finite17.fn]
    rfl
  have e' := (q _).symm.trans e
  rw [show Ideal.ofBits .f32 0x7F800000#32 = (⊤ : EReal) by simp [Ideal.ofBits, Ideal.ieee]] at e'
  by_contra hn
  simp [Ideal.cmp, hn] at e'

/-- The precondition says that the removal key's weight is of reals. -/
theorem real6 [Cert.Pre_finite17.Facts] (h : Cert.Pre_Kernel17Ideal_finite17 m) (c : Dev nD) (k : Fin 1024) : IsReal (((m ((c : Thread nD τ).loc main_arg6)) : FVec Ideal S1024 .f32) (ix1 k)) := by
  refine real_of_lt ?_
  have e := congrFun (h c).2.1 (ix1 k)
  have q : ∀ x : FVec Ideal Cert.Pre_finite17.S1024 .f32, (Cert.Pre_finite17.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) x (m ((c : Thread nD τ).loc main_arg7)) (m ((c : Thread nD τ).loc main_arg8))).2.1 (ix1 k)
      = Ideal.cmp .olt (max (x (ix1 k)) (-(x (ix1 k)))) (Ideal.ofBits .f32 0x7F800000#32) := by
    intro x
    pointwise [Cert.Pre_finite17.fn]
    rfl
  have e' := (q _).symm.trans e
  rw [show Ideal.ofBits .f32 0x7F800000#32 = (⊤ : EReal) by simp [Ideal.ofBits, Ideal.ieee]] at e'
  by_contra hn
  simp [Ideal.cmp, hn] at e'

/-- The precondition says that the key's weight is of reals. -/
theorem real7 [Cert.Pre_finite17.Facts] (h : Cert.Pre_Kernel17Ideal_finite17 m) (c : Dev nD) (k : Fin 1024) : IsReal (((m ((c : Thread nD τ).loc main_arg7)) : FVec Ideal S1024 .f32) (ix1 k)) := by
  refine real_of_lt ?_
  have e := congrFun (h c).2.2.1 (ix1 k)
  have q : ∀ x : FVec Ideal Cert.Pre_finite17.S1024 .f32, (Cert.Pre_finite17.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) x (m ((c : Thread nD τ).loc main_arg8))).2.2.1 (ix1 k)
      = Ideal.cmp .olt (max (x (ix1 k)) (-(x (ix1 k)))) (Ideal.ofBits .f32 0x7F800000#32) := by
    intro x
    pointwise [Cert.Pre_finite17.fn]
    rfl
  have e' := (q _).symm.trans e
  rw [show Ideal.ofBits .f32 0x7F800000#32 = (⊤ : EReal) by simp [Ideal.ofBits, Ideal.ieee]] at e'
  by_contra hn
  simp [Ideal.cmp, hn] at e'

/-- The precondition says that the bonus's weight is of reals. -/
theorem real8 [Cert.Pre_finite17.Facts] (h : Cert.Pre_Kernel17Ideal_finite17 m) (c : Dev nD) (p : Fin 16) (n : Fin 64) : IsReal (((m ((c : Thread nD τ).loc main_arg8)) : FVec Ideal S16x64 .f32) (ix2 p n)) := by
  refine real_of_lt ?_
  have e := congrFun (h c).2.2.2 (ix2 p n)
  have q : ∀ x : FVec Ideal Cert.Pre_finite17.S16x64 .f32, (Cert.Pre_finite17.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) x).2.2.2 (ix2 p n)
      = Ideal.cmp .olt (max (x (ix2 p n)) (-(x (ix2 p n)))) (Ideal.ofBits .f32 0x7F800000#32) := by
    intro x
    pointwise [Cert.Pre_finite17.fn]
    rfl
  have e' := (q _).symm.trans e
  rw [show Ideal.ofBits .f32 0x7F800000#32 = (⊤ : EReal) by simp [Ideal.ofBits, Ideal.ieee]] at e'
  by_contra hn
  simp [Ideal.cmp, hn] at e'

/-- The call runs, its eight results are the reference's, and its arguments are kept. -/
theorem run [Cert.Pre_finite17.Facts] (g : Dev nD → PrngReg) (h : Cert.Pre_Kernel17Ideal_finite17 m) :
    θ_run defs (onTc (τ := τ) (main (F := Ideal))) ⟨m, fun _ => 0, g⟩ (fun r => ∀ c : Dev nD,
      r.2.mem ((c : Thread nD τ).loc main_v12_0) = REF0 (m ((c : Thread nD τ).loc main_arg0)) ∧
      r.2.mem ((c : Thread nD τ).loc main_v12_1) = REF1 (m ((c : Thread nD τ).loc main_arg0)) ∧
      r.2.mem ((c : Thread nD τ).loc main_v12_2) = REF2 (m ((c : Thread nD τ).loc main_arg0)) (m ((c : Thread nD τ).loc main_arg6)) ∧
      r.2.mem ((c : Thread nD τ).loc main_v12_3) = REF3 (m ((c : Thread nD τ).loc main_arg0)) (m ((c : Thread nD τ).loc main_arg1)) (m ((c : Thread nD τ).loc main_arg2)) ∧
      r.2.mem ((c : Thread nD τ).loc main_v12_4) = REF4 (m ((c : Thread nD τ).loc main_arg0)) (m ((c : Thread nD τ).loc main_arg3)) (m ((c : Thread nD τ).loc main_arg4)) (m ((c : Thread nD τ).loc main_arg7)) ∧
      r.2.mem ((c : Thread nD τ).loc main_v12_5) = REF5 (m ((c : Thread nD τ).loc main_arg0)) (m ((c : Thread nD τ).loc main_arg3)) (m ((c : Thread nD τ).loc main_arg4)) (m ((c : Thread nD τ).loc main_arg6)) ∧
      r.2.mem ((c : Thread nD τ).loc main_v12_6) = REF6 (m ((c : Thread nD τ).loc main_arg0)) (m ((c : Thread nD τ).loc main_arg3)) (m ((c : Thread nD τ).loc main_arg4)) (m ((c : Thread nD τ).loc main_arg7)) (m ((c : Thread nD τ).loc main_arg8)) ∧
      r.2.mem ((c : Thread nD τ).loc main_v12_7) = REF7 (m ((c : Thread nD τ).loc main_arg0)) (m ((c : Thread nD τ).loc main_arg5)) ∧
      r.2.mem ((c : Thread nD τ).loc main_arg0) = (m ((c : Thread nD τ).loc main_arg0)) ∧
      r.2.mem ((c : Thread nD τ).loc main_arg1) = (m ((c : Thread nD τ).loc main_arg1)) ∧
      r.2.mem ((c : Thread nD τ).loc main_arg2) = (m ((c : Thread nD τ).loc main_arg2)) ∧
      r.2.mem ((c : Thread nD τ).loc main_arg3) = (m ((c : Thread nD τ).loc main_arg3)) ∧
      r.2.mem ((c : Thread nD τ).loc main_arg4) = (m ((c : Thread nD τ).loc main_arg4)) ∧
      r.2.mem ((c : Thread nD τ).loc main_arg5) = (m ((c : Thread nD τ).loc main_arg5)) ∧
      r.2.mem ((c : Thread nD τ).loc main_arg6) = (m ((c : Thread nD τ).loc main_arg6)) ∧
      r.2.mem ((c : Thread nD τ).loc main_arg7) = (m ((c : Thread nD τ).loc main_arg7)) ∧
      r.2.mem ((c : Thread nD τ).loc main_arg8) = (m ((c : Thread nD τ).loc main_arg8))) := by
  refine Idealize.ShloMosaic.θ_run_mono (Idealize.ShloMosaic.θ_run_and (run_main m g) (frame m g)) ?_
  intro r hr c
  have g0 := fun r k => real0 m h c r k
  have g6 := fun k => real6 m h c k
  have g7 := fun k => real7 m h c k
  have g8 := fun p n => real8 m h c p n
  obtain ⟨hw, _⟩ := hr.1 c
  exact ⟨(hw 10).trans (final10 m c), (hw 11).trans (final11 m c), (hw 12).trans (final12 m c g0 g6), (hw 13).trans (final13 m c), (hw 14).trans (final14 m c), (hw 15).trans (final15 m c g0 g6), (hw 16).trans (final16 m c g0 g7 g8), (hw 17).trans (final17 m c), hr.2.1 c⟩

end Cert.Proof.MixPrep

end
-- ==== Proof.MixPrepRef.lean ====
/-
  The two ends of the comparison of the time mixing before its recurrence: what the reference leaves, by the names its results have here.
-/
module

public import proofs.«01_k».proof.Defs
public import proofs.«01_k».proof.Proof.MixPrep
public import Idealize.ShloMosaic.Lib.Claim

@[expose] public section

set_option maxRecDepth 16384

noncomputable section

namespace Cert.Proof.MixPrep

open Idealize.ShloMosaic Idealize.ShloMosaic.TcCoe Idealize.SL.Sem

section

open Cert.Reference17Ideal

/-- The reference runs, its eight results are the ones named here, and its arguments are kept. -/
theorem ref (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c : Thread nD τ).loc main_v1) = REF0 (m ((c : Thread nD τ).loc main_arg0))
      ∧ r.2.mem ((c : Thread nD τ).loc main_v3) = REF1 (m ((c : Thread nD τ).loc main_arg0))
      ∧ r.2.mem ((c : Thread nD τ).loc main_v81) = REF2 (m ((c : Thread nD τ).loc main_arg0)) (m ((c : Thread nD τ).loc main_arg6))
      ∧ r.2.mem ((c : Thread nD τ).loc main_v82) = REF3 (m ((c : Thread nD τ).loc main_arg0)) (m ((c : Thread nD τ).loc main_arg1)) (m ((c : Thread nD τ).loc main_arg2))
      ∧ r.2.mem ((c : Thread nD τ).loc main_v84) = REF4 (m ((c : Thread nD τ).loc main_arg0)) (m ((c : Thread nD τ).loc main_arg3)) (m ((c : Thread nD τ).loc main_arg4)) (m ((c : Thread nD τ).loc main_arg7))
      ∧ r.2.mem ((c : Thread nD τ).loc main_v86) = REF5 (m ((c : Thread nD τ).loc main_arg0)) (m ((c : Thread nD τ).loc main_arg3)) (m ((c : Thread nD τ).loc main_arg4)) (m ((c : Thread nD τ).loc main_arg6))
      ∧ r.2.mem ((c : Thread nD τ).loc main_v87) = REF6 (m ((c : Thread nD τ).loc main_arg0)) (m ((c : Thread nD τ).loc main_arg3)) (m ((c : Thread nD τ).loc main_arg4)) (m ((c : Thread nD τ).loc main_arg7)) (m ((c : Thread nD τ).loc main_arg8))
      ∧ r.2.mem ((c : Thread nD τ).loc main_v39) = REF7 (m ((c : Thread nD τ).loc main_arg0)) (m ((c : Thread nD τ).loc main_arg5))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4))
      ∧ r.2.mem ((c : Thread nD τ).loc main_arg5) = (m ((c : Thread nD τ).loc main_arg5))
      ∧ r.2.mem ((c : Thread nD τ).loc main_arg6) = (m ((c : Thread nD τ).loc main_arg6))
      ∧ r.2.mem ((c : Thread nD τ).loc main_arg7) = (m ((c : Thread nD τ).loc main_arg7))
      ∧ r.2.mem ((c : Thread nD τ).loc main_arg8) = (m ((c : Thread nD τ).loc main_arg8))) := by
  refine Idealize.ShloMosaic.θ_run_mono (Cert.Reference17Ideal.Value.run m g) ?_
  intro r hr c
  obtain ⟨e0, e1, e2, e3, e4, e5, e6, e7, k⟩ := hr c
  refine ⟨?_, ?_, ?_, ?_, ?_, ?_, ?_, ?_, k⟩
  · unfold REF0
    exact e0
  · unfold REF1
    exact e1
  · unfold REF2 NRM KKH
    exact e2
  · unfold REF3 LW WIN
    exact e3
  · unfold REF4 KDR SIG AIN
    exact e4
  · unfold REF5 NRM KKH SIG AIN
    exact e5
  · unfold REF6 OUT INN KDR SIG AIN
    exact e6
  · unfold REF7 SIGG
    exact e7

end

end Cert.Proof.MixPrep

end
-- ==== Proof.MixNorm.lean ====
/-
  The time mixing after its scan: the two directions summed, normalised over each head, weighted, the bonus added, and gated. A head's sums
  are taken against a matrix of ones and in two parts: on reals the second part is nothing.
-/
module

public import proofs.«01_k».proof.Defs
public import proofs.«01_k».proof.Proof.Gen.Kernel18.Frame
public import proofs.«01_k».proof.Proof.Gen.Kernel18Ideal.Frame
public import proofs.«01_k».proof.Proof.Gen.Reference18Ideal.Run
public import Idealize.ShloMosaic.Lib.Pipeline.ValueKit
public import Idealize.ShloMosaic.Lib.Pointwise
public import Idealize.ShloMosaic.Lib.Claim
public import proofs.«01_k».proof.Proof.Split

@[expose] public section

set_option maxRecDepth 16384

noncomputable section

namespace Cert.Proof.MixNorm

open Idealize.ShloMosaic Idealize.ShloMosaic.TcCoe Idealize.SL.Sem
open Idealize.ShloMosaic.Pipeline (Dat)

section

open Cert.Reference18Ideal Cert.Reference18Ideal.Gen Idealize.ShloMosaic.StableHlo

/-- The scan's two directions summed, a head's 64 channels on an axis of their own. -/
def YH (X0 : FVec Ideal S2x6144x1024 .f32) : FVec Ideal S6144x16x64 .f32 :=
  (addf (shapeCast _ (extractStridedSlice S1x6144x16x64 ![0, 0, 0, 0] (shapeCast _ X0 shapeCasts_S2x6144x1024_S2x6144x16x64)
    slices_S2x6144x16x64_S1x6144x16x64_0_0_0_0) shapeCasts_S1x6144x16x64_S6144x16x64) (shapeCast _ (extractStridedSlice S1x6144x16x64 ![1, 0, 0, 0]
    (shapeCast _ X0 shapeCasts_S2x6144x1024_S2x6144x16x64) slices_S2x6144x16x64_S1x6144x16x64_1_0_0_0) shapeCasts_S1x6144x16x64_S6144x16x64))

/-- The mean over a head's channels. -/
def MEAN (Y : FVec Ideal S6144x16x64 .f32) : FVec Ideal S6144x16x1 .f32 :=
  (Host.divf (broadcastInDim S6144x16x1 ![0, 1] bcast_S6144x16_S6144x16x1_0_1 (Host.reduceAdd Y (constant (F := Ideal) S_ .f32 0x00000000#32)
    reducesTo_S6144x16x64_S6144x16_d2 h_S_)) (broadcastInDim S6144x16x1 ![] bcast_S_S6144x16x1 (constant (F := Ideal) S_ .f32 0x42800000#32)))

/-- A head's channels less their mean. -/
def DLH (Y : FVec Ideal S6144x16x64 .f32) : FVec Ideal S6144x16x64 .f32 :=
  subf Y (broadcastInDim S6144x16x64 ![0, 1, 2] bcast_S6144x16x1_S6144x16x64_0_1_2 (MEAN Y))

/-- A head's channels less their mean, over the root of their variance. -/
def NRM (Y : FVec Ideal S6144x16x64 .f32) : FVec Ideal S6144x16x64 .f32 :=
  (mulf (DLH Y) (broadcastInDim S6144x16x64 ![0, 1, 2] bcast_S6144x16x1_S6144x16x64_0_1_2 (Host.rsqrt (addf (MEAN (mulf (DLH Y) (DLH Y)))
    (broadcastInDim S6144x16x1 ![] bcast_S_S6144x16x1 (constant (F := Ideal) S_ .f32 0x3A27C5AC#32))))))

/-- The reference: the norm over each head, its weight and bias, the bonus, and the gate. -/
def REF (X0 : FVec Ideal S2x6144x1024 .f32) (X1 : FVec Ideal S6144x1024 .f32) (X2 : FVec Ideal S6144x1024 .f32) (X3 : FVec Ideal S1024 .f32) (X4 : FVec Ideal S1024 .f32) : FVec Ideal S6144x1024 .bf16 :=
  truncf .bf16 (mulf (addf (addf (mulf (shapeCast _ (NRM (YH X0)) shapeCasts_S6144x16x64_S6144x1024) (broadcastInDim S6144x1024 ![0, 1]
    bcast_S1x1024_S6144x1024_0_1 (broadcastInDim S1x1024 ![1] bcast_S1024_S1x1024_1 X3))) (broadcastInDim S6144x1024 ![0, 1]
    bcast_S1x1024_S6144x1024_0_1 (broadcastInDim S1x1024 ![1] bcast_S1024_S1x1024_1 X4))) X1) X2) bitsLt_bf16_f32

end

open Cert.Kernel18Ideal Cert.Kernel18Ideal.Gen

variable (m : (ℓ : Loc nD τ sig) → Buf (Elt Ideal) ℓ)

open Split

/-- The matrix of sixteen heads' ones, before the rows and columns are spread over 64 channels. -/
def EQM : IVec S16x16 1 :=
  cmpi .eq (addi (iotaInDim S16x16 32 0) (broadcastInDim S16x16 ![] bcast_S_S16x16 (constantI S_ 32 0#32))) (iotaInDim S16x16 32 1)

/-- The host's matrix of ones: channel against channel of the same head. -/
def EH : FVec Ideal S1024x1024 .bf16 :=
  truncf .bf16 (shapeCast S1024x1024 (mulf (broadcastInDim S16x64x16x64 ![0, 1, 2, 3] bcast_S16x1x16x1_S16x64x16x64_0_1_2_3
    (broadcastInDim S16x1x16x1 ![0, 2] bcast_S16x16_S16x1x16x1_0_2 (uitofp (F := Ideal) .f32 EQM)))
    (broadcastInDim S16x64x16x64 ![0, 1, 2, 3] bcast_S1x64x1x64_S16x64x16x64_0_1_2_3
    (broadcastInDim S1x64x1x64 ![1, 3] bcast_S64x64_S1x64x1x64_1_3 (broadcastInDim S64x64 ![] bcast_S_S64x64
    (constant (F := Ideal) S_ .f32 0x3F800000#32))))) shapeCasts_S16x64x16x64_S1024x1024) bitsLt_bf16_f32

/-- The comparison of the two coordinates. -/
theorem EQM_at (a b : Fin 16) : EQM (ix2 a b) = BitVec.ofBool (decide (a = b)) := by
  pointwise [EQM]
  revert a b
  decide +kernel

/-- A number spread over a coordinate of sixteen heads. -/
theorem EYE_at (a b : Fin 16) : (((EQM (ix2 a b)).toNat : ℝ) : EReal) = if a = b then 1 else 0 := by
  rw [EQM_at]
  by_cases h : a = b <;> simp [h]

/-- The host's matrix at an element. -/
theorem EH_at (k j : Fin 1024) : EH (ix2 k j) = if k.val / 64 = j.val / 64 then (1 : EReal) else 0 := by
  have e : EH (ix2 k j) = (((EQM (ix2 (⟨k.val / 64, by omega⟩ : Fin 16) (⟨j.val / 64, by omega⟩ : Fin 16))).toNat : ℝ) : EReal) := by
    unfold EH
    generalize EQM = M
    pointwise []
    rfl
  rw [e, EYE_at]
  simp only [Fin.mk.injEq]

/-- The matrix as the host leaves it. -/
theorem V8 (c : Dev nD) : V m c main_v8 = EH := by
  show StableHlo.after (List.flatten [hostOps0, hostOps0_1, hostOps0_2]) (fun b => m (c, b)) (Proc.devRef .tc main_v8) = _
  simp only [hostOps0, hostOps0_1, hostOps0_2, List.flatten_cons, List.flatten_nil, List.append_nil, List.cons_append, List.nil_append]
  after_results
  rfl

/-- The weight as the host leaves it. -/
theorem V9 (c : Dev nD) : V m c main_v9 = shapeCast S1x1024 (m ((c : Thread nD τ).loc main_arg3) : FVec Ideal S1024 .f32) shapeCasts_S1024_S1x1024 := by
  show StableHlo.after (List.flatten [hostOps0, hostOps0_1, hostOps0_2]) (fun b => m (c, b)) (Proc.devRef .tc main_v9) = _
  simp only [hostOps0, hostOps0_1, hostOps0_2, List.flatten_cons, List.flatten_nil, List.append_nil, List.cons_append, List.nil_append]
  after_results
  rfl

/-- The bias as the host leaves it. -/
theorem V10 (c : Dev nD) : V m c main_v10 = shapeCast S1x1024 (m ((c : Thread nD τ).loc main_arg4) : FVec Ideal S1024 .f32) shapeCasts_S1024_S1x1024 := by
  show StableHlo.after (List.flatten [hostOps0, hostOps0_1, hostOps0_2]) (fun b => m (c, b)) (Proc.devRef .tc main_v10) = _
  simp only [hostOps0, hostOps0_1, hostOps0_2, List.flatten_cons, List.flatten_nil, List.append_nil, List.cons_append, List.nil_append]
  after_results
  rfl

/-- Every window's block at a grid point. -/
theorem idx : ∀ t : Fin cfg0.N, win0_0.index t 0 = 0 ∧ win0_0.index t 1 = t.val ∧ win0_0.index t 2 = 0 ∧ win0_1.index t 0 = t.val ∧ win0_1.index t 1 = 0
    ∧ win0_2.index t 0 = t.val ∧ win0_2.index t 1 = 0 ∧ win0_3.index t 0 = 0 ∧ win0_3.index t 1 = 0 ∧ win0_4.index t 0 = 0 ∧ win0_4.index t 1 = 0
    ∧ win0_5.index t 0 = 0 ∧ win0_5.index t 1 = 0 ∧ win0_6.index t 0 = t.val ∧ win0_6.index t 1 = 0 ∧ t.val < 12 := by
  decide +kernel

/-- The scan's block at an index. -/
theorem blk0 (c : Dev nD) (t : Fin cfg0.N) (d : Fin 2) (a : Fin 512) (k : Fin 1024) (r : Fin 6144) (hr : r.val = t.val * 512 + a.val) :
    iblk m c 0 t (ix3 d a k) = (m ((c : Thread nD τ).loc main_arg0)) (ix3 d r k) := by
  have h := (idx t).2.2.2.2.2.2.2.2.2.2.2.2.2.2.2
  rw [show r = ⟨t.val * 512 + a.val, by omega⟩ from Fin.ext hr]
  blk_ext [iblk, V, idx t]

/-- The bonus's block at an index. -/
theorem blk1 (c : Dev nD) (t : Fin cfg0.N) (a : Fin 512) (k : Fin 1024) (r : Fin 6144) (hr : r.val = t.val * 512 + a.val) :
    iblk m c 1 t (ix2 a k) = (m ((c : Thread nD τ).loc main_arg1)) (ix2 r k) := by
  have h := (idx t).2.2.2.2.2.2.2.2.2.2.2.2.2.2.2
  rw [show r = ⟨t.val * 512 + a.val, by omega⟩ from Fin.ext hr]
  blk_ext [iblk, V, idx t]

/-- The gate's block at an index. -/
theorem blk2 (c : Dev nD) (t : Fin cfg0.N) (a : Fin 512) (k : Fin 1024) (r : Fin 6144) (hr : r.val = t.val * 512 + a.val) :
    iblk m c 2 t (ix2 a k) = (m ((c : Thread nD τ).loc main_arg2)) (ix2 r k) := by
  have h := (idx t).2.2.2.2.2.2.2.2.2.2.2.2.2.2.2
  rw [show r = ⟨t.val * 512 + a.val, by omega⟩ from Fin.ext hr]
  blk_ext [iblk, V, idx t]

/-- The weight's block at an index. -/
theorem blk3 (c : Dev nD) (t : Fin cfg0.N) (k : Fin 1024) : iblk m c 3 t (ix2 0 k) = (m ((c : Thread nD τ).loc main_arg3)) (ix1 k) := by
  have e : iblk m c 3 t (ix2 0 k) = V m c main_v9 (ix2 0 k) := by blk_ext [iblk, idx t]
  rw [e, V9]
  pointwise []

/-- The bias's block at an index. -/
theorem blk4 (c : Dev nD) (t : Fin cfg0.N) (k : Fin 1024) : iblk m c 4 t (ix2 0 k) = (m ((c : Thread nD τ).loc main_arg4)) (ix1 k) := by
  have e : iblk m c 4 t (ix2 0 k) = V m c main_v10 (ix2 0 k) := by blk_ext [iblk, idx t]
  rw [e, V10]
  pointwise []

/-- The matrix's block at an index. -/
theorem blk5 (c : Dev nD) (t : Fin cfg0.N) (k j : Fin 1024) : iblk m c 5 t (ix2 k j) = if k.val / 64 = j.val / 64 then (1 : EReal) else 0 := by
  have e : iblk m c 5 t (ix2 k j) = V m c main_v8 (ix2 k j) := by blk_ext [iblk, idx t]
  rw [e, V8, EH_at]

/-- A sum against the matrix in two parts, the high part and the remainder. -/
def DOT2 (x : FVec Ideal S512x1024 .f32) (e : FVec Ideal S1024x1024 .bf16) : FVec Ideal S512x1024 .f32 :=
  addf (matmul dot_S512x1024_S1024x1024_S512x1024_1_0_0_1_n_n none (truncf .bf16 x bitsLt_bf16_f32) e (constant S512x1024 .f32 0x00000000#32))
    (matmul dot_S512x1024_S1024x1024_S512x1024_1_0_0_1_n_n none (truncf .bf16 (subf x (extf .f32 (truncf .bf16 x bitsLt_bf16_f32) bitsLt_bf16_f32)) bitsLt_bf16_f32) e
      (constant S512x1024 .f32 0x00000000#32))

/-- The tile less its heads' means. -/
def DL (x : FVec Ideal S512x1024 .f32) (e : FVec Ideal S1024x1024 .bf16) : FVec Ideal S512x1024 .f32 :=
  subf x (mulf (DOT2 x e) (broadcast S512x1024 (Scalar.ofBits (F := Ideal) .f32 0x3C800000#32)))

/-- The tile normalised. -/
def NR (x : FVec Ideal S512x1024 .f32) (e : FVec Ideal S1024x1024 .bf16) : FVec Ideal S512x1024 .f32 :=
  mulf (DL x e) (rsqrt (addf (mulf (DOT2 (mulf (DL x e) (DL x e)) e) (broadcast S512x1024 (Scalar.ofBits (F := Ideal) .f32 0x3C800000#32)))
    (broadcast S512x1024 (Scalar.ofBits (F := Ideal) .f32 0x3A27C5AC#32))))

/-- The two directions of a tile summed. -/
def YB (v2 v4 : FVec Ideal S1x512x1024 .f32) : FVec Ideal S512x1024 .f32 :=
  addf (shapeCast S512x1024 v2 shapeCasts_S1x512x1024_S512x1024) (shapeCast S512x1024 v4 shapeCasts_S1x512x1024_S512x1024)

/-- The norm's payload from its parts. -/
theorem pay2_eq (v0 : FVec Ideal S1024x1024 .bf16) (v2 v4 : FVec Ideal S1x512x1024 .f32) (v31 v35 : FVec Ideal S1x1024 .f32) :
    k0_pay2 (F := Ideal) v0 v2 v4 v31 v35
      = addf (mulf (NR (YB v2 v4) (shapeCast S1024x1024 v0 shapeCasts_S1024x1024_S1024x1024))
          (broadcastTo S512x1024 (shapeCast S1x1024 v31 shapeCasts_S1x1024_S1x1024) broadcasts_S1x1024_S512x1024))
          (broadcastTo S512x1024 (shapeCast S1x1024 v35 shapeCasts_S1x1024_S1x1024) broadcasts_S1x1024_S512x1024) := rfl

/-- The sum in two parts, against the heads' ones, is the head's sum. -/
theorem DOT2_at (x : FVec Ideal S512x1024 .f32) (e : FVec Ideal S1024x1024 .bf16) (a : Fin 512) (hx : ∀ k : Fin 1024, IsReal (x (ix2 a k)))
    (he : ∀ k j : Fin 1024, e (ix2 k j) = if k.val / 64 = j.val / 64 then (1 : EReal) else 0) (h : Fin 16) (j : Fin 1024) (hj : j.val / 64 = h.val) :
    DOT2 x e (ix2 a j) = ∑ i : Fin 64, x (ix2 a ⟨h.val * 64 + i.val, by omega⟩) := by
  have p : DOT2 x e (ix2 a j) = ∑ k : Fin 1024, x (ix2 a k) * e (ix2 k j) + ∑ k : Fin 1024, (x (ix2 a k) - x (ix2 a k)) * e (ix2 k j) := by
    pointwise [DOT2]
  rw [p]
  simp only [he, hj]
  exact split (fun k => x (ix2 a k)) hx h

/-- The constant the sums are scaled by, a sixty-fourth. -/
theorem inv64 : Ideal.ofBits .f32 0x3C800000#32 = ((1 / 64 : ℝ) : EReal) := by
  simp [Ideal.ofBits, Ideal.ieee, -EReal.coe_mul]
  norm_num

/-- The reference's divisor. -/
theorem c64 : Ideal.ofBits .f32 0x42800000#32 = ((64 : ℝ) : EReal) := by
  simp [Ideal.ofBits, Ideal.ieee, -EReal.coe_mul]
  norm_num

/-- Dividing by sixty-four is scaling by a sixty-fourth. -/
theorem div64 (x : EReal) : Ideal.div x (Ideal.ofBits .f32 0x42800000#32) = x * ((1 / 64 : ℝ) : EReal) := by
  rw [c64, Ideal.div_coe (by norm_num : (64 : ℝ) ≠ 0) x]

/-- The reference's mean at an element. -/
theorem MEAN_at (Y : FVec Ideal Cert.Reference18Ideal.S6144x16x64 .f32) (r : Fin 6144) (h : Fin 16) :
    MEAN Y (ix3 r h (0 : Fin 1)) = (∑ i : Fin 64, Y (ix3 r h i)) * ((1 / 64 : ℝ) : EReal) := by
  rw [← div64]
  pointwise [MEAN]

/-- The reference's difference at an element. -/
theorem DLH_at (Y : FVec Ideal Cert.Reference18Ideal.S6144x16x64 .f32) (r : Fin 6144) (h : Fin 16) (n : Fin 64) :
    DLH Y (ix3 r h n) = Y (ix3 r h n) - (∑ i : Fin 64, Y (ix3 r h i)) * ((1 / 64 : ℝ) : EReal) := by
  rw [← MEAN_at]
  unfold DLH
  generalize MEAN Y = M
  pointwise []

/-- The reference's normalised head at an element. -/
theorem NRM_at (Y : FVec Ideal Cert.Reference18Ideal.S6144x16x64 .f32) (r : Fin 6144) (h : Fin 16) (n : Fin 64) :
    NRM Y (ix3 r h n) = DLH Y (ix3 r h n) * Ideal.rsqrt ((∑ i : Fin 64, DLH Y (ix3 r h i) * DLH Y (ix3 r h i)) * ((1 / 64 : ℝ) : EReal) + Ideal.ofBits .f32 0x3A27C5AC#32) := by
  have q : (∑ i : Fin 64, DLH Y (ix3 r h i) * DLH Y (ix3 r h i)) * ((1 / 64 : ℝ) : EReal) = MEAN (mulf (DLH Y) (DLH Y)) (ix3 r h (0 : Fin 1)) := by
    rw [MEAN_at]
    rfl
  rw [q]
  unfold NRM
  generalize DLH Y = D
  generalize MEAN (mulf D D) = M
  pointwise []

/-- The reference's two directions at an element. -/
theorem YH_at (X : FVec Ideal Cert.Reference18Ideal.S2x6144x1024 .f32) (r : Fin 6144) (h : Fin 16) (n : Fin 64) (j : Fin 1024) (hj : j.val = h.val * 64 + n.val) :
    YH X (ix3 r h n) = X (ix3 (0 : Fin 2) r j) + X (ix3 (1 : Fin 2) r j) := by
  rw [show j = ⟨h.val * 64 + n.val, by omega⟩ from Fin.ext hj]
  pointwise [YH]

/-- The reference at an element. -/
theorem REF_at (X0 : FVec Ideal Cert.Reference18Ideal.S2x6144x1024 .f32) (X1 X2 : FVec Ideal Cert.Reference18Ideal.S6144x1024 .f32) (X3 X4 : FVec Ideal Cert.Reference18Ideal.S1024 .f32)
    (r : Fin 6144) (h : Fin 16) (n : Fin 64) (j : Fin 1024) (hj : j.val = h.val * 64 + n.val) :
    REF X0 X1 X2 X3 X4 (ix2 r j) = (NRM (YH X0) (ix3 r h n) * X3 (ix1 j) + X4 (ix1 j) + X1 (ix2 r j)) * X2 (ix2 r j) := by
  rw [show j = ⟨h.val * 64 + n.val, by omega⟩ from Fin.ext hj]
  unfold REF
  generalize NRM (YH X0) = M
  pointwise []

/-- A tile's normalised row, from the row's own reals. -/
theorem NR_at (x : FVec Ideal S512x1024 .f32) (e : FVec Ideal S1024x1024 .bf16) (a : Fin 512) (hx : ∀ k : Fin 1024, IsReal (x (ix2 a k)))
    (he : ∀ k j : Fin 1024, e (ix2 k j) = if k.val / 64 = j.val / 64 then (1 : EReal) else 0)
    (Y : FVec Ideal Cert.Reference18Ideal.S6144x16x64 .f32) (r : Fin 6144)
    (hY : ∀ (h : Fin 16) (n : Fin 64) (j : Fin 1024), j.val = h.val * 64 + n.val → x (ix2 a j) = Y (ix3 r h n))
    (h : Fin 16) (n : Fin 64) (j : Fin 1024) (hj : j.val = h.val * 64 + n.val) : NR x e (ix2 a j) = NRM Y (ix3 r h n) := by
  have d : ∀ (h : Fin 16) (n : Fin 64) (j : Fin 1024), j.val = h.val * 64 + n.val → DL x e (ix2 a j) = DLH Y (ix3 r h n) := by
    intro h n j hj
    have p : DL x e (ix2 a j) = x (ix2 a j) - DOT2 x e (ix2 a j) * Ideal.ofBits .f32 0x3C800000#32 := rfl
    rw [p, DOT2_at x e a hx he h j (by omega), DLH_at, hY h n j hj, inv64]
    exact congrArg (fun s => Y (ix3 r h n) - s * ((1 / 64 : ℝ) : EReal)) (Finset.sum_congr rfl fun i _ => hY h i _ rfl)
  have dr : ∀ k : Fin 1024, IsReal (mulf (DL x e) (DL x e) (ix2 a k)) := by
    intro k
    have p : mulf (DL x e) (DL x e) (ix2 a k)
        = (x (ix2 a k) - DOT2 x e (ix2 a k) * Ideal.ofBits .f32 0x3C800000#32) * (x (ix2 a k) - DOT2 x e (ix2 a k) * Ideal.ofBits .f32 0x3C800000#32) := rfl
    rw [p, DOT2_at x e a hx he ⟨k.val / 64, by omega⟩ k rfl, inv64]
    have q := (hx k).sub ((IsReal.sum Finset.univ fun i : Fin 64 => hx ⟨k.val / 64 * 64 + i.val, by omega⟩).mul ⟨1 / 64, rfl⟩)
    exact q.mul q
  have p : NR x e (ix2 a j) = DL x e (ix2 a j) * Ideal.rsqrt (DOT2 (mulf (DL x e) (DL x e)) e (ix2 a j) * Ideal.ofBits .f32 0x3C800000#32 + Ideal.ofBits .f32 0x3A27C5AC#32) := rfl
  rw [p, NRM_at, d h n j hj, DOT2_at _ e a dr he h j (by omega), inv64]
  refine congrArg (fun s => DLH Y (ix3 r h n) * Ideal.rsqrt (s * ((1 / 64 : ℝ) : EReal) + Ideal.ofBits .f32 0x3A27C5AC#32)) (Finset.sum_congr rfl fun i _ => ?_)
  exact congrArg₂ (· * ·) (d h i _ rfl) (d h i _ rfl)

/-- The two directions of a tile at an element. -/
theorem YB_at (x : Vec Ideal S2x512x1024 .f32) (a : Fin 512) (k : Fin 1024) :
    YB (View.ld x r0_1) (View.ld x r0_2) (ix2 a k) = HAdd.hAdd (α := EReal) (β := EReal) (γ := EReal) (x (ix3 (0 : Fin 2) a k)) (x (ix3 (1 : Fin 2) a k)) := by
  pointwise [YB]

/-- What the body stores, element by element, is the reference there. -/
theorem point (c : Dev nD) (t : Fin cfg0.N) (hf : ∀ i, IsReal (((m ((c : Thread nD τ).loc main_arg0)) : FVec Ideal S2x6144x1024 .f32) i))
    (a : Fin 512) (j : Fin 1024) (r : Fin 6144) (hr : r.val = t.val * 512 + a.val) :
    k0_pay1 (F := Ideal) (k0_pay2 (iblk m c 5 t) (View.ld (iblk m c 0 t) r0_1) (View.ld (iblk m c 0 t) r0_2) (iblk m c 3 t) (iblk m c 4 t)) (iblk m c 1 t) (iblk m c 2 t) (ix2 a j)
      = REF (m ((c : Thread nD τ).loc main_arg0)) (m ((c : Thread nD τ).loc main_arg1)) (m ((c : Thread nD τ).loc main_arg2)) (m ((c : Thread nD τ).loc main_arg3)) (m ((c : Thread nD τ).loc main_arg4)) (ix2 r j) := by
  rw [REF_at _ _ _ _ _ r ⟨j.val / 64, by omega⟩ ⟨j.val % 64, by omega⟩ j (by show j.val = j.val / 64 * 64 + j.val % 64; omega)]
  have y : ∀ k : Fin 1024, YB (View.ld (iblk m c 0 t) r0_1) (View.ld (iblk m c 0 t) r0_2) (ix2 a k) = HAdd.hAdd (α := EReal) (β := EReal) (γ := EReal) ((m ((c : Thread nD τ).loc main_arg0)) (ix3 (0 : Fin 2) r k)) ((m ((c : Thread nD τ).loc main_arg0)) (ix3 (1 : Fin 2) r k)) := by
    intro k
    rw [← blk0 m c t 0 a k r hr, ← blk0 m c t 1 a k r hr]
    exact YB_at _ a k
  rw [← NR_at (YB (View.ld (iblk m c 0 t) r0_1) (View.ld (iblk m c 0 t) r0_2)) (shapeCast S1024x1024 (iblk m c 5 t : FVec Ideal S1024x1024 .bf16) shapeCasts_S1024x1024_S1024x1024) a
    (fun k => by rw [y]; exact (hf _).add (hf _))
    (fun k j => by
      rw [← blk5 m c t k j]
      pointwise []) (YH (m ((c : Thread nD τ).loc main_arg0))) r
    (fun h n j hj => by rw [y, YH_at _ r h n j hj]) _ _ j (by show j.val = j.val / 64 * 64 + j.val % 64; omega)]
  rw [← blk1 m c t a j r hr, ← blk2 m c t a j r hr, ← blk3 m c t j, ← blk4 m c t j, pay2_eq]
  generalize NR (YB (View.ld (iblk m c 0 t) r0_1) (View.ld (iblk m c 0 t) r0_2)) _ = N
  pointwise [k0_pay1]

/-- The call's result after the whole grid is the reference's, on reals. -/
theorem final (c : Dev nD) (hf : ∀ i, IsReal (((m ((c : Thread nD τ).loc main_arg0)) : FVec Ideal S2x6144x1024 .f32) i)) :
    (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  idx_vars y
  have h := (idx t).2.2.2.2.2.2.2.2.2.2.2.2.2.2.2
  refine (point m c t hf y0 y1 ⟨t.val * 512 + y0.val, by omega⟩ rfl).trans (congrArg _ ?_)
  blk_ext [idx t]

/-- The precondition says that the scan's numbers are reals. -/
theorem real [Cert.Pre_finite18.Facts] (h : Cert.Pre_Kernel18Ideal_finite18 m) (c : Dev nD) (i : S2x6144x1024.Idx) : IsReal (((m ((c : Thread nD τ).loc main_arg0)) : FVec Ideal S2x6144x1024 .f32) i) := by
  refine real_of_lt ?_
  have e := congrFun (h c) i
  have q : ∀ x : FVec Ideal Cert.Pre_finite18.S2x6144x1024 .f32, Cert.Pre_finite18.fn (F := Ideal) x (m ((c : Thread nD τ).loc main_arg1)) (m ((c : Thread nD τ).loc main_arg2)) (m ((c : Thread nD τ).loc main_arg3)) (m ((c : Thread nD τ).loc main_arg4)) i
      = Ideal.cmp .olt (max (x i) (-(x i))) (Ideal.ofBits .f32 0x7F800000#32) := by
    intro x
    pointwise [Cert.Pre_finite18.fn]
    rfl
  have e' := (q _).symm.trans e
  rw [show Ideal.ofBits .f32 0x7F800000#32 = (⊤ : EReal) by simp [Ideal.ofBits, Ideal.ieee]] at e'
  by_contra hn
  simp [Ideal.cmp, hn] at e'

end Cert.Proof.MixNorm

end
-- ==== Proof.MixNormRun.lean ====
/-
  The run of the time mixing after its recurrence.
-/
module

public import proofs.«01_k».proof.Defs
public import proofs.«01_k».proof.Proof.MixNorm
public import Idealize.ShloMosaic.Lib.Claim

@[expose] public section

set_option maxRecDepth 16384

noncomputable section

namespace Cert.Proof.MixNorm

open Idealize.ShloMosaic Idealize.ShloMosaic.TcCoe Idealize.SL.Sem

open Cert.Kernel18Ideal Cert.Kernel18Ideal.Gen

/-- The call runs, its result is the reference's, and its arguments are kept. -/
theorem run [Cert.Pre_finite18.Facts] (m : (ℓ : Loc nD τ sig) → Buf (Elt Ideal) ℓ) (g : Dev nD → PrngReg) (h : Cert.Pre_Kernel18Ideal_finite18 m) :
    θ_run defs (onTc (τ := τ) (main (F := Ideal))) ⟨m, fun _ => 0, g⟩ (fun r => ∀ c : Dev nD,
      r.2.mem ((c : Thread nD τ).loc main_v11) = REF (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4))) := by
  refine Idealize.ShloMosaic.θ_run_mono (Idealize.ShloMosaic.θ_run_and (run_main m g) (frame m g)) ?_
  intro r hr c
  obtain ⟨hw, _⟩ := hr.1 c
  exact ⟨(hw 6).trans (final m c (real m h c)), hr.2.1 c⟩

end Cert.Proof.MixNorm

end
-- ==== Proof.lean ====
/-
  The proof of `Cert.Claim`: each program runs, its arguments end unchanged and its counters end at zero, and each idealized call's
  result equals its reference's at the ideal floats. The mathematics is in the modules imported from Proof/; this file assembles it.
-/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gates
public import proofs.«01_k».proof.Proof.S5InCtx
public import proofs.«01_k».proof.Proof.S5InLat
public import proofs.«01_k».proof.Proof.Shift
public import proofs.«01_k».proof.Proof.Merge
public import proofs.«01_k».proof.Proof.OutProj
public import proofs.«01_k».proof.Proof.PeerQuery
public import proofs.«01_k».proof.Proof.Query
public import proofs.«01_k».proof.Proof.KeyValue
public import proofs.«01_k».proof.Proof.Glu
public import proofs.«01_k».proof.Proof.Attention
public import proofs.«01_k».proof.Proof.Latents
public import proofs.«01_k».proof.Proof.FinalNorm
public import proofs.«01_k».proof.Proof.RotaryKey
public import proofs.«01_k».proof.Proof.Modulation
public import proofs.«01_k».proof.Proof.MidNorm
public import proofs.«01_k».proof.Proof.MixPrepRef
public import proofs.«01_k».proof.Proof.MixNormRun
public import Idealize.ShloMosaic.Lib.Claim
public import Idealize.ShloMosaic.Lib.Quiescent

@[expose] public section

set_option maxRecDepth 16384

noncomputable section

namespace Cert.Proof

open Idealize.ShloMosaic Idealize.SL.Sem

/-- The gates: the call's result is the sigmoid of the normalised activations times the layer's gate columns: the reference runs, keeps its arguments, and has no semaphore to leave raised. -/
theorem quiescent_R : Cert.quiescent_ReferenceIdeal := fun m g _ =>
  (θ_run _ _ _).mono (fun r h => ⟨fun c => (h c).2, sem_eq_zero_of_no_sems (by decide) r.2⟩) (Cert.ReferenceIdeal.Value.run (F := Ideal) m g)

/-- The gates: the call's result is the sigmoid of the normalised activations times the layer's gate columns. -/
theorem algebraic : Cert.algebraic_KernelIdeal_ReferenceIdeal := by
  pair_intro
  · run_from Cert.KernelIdeal.Gen.run_main m g
  · run_from Cert.ReferenceIdeal.Value.run m' g'
    exact (Gates.final m c).symm

/-- The state-space branch's input columns of the context: the reference runs, keeps its arguments, and has no semaphore to leave raised. -/
theorem quiescent_R2 : Cert.quiescent_Reference2Ideal := fun m g _ =>
  (θ_run _ _ _).mono (fun r h => ⟨fun c => (h c).2, sem_eq_zero_of_no_sems (by decide) r.2⟩) (Cert.Reference2Ideal.Value.run (F := Ideal) m g)

/-- The state-space branch's input columns of the context: the call and the reference agree. -/
theorem algebraic2 : Cert.algebraic_Kernel2Ideal_Reference2Ideal := by
  pair_intro
  · run_from Cert.Kernel2Ideal.Gen.run_main m g
  · run_from Cert.Reference2Ideal.Value.run m' g'
    exact (S5InCtx.final m c).symm

/-- The state-space branch's input columns of the latents: the reference runs, keeps its arguments, and has no semaphore to leave raised. -/
theorem quiescent_R3 : Cert.quiescent_Reference3Ideal := fun m g _ =>
  (θ_run _ _ _).mono (fun r h => ⟨fun c => (h c).2, sem_eq_zero_of_no_sems (by decide) r.2⟩) (Cert.Reference3Ideal.Value.run (F := Ideal) m g)

/-- The state-space branch's input columns of the latents: the call and the reference agree. -/
theorem algebraic3 : Cert.algebraic_Kernel3Ideal_Reference3Ideal := by
  pair_intro
  · run_from Cert.Kernel3Ideal.Gen.run_main m g
  · run_from Cert.Reference3Ideal.Value.run m' g'
    exact (S5InLat.final m c).symm

/-- The time mixing's shifted columns and the attention's latent columns: the reference runs, keeps its arguments, and has no semaphore to leave raised. -/
theorem quiescent_R4 : Cert.quiescent_Reference4Ideal := fun m g _ =>
  (θ_run _ _ _).mono (fun r h => ⟨fun c => (h c).2, sem_eq_zero_of_no_sems (by decide) r.2⟩) (Cert.Reference4Ideal.Value.run (F := Ideal) m g)

/-- The time mixing's shifted columns and the attention's latent columns: the call and the reference agree. -/
theorem algebraic4 : Cert.algebraic_Kernel4Ideal_Reference4Ideal := by
  pair_intro
  · run_from Cert.Kernel4Ideal.Gen.run_main m g
  · run_from Cert.Reference4Ideal.Value.run m' g'
    obtain ⟨a0, a1, a2⟩ := hagree c
    refine Eq.trans ?_ (Shift.final m c).symm
    unfold Cert.Reference4Ideal.Value.res_main_v37 Shift.REF Shift.LC Shift.LL Shift.ZC Shift.ZL Shift.Z
    rw [a0, a1, a2]

/-- The branches' gated merge: the reference runs, keeps its arguments, and has no semaphore to leave raised. -/
theorem quiescent_R5 : Cert.quiescent_Reference5Ideal := fun m g _ =>
  (θ_run _ _ _).mono (fun r h => ⟨fun c => (h c).2, sem_eq_zero_of_no_sems (by decide) r.2⟩) (Cert.Reference5Ideal.Value.run (F := Ideal) m g)

/-- The branches' gated merge: the call and the reference agree. -/
theorem algebraic5 : Cert.algebraic_Kernel5Ideal_Reference5Ideal := by
  pair_intro
  · run_from Cert.Kernel5Ideal.Gen.run_main m g
  · run_from Cert.Reference5Ideal.Value.run m' g'
    exact (Merge.final m c).symm

/-- The output projection: the reference runs, keeps its arguments, and has no semaphore to leave raised. -/
theorem quiescent_R6 : Cert.quiescent_Reference6Ideal := fun m g _ =>
  (θ_run _ _ _).mono (fun r h => ⟨fun c => (h c).2, sem_eq_zero_of_no_sems (by decide) r.2⟩) (Cert.Reference6Ideal.Value.run (F := Ideal) m g)

/-- The output projection: the call and the reference agree. -/
theorem algebraic6 : Cert.algebraic_Kernel6Ideal_Reference6Ideal := by
  pair_intro
  · run_from Cert.Kernel6Ideal.Gen.run_main m g
  · run_from Cert.Reference6Ideal.Value.run m' g'
    exact (OutProj.final m c).symm

/-- The expert retrieval's queries: the reference runs, keeps its arguments, and has no semaphore to leave raised. -/
theorem quiescent_R7 : Cert.quiescent_Reference7Ideal := fun m g _ =>
  (θ_run _ _ _).mono (fun r h => ⟨fun c => (h c).2, sem_eq_zero_of_no_sems (by decide) r.2⟩) (Cert.Reference7Ideal.Value.run (F := Ideal) m g)

/-- The expert retrieval's queries: the call and the reference agree. -/
theorem algebraic7 : Cert.algebraic_Kernel7Ideal_Reference7Ideal := by
  pair_intro
  · run_from Cert.Kernel7Ideal.Gen.run_main m g
  · run_from Cert.Reference7Ideal.Value.run m' g'
    exact (PeerQuery.final m c).symm

/-- The attention's queries: the reference runs, keeps its arguments, and has no semaphore to leave raised. -/
theorem quiescent_R8 : Cert.quiescent_Reference8Ideal := fun m g _ =>
  (θ_run _ _ _).mono (fun r h => ⟨fun c => (h c).2.2, sem_eq_zero_of_no_sems (by decide) r.2⟩) (Cert.Reference8Ideal.Value.run (F := Ideal) m g)

/-- The attention's queries: the call and the reference agree. -/
theorem algebraic8 : Cert.algebraic_Kernel8Ideal_Reference8Ideal := by
  pair_intro
  · run_from Cert.Kernel8Ideal.Gen.run_main m g
    · exact Cert.Kernel8Ideal.Gen.W_main_arg1 m (Cert.Kernel8Ideal.Gen.dats m) c
  · run_from Cert.Reference8Ideal.Value.run m' g'
    · exact (Query.res76 m c).symm
    · obtain ⟨a0, a1⟩ := hagree c
      refine Eq.trans ?_ (Query.res75 m c).symm
      unfold Cert.Reference8Ideal.Value.res_main_v61 Query.REF1 Query.ROPE Query.ZK Query.Z Query.ANG
      rw [a0, a1]

/-- The attention's keys and values: the reference runs, keeps its arguments, and has no semaphore to leave raised. -/
theorem quiescent_R9 : Cert.quiescent_Reference9Ideal := fun m g _ =>
  (θ_run _ _ _).mono (fun r h => ⟨fun c => (h c).2, sem_eq_zero_of_no_sems (by decide) r.2⟩) (Cert.Reference9Ideal.Value.run (F := Ideal) m g)

/-- The attention's keys and values: the call and the reference agree. -/
theorem algebraic9 : Cert.algebraic_Kernel9Ideal_Reference9Ideal := by
  pair_intro
  · run_from Cert.Kernel9Ideal.Gen.run_main m g
  · run_from Cert.Reference9Ideal.Value.run m' g'
    refine Eq.trans ?_ (KeyValue.final m c).symm
    unfold KeyValue.REF KeyValue.HALF KeyValue.CAT KeyValue.CTX
    rw [(hagree c).2.2.2]

/-- The state-space branch's gated unit on the latents' rows: the reference runs, keeps its arguments, and has no semaphore to leave raised. -/
theorem quiescent_R10 : Cert.quiescent_Reference10Ideal := fun m g _ =>
  (θ_run _ _ _).mono (fun r h => ⟨fun c => (h c).2, sem_eq_zero_of_no_sems (by decide) r.2⟩) (Cert.Reference10Ideal.Value.run (F := Ideal) m g)

/-- The state-space branch's gated unit on the latents' rows: the call and the reference agree. -/
theorem algebraic10 : Cert.algebraic_Kernel10Ideal_Reference10Ideal := by
  pair_intro
  · run_from Cert.Kernel10Ideal.Gen.run_main m g
  · run_from Cert.Reference10Ideal.Value.run m' g'
    obtain ⟨a0, a1, a2, a3, a4, a5, a6⟩ := hagree c
    refine Eq.trans ?_ (Glu.final m c).symm
    unfold Cert.Reference10Ideal.Value.res_main_v29 Glu.REF Glu.GATED Glu.GELU Glu.XS
    rw [a0, a1, a2, a3, a4, a5, a6]

/-- The latents' attention: the reference runs, keeps its arguments, and has no semaphore to leave raised. -/
theorem quiescent_R11 : Cert.quiescent_Reference11Ideal := fun m g _ =>
  (θ_run _ _ _).mono (fun r h => ⟨fun c => (h c).2, sem_eq_zero_of_no_sems (by decide) r.2⟩) (Cert.Reference11Ideal.Value.run (F := Ideal) m g)

/-- The latents' attention: the call and the reference agree. -/
theorem algebraic11 : Cert.algebraic_Kernel11Ideal_Reference11Ideal := by
  pair_intro
  · run_from Cert.Kernel11Ideal.Gen.run_main m g
  · run_from Cert.Reference11Ideal.Value.run m' g'
    obtain ⟨a0, a1, a2, a3, a4⟩ := hagree c
    refine Eq.trans ?_ (Attention.final m c).symm
    unfold Cert.Reference11Ideal.Value.res_main_v36 Attention.REF Attention.OUT Attention.PROB Attention.EXPS Attention.TOPS Attention.SCORE
    rw [a0, a1, a2, a3, a4]

/-- The attention's normalised latents: the reference runs, keeps its arguments, and has no semaphore to leave raised. -/
theorem quiescent_R12 : Cert.quiescent_Reference12Ideal := fun m g _ =>
  (θ_run _ _ _).mono (fun r h => ⟨fun c => (h c).2.2.2, sem_eq_zero_of_no_sems (by decide) r.2⟩) (Cert.Reference12Ideal.Value.run (F := Ideal) m g)

/-- The attention's normalised latents: the call and the reference agree. -/
theorem algebraic12 : Cert.algebraic_Kernel12Ideal_Reference12Ideal := by
  pair_intro
  · run_from Cert.Kernel12Ideal.Gen.run_main m g
    · exact Cert.Kernel12Ideal.Gen.W_main_arg1 m (Cert.Kernel12Ideal.Gen.dats m) c
    · exact Cert.Kernel12Ideal.Gen.W_main_arg2 m (Cert.Kernel12Ideal.Gen.dats m) c
  · run_from Cert.Reference12Ideal.Value.run m' g'
    · exact (Latents.final0 m c).symm
    · exact (Latents.res4 m c).symm
    · exact (Latents.res6 m c).symm

/-- The last residual and the final norm: the reference runs, keeps its arguments, and has no semaphore to leave raised. -/
theorem quiescent_R13 : Cert.quiescent_Reference13Ideal := fun m g _ =>
  (θ_run _ _ _).mono (fun r h => ⟨fun c => (h c).2.2, sem_eq_zero_of_no_sems (by decide) r.2⟩) (Cert.Reference13Ideal.Value.run (F := Ideal) m g)

/-- The last residual and the final norm: the call and the reference agree. -/
theorem algebraic13 : Cert.algebraic_Kernel13Ideal_Reference13Ideal := by
  pair_intro
  · run_from Cert.Kernel13Ideal.Gen.run_main m g
    · exact Cert.Kernel13Ideal.Gen.W_main_arg2 m (Cert.Kernel13Ideal.Gen.dats m) c
    · exact Cert.Kernel13Ideal.Gen.W_main_arg3 m (Cert.Kernel13Ideal.Gen.dats m) c
  · run_from Cert.Reference13Ideal.Value.run m' g'
    · exact (FinalNorm.res5 m c).symm
    · exact (FinalNorm.res7 m c).symm

/-- The rotary key: the reference runs, keeps its arguments, and has no semaphore to leave raised. -/
theorem quiescent_R14 : Cert.quiescent_Reference14Ideal := fun m g _ =>
  (θ_run _ _ _).mono (fun r h => ⟨fun c => (h c).2.2, sem_eq_zero_of_no_sems (by decide) r.2⟩) (Cert.Reference14Ideal.Value.run (F := Ideal) m g)

/-- The rotary key: the call and the reference agree. -/
theorem algebraic14 : Cert.algebraic_Kernel14Ideal_Reference14Ideal := by
  pair_intro
  · run_from Cert.Kernel14Ideal.Gen.run_main m g
    · exact Cert.Kernel14Ideal.Gen.W_main_arg1 m (Cert.Kernel14Ideal.Gen.dats m) c
  · run_from Cert.Reference14Ideal.Value.run m' g'
    · exact (RotaryKey.res69 m c).symm
    · obtain ⟨a0, a1⟩ := hagree c
      refine Eq.trans ?_ (RotaryKey.res70 m c).symm
      unfold Cert.Reference14Ideal.Value.res_main_v52 RotaryKey.REF1 RotaryKey.ROPE RotaryKey.ZK RotaryKey.Z RotaryKey.ANG
      rw [a0, a1]
      rfl

/-- The layers' modulation: the reference runs, keeps its arguments, and has no semaphore to leave raised. -/
theorem quiescent_R15 : Cert.quiescent_Reference15Ideal := fun m g _ =>
  (θ_run _ _ _).mono (fun r h => ⟨fun c => (h c).2, sem_eq_zero_of_no_sems (by decide) r.2⟩) (Cert.Reference15Ideal.Value.run (F := Ideal) m g)

/-- The layers' modulation: the call and the reference agree. -/
theorem algebraic15 : Cert.algebraic_Kernel15Ideal_Reference15Ideal := by
  pair_intro
  · run_from Cert.Kernel15Ideal.Gen.run_main m g
  · run_from Cert.Reference15Ideal.Value.run m' g'
    exact (Modulation.final m c).symm

/-- The attention's residual, norm and modulation: the reference runs, keeps its arguments, and has no semaphore to leave raised. -/
theorem quiescent_R16 : Cert.quiescent_Reference16Ideal := fun m g _ =>
  (θ_run _ _ _).mono (fun r h => ⟨fun c => (h c).2.2, sem_eq_zero_of_no_sems (by decide) r.2⟩) (Cert.Reference16Ideal.Value.run (F := Ideal) m g)

/-- The attention's residual, norm and modulation: the call and the reference agree. -/
theorem algebraic16 : Cert.algebraic_Kernel16Ideal_Reference16Ideal := by
  pair_intro
  · run_from Cert.Kernel16Ideal.Gen.run_main m g
  · run_from Cert.Reference16Ideal.Value.run m' g'
    · exact (MidNorm.final0 m c).symm
    · obtain ⟨a0, a1, a2, a3⟩ := hagree c
      refine Eq.trans ?_ (MidNorm.final1 m c).symm
      unfold Cert.Reference16Ideal.Value.res_main_v71 MidNorm.REF1 MidNorm.PC MidNorm.PL
      rw [a0, a1, a2, a3]

/-- The time mixing before its recurrence: the reference runs, keeps its arguments, and has no semaphore to leave raised. -/
theorem quiescent_R17 : Cert.quiescent_Reference17Ideal := fun m g _ =>
  (θ_run _ _ _).mono (fun r h => ⟨fun c => (h c).2.2.2.2.2.2.2.2, sem_eq_zero_of_no_sems (by decide) r.2⟩) (Cert.Reference17Ideal.Value.run (F := Ideal) m g)

/-- The side conditions of what is asked of the arguments. -/
instance pre17 : Cert.Pre_finite17.Facts := ⟨by decide, by decide, by decide, by decide⟩

/-- The time mixing before its recurrence: the call and the reference agree. -/
theorem algebraic17 : Cert.algebraic_Kernel17Ideal_Reference17Ideal_pre_finite17 := by
  intro m g m' g' hpre hagree
  refine ⟨fun c => MixPrep.REF0 (m ((c.tc : Thread Cert.Kernel17Ideal.nD Cert.Kernel17Ideal.τ).loc Cert.Kernel17Ideal.main_arg0)),
    fun c => MixPrep.REF1 (m ((c.tc : Thread Cert.Kernel17Ideal.nD Cert.Kernel17Ideal.τ).loc Cert.Kernel17Ideal.main_arg0)),
    fun c => MixPrep.REF2 (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg6)),
    fun c => MixPrep.REF3 (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)),
    fun c => MixPrep.REF4 (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg7)),
    fun c => MixPrep.REF5 (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg6)),
    fun c => MixPrep.REF6 (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg7)) (m ((c.tc : Thread Cert.Kernel17Ideal.nD Cert.Kernel17Ideal.τ).loc Cert.Kernel17Ideal.main_arg8)),
    fun c => MixPrep.REF7 (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg5)),
    MixPrep.run m g hpre, ?_⟩
  refine Idealize.ShloMosaic.θ_run_mono (MixPrep.ref m' g') ?_
  intro r hr c
  obtain ⟨a0, a1, a2, a3, a4, a5, a6, a7, a8⟩ := hagree c
  obtain ⟨e0, e1, e2, e3, e4, e5, e6, e7, k⟩ := hr c
  rw [a0] at e0 e1
  rw [a0, a6] at e2
  rw [a0, a1, a2] at e3
  rw [a0, a3, a4, a7] at e4
  rw [a0, a3, a4, a6] at e5
  rw [a0, a3, a4, a7, a8] at e6
  rw [a0, a5] at e7
  exact ⟨e0, e1, e2, e3, e4, e5, e6, e7, k⟩

/-- The time mixing after its recurrence: the reference runs, keeps its arguments, and has no semaphore to leave raised. -/
theorem quiescent_R18 : Cert.quiescent_Reference18Ideal := fun m g _ =>
  (θ_run _ _ _).mono (fun r h => ⟨fun c => (h c).2, sem_eq_zero_of_no_sems (by decide) r.2⟩) (Cert.Reference18Ideal.Value.run (F := Ideal) m g)

/-- The side conditions of what is asked of the arguments. -/
instance pre18 : Cert.Pre_finite18.Facts := ⟨by decide⟩

/-- The time mixing after its recurrence: the call and the reference agree. -/
theorem algebraic18 : Cert.algebraic_Kernel18Ideal_Reference18Ideal_pre_finite18 := by
  pair_intro
  · run_from MixNorm.run m g hpre
  · run_from Cert.Reference18Ideal.Value.run m' g'
    obtain ⟨a0, a1, a2, a3, a4⟩ := hagree c
    unfold Cert.Reference18Ideal.Value.res_main_v33 MixNorm.REF MixNorm.NRM MixNorm.DLH MixNorm.MEAN MixNorm.YH
    rw [a0, a1, a2, a3, a4]
    rfl

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts, Cert.Kernel7.Gen.facts,
  Cert.Kernel7Ideal.Gen.facts, Cert.Reference7Ideal.Gen.facts, Cert.Kernel8.Gen.facts, Cert.Kernel8Ideal.Gen.facts,
  Cert.Reference8Ideal.Gen.facts, Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts, Cert.Kernel14Ideal.Gen.facts,
  Cert.Reference14Ideal.Gen.facts, Cert.Kernel15.Gen.facts, Cert.Kernel15Ideal.Gen.facts, Cert.Reference15Ideal.Gen.facts,
  Cert.Kernel16.Gen.facts, Cert.Kernel16Ideal.Gen.facts, Cert.Reference16Ideal.Gen.facts, Cert.Kernel17.Gen.facts, Cert.Kernel17Ideal.Gen.facts,
  Cert.Reference17Ideal.Gen.facts, Cert.Kernel18.Gen.facts, Cert.Kernel18Ideal.Gen.facts, Cert.Reference18Ideal.Gen.facts, pre17, pre18,
  fun m ρ _ => Cert.Kernel.Gen.frame m ρ, fun m ρ _ => Cert.KernelIdeal.Gen.frame m ρ, quiescent_R,
  fun m ρ _ => Cert.Kernel2.Gen.frame m ρ, fun m ρ _ => Cert.Kernel2Ideal.Gen.frame m ρ, quiescent_R2,
  fun m ρ _ => Cert.Kernel3.Gen.frame m ρ, fun m ρ _ => Cert.Kernel3Ideal.Gen.frame m ρ, quiescent_R3,
  fun m ρ _ => Cert.Kernel4.Gen.frame m ρ, fun m ρ _ => Cert.Kernel4Ideal.Gen.frame m ρ, quiescent_R4,
  fun m ρ _ => Cert.Kernel5.Gen.frame m ρ, fun m ρ _ => Cert.Kernel5Ideal.Gen.frame m ρ, quiescent_R5,
  fun m ρ _ => Cert.Kernel6.Gen.frame m ρ, fun m ρ _ => Cert.Kernel6Ideal.Gen.frame m ρ, quiescent_R6,
  fun m ρ _ => Cert.Kernel7.Gen.frame m ρ, fun m ρ _ => Cert.Kernel7Ideal.Gen.frame m ρ, quiescent_R7,
  fun m ρ _ => Cert.Kernel8.Gen.frame m ρ, fun m ρ _ => Cert.Kernel8Ideal.Gen.frame m ρ, quiescent_R8,
  fun m ρ _ => Cert.Kernel9.Gen.frame m ρ, fun m ρ _ => Cert.Kernel9Ideal.Gen.frame m ρ, quiescent_R9,
  fun m ρ _ => Cert.Kernel10.Gen.frame m ρ, fun m ρ _ => Cert.Kernel10Ideal.Gen.frame m ρ, quiescent_R10,
  fun m ρ _ => Cert.Kernel11.Gen.frame m ρ, fun m ρ _ => Cert.Kernel11Ideal.Gen.frame m ρ, quiescent_R11,
  fun m ρ _ => Cert.Kernel12.Gen.frame m ρ, fun m ρ _ => Cert.Kernel12Ideal.Gen.frame m ρ, quiescent_R12,
  fun m ρ _ => Cert.Kernel13.Gen.frame m ρ, fun m ρ _ => Cert.Kernel13Ideal.Gen.frame m ρ, quiescent_R13,
  fun m ρ _ => Cert.Kernel14.Gen.frame m ρ, fun m ρ _ => Cert.Kernel14Ideal.Gen.frame m ρ, quiescent_R14,
  fun m ρ _ => Cert.Kernel15.Gen.frame m ρ, fun m ρ _ => Cert.Kernel15Ideal.Gen.frame m ρ, quiescent_R15,
  fun m ρ _ => Cert.Kernel16.Gen.frame m ρ, fun m ρ _ => Cert.Kernel16Ideal.Gen.frame m ρ, quiescent_R16,
  fun m ρ _ => Cert.Kernel17.Gen.frame m ρ, fun m ρ _ => Cert.Kernel17Ideal.Gen.frame m ρ, fun m ρ _ => Cert.Kernel17Ideal.Gen.frame m ρ, quiescent_R17, fun m g _ => quiescent_R17 m g trivial,
  fun m ρ _ => Cert.Kernel18.Gen.frame m ρ, fun m ρ _ => Cert.Kernel18Ideal.Gen.frame m ρ, fun m ρ _ => Cert.Kernel18Ideal.Gen.frame m ρ, quiescent_R18, fun m g _ => quiescent_R18 m g trivial,
  trivial, algebraic, trivial, algebraic2, trivial, algebraic3, trivial, algebraic4, trivial, algebraic5, trivial, algebraic6, trivial, algebraic7,
  trivial, algebraic8, trivial, algebraic9, trivial, algebraic10, trivial, algebraic11, trivial, algebraic12, trivial, algebraic13, trivial,
  algebraic14, trivial, algebraic15, trivial, algebraic16, trivial, algebraic17, trivial, algebraic18⟩

end Cert.Proof

end
